-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projection [hPre_finite_projection : Cert.Pre_finite_projection.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_projection.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projection [hPre_finite_projection : Cert.Pre_finite_projection.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_projection.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_projection [hKernelIdeal : Cert.KernelIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projection m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_projection [hReferenceIdeal : Cert.ReferenceIdeal.Facts] [hPre_finite_projection : Cert.Pre_finite_projection.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projection m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite_projection [hKernelIdeal : Cert.KernelIdeal.Facts] [hReferenceIdeal : Cert.ReferenceIdeal.Facts] [hPre_finite_projection : Cert.Pre_finite_projection.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projection m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v535) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_projection : Cert.Pre_finite_projection.Facts),
    quiescent_Kernel (hKernel := hKernel)
    ∧ quiescent_KernelIdeal (hKernelIdeal := hKernelIdeal)
    ∧ quiescent_KernelIdeal_pre_finite_projection (hKernelIdeal := hKernelIdeal) (hPre_finite_projection := hPre_finite_projection)
    ∧ quiescent_ReferenceIdeal (hReferenceIdeal := hReferenceIdeal)
    ∧ quiescent_ReferenceIdeal_pre_finite_projection (hReferenceIdeal := hReferenceIdeal) (hPre_finite_projection := hPre_finite_projection)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_projection (hKernelIdeal := hKernelIdeal) (hReferenceIdeal := hReferenceIdeal) (hPre_finite_projection := hPre_finite_projection)
    ∧ preserves_Kernel2_Kernel2Ideal
    ∧ algebraic_Kernel2Ideal_Reference2Ideal (hKernel2Ideal := hKernel2Ideal) (hReference2Ideal := hReference2Ideal)
-- ==== Pre_finite_projection.lean ====
abbrev S32x2048x1024 : Shape := ⟨3, ![32, 2048, 1024]⟩
abbrev S32x2048 : Shape := ⟨2, ![32, 2048]⟩
abbrev S1x1024 : Shape := ⟨2, ![1, 1024]⟩
abbrev S1x1024x7168 : Shape := ⟨3, ![1, 1024, 7168]⟩
abbrev S1x2x1024 : Shape := ⟨3, ![1, 2, 1024]⟩
abbrev S1x1024x1024 : Shape := ⟨3, ![1, 1024, 1024]⟩
abbrev S1x4x1024 : Shape := ⟨3, ![1, 4, 1024]⟩
abbrev S1x4x256x256 : Shape := ⟨4, ![1, 4, 256, 256]⟩
abbrev S1x4x256 : Shape := ⟨3, ![1, 4, 256]⟩
abbrev S_ : Shape := ⟨0, ![]⟩
abbrev S1x1024x2048 : Shape := ⟨3, ![1, 1024, 2048]⟩

class Facts : Prop where
  bcast_S_S1x1024 : S_.BroadcastsInDim S1x1024 (![] : Fin 0 → Fin S1x1024.rank)
  slices_S1x1024x7168_S1x1024x2048_0_0_0 : S1x1024x7168.Slices ![0, 0, 0] S1x1024x2048
  bcast_S_S1x1024x2048 : S_.BroadcastsInDim S1x1024x2048 (![] : Fin 0 → Fin S1x1024x2048.rank)

variable [Facts]

def fn {F : FTy → Type} [FloatOps F] (main_arg0 : FVec F S32x2048x1024 .f32) (main_arg1 : IVec S32x2048 32) (main_arg2 : FVec F S1x1024 .f32) (main_arg3 : FVec F S1x1024x7168 .f32) (main_arg4 : FVec F S1x2x1024 .f32) (main_arg5 : FVec F S1x1024 .f32) (main_arg6 : FVec F S1x1024x1024 .f32) (main_arg7 : FVec F S1x4x1024 .f32) (main_arg8 : FVec F S1x1024 .f32) (main_arg9 : FVec F S1x4x256x256 .f32) (main_arg10 : FVec F S1x4x256 .f32) (main_arg11 : FVec F S1x4x256x256 .f32) (main_arg12 : FVec F S1x4x256 .f32) (main_arg13 : FVec F S1x1024 .f32) (main_arg14 : FVec F S1x1024x1024 .f32) (main_arg15 : FVec F S1x1024x1024 .f32) : IVec S1x1024 1 × IVec S1x1024x2048 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x2048 .f32 := (extractStridedSlice S1x1024x2048 ![0, 0, 0] · slices_S1x1024x7168_S1x1024x2048_0_0_0) main_arg3
  let main_v4 : FVec F S1x1024x2048 .f32 := Host.absf main_v3
  let main_cst_0 : FVec F S_ .f32 := constant S_ .f32 0x7F800000#32
  let main_v5 : FVec F S1x1024x2048 .f32 := broadcastInDim S1x1024x2048 ![] bcast_S_S1x1024x2048 main_cst_0
  let main_v6 : IVec S1x1024x2048 1 := cmpf .olt main_v4 main_v5
  (main_v2, main_v6)
-- ==== Kernel.lean ====
abbrev S32x2048x1024 : Shape := ⟨3, ![32, 2048, 1024]⟩
abbrev S32x2048 : Shape := ⟨2, ![32, 2048]⟩
abbrev S1x1024 : Shape := ⟨2, ![1, 1024]⟩
abbrev S1x1024x7168 : Shape := ⟨3, ![1, 1024, 7168]⟩
abbrev S1x2x1024 : Shape := ⟨3, ![1, 2, 1024]⟩
abbrev S1x1024x1024 : Shape := ⟨3, ![1, 1024, 1024]⟩
abbrev S1x4x1024 : Shape := ⟨3, ![1, 4, 1024]⟩
abbrev S1x4x256x256 : Shape := ⟨4, ![1, 4, 256, 256]⟩
abbrev S1x4x256 : Shape := ⟨3, ![1, 4, 256]⟩
abbrev S64 : Shape := ⟨1, ![64]⟩
abbrev S_ : Shape := ⟨0, ![]⟩
abbrev S128 : Shape := ⟨1, ![128]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x8x8x32 : Shape := ⟨4, ![32, 8, 8, 32]⟩
abbrev S32x8x32x8 : Shape := ⟨4, ![32, 8, 32, 8]⟩
abbrev S32x4x4x128 : Shape := ⟨4, ![32, 4, 4, 128]⟩
abbrev S4 : Shape := ⟨1, ![4]⟩
abbrev S4x1x1 : Shape := ⟨3, ![4, 1, 1]⟩
abbrev S1x256x256 : Shape := ⟨3, ![1, 256, 256]⟩
abbrev S4x256x256 : Shape := ⟨3, ![4, 256, 256]⟩
abbrev S1x4 : Shape := ⟨2, ![1, 4]⟩
abbrev S256x4 : Shape := ⟨2, ![256, 4]⟩
abbrev S256x4x128 : Shape := ⟨3, ![256, 4, 128]⟩
abbrev S256x512 : Shape := ⟨2, ![256, 512]⟩
abbrev S4x256x512 : Shape := ⟨3, ![4, 256, 512]⟩
abbrev S1024 : Shape := ⟨1, ![1024]⟩
abbrev S1024x7168 : Shape := ⟨2, ![1024, 7168]⟩
abbrev S2x1024 : Shape := ⟨2, ![2, 1024]⟩
abbrev S1024x1024 : Shape := ⟨2, ![1024, 1024]⟩
abbrev S4x1024 : Shape := ⟨2, ![4, 1024]⟩
abbrev S4x256 : Shape := ⟨2, ![4, 256]⟩
abbrev S1x512x1024 : Shape := ⟨3, ![1, 512, 1024]⟩
abbrev S1x1x4x128 : Shape := ⟨4, ![1, 1, 4, 128]⟩
abbrev S4x128x256 : Shape := ⟨3, ![4, 128, 256]⟩
abbrev S8x1024 : Shape := ⟨2, ![8, 1024]⟩
abbrev S24x1024 : Shape := ⟨2, ![24, 1024]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S4x128 : Shape := ⟨2, ![4, 128]⟩
abbrev S128x128 : Shape := ⟨2, ![128, 128]⟩
abbrev S128x1 : Shape := ⟨2, ![128, 1]⟩
abbrev S256x128 : Shape := ⟨2, ![256, 128]⟩
abbrev S512x128 : Shape := ⟨2, ![512, 128]⟩
abbrev S1x128x256 : Shape := ⟨3, ![1, 128, 256]⟩
abbrev S128x256 : Shape := ⟨2, ![128, 256]⟩
abbrev S248x1024 : Shape := ⟨2, ![248, 1024]⟩
abbrev S240x1024 : Shape := ⟨2, ![240, 1024]⟩
abbrev S232x1024 : Shape := ⟨2, ![232, 1024]⟩
abbrev S512x256 : Shape := ⟨2, ![512, 256]⟩
abbrev S1x256x512 : Shape := ⟨3, ![1, 256, 512]⟩
abbrev S512x512 : Shape := ⟨2, ![512, 512]⟩
abbrev S1024x2048 : Shape := ⟨2, ![1024, 2048]⟩
abbrev S512x2048 : Shape := ⟨2, ![512, 2048]⟩

abbrev nBuf : Space → Nat
  | .hbm => 190
  | .vmem => 28
  | .smem => 0
  | _ => 0

abbrev hbmTy0_0 (i : Nat) : BufTy := match i % 128 with
  | 0 => ⟨S32x2048x1024, .f32⟩
  | 1 => ⟨S32x2048, .i32⟩
  | 2 => ⟨S1x1024, .f32⟩
  | 3 => ⟨S1x1024x7168, .f32⟩
  | 4 => ⟨S1x2x1024, .f32⟩
  | 5 => ⟨S1x1024, .f32⟩
  | 6 => ⟨S1x1024x1024, .f32⟩
  | 7 => ⟨S1x4x1024, .f32⟩
  | 8 => ⟨S1x1024, .f32⟩
  | 9 => ⟨S1x4x256x256, .f32⟩
  | 10 => ⟨S1x4x256, .f32⟩
  | 11 => ⟨S1x4x256x256, .f32⟩
  | 12 => ⟨S1x4x256, .f32⟩
  | 13 => ⟨S1x1024, .f32⟩
  | 14 => ⟨S1x1024x1024, .f32⟩
  | 15 => ⟨S1x1024x1024, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S128, .f32⟩
  | 25 => ⟨S1x128, .f32⟩
  | 26 => ⟨S256, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S256, .i32⟩
  | 34 => ⟨S256, .i32⟩
  | 35 => ⟨S_, .i32⟩
  | 36 => ⟨S256, .i32⟩
  | 37 => ⟨S256, .i1⟩
  | 38 => ⟨S_, .i32⟩
  | 39 => ⟨S256, .i32⟩
  | 40 => ⟨S256, .i1⟩
  | 41 => ⟨S_, .i32⟩
  | 42 => ⟨S_, .i1⟩
  | 43 => ⟨S256, .i1⟩
  | 44 => ⟨S256, .i1⟩
  | 45 => ⟨S256, .i1⟩
  | 46 => ⟨S256, .i32⟩
  | 47 => ⟨S256, .i32⟩
  | 48 => ⟨S256, .i32⟩
  | 49 => ⟨S_, .i32⟩
  | 50 => ⟨S256, .i32⟩
  | 51 => ⟨S256, .i32⟩
  | 52 => ⟨S_, .i32⟩
  | 53 => ⟨S_, .i32⟩
  | 54 => ⟨S256, .i32⟩
  | 55 => ⟨S256, .i32⟩
  | 56 => ⟨S256, .i32⟩
  | 57 => ⟨S_, .i32⟩
  | 58 => ⟨S256, .i32⟩
  | 59 => ⟨S256, .i1⟩
  | 60 => ⟨S256, .i32⟩
  | 61 => ⟨S256, .i32⟩
  | 62 => ⟨S_, .i32⟩
  | 63 => ⟨S256, .i32⟩
  | 64 => ⟨S256, .i1⟩
  | 65 => ⟨S256, .i1⟩
  | 66 => ⟨S_, .i32⟩
  | 67 => ⟨S256, .i32⟩
  | 68 => ⟨S256, .i32⟩
  | 69 => ⟨S256, .i32⟩
  | 70 => ⟨S256, .i32⟩
  | 71 => ⟨S256x1, .i32⟩
  | 72 => ⟨S256, .i32⟩
  | 73 => ⟨S1x256, .i32⟩
  | 74 => ⟨S256x256, .i32⟩
  | 75 => ⟨S256x256, .i32⟩
  | 76 => ⟨S256x256, .i1⟩
  | 77 => ⟨S256x256, .f32⟩
  | 78 => ⟨S32x8x8x32, .i32⟩
  | 79 => ⟨S32x8x32x8, .i32⟩
  | 80 => ⟨S32x4x4x128, .i32⟩
  | 81 => ⟨S4, .f32⟩
  | 82 => ⟨S_, .f32⟩
  | 83 => ⟨S4, .f32⟩
  | 84 => ⟨S4, .f32⟩
  | 85 => ⟨S_, .f32⟩
  | 86 => ⟨S4, .f32⟩
  | 87 => ⟨S4, .f32⟩
  | 88 => ⟨S4, .f32⟩
  | 89 => ⟨S4, .f32⟩
  | 90 => ⟨S256, .f32⟩
  | 91 => ⟨S256x1, .f32⟩
  | 92 => ⟨S1x256, .f32⟩
  | 93 => ⟨S256x256, .f32⟩
  | 94 => ⟨S256x256, .f32⟩
  | 95 => ⟨S256x256, .f32⟩
  | 96 => ⟨S_, .i32⟩
  | 97 => ⟨S_, .i32⟩
  | 98 => ⟨S256, .i32⟩
  | 99 => ⟨S256, .i32⟩
  | 100 => ⟨S256, .i32⟩
  | 101 => ⟨S_, .i32⟩
  | 102 => ⟨S256, .i32⟩
  | 103 => ⟨S256, .i1⟩
  | 104 => ⟨S256, .i32⟩
  | 105 => ⟨S256, .i32⟩
  | 106 => ⟨S_, .i32⟩
  | 107 => ⟨S256, .i32⟩
  | 108 => ⟨S256, .i1⟩
  | 109 => ⟨S256, .i1⟩
  | 110 => ⟨S_, .i32⟩
  | 111 => ⟨S256, .i32⟩
  | 112 => ⟨S256, .i32⟩
  | 113 => ⟨S256, .i32⟩
  | 114 => ⟨S256x1, .i32⟩
  | 115 => ⟨S1x256, .i32⟩
  | 116 => ⟨S256x256, .i32⟩
  | 117 => ⟨S256x256, .i32⟩
  | 118 => ⟨S256x256, .i1⟩
  | 119 => ⟨S1x256, .i32⟩
  | 120 => ⟨S256x1, .i32⟩
  | 121 => ⟨S256x256, .i32⟩
  | 122 => ⟨S256x256, .i32⟩
  | 123 => ⟨S256x256, .i1⟩
  | 124 => ⟨S256x256, .f32⟩
  | 125 => ⟨S256x256, .f32⟩
  | 126 => ⟨S256x256, .i1⟩
  | 127 => ⟨S4x1x1, .f32⟩
  | _ => ⟨S32x2048x1024, .f32⟩

abbrev hbmTy0_1 (i : Nat) : BufTy := match i % 128 with
  | 0 => ⟨S1x256x256, .f32⟩
  | 1 => ⟨S4x256x256, .f32⟩
  | 2 => ⟨S4x256x256, .f32⟩
  | 3 => ⟨S4x256x256, .f32⟩
  | 4 => ⟨S4x256x256, .f32⟩
  | 5 => ⟨S_, .f32⟩
  | 6 => ⟨S_, .f32⟩
  | 7 => ⟨S4x256x256, .i1⟩
  | 8 => ⟨S4x256x256, .f32⟩
  | 9 => ⟨S4x256x256, .f32⟩
  | 10 => ⟨S1x4, .f32⟩
  | 11 => ⟨S256x1, .f32⟩
  | 12 => ⟨S_, .f32⟩
  | 13 => ⟨S256x1, .f32⟩
  | 14 => ⟨S256x1, .f32⟩
  | 15 => ⟨S256x4, .f32⟩
  | 16 => ⟨S256x4, .f32⟩
  | 17 => ⟨S256x4, .f32⟩
  | 18 => ⟨S256x4, .f32⟩
  | 19 => ⟨S1x4, .f32⟩
  | 20 => ⟨S256x1, .f32⟩
  | 21 => ⟨S_, .f32⟩
  | 22 => ⟨S256x1, .f32⟩
  | 23 => ⟨S256x1, .f32⟩
  | 24 => ⟨S256x4, .f32⟩
  | 25 => ⟨S256x4, .f32⟩
  | 26 => ⟨S256x4, .f32⟩
  | 27 => ⟨S256x4, .f32⟩
  | 28 => ⟨S256x4x128, .f32⟩
  | 29 => ⟨S256x512, .f32⟩
  | 30 => ⟨S256x4x128, .f32⟩
  | 31 => ⟨S256x512, .f32⟩
  | 32 => ⟨S4x256x256, .f32⟩
  | 33 => ⟨S4x256x256, .f32⟩
  | 34 => ⟨S4x256x512, .f32⟩
  | 35 => ⟨S4x256x512, .bf16⟩
  | 36 => ⟨S256x256, .bf16⟩
  | 37 => ⟨S256x256, .f32⟩
  | 38 => ⟨S256x256, .bf16⟩
  | 39 => ⟨S1024, .f32⟩
  | 40 => ⟨S1x1024, .f32⟩
  | 41 => ⟨S1024x7168, .f32⟩
  | 42 => ⟨S1024x7168, .bf16⟩
  | 43 => ⟨S2x1024, .f32⟩
  | 44 => ⟨S1024, .f32⟩
  | 45 => ⟨S1x1024, .f32⟩
  | 46 => ⟨S1024x1024, .f32⟩
  | 47 => ⟨S1024x1024, .bf16⟩
  | 48 => ⟨S4x1024, .f32⟩
  | 49 => ⟨S1024, .f32⟩
  | 50 => ⟨S1x1024, .f32⟩
  | 51 => ⟨S4x256, .f32⟩
  | 52 => ⟨S1x1024, .f32⟩
  | 53 => ⟨S4x256, .f32⟩
  | 54 => ⟨S1x1024, .f32⟩
  | 55 => ⟨S1024, .f32⟩
  | 56 => ⟨S1x1024, .f32⟩
  | 57 => ⟨S1024x1024, .f32⟩
  | 58 => ⟨S1024x1024, .bf16⟩
  | 59 => ⟨S1024x1024, .f32⟩
  | 60 => ⟨S1024x1024, .bf16⟩
  | 61 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x4x128, .i32⟩
  | .local _ .vmem, ⟨3, _⟩ => ⟨S1x1x4x128, .i32⟩
  | .local _ .vmem, ⟨4, _⟩ => ⟨S256x256, .bf16⟩
  | .local _ .vmem, ⟨5, _⟩ => ⟨S256x256, .bf16⟩
  | .local _ .vmem, ⟨6, _⟩ => ⟨S1x128, .f32⟩
  | .local _ .vmem, ⟨7, _⟩ => ⟨S1x1024, .f32⟩
  | .local _ .vmem, ⟨8, _⟩ => ⟨S1024x7168, .bf16⟩
  | .local _ .vmem, ⟨9, _⟩ => ⟨S2x1024, .f32⟩
  | .local _ .vmem, ⟨10, _⟩ => ⟨S1x1024, .f32⟩
  | .local _ .vmem, ⟨11, _⟩ => ⟨S1024x1024, .bf16⟩
  | .local _ .vmem, ⟨12, _⟩ => ⟨S4x1024, .f32⟩
  | .local _ .vmem, ⟨13, _⟩ => ⟨S1x1024, .f32⟩
  | .local _ .vmem, ⟨14, _⟩ => ⟨S4x256x512, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S4x256x256, .f32⟩
  | .local _ .vmem, ⟨21, _⟩ => ⟨S256x512, .f32⟩
  | .local _ .vmem, ⟨22, _⟩ => ⟨S256x512, .f32⟩
  | .local _ .vmem, ⟨23, _⟩ => ⟨S1x512x1024, .f32⟩
  | .local _ .vmem, ⟨24, _⟩ => ⟨S1x512x1024, .f32⟩
  | .local _ .vmem, ⟨25, _⟩ => ⟨S4x128x256, .f32⟩
  | .local _ .vmem, ⟨26, _⟩ => ⟨S8x1024, .f32⟩
  | .local _ .vmem, ⟨27, _⟩ => ⟨S24x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_c_1 : Ref sig .tc := ⟨.hbm, 35, rfl⟩
abbrev main_call0_v5 : Ref sig .tc := ⟨.hbm, 36, rfl⟩
abbrev main_call0_v6 : Ref sig .tc := ⟨.hbm, 37, rfl⟩
abbrev main_call0_c_2 : Ref sig .tc := ⟨.hbm, 38, rfl⟩
abbrev main_call0_v7 : Ref sig .tc := ⟨.hbm, 39, rfl⟩
abbrev main_call0_v8 : Ref sig .tc := ⟨.hbm, 40, rfl⟩
abbrev main_call0_c_3 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_v9 : Ref sig .tc := ⟨.hbm, 48, rfl⟩
abbrev main_c_1 : Ref sig .tc := ⟨.hbm, 49, rfl⟩
abbrev main_v10 : Ref sig .tc := ⟨.hbm, 50, rfl⟩
abbrev main_v11 : Ref sig .tc := ⟨.hbm, 51, rfl⟩
abbrev main_c_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_3 : Ref sig .tc := ⟨.hbm, 82, rfl⟩
abbrev main_v25 : Ref sig .tc := ⟨.hbm, 83, rfl⟩
abbrev main_v26 : Ref sig .tc := ⟨.hbm, 84, rfl⟩
abbrev main_cst_4 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_c_5 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_cst_6 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_cst_7 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_cst_8 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== KernelIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S32x2048x1024 : Shape := ⟨3, ![32, 2048, 1024]⟩
abbrev S32x2048 : Shape := ⟨2, ![32, 2048]⟩
abbrev S1x1024 : Shape := ⟨2, ![1, 1024]⟩
abbrev S1x1024x7168 : Shape := ⟨3, ![1, 1024, 7168]⟩
abbrev S1x2x1024 : Shape := ⟨3, ![1, 2, 1024]⟩
abbrev S1x1024x1024 : Shape := ⟨3, ![1, 1024, 1024]⟩
abbrev S1x4x1024 : Shape := ⟨3, ![1, 4, 1024]⟩
abbrev S1x4x256x256 : Shape := ⟨4, ![1, 4, 256, 256]⟩
abbrev S1x4x256 : Shape := ⟨3, ![1, 4, 256]⟩
abbrev S1024 : Shape := ⟨1, ![1024]⟩
abbrev S_ : Shape := ⟨0, ![]⟩
abbrev S32x2048x1 : Shape := ⟨3, ![32, 2048, 1]⟩
abbrev S1x1x1024 : Shape := ⟨3, ![1, 1, 1024]⟩
abbrev S1024x7168 : Shape := ⟨2, ![1024, 7168]⟩
abbrev S32x2048x7168 : Shape := ⟨3, ![32, 2048, 7168]⟩
abbrev S32x2048x512 : Shape := ⟨3, ![32, 2048, 512]⟩
abbrev S32x2048x4x128 : Shape := ⟨4, ![32, 2048, 4, 128]⟩
abbrev S64 : Shape := ⟨1, ![64]⟩
abbrev S1x1x64 : Shape := ⟨3, ![1, 1, 64]⟩
abbrev S32x2048x64 : Shape := ⟨3, ![32, 2048, 64]⟩
abbrev S32x2048x1x64 : Shape := ⟨4, ![32, 2048, 1, 64]⟩
abbrev S32x2048x4x64 : Shape := ⟨4, ![32, 2048, 4, 64]⟩
abbrev S32x2048x4x256 : Shape := ⟨4, ![32, 2048, 4, 256]⟩
abbrev S4 : Shape := ⟨1, ![4]⟩
abbrev S2048 : Shape := ⟨1, ![2048]⟩
abbrev S32x64 : Shape := ⟨2, ![32, 64]⟩
abbrev S2048x1 : Shape := ⟨2, ![2048, 1]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S32x4x2048x2048 : Shape := ⟨4, ![32, 4, 2048, 2048]⟩
abbrev S1x4x2048x2048 : Shape := ⟨4, ![1, 4, 2048, 2048]⟩
abbrev S32x4x256x2048 : Shape := ⟨4, ![32, 4, 256, 2048]⟩
abbrev S32x2048x4 : Shape := ⟨3, ![32, 2048, 4]⟩
abbrev S32x2048x4x1 : Shape := ⟨4, ![32, 2048, 4, 1]⟩
abbrev S1024x1024 : Shape := ⟨2, ![1024, 1024]⟩
abbrev S4x1024 : Shape := ⟨2, ![4, 1024]⟩
abbrev S32x2051x1024 : Shape := ⟨3, ![32, 2051, 1024]⟩
abbrev S4x256x256 : Shape := ⟨3, ![4, 256, 256]⟩
abbrev S4x256 : Shape := ⟨2, ![4, 256]⟩
abbrev S4x256x32x2048 : Shape := ⟨4, ![4, 256, 32, 2048]⟩
abbrev S1x1x4x256 : Shape := ⟨4, ![1, 1, 4, 256]⟩
abbrev S32x1024x1024 : Shape := ⟨3, ![32, 1024, 1024]⟩
abbrev S32x512x1024 : Shape := ⟨3, ![32, 512, 1024]⟩
abbrev S32x256x1024 : Shape := ⟨3, ![32, 256, 1024]⟩
abbrev S32x128x1024 : Shape := ⟨3, ![32, 128, 1024]⟩
abbrev S32x64x1024 : Shape := ⟨3, ![32, 64, 1024]⟩
abbrev S32x32x1024 : Shape := ⟨3, ![32, 32, 1024]⟩
abbrev S32x16x1024 : Shape := ⟨3, ![32, 16, 1024]⟩
abbrev S32x8x1024 : Shape := ⟨3, ![32, 8, 1024]⟩
abbrev S32x4x1024 : Shape := ⟨3, ![32, 4, 1024]⟩
abbrev S32x2x1024 : Shape := ⟨3, ![32, 2, 1024]⟩
abbrev S32x1x1024 : Shape := ⟨3, ![32, 1, 1024]⟩
abbrev S32x0x1024 : Shape := ⟨3, ![32, 0, 1024]⟩
abbrev S32x3x1024 : Shape := ⟨3, ![32, 3, 1024]⟩
abbrev S32x7x1024 : Shape := ⟨3, ![32, 7, 1024]⟩
abbrev S32x15x1024 : Shape := ⟨3, ![32, 15, 1024]⟩
abbrev S32x31x1024 : Shape := ⟨3, ![32, 31, 1024]⟩
abbrev S32x63x1024 : Shape := ⟨3, ![32, 63, 1024]⟩
abbrev S32x127x1024 : Shape := ⟨3, ![32, 127, 1024]⟩
abbrev S32x255x1024 : Shape := ⟨3, ![32, 255, 1024]⟩
abbrev S32x511x1024 : Shape := ⟨3, ![32, 511, 1024]⟩
abbrev S32x1023x1024 : Shape := ⟨3, ![32, 1023, 1024]⟩

abbrev nBuf : Space → Nat
  | .hbm => 653
  | .vmem => 0
  | .smem => 0
  | _ => 0

abbrev hbmTy0_0 (i : Nat) : BufTy := match i % 128 with
  | 0 => ⟨S32x2048x1024, .f32⟩
  | 1 => ⟨S32x2048, .i32⟩
  | 2 => ⟨S1x1024, .f32⟩
  | 3 => ⟨S1x1024x7168, .f32⟩
  | 4 => ⟨S1x2x1024, .f32⟩
  | 5 => ⟨S1x1024, .f32⟩
  | 6 => ⟨S1x1024x1024, .f32⟩
  | 7 => ⟨S1x4x1024, .f32⟩
  | 8 => ⟨S1x1024, .f32⟩
  | 9 => ⟨S1x4x256x256, .f32⟩
  | 10 => ⟨S1x4x256, .f32⟩
  | 11 => ⟨S1x4x256x256, .f32⟩
  | 12 => ⟨S1x4x256, .f32⟩
  | 13 => ⟨S1x1024, .f32⟩
  | 14 => ⟨S1x1024x1024, .f32⟩
  | 15 => ⟨S1x1024x1024, .f32⟩
  | 16 => ⟨S1024, .f32⟩
  | 17 => ⟨S32x2048x1024, .f32⟩
  | 18 => ⟨S_, .f32⟩
  | 19 => ⟨S32x2048, .f32⟩
  | 20 => ⟨S32x2048x1, .f32⟩
  | 21 => ⟨S_, .f32⟩
  | 22 => ⟨S32x2048x1, .f32⟩
  | 23 => ⟨S32x2048x1, .f32⟩
  | 24 => ⟨S_, .f32⟩
  | 25 => ⟨S32x2048x1, .f32⟩
  | 26 => ⟨S32x2048x1, .f32⟩
  | 27 => ⟨S32x2048x1, .f32⟩
  | 28 => ⟨S32x2048x1024, .f32⟩
  | 29 => ⟨S32x2048x1024, .f32⟩
  | 30 => ⟨S1x1x1024, .f32⟩
  | 31 => ⟨S32x2048x1024, .f32⟩
  | 32 => ⟨S32x2048x1024, .f32⟩
  | 33 => ⟨S1024x7168, .f32⟩
  | 34 => ⟨S32x2048x7168, .f32⟩
  | 35 => ⟨S32x2048x512, .f32⟩
  | 36 => ⟨S32x2048x512, .f32⟩
  | 37 => ⟨S32x2048x1024, .f32⟩
  | 38 => ⟨S32x2048x1024, .f32⟩
  | 39 => ⟨S32x2048x1024, .f32⟩
  | 40 => ⟨S32x2048x1024, .f32⟩
  | 41 => ⟨S32x2048x1024, .f32⟩
  | 42 => ⟨S32x2048x1024, .f32⟩
  | 43 => ⟨S32x2048x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S32x2048, .f32⟩
  | 53 => ⟨S32x2048x1, .f32⟩
  | 54 => ⟨S1x1x64, .f32⟩
  | 55 => ⟨S32x2048x64, .f32⟩
  | 56 => ⟨S32x2048x64, .f32⟩
  | 57 => ⟨S32x2048x64, .f32⟩
  | 58 => ⟨S32x2048x64, .f32⟩
  | 59 => ⟨S32x2048x1x64, .f32⟩
  | 60 => ⟨S32x2048x64, .f32⟩
  | 61 => ⟨S32x2048x1x64, .f32⟩
  | 62 => ⟨S32x2048x4x64, .f32⟩
  | 63 => ⟨S32x2048x4x64, .f32⟩
  | 64 => ⟨S32x2048x4x64, .f32⟩
  | 65 => ⟨S32x2048x4x64, .f32⟩
  | 66 => ⟨S32x2048x4x64, .f32⟩
  | 67 => ⟨S32x2048x4x64, .f32⟩
  | 68 => ⟨S32x2048x4x64, .f32⟩
  | 69 => ⟨S32x2048x4x64, .f32⟩
  | 70 => ⟨S32x2048x4x64, .f32⟩
  | 71 => ⟨S32x2048x4x64, .f32⟩
  | 72 => ⟨S32x2048x4x64, .f32⟩
  | 73 => ⟨S32x2048x4x64, .f32⟩
  | 74 => ⟨S32x2048x4x128, .f32⟩
  | 75 => ⟨S32x2048x4x128, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S32x2048, .f32⟩
  | 85 => ⟨S32x2048x1, .f32⟩
  | 86 => ⟨S1x1x64, .f32⟩
  | 87 => ⟨S32x2048x64, .f32⟩
  | 88 => ⟨S32x2048x64, .f32⟩
  | 89 => ⟨S32x2048x64, .f32⟩
  | 90 => ⟨S32x2048x64, .f32⟩
  | 91 => ⟨S32x2048x1x64, .f32⟩
  | 92 => ⟨S32x2048x64, .f32⟩
  | 93 => ⟨S32x2048x1x64, .f32⟩
  | 94 => ⟨S32x2048x4x64, .f32⟩
  | 95 => ⟨S32x2048x4x64, .f32⟩
  | 96 => ⟨S32x2048x4x64, .f32⟩
  | 97 => ⟨S32x2048x4x64, .f32⟩
  | 98 => ⟨S32x2048x4x64, .f32⟩
  | 99 => ⟨S32x2048x4x64, .f32⟩
  | 100 => ⟨S32x2048x4x64, .f32⟩
  | 101 => ⟨S32x2048x4x64, .f32⟩
  | 102 => ⟨S32x2048x4x64, .f32⟩
  | 103 => ⟨S32x2048x4x64, .f32⟩
  | 104 => ⟨S32x2048x4x64, .f32⟩
  | 105 => ⟨S32x2048x4x64, .f32⟩
  | 106 => ⟨S32x2048x4x128, .f32⟩
  | 107 => ⟨S_, .f32⟩
  | 108 => ⟨S32x2048x4x128, .f32⟩
  | 109 => ⟨S32x2048x4x128, .f32⟩
  | 110 => ⟨S32x2048x4x256, .f32⟩
  | 111 => ⟨S4, .f32⟩
  | 112 => ⟨S_, .f32⟩
  | 113 => ⟨S4, .f32⟩
  | 114 => ⟨S4, .f32⟩
  | 115 => ⟨S_, .f32⟩
  | 116 => ⟨S4, .f32⟩
  | 117 => ⟨S4, .f32⟩
  | 118 => ⟨S4, .f32⟩
  | 119 => ⟨S4, .f32⟩
  | 120 => ⟨S2048, .f32⟩
  | 121 => ⟨S32x64, .i32⟩
  | 122 => ⟨S2048, .i32⟩
  | 123 => ⟨S2048x1, .f32⟩
  | 124 => ⟨S1x2048, .f32⟩
  | 125 => ⟨S2048x2048, .f32⟩
  | 126 => ⟨S2048x2048, .f32⟩
  | 127 => ⟨S2048x2048, .f32⟩
  | _ => ⟨S32x2048x1024, .f32⟩

abbrev hbmTy0_1 (i : Nat) : BufTy := match i % 128 with
  | 0 => ⟨S2048x2048, .f32⟩
  | 1 => ⟨S1x2048, .i32⟩
  | 2 => ⟨S2048x1, .i32⟩
  | 3 => ⟨S2048x2048, .i32⟩
  | 4 => ⟨S2048x2048, .i32⟩
  | 5 => ⟨S2048x2048, .i1⟩
  | 6 => ⟨S4x1x1, .f32⟩
  | 7 => ⟨S1x2048x2048, .f32⟩
  | 8 => ⟨S4x2048x2048, .f32⟩
  | 9 => ⟨S4x2048x2048, .f32⟩
  | 10 => ⟨S4x2048x2048, .f32⟩
  | 11 => ⟨S4x2048x2048, .f32⟩
  | 12 => ⟨S_, .f32⟩
  | 13 => ⟨S_, .f32⟩
  | 14 => ⟨S4x2048x2048, .i1⟩
  | 15 => ⟨S4x2048x2048, .f32⟩
  | 16 => ⟨S4x2048x2048, .f32⟩
  | 17 => ⟨S32x4x2048x2048, .f32⟩
  | 18 => ⟨S1x4x2048x2048, .f32⟩
  | 19 => ⟨S32x4x2048x2048, .f32⟩
  | 20 => ⟨S32x4x2048x2048, .f32⟩
  | 21 => ⟨S32x4x256x2048, .f32⟩
  | 22 => ⟨S32x2048x4x256, .f32⟩
  | 23 => ⟨S1024, .f32⟩
  | 24 => ⟨S_, .f32⟩
  | 25 => ⟨S32x2048x4, .f32⟩
  | 26 => ⟨S32x2048x4x1, .f32⟩
  | 27 => ⟨S_, .f32⟩
  | 28 => ⟨S32x2048x4x1, .f32⟩
  | 29 => ⟨S32x2048x4x1, .f32⟩
  | 30 => ⟨S32x2048x4x256, .f32⟩
  | 31 => ⟨S32x2048x4x256, .f32⟩
  | 32 => ⟨S32x2048x4x256, .f32⟩
  | 33 => ⟨S_, .f32⟩
  | 34 => ⟨S32x2048x4, .f32⟩
  | 35 => ⟨S32x2048x4x1, .f32⟩
  | 36 => ⟨S_, .f32⟩
  | 37 => ⟨S32x2048x4x1, .f32⟩
  | 38 => ⟨S32x2048x4x1, .f32⟩
  | 39 => ⟨S32x2048x4x256, .f32⟩
  | 40 => ⟨S32x2048x4x256, .f32⟩
  | 41 => ⟨S_, .f32⟩
  | 42 => ⟨S32x2048x4x1, .f32⟩
  | 43 => ⟨S32x2048x4x1, .f32⟩
  | 44 => ⟨S32x2048x4x1, .f32⟩
  | 45 => ⟨S32x2048x4x256, .f32⟩
  | 46 => ⟨S32x2048x4x256, .f32⟩
  | 47 => ⟨S32x2048x1024, .f32⟩
  | 48 => ⟨S1x1x1024, .f32⟩
  | 49 => ⟨S32x2048x1024, .f32⟩
  | 50 => ⟨S32x2048x1024, .f32⟩
  | 51 => ⟨S32x2048x1024, .f32⟩
  | 52 => ⟨S32x2048x1024, .f32⟩
  | 53 => ⟨S_, .f32⟩
  | 54 => ⟨S32x2048x1024, .f32⟩
  | 55 => ⟨S32x2048x1024, .f32⟩
  | 56 => ⟨S_, .f32⟩
  | 57 => ⟨S32x2048x1024, .f32⟩
  | 58 => ⟨S32x2048x1024, .f32⟩
  | 59 => ⟨S32x2048x1024, .f32⟩
  | 60 => ⟨S32x2048x1024, .f32⟩
  | 61 => ⟨S1024x1024, .f32⟩
  | 62 => ⟨S32x2048x1024, .f32⟩
  | 63 => ⟨S4x1024, .f32⟩
  | 64 => ⟨S1024, .f32⟩
  | 65 => ⟨S_, .i32⟩
  | 66 => ⟨S_, .f32⟩
  | 67 => ⟨S32x2051x1024, .f32⟩
  | 68 => ⟨S32x2048x1024, .f32⟩
  | 69 => ⟨S1x1024, .f32⟩
  | 70 => ⟨S1024, .f32⟩
  | 71 => ⟨S1x1x1024, .f32⟩
  | 72 => ⟨S32x2048x1024, .f32⟩
  | 73 => ⟨S32x2048x1024, .f32⟩
  | 74 => ⟨S_, .f32⟩
  | 75 => ⟨S32x2048x1024, .f32⟩
  | 76 => ⟨S32x2048x1024, .f32⟩
  | 77 => ⟨S32x2048x1024, .f32⟩
  | 78 => ⟨S1x1024, .f32⟩
  | 79 => ⟨S1024, .f32⟩
  | 80 => ⟨S1x1x1024, .f32⟩
  | 81 => ⟨S32x2048x1024, .f32⟩
  | 82 => ⟨S32x2048x1024, .f32⟩
  | 83 => ⟨S32x2048x1024, .f32⟩
  | 84 => ⟨S32x2048x1024, .f32⟩
  | 85 => ⟨S1x1024, .f32⟩
  | 86 => ⟨S1024, .f32⟩
  | 87 => ⟨S1x1x1024, .f32⟩
  | 88 => ⟨S32x2048x1024, .f32⟩
  | 89 => ⟨S32x2048x1024, .f32⟩
  | 90 => ⟨S32x2048x1024, .f32⟩
  | 91 => ⟨S32x2048x1024, .f32⟩
  | 92 => ⟨S1x1024, .f32⟩
  | 93 => ⟨S1024, .f32⟩
  | 94 => ⟨S1x1x1024, .f32⟩
  | 95 => ⟨S32x2048x1024, .f32⟩
  | 96 => ⟨S32x2048x1024, .f32⟩
  | 97 => ⟨S32x2048x1024, .f32⟩
  | 98 => ⟨S1x1x1024, .f32⟩
  | 99 => ⟨S32x2048x1024, .f32⟩
  | 100 => ⟨S32x2048x1024, .f32⟩
  | 101 => ⟨S4x256x256, .f32⟩
  | 102 => ⟨S4x256, .f32⟩
  | 103 => ⟨S4x256x256, .f32⟩
  | 104 => ⟨S4x256, .f32⟩
  | 105 => ⟨S1024, .f32⟩
  | 106 => ⟨S32x2048x4x256, .f32⟩
  | 107 => ⟨S4x256x32x2048, .f32⟩
  | 108 => ⟨S32x2048x4x256, .f32⟩
  | 109 => ⟨S1x1x4x256, .f32⟩
  | 110 => ⟨S32x2048x4x256, .f32⟩
  | 111 => ⟨S32x2048x4x256, .f32⟩
  | 112 => ⟨S32x2048x4x256, .f32⟩
  | 113 => ⟨S32x2048x4x256, .f32⟩
  | 114 => ⟨S_, .f32⟩
  | 115 => ⟨S32x2048x4x256, .f32⟩
  | 116 => ⟨S32x2048x4x256, .f32⟩
  | 117 => ⟨S_, .f32⟩
  | 118 => ⟨S32x2048x4x256, .f32⟩
  | 119 => ⟨S32x2048x4x256, .f32⟩
  | 120 => ⟨S32x2048x1024, .f32⟩
  | 121 => ⟨S4x256x32x2048, .f32⟩
  | 122 => ⟨S32x2048x4x256, .f32⟩
  | 123 => ⟨S1x1x4x256, .f32⟩
  | 124 => ⟨S32x2048x4x256, .f32⟩
  | 125 => ⟨S32x2048x4x256, .f32⟩
  | 126 => ⟨S32x2048x4x256, .f32⟩
  | 127 => ⟨S32x2048x4x256, .f32⟩
  | _ => ⟨S32x2048x1024, .f32⟩

abbrev hbmTy0_2 (i : Nat) : BufTy := match i % 128 with
  | 0 => ⟨S_, .f32⟩
  | 1 => ⟨S32x2048x4x256, .f32⟩
  | 2 => ⟨S32x2048x4x256, .f32⟩
  | 3 => ⟨S_, .f32⟩
  | 4 => ⟨S32x2048x4x256, .f32⟩
  | 5 => ⟨S32x2048x4x256, .f32⟩
  | 6 => ⟨S32x2048x1024, .f32⟩
  | 7 => ⟨S_, .f32⟩
  | 8 => ⟨S32x2048x1024, .f32⟩
  | 9 => ⟨S32x2048x1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S1024, .f32⟩
  | 16 => ⟨S1024, .i1⟩
  | 17 => ⟨S1024, .f32⟩
  | 18 => ⟨S1024, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1x1x1024, .f32⟩
  | 26 => ⟨S32x2048x1024, .f32⟩
  | 27 => ⟨S32x2048x1024, .f32⟩
  | 28 => ⟨S32x2048x1024, .f32⟩
  | 29 => ⟨S_, .f32⟩
  | 30 => ⟨S32x2048x1024, .f32⟩
  | 31 => ⟨S32x2048x1024, .f32⟩
  | 32 => ⟨S32x2048x1024, .f32⟩
  | 33 => ⟨S32x2048x1024, .f32⟩
  | 34 => ⟨S32x2048x1024, .f32⟩
  | 35 => ⟨S32x2048x1024, .f32⟩
  | 36 => ⟨S32x2048x1024, .f32⟩
  | 37 => ⟨S32x1024x1024, .f32⟩
  | 38 => ⟨S32x1024x1024, .f32⟩
  | 39 => ⟨S32x1024x1024, .f32⟩
  | 40 => ⟨S32x1024x1024, .f32⟩
  | 41 => ⟨S32x1024x1024, .f32⟩
  | 42 => ⟨S32x1024x1024, .f32⟩
  | 43 => ⟨S32x1024x1024, .f32⟩
  | 44 => ⟨S32x512x1024, .f32⟩
  | 45 => ⟨S32x512x1024, .f32⟩
  | 46 => ⟨S32x512x1024, .f32⟩
  | 47 => ⟨S32x512x1024, .f32⟩
  | 48 => ⟨S32x512x1024, .f32⟩
  | 49 => ⟨S32x512x1024, .f32⟩
  | 50 => ⟨S32x512x1024, .f32⟩
  | 51 => ⟨S32x256x1024, .f32⟩
  | 52 => ⟨S32x256x1024, .f32⟩
  | 53 => ⟨S32x256x1024, .f32⟩
  | 54 => ⟨S32x256x1024, .f32⟩
  | 55 => ⟨S32x256x1024, .f32⟩
  | 56 => ⟨S32x256x1024, .f32⟩
  | 57 => ⟨S32x256x1024, .f32⟩
  | 58 => ⟨S32x128x1024, .f32⟩
  | 59 => ⟨S32x128x1024, .f32⟩
  | 60 => ⟨S32x128x1024, .f32⟩
  | 61 => ⟨S32x128x1024, .f32⟩
  | 62 => ⟨S32x128x1024, .f32⟩
  | 63 => ⟨S32x128x1024, .f32⟩
  | 64 => ⟨S32x128x1024, .f32⟩
  | 65 => ⟨S32x64x1024, .f32⟩
  | 66 => ⟨S32x64x1024, .f32⟩
  | 67 => ⟨S32x64x1024, .f32⟩
  | 68 => ⟨S32x64x1024, .f32⟩
  | 69 => ⟨S32x64x1024, .f32⟩
  | 70 => ⟨S32x64x1024, .f32⟩
  | 71 => ⟨S32x64x1024, .f32⟩
  | 72 => ⟨S32x32x1024, .f32⟩
  | 73 => ⟨S32x32x1024, .f32⟩
  | 74 => ⟨S32x32x1024, .f32⟩
  | 75 => ⟨S32x32x1024, .f32⟩
  | 76 => ⟨S32x32x1024, .f32⟩
  | 77 => ⟨S32x32x1024, .f32⟩
  | 78 => ⟨S32x32x1024, .f32⟩
  | 79 => ⟨S32x16x1024, .f32⟩
  | 80 => ⟨S32x16x1024, .f32⟩
  | 81 => ⟨S32x16x1024, .f32⟩
  | 82 => ⟨S32x16x1024, .f32⟩
  | 83 => ⟨S32x16x1024, .f32⟩
  | 84 => ⟨S32x16x1024, .f32⟩
  | 85 => ⟨S32x16x1024, .f32⟩
  | 86 => ⟨S32x8x1024, .f32⟩
  | 87 => ⟨S32x8x1024, .f32⟩
  | 88 => ⟨S32x8x1024, .f32⟩
  | 89 => ⟨S32x8x1024, .f32⟩
  | 90 => ⟨S32x8x1024, .f32⟩
  | 91 => ⟨S32x8x1024, .f32⟩
  | 92 => ⟨S32x8x1024, .f32⟩
  | 93 => ⟨S32x4x1024, .f32⟩
  | 94 => ⟨S32x4x1024, .f32⟩
  | 95 => ⟨S32x4x1024, .f32⟩
  | 96 => ⟨S32x4x1024, .f32⟩
  | 97 => ⟨S32x4x1024, .f32⟩
  | 98 => ⟨S32x4x1024, .f32⟩
  | 99 => ⟨S32x4x1024, .f32⟩
  | 100 => ⟨S32x2x1024, .f32⟩
  | 101 => ⟨S32x2x1024, .f32⟩
  | 102 => ⟨S32x2x1024, .f32⟩
  | 103 => ⟨S32x2x1024, .f32⟩
  | 104 => ⟨S32x2x1024, .f32⟩
  | 105 => ⟨S32x2x1024, .f32⟩
  | 106 => ⟨S32x2x1024, .f32⟩
  | 107 => ⟨S32x1x1024, .f32⟩
  | 108 => ⟨S32x1x1024, .f32⟩
  | 109 => ⟨S32x1x1024, .f32⟩
  | 110 => ⟨S32x1x1024, .f32⟩
  | 111 => ⟨S32x1x1024, .f32⟩
  | 112 => ⟨S32x1x1024, .f32⟩
  | 113 => ⟨S32x1x1024, .f32⟩
  | 114 => ⟨S32x0x1024, .f32⟩
  | 115 => ⟨S32x0x1024, .f32⟩
  | 116 => ⟨S32x0x1024, .f32⟩
  | 117 => ⟨S32x0x1024, .f32⟩
  | 118 => ⟨S32x0x1024, .f32⟩
  | 119 => ⟨S32x0x1024, .f32⟩
  | 120 => ⟨S32x0x1024, .f32⟩
  | 121 => ⟨S32x1x1024, .f32⟩
  | 122 => ⟨S32x1x1024, .f32⟩
  | 123 => ⟨S32x1x1024, .f32⟩
  | 124 => ⟨S32x1x1024, .f32⟩
  | 125 => ⟨S_, .f32⟩
  | 126 => ⟨S32x2x1024, .f32⟩
  | 127 => ⟨S_, .f32⟩
  | _ => ⟨S32x2048x1024, .f32⟩

abbrev hbmTy0_3 (i : Nat) : BufTy := match i % 128 with
  | 0 => ⟨S32x2x1024, .f32⟩
  | 1 => ⟨S32x2x1024, .f32⟩
  | 2 => ⟨S_, .f32⟩
  | 3 => ⟨S32x2x1024, .f32⟩
  | 4 => ⟨S_, .f32⟩
  | 5 => ⟨S32x2x1024, .f32⟩
  | 6 => ⟨S32x2x1024, .f32⟩
  | 7 => ⟨S32x1x1024, .f32⟩
  | 8 => ⟨S32x1x1024, .f32⟩
  | 9 => ⟨S32x1x1024, .f32⟩
  | 10 => ⟨S32x1x1024, .f32⟩
  | 11 => ⟨S32x1x1024, .f32⟩
  | 12 => ⟨S32x1x1024, .f32⟩
  | 13 => ⟨S32x1x1024, .f32⟩
  | 14 => ⟨S32x1x1024, .f32⟩
  | 15 => ⟨S32x2x1024, .f32⟩
  | 16 => ⟨S32x1x1024, .f32⟩
  | 17 => ⟨S32x2x1024, .f32⟩
  | 18 => ⟨S_, .f32⟩
  | 19 => ⟨S32x4x1024, .f32⟩
  | 20 => ⟨S_, .f32⟩
  | 21 => ⟨S32x4x1024, .f32⟩
  | 22 => ⟨S32x4x1024, .f32⟩
  | 23 => ⟨S_, .f32⟩
  | 24 => ⟨S32x4x1024, .f32⟩
  | 25 => ⟨S_, .f32⟩
  | 26 => ⟨S32x4x1024, .f32⟩
  | 27 => ⟨S32x4x1024, .f32⟩
  | 28 => ⟨S32x3x1024, .f32⟩
  | 29 => ⟨S32x3x1024, .f32⟩
  | 30 => ⟨S32x3x1024, .f32⟩
  | 31 => ⟨S32x3x1024, .f32⟩
  | 32 => ⟨S32x3x1024, .f32⟩
  | 33 => ⟨S32x3x1024, .f32⟩
  | 34 => ⟨S32x3x1024, .f32⟩
  | 35 => ⟨S32x1x1024, .f32⟩
  | 36 => ⟨S32x4x1024, .f32⟩
  | 37 => ⟨S32x1x1024, .f32⟩
  | 38 => ⟨S32x4x1024, .f32⟩
  | 39 => ⟨S_, .f32⟩
  | 40 => ⟨S32x8x1024, .f32⟩
  | 41 => ⟨S_, .f32⟩
  | 42 => ⟨S32x8x1024, .f32⟩
  | 43 => ⟨S32x8x1024, .f32⟩
  | 44 => ⟨S_, .f32⟩
  | 45 => ⟨S32x8x1024, .f32⟩
  | 46 => ⟨S_, .f32⟩
  | 47 => ⟨S32x8x1024, .f32⟩
  | 48 => ⟨S32x8x1024, .f32⟩
  | 49 => ⟨S32x7x1024, .f32⟩
  | 50 => ⟨S32x7x1024, .f32⟩
  | 51 => ⟨S32x7x1024, .f32⟩
  | 52 => ⟨S32x7x1024, .f32⟩
  | 53 => ⟨S32x7x1024, .f32⟩
  | 54 => ⟨S32x7x1024, .f32⟩
  | 55 => ⟨S32x7x1024, .f32⟩
  | 56 => ⟨S32x1x1024, .f32⟩
  | 57 => ⟨S32x8x1024, .f32⟩
  | 58 => ⟨S32x1x1024, .f32⟩
  | 59 => ⟨S32x8x1024, .f32⟩
  | 60 => ⟨S_, .f32⟩
  | 61 => ⟨S32x16x1024, .f32⟩
  | 62 => ⟨S_, .f32⟩
  | 63 => ⟨S32x16x1024, .f32⟩
  | 64 => ⟨S32x16x1024, .f32⟩
  | 65 => ⟨S_, .f32⟩
  | 66 => ⟨S32x16x1024, .f32⟩
  | 67 => ⟨S_, .f32⟩
  | 68 => ⟨S32x16x1024, .f32⟩
  | 69 => ⟨S32x16x1024, .f32⟩
  | 70 => ⟨S32x15x1024, .f32⟩
  | 71 => ⟨S32x15x1024, .f32⟩
  | 72 => ⟨S32x15x1024, .f32⟩
  | 73 => ⟨S32x15x1024, .f32⟩
  | 74 => ⟨S32x15x1024, .f32⟩
  | 75 => ⟨S32x15x1024, .f32⟩
  | 76 => ⟨S32x15x1024, .f32⟩
  | 77 => ⟨S32x1x1024, .f32⟩
  | 78 => ⟨S32x16x1024, .f32⟩
  | 79 => ⟨S32x1x1024, .f32⟩
  | 80 => ⟨S32x16x1024, .f32⟩
  | 81 => ⟨S_, .f32⟩
  | 82 => ⟨S32x32x1024, .f32⟩
  | 83 => ⟨S_, .f32⟩
  | 84 => ⟨S32x32x1024, .f32⟩
  | 85 => ⟨S32x32x1024, .f32⟩
  | 86 => ⟨S_, .f32⟩
  | 87 => ⟨S32x32x1024, .f32⟩
  | 88 => ⟨S_, .f32⟩
  | 89 => ⟨S32x32x1024, .f32⟩
  | 90 => ⟨S32x32x1024, .f32⟩
  | 91 => ⟨S32x31x1024, .f32⟩
  | 92 => ⟨S32x31x1024, .f32⟩
  | 93 => ⟨S32x31x1024, .f32⟩
  | 94 => ⟨S32x31x1024, .f32⟩
  | 95 => ⟨S32x31x1024, .f32⟩
  | 96 => ⟨S32x31x1024, .f32⟩
  | 97 => ⟨S32x31x1024, .f32⟩
  | 98 => ⟨S32x1x1024, .f32⟩
  | 99 => ⟨S32x32x1024, .f32⟩
  | 100 => ⟨S32x1x1024, .f32⟩
  | 101 => ⟨S32x32x1024, .f32⟩
  | 102 => ⟨S_, .f32⟩
  | 103 => ⟨S32x64x1024, .f32⟩
  | 104 => ⟨S_, .f32⟩
  | 105 => ⟨S32x64x1024, .f32⟩
  | 106 => ⟨S32x64x1024, .f32⟩
  | 107 => ⟨S_, .f32⟩
  | 108 => ⟨S32x64x1024, .f32⟩
  | 109 => ⟨S_, .f32⟩
  | 110 => ⟨S32x64x1024, .f32⟩
  | 111 => ⟨S32x64x1024, .f32⟩
  | 112 => ⟨S32x63x1024, .f32⟩
  | 113 => ⟨S32x63x1024, .f32⟩
  | 114 => ⟨S32x63x1024, .f32⟩
  | 115 => ⟨S32x63x1024, .f32⟩
  | 116 => ⟨S32x63x1024, .f32⟩
  | 117 => ⟨S32x63x1024, .f32⟩
  | 118 => ⟨S32x63x1024, .f32⟩
  | 119 => ⟨S32x1x1024, .f32⟩
  | 120 => ⟨S32x64x1024, .f32⟩
  | 121 => ⟨S32x1x1024, .f32⟩
  | 122 => ⟨S32x64x1024, .f32⟩
  | 123 => ⟨S_, .f32⟩
  | 124 => ⟨S32x128x1024, .f32⟩
  | 125 => ⟨S_, .f32⟩
  | 126 => ⟨S32x128x1024, .f32⟩
  | 127 => ⟨S32x128x1024, .f32⟩
  | _ => ⟨S32x2048x1024, .f32⟩

abbrev hbmTy0_4 (i : Nat) : BufTy := match i % 128 with
  | 0 => ⟨S_, .f32⟩
  | 1 => ⟨S32x128x1024, .f32⟩
  | 2 => ⟨S_, .f32⟩
  | 3 => ⟨S32x128x1024, .f32⟩
  | 4 => ⟨S32x128x1024, .f32⟩
  | 5 => ⟨S32x127x1024, .f32⟩
  | 6 => ⟨S32x127x1024, .f32⟩
  | 7 => ⟨S32x127x1024, .f32⟩
  | 8 => ⟨S32x127x1024, .f32⟩
  | 9 => ⟨S32x127x1024, .f32⟩
  | 10 => ⟨S32x127x1024, .f32⟩
  | 11 => ⟨S32x127x1024, .f32⟩
  | 12 => ⟨S32x1x1024, .f32⟩
  | 13 => ⟨S32x128x1024, .f32⟩
  | 14 => ⟨S32x1x1024, .f32⟩
  | 15 => ⟨S32x128x1024, .f32⟩
  | 16 => ⟨S_, .f32⟩
  | 17 => ⟨S32x256x1024, .f32⟩
  | 18 => ⟨S_, .f32⟩
  | 19 => ⟨S32x256x1024, .f32⟩
  | 20 => ⟨S32x256x1024, .f32⟩
  | 21 => ⟨S_, .f32⟩
  | 22 => ⟨S32x256x1024, .f32⟩
  | 23 => ⟨S_, .f32⟩
  | 24 => ⟨S32x256x1024, .f32⟩
  | 25 => ⟨S32x256x1024, .f32⟩
  | 26 => ⟨S32x255x1024, .f32⟩
  | 27 => ⟨S32x255x1024, .f32⟩
  | 28 => ⟨S32x255x1024, .f32⟩
  | 29 => ⟨S32x255x1024, .f32⟩
  | 30 => ⟨S32x255x1024, .f32⟩
  | 31 => ⟨S32x255x1024, .f32⟩
  | 32 => ⟨S32x255x1024, .f32⟩
  | 33 => ⟨S32x1x1024, .f32⟩
  | 34 => ⟨S32x256x1024, .f32⟩
  | 35 => ⟨S32x1x1024, .f32⟩
  | 36 => ⟨S32x256x1024, .f32⟩
  | 37 => ⟨S_, .f32⟩
  | 38 => ⟨S32x512x1024, .f32⟩
  | 39 => ⟨S_, .f32⟩
  | 40 => ⟨S32x512x1024, .f32⟩
  | 41 => ⟨S32x512x1024, .f32⟩
  | 42 => ⟨S_, .f32⟩
  | 43 => ⟨S32x512x1024, .f32⟩
  | 44 => ⟨S_, .f32⟩
  | 45 => ⟨S32x512x1024, .f32⟩
  | 46 => ⟨S32x512x1024, .f32⟩
  | 47 => ⟨S32x511x1024, .f32⟩
  | 48 => ⟨S32x511x1024, .f32⟩
  | 49 => ⟨S32x511x1024, .f32⟩
  | 50 => ⟨S32x511x1024, .f32⟩
  | 51 => ⟨S32x511x1024, .f32⟩
  | 52 => ⟨S32x511x1024, .f32⟩
  | 53 => ⟨S32x511x1024, .f32⟩
  | 54 => ⟨S32x1x1024, .f32⟩
  | 55 => ⟨S32x512x1024, .f32⟩
  | 56 => ⟨S32x1x1024, .f32⟩
  | 57 => ⟨S32x512x1024, .f32⟩
  | 58 => ⟨S_, .f32⟩
  | 59 => ⟨S32x1024x1024, .f32⟩
  | 60 => ⟨S_, .f32⟩
  | 61 => ⟨S32x1024x1024, .f32⟩
  | 62 => ⟨S32x1024x1024, .f32⟩
  | 63 => ⟨S_, .f32⟩
  | 64 => ⟨S32x1024x1024, .f32⟩
  | 65 => ⟨S_, .f32⟩
  | 66 => ⟨S32x1024x1024, .f32⟩
  | 67 => ⟨S32x1024x1024, .f32⟩
  | 68 => ⟨S32x1023x1024, .f32⟩
  | 69 => ⟨S32x1023x1024, .f32⟩
  | 70 => ⟨S32x1023x1024, .f32⟩
  | 71 => ⟨S32x1023x1024, .f32⟩
  | 72 => ⟨S32x1023x1024, .f32⟩
  | 73 => ⟨S32x1023x1024, .f32⟩
  | 74 => ⟨S32x1023x1024, .f32⟩
  | 75 => ⟨S32x1x1024, .f32⟩
  | 76 => ⟨S32x1024x1024, .f32⟩
  | 77 => ⟨S32x1x1024, .f32⟩
  | 78 => ⟨S32x1024x1024, .f32⟩
  | 79 => ⟨S_, .f32⟩
  | 80 => ⟨S32x2048x1024, .f32⟩
  | 81 => ⟨S_, .f32⟩
  | 82 => ⟨S32x2048x1024, .f32⟩
  | 83 => ⟨S32x2048x1024, .f32⟩
  | 84 => ⟨S_, .f32⟩
  | 85 => ⟨S32x2048x1024, .f32⟩
  | 86 => ⟨S_, .f32⟩
  | 87 => ⟨S32x2048x1024, .f32⟩
  | 88 => ⟨S32x2048x1024, .f32⟩
  | 89 => ⟨S32x2048x1024, .f32⟩
  | 90 => ⟨S32x2048x1024, .f32⟩
  | 91 => ⟨S_, .f32⟩
  | 92 => ⟨S32x2048x1024, .f32⟩
  | 93 => ⟨S32x2048x1024, .f32⟩
  | 94 => ⟨S32x2048x1024, .f32⟩
  | 95 => ⟨S_, .f32⟩
  | 96 => ⟨S32x2048x1024, .f32⟩
  | 97 => ⟨S32x2048x1024, .f32⟩
  | 98 => ⟨S32x2048x1024, .f32⟩
  | 99 => ⟨S_, .f32⟩
  | 100 => ⟨S32x2048x1024, .f32⟩
  | 101 => ⟨S32x2048x1024, .f32⟩
  | 102 => ⟨S_, .f32⟩
  | 103 => ⟨S32x2048x1024, .f32⟩
  | 104 => ⟨S32x2048x1024, .f32⟩
  | 105 => ⟨S32x2048x1024, .f32⟩
  | 106 => ⟨S32x2048x1024, .f32⟩
  | 107 => ⟨S1024x1024, .f32⟩
  | 108 => ⟨S32x2048x1024, .f32⟩
  | 109 => ⟨S1x1x1024, .f32⟩
  | 110 => ⟨S1024, .f32⟩
  | 111 => ⟨S1x1x1024, .f32⟩
  | 112 => ⟨S32x2048x1024, .f32⟩
  | 113 => ⟨S32x2048x1024, .f32⟩
  | 114 => ⟨S32x2048x1024, .f32⟩
  | 115 => ⟨S32x2048x1024, .f32⟩
  | 116 => ⟨S_, .f32⟩
  | 117 => ⟨S32x2048x1024, .f32⟩
  | 118 => ⟨S32x2048x1024, .f32⟩
  | 119 => ⟨S_, .f32⟩
  | 120 => ⟨S32x2048x1024, .f32⟩
  | 121 => ⟨S32x2048x1024, .f32⟩
  | 122 => ⟨S32x2048x1024, .f32⟩
  | 123 => ⟨S1x1x1024, .f32⟩
  | 124 => ⟨S1024, .f32⟩
  | 125 => ⟨S1x1x1024, .f32⟩
  | 126 => ⟨S32x2048x1024, .f32⟩
  | 127 => ⟨S32x2048x1024, .f32⟩
  | _ => ⟨S32x2048x1024, .f32⟩

abbrev hbmTy0_5 (i : Nat) : BufTy := match i % 128 with
  | 0 => ⟨S32x2048x1024, .f32⟩
  | 1 => ⟨S32x2048x1024, .f32⟩
  | 2 => ⟨S_, .f32⟩
  | 3 => ⟨S32x2048x1024, .f32⟩
  | 4 => ⟨S32x2048x1024, .f32⟩
  | 5 => ⟨S_, .f32⟩
  | 6 => ⟨S32x2048x1024, .f32⟩
  | 7 => ⟨S32x2048x1024, .f32⟩
  | 8 => ⟨S32x2048x1024, .f32⟩
  | 9 => ⟨S32x2048x1024, .f32⟩
  | 10 => ⟨S1024x1024, .f32⟩
  | 11 => ⟨S32x2048x1024, .f32⟩
  | 12 => ⟨S32x2048x1024, .f32⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_cst_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_4 : Ref sig .tc := ⟨.hbm, 78, rfl⟩
abbrev main_v57 : Ref sig .tc := ⟨.hbm, 79, rfl⟩
abbrev main_v58 : Ref sig .tc := ⟨.hbm, 80, rfl⟩
abbrev main_cst_5 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_6 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_7 : Ref sig .tc := ⟨.hbm, 112, rfl⟩
abbrev main_v88 : Ref sig .tc := ⟨.hbm, 113, rfl⟩
abbrev main_v89 : Ref sig .tc := ⟨.hbm, 114, rfl⟩
abbrev main_cst_8 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_9 : Ref sig .tc := ⟨.hbm, 140, rfl⟩
abbrev main_call0_v0 : Ref sig .tc := ⟨.hbm, 141, rfl⟩
abbrev main_call0_v1 : Ref sig .tc := ⟨.hbm, 142, rfl⟩
abbrev main_call0_v2 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_10 : Ref sig .tc := ⟨.hbm, 152, rfl⟩
abbrev main_v122 : Ref sig .tc := ⟨.hbm, 153, rfl⟩
abbrev main_v123 : Ref sig .tc := ⟨.hbm, 154, rfl⟩
abbrev main_cst_11 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_12 : Ref sig .tc := ⟨.hbm, 161, rfl⟩
abbrev main_v129 : Ref sig .tc := ⟨.hbm, 162, rfl⟩
abbrev main_v130 : Ref sig .tc := ⟨.hbm, 163, rfl⟩
abbrev main_cst_13 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_14 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_call1_v0 : Ref sig .tc := ⟨.hbm, 179, rfl⟩
abbrev main_call1_v1 : Ref sig .tc := ⟨.hbm, 180, rfl⟩
abbrev main_call1_cst : Ref sig .tc := ⟨.hbm, 181, rfl⟩
abbrev main_call1_v2 : Ref sig .tc := ⟨.hbm, 182, rfl⟩
abbrev main_call1_v3 : Ref sig .tc := ⟨.hbm, 183, rfl⟩
abbrev main_call1_cst_0 : Ref sig .tc := ⟨.hbm, 184, rfl⟩
abbrev main_call1_v4 : Ref sig .tc := ⟨.hbm, 185, rfl⟩
abbrev main_call1_v5 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c : Ref sig .tc := ⟨.hbm, 193, rfl⟩
abbrev main_call2_v0 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_15 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_cst_16 : Ref sig .tc := ⟨.hbm, 242, rfl⟩
abbrev main_v196 : Ref sig .tc := ⟨.hbm, 243, rfl⟩
abbrev main_v197 : Ref sig .tc := ⟨.hbm, 244, rfl⟩
abbrev main_cst_17 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_18 : Ref sig .tc := ⟨.hbm, 256, rfl⟩
abbrev main_v208 : Ref sig .tc := ⟨.hbm, 257, rfl⟩
abbrev main_v209 : Ref sig .tc := ⟨.hbm, 258, rfl⟩
abbrev main_cst_19 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_cst_20 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_call3_cst : Ref sig .tc := ⟨.hbm, 267, rfl⟩
abbrev main_call3_v0 : Ref sig .tc := ⟨.hbm, 268, rfl⟩
abbrev main_call3_v1 : Ref sig .tc := ⟨.hbm, 269, rfl⟩
abbrev main_call3_v2 : Ref sig .tc := ⟨.hbm, 270, rfl⟩
abbrev main_call3_v3 : Ref sig .tc := ⟨.hbm, 271, rfl⟩
abbrev main_call3_v4 : Ref sig .tc := ⟨.hbm, 272, rfl⟩
abbrev main_call3_v5 : Ref sig .tc := ⟨.hbm, 273, rfl⟩
abbrev main_call3_v6 : Ref sig .tc := ⟨.hbm, 274, rfl⟩
abbrev main_call3_v7 : Ref sig .tc := ⟨.hbm, 275, rfl⟩
abbrev main_call3_v8 : Ref sig .tc := ⟨.hbm, 276, rfl⟩
abbrev main_call3_v9 : Ref sig .tc := ⟨.hbm, 277, rfl⟩
abbrev main_call3_v10 : Ref sig .tc := ⟨.hbm, 278, rfl⟩
abbrev main_call3_v11 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_cst_21 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_cst_22 : Ref sig .tc := ⟨.hbm, 381, rfl⟩
abbrev main_v316 : Ref sig .tc := ⟨.hbm, 382, rfl⟩
abbrev main_cst_23 : Ref sig .tc := ⟨.hbm, 383, rfl⟩
abbrev main_v317 : Ref sig .tc := ⟨.hbm, 384, rfl⟩
abbrev main_v318 : Ref sig .tc := ⟨.hbm, 385, rfl⟩
abbrev main_cst_24 : Ref sig .tc := ⟨.hbm, 386, rfl⟩
abbrev main_v319 : Ref sig .tc := ⟨.hbm, 387, rfl⟩
abbrev main_cst_25 : Ref sig .tc := ⟨.hbm, 388, rfl⟩
abbrev main_v320 : Ref sig .tc := ⟨.hbm, 389, rfl⟩
abbrev main_v321 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_cst_26 : Ref sig .tc := ⟨.hbm, 402, rfl⟩
abbrev main_v333 : Ref sig .tc := ⟨.hbm, 403, rfl⟩
abbrev main_cst_27 : Ref sig .tc := ⟨.hbm, 404, rfl⟩
abbrev main_v334 : Ref sig .tc := ⟨.hbm, 405, rfl⟩
abbrev main_v335 : Ref sig .tc := ⟨.hbm, 406, rfl⟩
abbrev main_cst_28 : Ref sig .tc := ⟨.hbm, 407, rfl⟩
abbrev main_v336 : Ref sig .tc := ⟨.hbm, 408, rfl⟩
abbrev main_cst_29 : Ref sig .tc := ⟨.hbm, 409, rfl⟩
abbrev main_v337 : Ref sig .tc := ⟨.hbm, 410, rfl⟩
abbrev main_v338 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_v345 : Ref sig .tc := ⟨.hbm, 418, rfl⟩
abbrev main_v346 : Ref sig .tc := ⟨.hbm, 419, rfl⟩
abbrev main_v347 : Ref sig .tc := ⟨.hbm, 420, rfl⟩
abbrev main_v348 : Ref sig .tc := ⟨.hbm, 421, rfl⟩
abbrev main_v349 : Ref sig .tc := ⟨.hbm, 422, rfl⟩
abbrev main_cst_30 : Ref sig .tc := ⟨.hbm, 423, rfl⟩
abbrev main_v350 : Ref sig .tc := ⟨.hbm, 424, rfl⟩
abbrev main_cst_31 : Ref sig .tc := ⟨.hbm, 425, rfl⟩
abbrev main_v351 : Ref sig .tc := ⟨.hbm, 426, rfl⟩
abbrev main_v352 : Ref sig .tc := ⟨.hbm, 427, rfl⟩
abbrev main_cst_32 : Ref sig .tc := ⟨.hbm, 428, rfl⟩
abbrev main_v353 : Ref sig .tc := ⟨.hbm, 429, rfl⟩
abbrev main_cst_33 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_cst_34 : Ref sig .tc := ⟨.hbm, 444, rfl⟩
abbrev main_v367 : Ref sig .tc := ⟨.hbm, 445, rfl⟩
abbrev main_cst_35 : Ref sig .tc := ⟨.hbm, 446, rfl⟩
abbrev main_v368 : Ref sig .tc := ⟨.hbm, 447, rfl⟩
abbrev main_v369 : Ref sig .tc := ⟨.hbm, 448, rfl⟩
abbrev main_cst_36 : Ref sig .tc := ⟨.hbm, 449, rfl⟩
abbrev main_v370 : Ref sig .tc := ⟨.hbm, 450, rfl⟩
abbrev main_cst_37 : Ref sig .tc := ⟨.hbm, 451, rfl⟩
abbrev main_v371 : Ref sig .tc := ⟨.hbm, 452, rfl⟩
abbrev main_v372 : Ref sig .tc := ⟨.hbm, 453, rfl⟩
abbrev main_v373 : Ref sig .tc := ⟨.hbm, 454, rfl⟩
abbrev main_v374 : Ref sig .tc := ⟨.hbm, 455, rfl⟩
abbrev main_v375 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_cst_38 : Ref sig .tc := ⟨.hbm, 465, rfl⟩
abbrev main_v384 : Ref sig .tc := ⟨.hbm, 466, rfl⟩
abbrev main_cst_39 : Ref sig .tc := ⟨.hbm, 467, rfl⟩
abbrev main_v385 : Ref sig .tc := ⟨.hbm, 468, rfl⟩
abbrev main_v386 : Ref sig .tc := ⟨.hbm, 469, rfl⟩
abbrev main_cst_40 : Ref sig .tc := ⟨.hbm, 470, rfl⟩
abbrev main_v387 : Ref sig .tc := ⟨.hbm, 471, rfl⟩
abbrev main_cst_41 : Ref sig .tc := ⟨.hbm, 472, rfl⟩
abbrev main_v388 : Ref sig .tc := ⟨.hbm, 473, rfl⟩
abbrev main_v389 : Ref sig .tc := ⟨.hbm, 474, rfl⟩
abbrev main_v390 : Ref sig .tc := ⟨.hbm, 475, rfl⟩
abbrev main_v391 : Ref sig .tc := ⟨.hbm, 476, rfl⟩
abbrev main_v392 : Ref sig .tc := ⟨.hbm, 477, rfl⟩
abbrev main_v393 : Ref sig .tc := ⟨.hbm, 478, rfl⟩
abbrev main_v394 : Ref sig .tc := ⟨.hbm, 479, rfl⟩
abbrev main_v395 : Ref sig .tc := ⟨.hbm, 480, rfl⟩
abbrev main_v396 : Ref sig .tc := ⟨.hbm, 481, rfl⟩
abbrev main_v397 : Ref sig .tc := ⟨.hbm, 482, rfl⟩
abbrev main_v398 : Ref sig .tc := ⟨.hbm, 483, rfl⟩
abbrev main_v399 : Ref sig .tc := ⟨.hbm, 484, rfl⟩
abbrev main_v400 : Ref sig .tc := ⟨.hbm, 485, rfl⟩
abbrev main_cst_42 : Ref sig .tc := ⟨.hbm, 486, rfl⟩
abbrev main_v401 : Ref sig .tc := ⟨.hbm, 487, rfl⟩
abbrev main_cst_43 : Ref sig .tc := ⟨.hbm, 488, rfl⟩
abbrev main_v402 : Ref sig .tc := ⟨.hbm, 489, rfl⟩
abbrev main_v403 : Ref sig .tc := ⟨.hbm, 490, rfl⟩
abbrev main_cst_44 : Ref sig .tc := ⟨.hbm, 491, rfl⟩
abbrev main_v404 : Ref sig .tc := ⟨.hbm, 492, rfl⟩
abbrev main_cst_45 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_cst_46 : Ref sig .tc := ⟨.hbm, 507, rfl⟩
abbrev main_v418 : Ref sig .tc := ⟨.hbm, 508, rfl⟩
abbrev main_cst_47 : Ref sig .tc := ⟨.hbm, 509, rfl⟩
abbrev main_v419 : Ref sig .tc := ⟨.hbm, 510, rfl⟩
abbrev main_v420 : Ref sig .tc := ⟨.hbm, 511, rfl⟩
abbrev main_cst_48 : Ref sig .tc := ⟨.hbm, 512, rfl⟩
abbrev main_v421 : Ref sig .tc := ⟨.hbm, 513, rfl⟩
abbrev main_cst_49 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_v429 : Ref sig .tc := ⟨.hbm, 522, rfl⟩
abbrev main_v430 : Ref sig .tc := ⟨.hbm, 523, rfl⟩
abbrev main_v431 : Ref sig .tc := ⟨.hbm, 524, rfl⟩
abbrev main_v432 : Ref sig .tc := ⟨.hbm, 525, rfl⟩
abbrev main_v433 : Ref sig .tc := ⟨.hbm, 526, rfl⟩
abbrev main_v434 : Ref sig .tc := ⟨.hbm, 527, rfl⟩
abbrev main_cst_50 : Ref sig .tc := ⟨.hbm, 528, rfl⟩
abbrev main_v435 : Ref sig .tc := ⟨.hbm, 529, rfl⟩
abbrev main_cst_51 : Ref sig .tc := ⟨.hbm, 530, rfl⟩
abbrev main_v436 : Ref sig .tc := ⟨.hbm, 531, rfl⟩
abbrev main_v437 : Ref sig .tc := ⟨.hbm, 532, rfl⟩
abbrev main_cst_52 : Ref sig .tc := ⟨.hbm, 533, rfl⟩
abbrev main_v438 : Ref sig .tc := ⟨.hbm, 534, rfl⟩
abbrev main_cst_53 : Ref sig .tc := ⟨.hbm, 535, rfl⟩
abbrev main_v439 : Ref sig .tc := ⟨.hbm, 536, rfl⟩
abbrev main_v440 : Ref sig .tc := ⟨.hbm, 537, rfl⟩
abbrev main_v441 : Ref sig .tc := ⟨.hbm, 538, rfl⟩
abbrev main_v442 : Ref sig .tc := ⟨.hbm, 539, rfl⟩
abbrev main_v443 : Ref sig .tc := ⟨.hbm, 540, rfl⟩
abbrev main_v444 : Ref sig .tc := ⟨.hbm, 541, rfl⟩
abbrev main_v445 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_v449 : Ref sig .tc := ⟨.hbm, 546, rfl⟩
abbrev main_v450 : Ref sig .tc := ⟨.hbm, 547, rfl⟩
abbrev main_v451 : Ref sig .tc := ⟨.hbm, 548, rfl⟩
abbrev main_cst_54 : Ref sig .tc := ⟨.hbm, 549, rfl⟩
abbrev main_v452 : Ref sig .tc := ⟨.hbm, 550, rfl⟩
abbrev main_cst_55 : Ref sig .tc := ⟨.hbm, 551, rfl⟩
abbrev main_v453 : Ref sig .tc := ⟨.hbm, 552, rfl⟩
abbrev main_v454 : Ref sig .tc := ⟨.hbm, 553, rfl⟩
abbrev main_cst_56 : Ref sig .tc := ⟨.hbm, 554, rfl⟩
abbrev main_v455 : Ref sig .tc := ⟨.hbm, 555, rfl⟩
abbrev main_cst_57 : Ref sig .tc := ⟨.hbm, 556, rfl⟩
abbrev main_v456 : Ref sig .tc := ⟨.hbm, 557, rfl⟩
abbrev main_v457 : Ref sig .tc := ⟨.hbm, 558, rfl⟩
abbrev main_v458 : Ref sig .tc := ⟨.hbm, 559, rfl⟩
abbrev main_v459 : Ref sig .tc := ⟨.hbm, 560, rfl⟩
abbrev main_v460 : Ref sig .tc := ⟨.hbm, 561, rfl⟩
abbrev main_v461 : Ref sig .tc := ⟨.hbm, 562, rfl⟩
abbrev main_v462 : Ref sig .tc := ⟨.hbm, 563, rfl⟩
abbrev main_v463 : Ref sig .tc := ⟨.hbm, 564, rfl⟩
abbrev main_v464 : Ref sig .tc := ⟨.hbm, 565, rfl⟩
abbrev main_v465 : Ref sig .tc := ⟨.hbm, 566, rfl⟩
abbrev main_v466 : Ref sig .tc := ⟨.hbm, 567, rfl⟩
abbrev main_v467 : Ref sig .tc := ⟨.hbm, 568, rfl⟩
abbrev main_v468 : Ref sig .tc := ⟨.hbm, 569, rfl⟩
abbrev main_cst_58 : Ref sig .tc := ⟨.hbm, 570, rfl⟩
abbrev main_v469 : Ref sig .tc := ⟨.hbm, 571, rfl⟩
abbrev main_cst_59 : Ref sig .tc := ⟨.hbm, 572, rfl⟩
abbrev main_v470 : Ref sig .tc := ⟨.hbm, 573, rfl⟩
abbrev main_v471 : Ref sig .tc := ⟨.hbm, 574, rfl⟩
abbrev main_cst_60 : Ref sig .tc := ⟨.hbm, 575, rfl⟩
abbrev main_v472 : Ref sig .tc := ⟨.hbm, 576, rfl⟩
abbrev main_cst_61 : Ref sig .tc := ⟨.hbm, 577, rfl⟩
abbrev main_v473 : Ref sig .tc := ⟨.hbm, 578, rfl⟩
abbrev main_v474 : Ref sig .tc := ⟨.hbm, 579, rfl⟩
abbrev main_v475 : Ref sig .tc := ⟨.hbm, 580, rfl⟩
abbrev main_v476 : Ref sig .tc := ⟨.hbm, 581, rfl⟩
abbrev main_v477 : Ref sig .tc := ⟨.hbm, 582, rfl⟩
abbrev main_v478 : Ref sig .tc := ⟨.hbm, 583, rfl⟩
abbrev main_v479 : Ref sig .tc := ⟨.hbm, 584, rfl⟩
abbrev main_v480 : Ref sig .tc := ⟨.hbm, 585, rfl⟩
abbrev main_v481 : Ref sig .tc := ⟨.hbm, 586, rfl⟩
abbrev main_v482 : Ref sig .tc := ⟨.hbm, 587, rfl⟩
abbrev main_v483 : Ref sig .tc := ⟨.hbm, 588, rfl⟩
abbrev main_v484 : Ref sig .tc := ⟨.hbm, 589, rfl⟩
abbrev main_v485 : Ref sig .tc := ⟨.hbm, 590, rfl⟩
abbrev main_cst_62 : Ref sig .tc := ⟨.hbm, 591, rfl⟩
abbrev main_v486 : Ref sig .tc := ⟨.hbm, 592, rfl⟩
abbrev main_cst_63 : Ref sig .tc := ⟨.hbm, 593, rfl⟩
abbrev main_v487 : Ref sig .tc := ⟨.hbm, 594, rfl⟩
abbrev main_v488 : Ref sig .tc := ⟨.hbm, 595, rfl⟩
abbrev main_cst_64 : Ref sig .tc := ⟨.hbm, 596, rfl⟩
abbrev main_v489 : Ref sig .tc := ⟨.hbm, 597, rfl⟩
abbrev main_cst_65 : Ref sig .tc := ⟨.hbm, 598, rfl⟩
abbrev main_v490 : Ref sig .tc := ⟨.hbm, 599, rfl⟩
abbrev main_v491 : Ref sig .tc := ⟨.hbm, 600, rfl⟩
abbrev main_v492 : Ref sig .tc := ⟨.hbm, 601, rfl⟩
abbrev main_v493 : Ref sig .tc := ⟨.hbm, 602, rfl⟩
abbrev main_cst_66 : Ref sig .tc := ⟨.hbm, 603, rfl⟩
abbrev main_v494 : Ref sig .tc := ⟨.hbm, 604, rfl⟩
abbrev main_v495 : Ref sig .tc := ⟨.hbm, 605, rfl⟩
abbrev main_v496 : Ref sig .tc := ⟨.hbm, 606, rfl⟩
abbrev main_cst_67 : Ref sig .tc := ⟨.hbm, 607, rfl⟩
abbrev main_v497 : Ref sig .tc := ⟨.hbm, 608, rfl⟩
abbrev main_v498 : Ref sig .tc := ⟨.hbm, 609, rfl⟩
abbrev main_v499 : Ref sig .tc := ⟨.hbm, 610, rfl⟩
abbrev main_cst_68 : Ref sig .tc := ⟨.hbm, 611, rfl⟩
abbrev main_v500 : Ref sig .tc := ⟨.hbm, 612, rfl⟩
abbrev main_v501 : Ref sig .tc := ⟨.hbm, 613, rfl⟩
abbrev main_cst_69 : Ref sig .tc := ⟨.hbm, 614, rfl⟩
abbrev main_v502 : Ref sig .tc := ⟨.hbm, 615, rfl⟩
abbrev main_v503 : Ref sig .tc := ⟨.hbm, 616, rfl⟩
abbrev main_v504 : Ref sig .tc := ⟨.hbm, 617, rfl⟩
abbrev main_v505 : Ref sig .tc := ⟨.hbm, 618, rfl⟩
abbrev main_v506 : Ref sig .tc := ⟨.hbm, 619, rfl⟩
abbrev main_v507 : Ref sig .tc := ⟨.hbm, 620, rfl⟩
abbrev main_v508 : Ref sig .tc := ⟨.hbm, 621, rfl⟩
abbrev main_v509 : Ref sig .tc := ⟨.hbm, 622, rfl⟩
abbrev main_v510 : Ref sig .tc := ⟨.hbm, 623, rfl⟩
abbrev main_v511 : Ref sig .tc := ⟨.hbm, 624, rfl⟩
abbrev main_v512 : Ref sig .tc := ⟨.hbm, 625, rfl⟩
abbrev main_v513 : Ref sig .tc := ⟨.hbm, 626, rfl⟩
abbrev main_v514 : Ref sig .tc := ⟨.hbm, 627, rfl⟩
abbrev main_cst_70 : Ref sig .tc := ⟨.hbm, 628, rfl⟩
abbrev main_v515 : Ref sig .tc := ⟨.hbm, 629, rfl⟩
abbrev main_v516 : Ref sig .tc := ⟨.hbm, 630, rfl⟩
abbrev main_cst_71 : Ref sig .tc := ⟨.hbm, 631, rfl⟩
abbrev main_v517 : Ref sig .tc := ⟨.hbm, 632, rfl⟩
abbrev main_v518 : Ref sig .tc := ⟨.hbm, 633, rfl⟩
abbrev main_v519 : Ref sig .tc := ⟨.hbm, 634, rfl⟩
abbrev main_v520 : Ref sig .tc := ⟨.hbm, 635, rfl⟩
abbrev main_v521 : Ref sig .tc := ⟨.hbm, 636, rfl⟩
abbrev main_v522 : Ref sig .tc := ⟨.hbm, 637, rfl⟩
abbrev main_v523 : Ref sig .tc := ⟨.hbm, 638, rfl⟩
abbrev main_v524 : Ref sig .tc := ⟨.hbm, 639, rfl⟩
abbrev main_v525 : Ref sig .tc := ⟨.hbm, 640, rfl⟩
abbrev main_v526 : Ref sig .tc := ⟨.hbm, 641, rfl⟩
abbrev main_cst_72 : Ref sig .tc := ⟨.hbm, 642, rfl⟩
abbrev main_v527 : Ref sig .tc := ⟨.hbm, 643, rfl⟩
abbrev main_v528 : Ref sig .tc := ⟨.hbm, 644, rfl⟩
abbrev main_cst_73 : Ref sig .tc := ⟨.hbm, 645, rfl⟩
abbrev main_v529 : Ref sig .tc := ⟨.hbm, 646, rfl⟩
abbrev main_v530 : Ref sig .tc := ⟨.hbm, 647, rfl⟩
abbrev main_v531 : Ref sig .tc := ⟨.hbm, 648, rfl⟩
abbrev main_v532 : Ref sig .tc := ⟨.hbm, 649, rfl⟩
abbrev main_v533 : Ref sig .tc := ⟨.hbm, 650, rfl⟩
abbrev main_v534 : Ref sig .tc := ⟨.hbm, 651, rfl⟩
abbrev main_v535 : Ref sig .tc := ⟨.hbm, 652, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024 : Shape := ⟨2, ![1, 1024]⟩
abbrev S1x1024x6144 : Shape := ⟨3, ![1, 1024, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S1024x6144 : Shape := ⟨2, ![1024, 6144]⟩
abbrev S3x3072 : Shape := ⟨2, ![3, 3072]⟩
abbrev S3072 : Shape := ⟨1, ![3072]⟩
abbrev S3072x1024 : Shape := ⟨2, ![3072, 1024]⟩
abbrev S1x1024x1024 : Shape := ⟨3, ![1, 1024, 1024]⟩
abbrev S8x3072 : Shape := ⟨2, ![8, 3072]⟩
abbrev S1024x1024 : Shape := ⟨2, ![1024, 1024]⟩
abbrev S1024x1 : Shape := ⟨2, ![1024, 1]⟩
abbrev S1024x3072 : Shape := ⟨2, ![1024, 3072]⟩
abbrev S1016x3072 : Shape := ⟨2, ![1016, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x512x1024 : Shape := ⟨3, ![1, 512, 1024]⟩

abbrev nBuf : Space → Nat
  | .hbm => 18
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S1x3x3072, .f32⟩
  | .hbm, ⟨4, _⟩ => ⟨S1x3072, .f32⟩
  | .hbm, ⟨5, _⟩ => ⟨S1x3072x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x6144, .f32⟩
  | .hbm, ⟨10, _⟩ => ⟨S1024x6144, .bf16⟩
  | .hbm, ⟨11, _⟩ => ⟨S3x3072, .f32⟩
  | .hbm, ⟨12, _⟩ => ⟨S3072, .f32⟩
  | .hbm, ⟨13, _⟩ => ⟨S1x3072, .f32⟩
  | .hbm, ⟨14, _⟩ => ⟨S3072x1024, .f32⟩
  | .hbm, ⟨15, _⟩ => ⟨S3072x1024, .bf16⟩
  | .hbm, ⟨16, _⟩ => ⟨S1x1024, .f32⟩
  | .hbm, ⟨17, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x6144, .bf16⟩
  | .local _ .vmem, ⟨4, _⟩ => ⟨S3x3072, .f32⟩
  | .local _ .vmem, ⟨5, _⟩ => ⟨S1x3072, .f32⟩
  | .local _ .vmem, ⟨6, _⟩ => ⟨S3072x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S8x3072, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S32x2048x1024 : Shape := ⟨3, ![32, 2048, 1024]⟩
abbrev S1x1024 : Shape := ⟨2, ![1, 1024]⟩
abbrev S1x1024x6144 : Shape := ⟨3, ![1, 1024, 6144]⟩
abbrev S1x3x3072 : Shape := ⟨3, ![1, 3, 3072]⟩
abbrev S1x3072 : Shape := ⟨2, ![1, 3072]⟩
abbrev S1x3072x1024 : Shape := ⟨3, ![1, 3072, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x6144 : Shape := ⟨2, ![1024, 6144]⟩
abbrev S32x2048x6144 : Shape := ⟨3, ![32, 2048, 6144]⟩
abbrev S32x2048x3072 : Shape := ⟨3, ![32, 2048, 3072]⟩
abbrev S3x3072 : Shape := ⟨2, ![3, 3072]⟩
abbrev S3072 : Shape := ⟨1, ![3072]⟩
abbrev S32x2050x3072 : Shape := ⟨3, ![32, 2050, 3072]⟩
abbrev S1x1x3072 : Shape := ⟨3, ![1, 1, 3072]⟩
abbrev S3072x1024 : Shape := ⟨2, ![3072, 1024]⟩

abbrev nBuf : Space → Nat
  | .hbm => 96
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S1x3x3072, .f32⟩
  | .hbm, ⟨4, _⟩ => ⟨S1x3072, .f32⟩
  | .hbm, ⟨5, _⟩ => ⟨S1x3072x1024, .f32⟩
  | .hbm, ⟨6, _⟩ => ⟨S1024, .f32⟩
  | .hbm, ⟨7, _⟩ => ⟨S1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S1024x6144, .f32⟩
  | .hbm, ⟨25, _⟩ => ⟨S32x2048x6144, .f32⟩
  | .hbm, ⟨26, _⟩ => ⟨S32x2048x3072, .f32⟩
  | .hbm, ⟨27, _⟩ => ⟨S32x2048x3072, .f32⟩
  | .hbm, ⟨28, _⟩ => ⟨S3x3072, .f32⟩
  | .hbm, ⟨29, _⟩ => ⟨S3072, .f32⟩
  | .hbm, ⟨30, _⟩ => ⟨S_, .i32⟩
  | .hbm, ⟨31, _⟩ => ⟨S_, .f32⟩
  | .hbm, ⟨32, _⟩ => ⟨S32x2050x3072, .f32⟩
  | .hbm, ⟨33, _⟩ => ⟨S32x2048x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S32x2048x3072, .f32⟩
  | .hbm, ⟨38, _⟩ => ⟨S32x2048x3072, .f32⟩
  | .hbm, ⟨39, _⟩ => ⟨S_, .f32⟩
  | .hbm, ⟨40, _⟩ => ⟨S32x2048x3072, .f32⟩
  | .hbm, ⟨41, _⟩ => ⟨S32x2048x3072, .f32⟩
  | .hbm, ⟨42, _⟩ => ⟨S32x2048x3072, .f32⟩
  | .hbm, ⟨43, _⟩ => ⟨S1x3072, .f32⟩
  | .hbm, ⟨44, _⟩ => ⟨S3072, .f32⟩
  | .hbm, ⟨45, _⟩ => ⟨S1x1x3072, .f32⟩
  | .hbm, ⟨46, _⟩ => ⟨S32x2048x3072, .f32⟩
  | .hbm, ⟨47, _⟩ => ⟨S32x2048x3072, .f32⟩
  | .hbm, ⟨48, _⟩ => ⟨S32x2048x3072, .f32⟩
  | .hbm, ⟨49, _⟩ => ⟨S32x2048x3072, .f32⟩
  | .hbm, ⟨50, _⟩ => ⟨S1x3072, .f32⟩
  | .hbm, ⟨51, _⟩ => ⟨S3072, .f32⟩
  | .hbm, ⟨52, _⟩ => ⟨S1x1x3072, .f32⟩
  | .hbm, ⟨53, _⟩ => ⟨S32x2048x3072, .f32⟩
  | .hbm, ⟨54, _⟩ => ⟨S32x2048x3072, .f32⟩
  | .hbm, ⟨55, _⟩ => ⟨S32x2048x3072, .f32⟩
  | .hbm, ⟨56, _⟩ => ⟨S1x1x3072, .f32⟩
  | .hbm, ⟨57, _⟩ => ⟨S32x2048x3072, .f32⟩
  | .hbm, ⟨58, _⟩ => ⟨S32x2048x3072, .f32⟩
  | .hbm, ⟨59, _⟩ => ⟨S32x2048x3072, .f32⟩
  | .hbm, ⟨60, _⟩ => ⟨S32x2048x3072, .f32⟩
  | .hbm, ⟨61, _⟩ => ⟨S_, .f32⟩
  | .hbm, ⟨62, _⟩ => ⟨S32x2048x3072, .f32⟩
  | .hbm, ⟨63, _⟩ => ⟨S32x2048x3072, .f32⟩
  | .hbm, ⟨64, _⟩ => ⟨S32x2048x3072, .f32⟩
  | .hbm, ⟨65, _⟩ => ⟨S_, .f32⟩
  | .hbm, ⟨66, _⟩ => ⟨S32x2048x3072, .f32⟩
  | .hbm, ⟨67, _⟩ => ⟨S32x2048x3072, .f32⟩
  | .hbm, ⟨68, _⟩ => ⟨S32x2048x3072, .f32⟩
  | .hbm, ⟨69, _⟩ => ⟨S_, .f32⟩
  | .hbm, ⟨70, _⟩ => ⟨S32x2048x3072, .f32⟩
  | .hbm, ⟨71, _⟩ => ⟨S32x2048x3072, .f32⟩
  | .hbm, ⟨72, _⟩ => ⟨S_, .f32⟩
  | .hbm, ⟨73, _⟩ => ⟨S32x2048x3072, .f32⟩
  | .hbm, ⟨74, _⟩ => ⟨S32x2048x3072, .f32⟩
  | .hbm, ⟨75, _⟩ => ⟨S32x2048x3072, .f32⟩
  | .hbm, ⟨76, _⟩ => ⟨S32x2048x3072, .f32⟩
  | .hbm, ⟨77, _⟩ => ⟨S3072x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S_, .f32⟩
  | .hbm, ⟨82, _⟩ => ⟨S32x2048, .f32⟩
  | .hbm, ⟨83, _⟩ => ⟨S32x2048x1, .f32⟩
  | .hbm, ⟨84, _⟩ => ⟨S_, .f32⟩
  | .hbm, ⟨85, _⟩ => ⟨S32x2048x1, .f32⟩
  | .hbm, ⟨86, _⟩ => ⟨S32x2048x1, .f32⟩
  | .hbm, ⟨87, _⟩ => ⟨S_, .f32⟩
  | .hbm, ⟨88, _⟩ => ⟨S32x2048x1, .f32⟩
  | .hbm, ⟨89, _⟩ => ⟨S32x2048x1, .f32⟩
  | .hbm, ⟨90, _⟩ => ⟨S32x2048x1, .f32⟩
  | .hbm, ⟨91, _⟩ => ⟨S32x2048x1024, .f32⟩
  | .hbm, ⟨92, _⟩ => ⟨S32x2048x1024, .f32⟩
  | .hbm, ⟨93, _⟩ => ⟨S1x1x1024, .f32⟩
  | .hbm, ⟨94, _⟩ => ⟨S32x2048x1024, .f32⟩
  | .hbm, ⟨95, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_3 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_cst_8 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Proof.FfnBody.lean ====
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

/-- A row divided by its root mean square, times a weight. -/
def rms (f w : Fin 1024 → EReal) (k : Fin 1024) : EReal :=
  f k * Ideal.rsqrt (Ideal.div (∑ x, f x * f x) (Ideal.ofBits FTy.f32 1149239296#32) + Ideal.ofBits FTy.f32 897988541#32) * w k

/-- The gated activation of one channel. -/
def act (z v : EReal) : EReal :=
  z * (Ideal.ofBits FTy.f32 1056964608#32 * (1 + Ideal.tanh (Ideal.ofBits FTy.f32 1061962282#32 * (z + Ideal.ofBits FTy.f32 1027024659#32 * (z * (z * z)))))) * v

/-- One row of the channel mixer, from its gate rows at its own frame and the two before. -/
def cell (xr : Fin 1024 → EReal) (g0 g1 g2 v w0 w1 w2 b : Fin 3072 → EReal) (Wd : Fin 3072 → Fin 1024 → EReal)
    (nf : Fin 1024 → EReal) (d : Fin 1024) : EReal :=
  rms (fun d => xr d + ∑ k, act (g0 k * w2 k + b k + g1 k * w1 k + g2 k * w0 k) (v k) * Wd k d) nf d

/-- One gate (or value) entry of a row. -/
def proj (xr n : Fin 1024 → EReal) (W : Fin 1024 → Fin 3072 → EReal) (k : Fin 3072) : EReal :=
  ∑ x, rms xr n x * W x k

theorem pay4_at (v3 : Vec Ideal S1x1024x1024 .f32) (v5 : Vec Ideal S1x1024 .f32) (r k : Fin 1024) :
    k0_pay4 v3 v5 (ix2 r k) = rms (fun x => v3 (ix3 0 r x)) (fun x => v5 (ix2 0 x)) k := by
  pointwise [k0_pay4, k0_pay3]
  rfl

theorem pay5_at (v3 : Vec Ideal S1x1024x1024 .f32) (v5 : Vec Ideal S1x1024 .f32) (w : Vec Ideal S1024x3072 .bf16) (r : Fin 1024) (k : Fin 3072) :
    k0_pay5 v3 v5 w (ix2 r k) = proj (fun x => v3 (ix3 0 r x)) (fun x => v5 (ix2 0 x)) (fun x k => w (ix2 x k)) k := by
  pointwise [k0_pay5]
  simp only [pay4_at]; rfl

theorem pay6_at (v3 : Vec Ideal S1x1024x1024 .f32) (v5 : Vec Ideal S1x1024 .f32) (w : Vec Ideal S1024x3072 .bf16) (r : Fin 1024) (k : Fin 3072) :
    k0_pay6 v3 v5 w (ix2 r k) = proj (fun x => v3 (ix3 0 r x)) (fun x => v5 (ix2 0 x)) (fun x k => w (ix2 x k)) k := by
  pointwise [k0_pay6]
  simp only [pay4_at]; rfl

theorem pay7_at (v3 : Vec Ideal S1x1024x1024 .f32) (v5 : Vec Ideal S1x1024 .f32) (w : Vec Ideal S1024x3072 .bf16) (v28 : Vec Ideal S1x3072 .f32) (r : Fin 1024) (k : Fin 3072) :
    k0_pay7 v3 v5 w v28 (ix2 r k) = k0_pay5 v3 v5 w (ix2 r k) * v28 (ix2 0 k) := by
  pointwise [k0_pay7]

/-- The gate `s` rows above row `r` of a tile whose last eight predecessors are `y`. -/
def back (s : ℕ) (hs : s ≤ 7) (g : FVec Ideal S1024x3072 .f32) (y : Vec Ideal S8x3072 .f32) (r : Fin 1024) (k : Fin 3072) : EReal :=
  if h : s ≤ r.1 then g (ix2 ⟨r.1 - s, by omega⟩ k) else y (ix2 ⟨r.1 + 8 - s, by omega⟩ k)

theorem back_piece (s : ℕ) (hs : s ≤ 7) (h1 : 1 ≤ s) (g : FVec Ideal S1024x3072 .f32) (y : Vec Ideal S8x3072 .f32) (r : Fin 1024) (k : Fin 3072)
    (p1 p2 p3) :
    (if h : r.1 < 8 then Scalar.select (IntOp.cmpi CmpIPredicate.slt (BitVec.ofNat 32 r.1) (BitVec.ofNat 32 s)) (y (ix2 ⟨(r.1 + 8 - s) % 8, p1⟩ k))
              (g (ix2 ⟨(r.1 + 1024 - s) % 1024, p2⟩ k))
          else g (ix2 ⟨(8 + (r.1 - 8) + 1024 - s) % 1024, p3⟩ k)) = back s hs g y r k := by
  have key : IntOp.cmpi CmpIPredicate.slt (BitVec.ofNat 32 r.1) (BitVec.ofNat 32 s) = BitVec.ofBool (decide (r.1 < s)) := by
    have h1 : (BitVec.ofNat 32 r.1).toInt = r.1 := by rw [BitVec.toInt_eq_toNat_of_lt] <;> rw [BitVec.toNat_ofNat] <;> have := r.2 <;> omega
    have h2 : (BitVec.ofNat 32 s).toInt = s := by rw [BitVec.toInt_eq_toNat_of_lt] <;> rw [BitVec.toNat_ofNat] <;> omega
    simp only [IntOp.cmpi, BitVec.slt, h1, h2]
    simp
  have hr := r.2
  unfold back
  rw [key]
  by_cases hs' : s ≤ r.1
  · rw [dif_pos hs', decide_eq_false (by omega)]
    split
    · simp only [Scalar.select, BitVec.ofBool_false]
      rw [if_neg (by decide)]
      congr 2; apply Fin.ext; show (r.1 + 1024 - s) % 1024 = r.1 - s; omega
    · congr 2; apply Fin.ext; show (8 + (r.1 - 8) + 1024 - s) % 1024 = r.1 - s; omega
  · rw [dif_neg hs', decide_eq_true (by omega), dif_pos (by omega)]
    simp only [Scalar.select, BitVec.ofBool_true]
    rw [if_pos (by decide)]
    congr 2; apply Fin.ext; show (r.1 + 8 - s) % 8 = r.1 + 8 - s; omega

theorem pay8_at (v22 : FVec Ideal S1024x3072 .f32) (v26 : Vec Ideal S8x3072 .f32) (v31 : FVec Ideal S1024x3072 .f32) (v32 : Vec Ideal S1x3072 .f32) (v46 : Vec Ideal S1x3072 .f32) (v61 : Vec Ideal S1x3072 .f32) (r : Fin 1024) (k : Fin 3072) :
    k0_pay8 v22 v26 v31 v32 v46 v61 (ix2 r k) = v31 (ix2 r k) + v32 (ix2 0 k) + back 1 (by omega) v22 v26 r k * v46 (ix2 0 k)
      + back 2 (by omega) v22 v26 r k * v61 (ix2 0 k) := by
  pointwise [k0_pay8]
  rw [← back_piece 1 (by omega) (by omega) v22 v26 r k (by omega) (by omega) (by omega), ← back_piece 2 (by omega) (by omega) v22 v26 r k (by omega) (by omega) (by omega)]

theorem pay10_at (v22 : FVec Ideal S1024x3072 .f32) (v26 : Vec Ideal S8x3072 .f32) (v31 : FVec Ideal S1024x3072 .f32) (v32 : Vec Ideal S1x3072 .f32) (v46 : Vec Ideal S1x3072 .f32) (v61 : Vec Ideal S1x3072 .f32) (j : S1024x3072.Idx) :
    k0_pay10 v22 v26 v31 v32 v46 v61 j = (let z := k0_pay8 v22 v26 v31 v32 v46 v61 j; z + Ideal.ofBits FTy.f32 1027024659#32 * (z * (z * z))) := by
  pointwise [k0_pay10]

theorem pay9_at (v22 : FVec Ideal S1024x3072 .f32) (r : Fin 8) (k : Fin 3072) : k0_pay9 v22 (ix2 r k) = v22 (ix2 ⟨1016 + r.1, by omega⟩ k) := by
  pointwise [k0_pay9]

/-- The row the two halves normalise. -/
def accRow (v4 : FVec Ideal S1024x1024 .f32) (v25 v65 v74 : FVec Ideal S1024x3072 .f32) (w : Vec Ideal S3072x1024 .bf16) (r d : Fin 1024) : EReal :=
  v4 (ix2 r d) + ∑ k, v65 (ix2 r k) * (Ideal.ofBits FTy.f32 1056964608#32 * (1 + Ideal.tanh (Ideal.ofBits FTy.f32 1061962282#32 * v74 (ix2 r k)))) * v25 (ix2 r k) * w (ix2 k d)

theorem pay11_at (v4 : FVec Ideal S1024x1024 .f32) (v25 v65 v74 : FVec Ideal S1024x3072 .f32) (w : Vec Ideal S3072x1024 .bf16) (r d : Fin 1024) :
    k0_pay11 v4 v25 v65 v74 w w (ix2 r d) = accRow v4 v25 v65 v74 w r d := by
  have hr := r.2
  pointwise [k0_pay11]
  split
  · rfl
  · rename_i h
    have e : (⟨512 + (r.1 - 512), by omega⟩ : Fin 1024) = r := Fin.ext (by show 512 + (r.1 - 512) = r.1; omega)
    simp only [e]; rfl

theorem pay12_at (v4 : FVec Ideal S1024x1024 .f32) (v25 v65 v74 : FVec Ideal S1024x3072 .f32) (w : Vec Ideal S3072x1024 .bf16) (n : Vec Ideal S1x1024 .f32) (r : Fin 512) (d : Fin 1024) :
    k0_pay12 v4 v25 v65 v74 w w n (ix3 0 r d) = rms (accRow v4 v25 v65 v74 w ⟨r.1, by omega⟩) (fun x => n (ix2 0 x)) d := by
  pointwise [k0_pay12]
  simp only [pay11_at]; rfl

theorem pay1_at (v4 : FVec Ideal S1024x1024 .f32) (v25 v65 v74 : FVec Ideal S1024x3072 .f32) (w : Vec Ideal S3072x1024 .bf16) (n : Vec Ideal S1x1024 .f32) (r : Fin 512) (d : Fin 1024) :
    k0_pay1 (k0_pay13 v4 v25 v65 v74 w w) n (ix3 0 r d) = rms (accRow v4 v25 v65 v74 w ⟨512 + r.1, by omega⟩) (fun x => n (ix2 0 x)) d := by
  pointwise [k0_pay1, k0_pay13]
  simp only [pay11_at]; rfl

/-- The tile's gate rows. -/
def gateOf (x0 : Vec Ideal S1x1024x1024 .f32) (x1 : Vec Ideal S1x1024 .f32) (x2 : Vec Ideal S1024x6144 .bf16) : FVec Ideal S1024x3072 .f32 :=
  k0_pay5 x0 x1 (View.ld x2 (Rect.unit ![0, 0] ![1024, 3072] inb_S1024x6144_S1024x3072_0_0))

/-- The tile's value rows. -/
def valOf (x0 : Vec Ideal S1x1024x1024 .f32) (x1 : Vec Ideal S1x1024 .f32) (x2 : Vec Ideal S1024x6144 .bf16) : FVec Ideal S1024x3072 .f32 :=
  k0_pay6 x0 x1 (View.ld x2 (Rect.unit ![0, 3072] ![1024, 3072] inb_S1024x6144_S1024x3072_0_3072))

theorem gateOf_at (x0 : Vec Ideal S1x1024x1024 .f32) (x1 : Vec Ideal S1x1024 .f32) (x2 : Vec Ideal S1024x6144 .bf16) (r : Fin 1024) (k : Fin 3072) :
    gateOf x0 x1 x2 (ix2 r k) = proj (fun x => x0 (ix3 0 r x)) (fun x => x1 (ix2 0 x)) (fun x k => x2 (ix2 x ⟨k.1, by omega⟩)) k := by
  unfold gateOf; rw [pay5_at]
  congr 1; funext x k; pointwise

theorem valOf_at (x0 : Vec Ideal S1x1024x1024 .f32) (x1 : Vec Ideal S1x1024 .f32) (x2 : Vec Ideal S1024x6144 .bf16) (r : Fin 1024) (k : Fin 3072) :
    valOf x0 x1 x2 (ix2 r k) = proj (fun x => x0 (ix3 0 r x)) (fun x => x1 (ix2 0 x)) (fun x k => x2 (ix2 x ⟨3072 + k.1, by omega⟩)) k := by
  unfold valOf; rw [pay6_at]
  congr 1; funext x k; pointwise

/-- One tile of the channel mixer, read at its row `r`, over the eight gate rows `y` before it. -/
def tile (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (y : Vec Ideal S8x3072 .f32) (r d : Fin 1024) : EReal :=
  cell (fun d => x0 (ix3 0 r d)) (fun k => gateOf x0 x1 x2 (ix2 r k)) (back 1 (by omega) (gateOf x0 x1 x2) y r) (back 2 (by omega) (gateOf x0 x1 x2) y r)
    (fun k => valOf x0 x1 x2 (ix2 r k)) (fun k => x3 (ix2 0 k)) (fun k => x3 (ix2 1 k)) (fun k => x3 (ix2 2 k)) (fun k => x4 (ix2 0 k)) (fun k d => x5 (ix2 k d)) (fun d => x6 (ix2 0 d)) d

theorem acc_at (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (y : Vec Ideal S8x3072 .f32)
    (a0 a1 a2 : Vec Ideal S1x3072 .f32) (e0 : ∀ k, a0 (ix2 0 k) = x3 (ix2 0 k)) (e1 : ∀ k, a1 (ix2 0 k) = x3 (ix2 1 k)) (e2 : ∀ k, a2 (ix2 0 k) = x3 (ix2 2 k)) (r d : Fin 1024) :
    rms (accRow (k0_pay3 x0) (valOf x0 x1 x2) (k0_pay8 (gateOf x0 x1 x2) y (k0_pay7 x0 x1 (View.ld x2 (Rect.unit ![0, 0] ![1024, 3072] inb_S1024x6144_S1024x3072_0_0)) a2) x4 a1 a0)
      (k0_pay10 (gateOf x0 x1 x2) y (k0_pay7 x0 x1 (View.ld x2 (Rect.unit ![0, 0] ![1024, 3072] inb_S1024x6144_S1024x3072_0_0)) a2) x4 a1 a0) x5 r) (fun x => x6 (ix2 0 x)) d
    = tile x0 x1 x2 x3 x4 x5 x6 y r d := by
  have h3 : ∀ d, k0_pay3 x0 (ix2 r d) = x0 (ix3 0 r d) := fun d => by pointwise [k0_pay3]
  unfold tile cell accRow
  simp only [h3, pay10_at, pay8_at, pay7_at, e0, e1, e2]
  rfl

theorem ld_row (a5 : Memref sig .tc .vmem S3x3072 .f32) (h5 : a5.IsWhole) (x3 : Vec Ideal S3x3072 .f32) (o : ℕ) (ho : o < 3) (k : Fin 3072)
    (p1 : ∀ a, (![0, 0] : Fin 2 → ℕ) a + (![3, 3072] : Fin 2 → ℕ) a ≤ S3x3072.size a) (p2 : ∀ a, (![o, 0] : Fin 2 → ℕ) a + (![1, 3072] : Fin 2 → ℕ) a ≤ (![3, 3072] : Fin 2 → ℕ) a) (p3) :
    View.readAt (Elt Ideal) a5.view ((Rect.unit (s := S3x3072) ![0, 0] ![3, 3072] p1).withinL (Rect.unit (s := (Rect.unit (s := S3x3072) ![0, 0] ![3, 3072] p1).shape) ![o, 0] ![1, 3072] p2).toLoadRect p3) (h5.unread x3)
      (ix2 (n0 := 1) (n1 := 3072) 0 k) = x3 (ix2 ⟨o, ho⟩ k) := by
  show a5.view.read (Elt Ideal) (h5.unread x3) (((Rect.unit (s := S3x3072) ![0, 0] ![3, 3072] p1).withinL _ p3).idx _) = _
  rw [h5.read_unread, Rect.idx_withinL]
  congr 1
  funext a; apply Fin.ext
  fin_cases a
  · show 0 + 1 * (o + 1 * 0) = o; omega
  · show 0 + 1 * (0 + 1 * k.1) = k.1; omega

theorem pay2_at (r : Fin 8) (k : Fin 3072) : (k0_pay2 : FVec Ideal S8x3072 .f32) (ix2 r k) = 0 := by
  pointwise [k0_pay2]

theorem sout_A (c : Dev nD) (i : grid0.Coords) (a2 : Memref sig .tc .vmem S1x1024x1024 .f32) (h2 : a2.IsWhole) (a3 : Memref sig .tc .vmem S1x1024 .f32) (h3 : a3.IsWhole) (a4 : Memref sig .tc .vmem S1024x6144 .bf16) (h4 : a4.IsWhole) (a5 : Memref sig .tc .vmem S3x3072 .f32) (h5 : a5.IsWhole) (a6 : Memref sig .tc .vmem S1x3072 .f32) (h6 : a6.IsWhole) (a7 : Memref sig .tc .vmem S3072x1024 .bf16) (h7 : a7.IsWhole) (a8 : Memref sig .tc .vmem S1x1024 .f32) (h8 : a8.IsWhole) (a9 : Memref sig .tc .vmem S1x1024x1024 .f32) (h9 : a9.IsWhole) (a10 : Memref sig .tc .vmem S8x3072 .f32) (h10 : a10.IsWhole) (hc0 : cond0_0 i) (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (r : Fin 8) (k : Fin 3072) :
    sout0_A_0 c i a2 h2 a3 h3 a4 h4 a5 h5 a6 h6 a7 h7 a8 h8 a9 h9 a10 h10 hc0 x0 x1 x2 x3 x4 x5 x6 (ix2 r k) = gateOf x0 x1 x2 (ix2 ⟨1016 + r.1, by omega⟩ k) := by
  unfold sout0_A_0
  frame_out
  first | exact pay9_at _ r k

theorem out_A (c : Dev nD) (i : grid0.Coords) (a2 : Memref sig .tc .vmem S1x1024x1024 .f32) (h2 : a2.IsWhole) (a3 : Memref sig .tc .vmem S1x1024 .f32) (h3 : a3.IsWhole) (a4 : Memref sig .tc .vmem S1024x6144 .bf16) (h4 : a4.IsWhole) (a5 : Memref sig .tc .vmem S3x3072 .f32) (h5 : a5.IsWhole) (a6 : Memref sig .tc .vmem S1x3072 .f32) (h6 : a6.IsWhole) (a7 : Memref sig .tc .vmem S3072x1024 .bf16) (h7 : a7.IsWhole) (a8 : Memref sig .tc .vmem S1x1024 .f32) (h8 : a8.IsWhole) (a9 : Memref sig .tc .vmem S1x1024x1024 .f32) (h9 : a9.IsWhole) (a10 : Memref sig .tc .vmem S8x3072 .f32) (h10 : a10.IsWhole) (hc0 : cond0_0 i) (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (r d : Fin 1024) :
    out0_A_7 c i a2 h2 a3 h3 a4 h4 a5 h5 a6 h6 a7 h7 a8 h8 a9 h9 a10 h10 hc0 x0 x1 x2 x3 x4 x5 x6 (ix3 0 r d) = tile x0 x1 x2 x3 x4 x5 x6 (k0_pay2 : FVec Ideal S8x3072 .f32) r d := by
  have hr := r.2
  unfold out0_A_7
  frame_out
  canon_tiles q hq
  · obtain ⟨a, b, e, rfl⟩ : ∃ (a : Fin 1) (b : Fin 512) (e : Fin 1024), q = ix3 a b e := ⟨q 0, q 1, q 2, eq_ix3 q⟩
    obtain rfl : a = 0 := Subsingleton.elim _ _
    obtain rfl : d = e := Fin.ext hq2
    have er : r = ⟨512 + b.1, by have := b.2; omega⟩ := Fin.ext hq1
    rw [er]
    exact (pay1_at _ _ _ _ _ _ b d).trans (acc_at _ _ _ _ _ _ _ _ _ _ _ (fun k => ld_row _ h5 x3 0 (by omega) k _ _ _) (fun k => ld_row _ h5 x3 1 (by omega) k _ _ _) (fun k => ld_row _ h5 x3 2 (by omega) k _ _ _) _ d)
  · obtain ⟨a, b, e, rfl⟩ : ∃ (a : Fin 1) (b : Fin 512) (e : Fin 1024), q = ix3 a b e := ⟨q 0, q 1, q 2, eq_ix3 q⟩
    obtain rfl : a = 0 := Subsingleton.elim _ _
    obtain rfl : d = e := Fin.ext hq2
    have er : r = ⟨b.1, by have := b.2; omega⟩ := Fin.ext hq1
    rw [er]
    exact (pay12_at _ _ _ _ _ _ b d).trans (acc_at _ _ _ _ _ _ _ _ _ _ _ (fun k => ld_row _ h5 x3 0 (by omega) k _ _ _) (fun k => ld_row _ h5 x3 1 (by omega) k _ _ _) (fun k => ld_row _ h5 x3 2 (by omega) k _ _ _) _ d)

theorem sout_B (c : Dev nD) (i : grid0.Coords) (a2 : Memref sig .tc .vmem S1x1024x1024 .f32) (h2 : a2.IsWhole) (a3 : Memref sig .tc .vmem S1x1024 .f32) (h3 : a3.IsWhole) (a4 : Memref sig .tc .vmem S1024x6144 .bf16) (h4 : a4.IsWhole) (a5 : Memref sig .tc .vmem S3x3072 .f32) (h5 : a5.IsWhole) (a6 : Memref sig .tc .vmem S1x3072 .f32) (h6 : a6.IsWhole) (a7 : Memref sig .tc .vmem S3072x1024 .bf16) (h7 : a7.IsWhole) (a8 : Memref sig .tc .vmem S1x1024 .f32) (h8 : a8.IsWhole) (a9 : Memref sig .tc .vmem S1x1024x1024 .f32) (h9 : a9.IsWhole) (a10 : Memref sig .tc .vmem S8x3072 .f32) (h10 : a10.IsWhole) (hc0 : ¬cond0_0 i) (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (y : Vec Ideal S8x3072 .f32) (r : Fin 8) (k : Fin 3072) :
    sout0_B_0 c i a2 h2 a3 h3 a4 h4 a5 h5 a6 h6 a7 h7 a8 h8 a9 h9 a10 h10 hc0 x0 x1 x2 x3 x4 x5 x6 y (ix2 r k) = gateOf x0 x1 x2 (ix2 ⟨1016 + r.1, by omega⟩ k) := by
  unfold sout0_B_0
  frame_out
  first | exact pay9_at _ r k

theorem out_B (c : Dev nD) (i : grid0.Coords) (a2 : Memref sig .tc .vmem S1x1024x1024 .f32) (h2 : a2.IsWhole) (a3 : Memref sig .tc .vmem S1x1024 .f32) (h3 : a3.IsWhole) (a4 : Memref sig .tc .vmem S1024x6144 .bf16) (h4 : a4.IsWhole) (a5 : Memref sig .tc .vmem S3x3072 .f32) (h5 : a5.IsWhole) (a6 : Memref sig .tc .vmem S1x3072 .f32) (h6 : a6.IsWhole) (a7 : Memref sig .tc .vmem S3072x1024 .bf16) (h7 : a7.IsWhole) (a8 : Memref sig .tc .vmem S1x1024 .f32) (h8 : a8.IsWhole) (a9 : Memref sig .tc .vmem S1x1024x1024 .f32) (h9 : a9.IsWhole) (a10 : Memref sig .tc .vmem S8x3072 .f32) (h10 : a10.IsWhole) (hc0 : ¬cond0_0 i) (x0 : Vec Ideal S1x1024x1024 .f32) (x1 : Vec Ideal S1x1024 .f32) (x2 : Vec Ideal S1024x6144 .bf16) (x3 : Vec Ideal S3x3072 .f32) (x4 : Vec Ideal S1x3072 .f32) (x5 : Vec Ideal S3072x1024 .bf16) (x6 : Vec Ideal S1x1024 .f32) (y : Vec Ideal S8x3072 .f32) (r d : Fin 1024) :
    out0_B_7 c i a2 h2 a3 h3 a4 h4 a5 h5 a6 h6 a7 h7 a8 h8 a9 h9 a10 h10 hc0 x0 x1 x2 x3 x4 x5 x6 y (ix3 0 r d) = tile x0 x1 x2 x3 x4 x5 x6 y r d := by
  have hr := r.2
  unfold out0_B_7
  frame_out
  canon_tiles q hq
  · obtain ⟨a, b, e, rfl⟩ : ∃ (a : Fin 1) (b : Fin 512) (e : Fin 1024), q = ix3 a b e := ⟨q 0, q 1, q 2, eq_ix3 q⟩
    obtain rfl : a = 0 := Subsingleton.elim _ _
    obtain rfl : d = e := Fin.ext hq2
    have er : r = ⟨512 + b.1, by have := b.2; omega⟩ := Fin.ext hq1
    rw [er]
    exact (pay1_at _ _ _ _ _ _ b d).trans (acc_at _ _ _ _ _ _ _ _ _ _ _ (fun k => ld_row _ h5 x3 0 (by omega) k _ _ _) (fun k => ld_row _ h5 x3 1 (by omega) k _ _ _) (fun k => ld_row _ h5 x3 2 (by omega) k _ _ _) _ d)
  · obtain ⟨a, b, e, rfl⟩ : ∃ (a : Fin 1) (b : Fin 512) (e : Fin 1024), q = ix3 a b e := ⟨q 0, q 1, q 2, eq_ix3 q⟩
    obtain rfl : a = 0 := Subsingleton.elim _ _
    obtain rfl : d = e := Fin.ext hq2
    have er : r = ⟨b.1, by have := b.2; omega⟩ := Fin.ext hq1
    rw [er]
    exact (pay12_at _ _ _ _ _ _ b d).trans (acc_at _ _ _ _ _ _ _ _ _ _ _ (fun k => ld_row _ h5 x3 0 (by omega) k _ _ _) (fun k => ld_row _ h5 x3 1 (by omega) k _ _ _) (fun k => ld_row _ h5 x3 2 (by omega) k _ _ _) _ d)
end Cert.Ffn
-- ==== Proof.FfnRead.lean ====
module

public import proofs.«01_k».proof.Proof.FfnBody
public import Idealize.ShloMosaic.Lib.Tactic

@[expose] public section

set_option maxRecDepth 16384

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ)

theorem idx0 (t : Fin cfg0.N) : win0_0.index t = ![t.val / 2, t.val % 2, 0] := by
  revert t; decide +kernel

theorem x0_at (c : Dev nD) (t : Fin cfg0.N) (r d : Fin 1024) (h1 h2) :
    iblk m c 0 t (ix3 0 r d) = m ((c.tc : Thread nD τ).loc main_arg0) (ix3 ⟨t.val / 2, h1⟩ ⟨t.val % 2 * 1024 + r.1, h2⟩ d) := by
  blk_ext [iblk, V, idx0]

theorem x1_at (c : Dev nD) (t : Fin cfg0.N) (d : Fin 1024) :
    iblk m c 1 t (ix2 0 d) = m ((c.tc : Thread nD τ).loc main_arg1) (ix2 0 d) := by
  have idx : win0_1.index t = ![0, 0] := by revert t; decide +kernel
  blk_ext! [iblk, V, idx]

theorem x2_at (c : Dev nD) (t : Fin cfg0.N) (d : Fin 1024) (k : Fin 6144) :
    iblk m c 2 t (ix2 d k) = m ((c.tc : Thread nD τ).loc main_arg2) (ix3 0 d k) := by
  have idx : win0_2.index t = ![0, 0] := by revert t; decide +kernel
  blk_ext! [iblk, V, idx]

theorem x3_at (c : Dev nD) (t : Fin cfg0.N) (d : Fin 3) (k : Fin 3072) :
    iblk m c 3 t (ix2 d k) = m ((c.tc : Thread nD τ).loc main_arg3) (ix3 0 d k) := by
  have idx : win0_3.index t = ![0, 0] := by revert t; decide +kernel
  blk_ext! [iblk, V, idx]

theorem x4_at (c : Dev nD) (t : Fin cfg0.N) (k : Fin 3072) :
    iblk m c 4 t (ix2 0 k) = m ((c.tc : Thread nD τ).loc main_arg4) (ix2 0 k) := by
  have idx : win0_4.index t = ![0, 0] := by revert t; decide +kernel
  blk_ext! [iblk, V, idx]

theorem x5_at (c : Dev nD) (t : Fin cfg0.N) (k : Fin 3072) (d : Fin 1024) :
    iblk m c 5 t (ix2 k d) = m ((c.tc : Thread nD τ).loc main_arg5) (ix3 0 k d) := by
  have idx : win0_5.index t = ![0, 0] := by revert t; decide +kernel
  blk_ext! [iblk, V, idx]

theorem x6_at (c : Dev nD) (t : Fin cfg0.N) (d : Fin 1024) :
    iblk m c 6 t (ix2 0 d) = m ((c.tc : Thread nD τ).loc main_arg6) (ix1 d) := by
  have idx : win0_6.index t = ![0, 0] := by revert t; decide +kernel
  blk_ext! [iblk, V, idx]

end Cert.Ffn
-- ==== Proof.FfnKernel.lean ====
module

public import proofs.«01_k».proof.Proof.FfnRead

@[expose] public section

set_option maxRecDepth 16384

noncomputable section

namespace Cert.Ffn

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- A gate entry of a frame, of the arrays. -/
def gate (X : S32x2048x1024.Idx → EReal) (n2 : S1x1024.Idx → EReal) (wu : S1x1024x6144.Idx → EReal) (b : Fin 32) (t : Fin 2048) (k : Fin 3072) : EReal :=
  proj (fun x => X (ix3 b t x)) (fun x => n2 (ix2 0 x)) (fun x k => wu (ix3 0 x ⟨k.1, by omega⟩)) k

/-- A value entry of a frame, of the arrays. -/
def value (X : S32x2048x1024.Idx → EReal) (n2 : S1x1024.Idx → EReal) (wu : S1x1024x6144.Idx → EReal) (b : Fin 32) (t : Fin 2048) (k : Fin 3072) : EReal :=
  proj (fun x => X (ix3 b t x)) (fun x => n2 (ix2 0 x)) (fun x k => wu (ix3 0 x ⟨3072 + k.1, by omega⟩)) k

/-- The gate entry `s` frames before, zero before the first frame. -/
def past (s : ℕ) (X : S32x2048x1024.Idx → EReal) (n2 : S1x1024.Idx → EReal) (wu : S1x1024x6144.Idx → EReal) (b : Fin 32) (t : Fin 2048) (k : Fin 3072) : EReal :=
  if s ≤ t.1 then gate X n2 wu b ⟨t.1 - s, by omega⟩ k else 0

/-- The channel mixer's result, of the arrays. -/
def spec (X : S32x2048x1024.Idx → EReal) (n2 : S1x1024.Idx → EReal) (wu : S1x1024x6144.Idx → EReal) (cw : S1x3x3072.Idx → EReal)
    (cb : S1x3072.Idx → EReal) (wd : S1x3072x1024.Idx → EReal) (nf : S1024.Idx → EReal) (b : Fin 32) (t : Fin 2048) (d : Fin 1024) : EReal :=
  cell (fun x => X (ix3 b t x)) (gate X n2 wu b t) (past 1 X n2 wu b t) (past 2 X n2 wu b t) (value X n2 wu b t)
    (fun k => cw (ix3 0 0 k)) (fun k => cw (ix3 0 1 k)) (fun k => cw (ix3 0 2 k)) (fun k => cb (ix2 0 k)) (fun k d => wd (ix3 0 k d)) (fun x => nf (ix1 x)) d

variable (c : Dev nD)

/-- The contents of argument buffer `b`. -/
abbrev arg (b : Ref sig .tc) : Buf (Elt Ideal) ((c.tc : Thread nD τ).loc b) := m ((c.tc : Thread nD τ).loc b)

theorem gate_blk (p : Fin cfg0.N) (r : Fin 1024) (k : Fin 3072) (h1 h2) :
    gateOf (iblk m c 0 p) (iblk m c 1 p) (iblk m c 2 p) (ix2 r k)
      = gate (m ((c.tc : Thread nD τ).loc main_arg0)) (m ((c.tc : Thread nD τ).loc main_arg1)) (m ((c.tc : Thread nD τ).loc main_arg2)) ⟨p.val / 2, h1⟩ ⟨p.val % 2 * 1024 + r.1, h2⟩ k := by
  rw [gateOf_at]; unfold gate
  simp only [x0_at m c p r _ h1 h2, x1_at, x2_at]

theorem val_blk (p : Fin cfg0.N) (r : Fin 1024) (k : Fin 3072) (h1 h2) :
    valOf (iblk m c 0 p) (iblk m c 1 p) (iblk m c 2 p) (ix2 r k)
      = value (m ((c.tc : Thread nD τ).loc main_arg0)) (m ((c.tc : Thread nD τ).loc main_arg1)) (m ((c.tc : Thread nD τ).loc main_arg2)) ⟨p.val / 2, h1⟩ ⟨p.val % 2 * 1024 + r.1, h2⟩ k := by
  rw [valOf_at]; unfold value
  simp only [x0_at m c p r _ h1 h2, x1_at, x2_at]

theorem carry_at (p : Fin cfg0.N) (r : Fin 8) (k : Fin 3072) (h1 h2) :
    (outsAt0 m c p.val p.isLt).2 (ix2 r k) = gate (m ((c.tc : Thread nD τ).loc main_arg0)) (m ((c.tc : Thread nD τ).loc main_arg1)) (m ((c.tc : Thread nD τ).loc main_arg2)) ⟨p.val / 2, h1⟩ ⟨p.val % 2 * 1024 + (1016 + r.1), h2⟩ k := by
  by_cases h0 : p.val % 2 = 0
  · rw [outsAt0_A m c p h0]
    dsimp only
    rw [sout_A]
    exact gate_blk m c p ⟨1016 + r.1, by omega⟩ k h1 h2
  · rw [outsAt0_B m c p h0]
    dsimp only
    rw [sout_B]
    exact gate_blk m c p ⟨1016 + r.1, by omega⟩ k h1 h2

theorem tile_blk (p : Fin cfg0.N) (y : Vec Ideal S8x3072 .f32) (r d : Fin 1024) (h1 h2)
    (hb : ∀ s (hs : s ≤ 7) k, 1 ≤ s → s ≤ 2 → back s hs (gateOf (iblk m c 0 p) (iblk m c 1 p) (iblk m c 2 p)) y r k
      = past s (m ((c.tc : Thread nD τ).loc main_arg0)) (m ((c.tc : Thread nD τ).loc main_arg1)) (m ((c.tc : Thread nD τ).loc main_arg2)) ⟨p.val / 2, h1⟩ ⟨p.val % 2 * 1024 + r.1, h2⟩ k) :
    tile (iblk m c 0 p) (iblk m c 1 p) (iblk m c 2 p) (iblk m c 3 p) (iblk m c 4 p) (iblk m c 5 p) (iblk m c 6 p) y r d
      = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨p.val / 2, h1⟩ ⟨p.val % 2 * 1024 + r.1, h2⟩ d := by
  unfold tile spec
  have b1 := funext fun k => hb 1 (by omega) k (by omega) (by omega)
  have b2 := funext fun k => hb 2 (by omega) k (by omega) (by omega)
  change back 1 _ _ y r = _ at b1
  change back 2 _ _ y r = _ at b2
  rw [b1, b2]
  simp only [x0_at m c p r _ h1 h2, gate_blk m c p r _ h1 h2, val_blk m c p r _ h1 h2, x3_at, x4_at, x5_at, x6_at]

theorem out_at (p : Fin cfg0.N) (r d : Fin 1024) (h1 h2) :
    (outsAt0 m c p.val p.isLt).1 (ix3 0 r d)
      = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ⟨p.val / 2, h1⟩ ⟨p.val % 2 * 1024 + r.1, h2⟩ d := by
  by_cases h0 : p.val % 2 = 0
  · rw [outsAt0_A m c p h0]
    dsimp only
    rw [out_A]
    refine (tile_blk m c p _ r d h1 h2 fun s hs k s1 s2 => ?_)
    unfold back past
    by_cases h : s ≤ r.1
    · rw [dif_pos h, if_pos (by show s ≤ p.val % 2 * 1024 + r.1; omega), gate_blk m c p ⟨r.1 - s, by omega⟩ k h1 (by show p.val % 2 * 1024 + (r.1 - s) < 2048; omega)]
      congr 1; apply Fin.ext; show p.val % 2 * 1024 + (r.1 - s) = p.val % 2 * 1024 + r.1 - s; omega
    · rw [dif_neg h, if_neg (by show ¬ s ≤ p.val % 2 * 1024 + r.1; omega)]
      exact pay2_at _ _
  · rw [outsAt0_B m c p h0]
    dsimp only
    rw [out_B]
    refine (tile_blk m c p _ r d h1 h2 fun s hs k s1 s2 => ?_)
    unfold back past
    rw [if_pos (by show s ≤ p.val % 2 * 1024 + r.1; omega)]
    by_cases h : s ≤ r.1
    · rw [dif_pos h, gate_blk m c p ⟨r.1 - s, by omega⟩ k h1 (by show p.val % 2 * 1024 + (r.1 - s) < 2048; omega)]
      congr 1; apply Fin.ext; show p.val % 2 * 1024 + (r.1 - s) = p.val % 2 * 1024 + r.1 - s; omega
    · rw [dif_neg h]
      have hlt := p.isLt
      refine (carry_at m c ⟨p.val - 1, by omega⟩ ⟨r.1 + 8 - s, by omega⟩ k (by show (p.val - 1) / 2 < 32; omega) (by show (p.val - 1) % 2 * 1024 + (1016 + (r.1 + 8 - s)) < 2048; omega)).trans ?_
      congr 1
      · apply Fin.ext; show (p.val - 1) / 2 = p.val / 2; omega
      · apply Fin.ext; show (p.val - 1) % 2 * 1024 + (1016 + (r.1 + 8 - s)) = p.val % 2 * 1024 + r.1 - s; omega

theorem G7_at (b : Fin 32) (t : Fin 2048) (d : Fin 1024) :
    G7 m c (ix3 b t d) = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b t d := by
  have hp : pt7Of (ix3 b t d) = 2 * b.1 + t.1 / 1024 := by
    show 2 * (b.1 / 1 - 0) + 1 * (t.1 / 1024 - 0) + 1 * (d.1 / 1024 - 0) = _; omega
  have hN : (cfg0.N : ℕ) = 64 := N_0
  have hlt : pt7Of (ix3 b t d) < cfg0.N := by rw [hp, hN]; omega
  have hl : loc7Of (ix3 b t d) = ix3 0 ⟨t.1 % 1024, by omega⟩ d := by
    funext a; apply Fin.ext; fin_cases a
    · show b.1 % 1 = 0; omega
    · rfl
    · show d.1 % 1024 = d.1; omega
  unfold G7
  rw [dif_pos hlt, hl, ← outsAt0_sweep m c _ hlt]
  refine (out_at m c ⟨pt7Of (ix3 b t d), hlt⟩ _ d (by show pt7Of (ix3 b t d) / 2 < 32; rw [hp]; omega) (by show pt7Of (ix3 b t d) % 2 * 1024 + t.1 % 1024 < 2048; rw [hp]; omega)).trans ?_
  congr 1
  · apply Fin.ext; show pt7Of (ix3 b t d) / 2 = b.1; rw [hp]; omega
  · apply Fin.ext; show pt7Of (ix3 b t d) % 2 * 1024 + t.1 % 1024 = t.1; rw [hp]; omega

end Cert.Ffn
-- ==== Proof.FfnRef.lean ====
module

public import proofs.«01_k».proof.Proof.FfnKernel
public import proofs.«01_k».proof.Proof.Gen.Reference2Ideal.Read

@[expose] public section

set_option maxRecDepth 16384

noncomputable section

namespace Cert.Ffn.Ref

open Cert.Reference2Ideal Cert.Reference2Ideal.Gen Cert.Reference2Ideal.Read Idealize.ShloMosaic Idealize.ShloMosaic.TcCoe Idealize.SL.Sem

theorem v13_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (b : Fin 32) (t : Fin 2048) (k : Fin 1024) :
    val_main_v13 (F := Ideal) x0 x1 (ix3 b t k) = rms (fun x => x0 (ix3 b t x)) (fun x => x1 (ix2 0 x)) k := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem v16_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (b : Fin 32) (t : Fin 2048) (k : Fin 3072) :
    val_main_v16 (F := Ideal) x0 x1 x2 (ix3 b t k) = gate x0 x1 x2 b t k := by
  pointwise [val_main_v16, val_main_v15, val_main_v14]
  simp only [v13_at x0 x1 x2]
  rfl

theorem v17_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (b : Fin 32) (t : Fin 2048) (k : Fin 3072) :
    val_main_v17 (F := Ideal) x0 x1 x2 (ix3 b t k) = value x0 x1 x2 b t k := by
  pointwise [val_main_v17, val_main_v15, val_main_v14]
  simp only [v13_at x0 x1 x2]
  rfl

theorem v20_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (s : ℕ) (hs : s ≤ 2) (b : Fin 32) (t : Fin 2048) (k : Fin 3072) (h) :
    val_main_v20 (F := Ideal) x0 x1 x2 (ix3 b ⟨2 - s + t.1, h⟩ k) = past s x0 x1 x2 b t k := by
  pointwise [val_main_v20, val_main_call0_v0, val_main_c]
  have z : FloatOps.sitofp (F := Ideal) FTy.f32 0#32 = (0 : EReal) := by
    show ((((0#32).toInt : ℝ) : EReal)) = 0
    simp
  unfold past
  by_cases hp : s ≤ t.1
  · rw [dif_pos (by omega), if_pos hp, v16_at]
    congr 1
    exact Fin.ext (by dsimp only; omega)
  · rw [dif_neg (by omega), if_neg hp, z]

theorem v45_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x3x3072, .f32⟩ : BufTy).Contents (Elt Ideal)) (x4 : (⟨S1x3072, .f32⟩ : BufTy).Contents (Elt Ideal)) (b : Fin 32) (t : Fin 2048) (k : Fin 3072) :
    val_main_v45 (F := Ideal) x0 x1 x2 x3 x4 (ix3 b t k) = gate x0 x1 x2 b t k * x3 (ix3 0 2 k) + x4 (ix2 0 k) + past 1 x0 x1 x2 b t k * x3 (ix3 0 1 k) + past 2 x0 x1 x2 b t k * x3 (ix3 0 0 k) := by
  have h0 := v20_at x0 x1 x2 0 (by omega) b t k (by omega)
  have h1 := v20_at x0 x1 x2 1 (by omega) b t k (by omega)
  have h2 := v20_at x0 x1 x2 2 (by omega) b t k (by omega)
  have e0 : past 0 x0 x1 x2 b t k = gate x0 x1 x2 b t k := if_pos (Nat.zero_le _)
  rw [e0] at h0
  pointwise [val_main_v18, val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_cst_2]
  have c0 : (⟨2 - 0 + t.1, by omega⟩ : Fin 2050) = ⟨2 + t.1, by omega⟩ := rfl
  have c1 : (⟨2 - 1 + t.1, by omega⟩ : Fin 2050) = ⟨1 + t.1, by omega⟩ := rfl
  have c2 : (⟨2 - 2 + t.1, by omega⟩ : Fin 2050) = ⟨t.1, by omega⟩ := Fin.ext (by dsimp only; omega)
  rw [c0] at h0; rw [c1] at h1; rw [c2] at h2
  rw [h0, h1, h2]
  generalize past 1 x0 x1 x2 b t k * x3 (ix3 0 1 k) = u
  generalize past 2 x0 x1 x2 b t k * x3 (ix3 0 0 k) = v
  generalize gate x0 x1 x2 b t k * x3 (ix3 0 2 k) = w
  rw [add_comm v u, add_comm (u + v) w, add_assoc w, add_comm (u + v), ← add_assoc, ← add_assoc]

theorem v59_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x3x3072, .f32⟩ : BufTy).Contents (Elt Ideal)) (x4 : (⟨S1x3072, .f32⟩ : BufTy).Contents (Elt Ideal)) (b : Fin 32) (t : Fin 2048) (k : Fin 3072) :
    val_main_v59 (F := Ideal) x0 x1 x2 x3 x4 (ix3 b t k) = act (val_main_v45 (F := Ideal) x0 x1 x2 x3 x4 (ix3 b t k)) (value x0 x1 x2 b t k) := by
  pointwise [val_main_v46, val_main_v47, val_main_v48, val_main_v49, val_main_v50, val_main_v51, val_main_v52, val_main_v53, val_main_v54, val_main_v55, val_main_v56, val_main_v57, val_main_v58, val_main_v59, val_main_cst_3, val_main_cst_4, val_main_cst_5, val_main_cst_6]
  rw [v17_at]
  unfold act
  rw [mul_assoc (val_main_v45 x0 x1 x2 x3 x4 (ix3 b t k)) (val_main_v45 x0 x1 x2 x3 x4 (ix3 b t k)) (val_main_v45 x0 x1 x2 x3 x4 (ix3 b t k))]

theorem v62_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x3x3072, .f32⟩ : BufTy).Contents (Elt Ideal)) (x4 : (⟨S1x3072, .f32⟩ : BufTy).Contents (Elt Ideal)) (x5 : (⟨S1x3072x1024, .f32⟩ : BufTy).Contents (Elt Ideal)) (x6 : (⟨S1024, .f32⟩ : BufTy).Contents (Elt Ideal)) (b : Fin 32) (t : Fin 2048) (d : Fin 1024) :
    val_main_v62 (F := Ideal) x0 x1 x2 x3 x4 x5 (ix3 b t d) = x0 (ix3 b t d) + ∑ k, val_main_v59 (F := Ideal) x0 x1 x2 x3 x4 (ix3 b t k) * x5 (ix3 0 k d) := by
  pointwise [val_main_v60, val_main_v61, val_main_v62]

theorem v75_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x3x3072, .f32⟩ : BufTy).Contents (Elt Ideal)) (x4 : (⟨S1x3072, .f32⟩ : BufTy).Contents (Elt Ideal)) (x5 : (⟨S1x3072x1024, .f32⟩ : BufTy).Contents (Elt Ideal)) (x6 : (⟨S1024, .f32⟩ : BufTy).Contents (Elt Ideal)) (b : Fin 32) (t : Fin 2048) (d : Fin 1024) :
    val_main_v75 (F := Ideal) x0 x1 x2 x3 x4 x5 x6 (ix3 b t d) = rms (fun d => val_main_v62 (F := Ideal) x0 x1 x2 x3 x4 x5 (ix3 b t d)) (fun d => x6 (ix1 d)) d := by
  pointwise [val_main_v63, val_main_v64, val_main_v65, val_main_v66, val_main_v67, val_main_v68, val_main_v69, val_main_v70, val_main_v71, val_main_v72, val_main_v73, val_main_v74, val_main_v75, val_main_cst_7, val_main_cst_8, val_main_cst_9]
  rfl

theorem ref_at (x0 : (⟨S32x2048x1024, .f32⟩ : BufTy).Contents (Elt Ideal)) (x1 : (⟨S1x1024, .f32⟩ : BufTy).Contents (Elt Ideal)) (x2 : (⟨S1x1024x6144, .f32⟩ : BufTy).Contents (Elt Ideal)) (x3 : (⟨S1x3x3072, .f32⟩ : BufTy).Contents (Elt Ideal)) (x4 : (⟨S1x3072, .f32⟩ : BufTy).Contents (Elt Ideal)) (x5 : (⟨S1x3072x1024, .f32⟩ : BufTy).Contents (Elt Ideal)) (x6 : (⟨S1024, .f32⟩ : BufTy).Contents (Elt Ideal)) (b : Fin 32) (t : Fin 2048) (d : Fin 1024) :
    val_main_v75 (F := Ideal) x0 x1 x2 x3 x4 x5 x6 (ix3 b t d) = spec x0 x1 x2 x3 x4 x5 x6 b t d := by
  rw [v75_at]
  simp only [v62_at x0 x1 x2 x3 x4 x5 x6, v59_at, v45_at]
  rfl

end Cert.Ffn.Ref
-- ==== Proof.MixMath.lean ====
module

public import Idealize.ShloMosaic.PureOps.Ideal
public import Idealize.ShloMosaic.PureOps.Ideal.Laws
public import Idealize.ShloMosaic.Lib.Pipeline.ValueKit

@[expose] public section

noncomputable section

namespace Cert.Mix

/-! ## A linear recurrence by segments -/

/-- The product of `n` coefficients from time `s`. -/
def prd (a : ℕ → EReal) (s : ℕ) : ℕ → EReal
  | 0 => 1
  | n + 1 => prd a s n * a (s + n)

/-- The recurrence `h ↦ a t * h + b t` run for `n` steps from zero at time `s`. -/
def loc (a b : ℕ → EReal) (s : ℕ) : ℕ → EReal
  | 0 => 0
  | n + 1 => a (s + n) * loc a b s n + b (s + n)

theorem prd_add (a : ℕ → EReal) (s n m : ℕ) : prd a s (n + m) = prd a s n * prd a (s + n) m := by
  induction m with
  | zero => simp [prd]
  | succ m ih => rw [← Nat.add_assoc, prd, ih, prd, mul_assoc, Nat.add_assoc s n m]

theorem loc_add (a b : ℕ → EReal) (ha : ∀ t, 0 ≤ a t ∧ a t ≠ ⊤) (s n m : ℕ) :
    loc a b s (n + m) = prd a (s + n) m * loc a b s n + loc a b (s + n) m := by
  induction m with
  | zero => simp [prd, loc]
  | succ m ih =>
    rw [← Nat.add_assoc, loc, ih, prd, loc, Nat.add_assoc s n m,
      EReal.left_distrib_of_nonneg_of_ne_top (ha _).1 (ha _).2, add_assoc, ← mul_assoc,
      mul_comm (a (s + (n + m)))]

theorem prd_glue (a : ℕ → EReal) {s n s' m k : ℕ} (h : s + n = s') (hk : n + m = k) :
    prd a s n * prd a s' m = prd a s k := by
  subst h; subst hk; exact (prd_add a s n m).symm

theorem loc_glue (a b : ℕ → EReal) (ha : ∀ t, 0 ≤ a t ∧ a t ≠ ⊤) {s n s' m k : ℕ} (h : s + n = s')
    (hk : n + m = k) : prd a s' m * loc a b s n + loc a b s' m = loc a b s k := by
  subst h; subst hk; exact (loc_add a b ha s n m).symm

/-- How many of eight segments a doubling step has joined at segment `i` when the reach is `s`. -/
def cov (s i : ℕ) : ℕ := min (i + 1) s

theorem scan_h (a b : ℕ → EReal) (ha : ∀ t, 0 ≤ a t ∧ a t ≠ ⊤) (B s i : ℕ) (hi : s ≤ i) :
    prd a (B + 32 * (i + 1 - cov s i)) (32 * cov s i)
        * loc a b (B + 32 * (i - s + 1 - cov s (i - s))) (32 * cov s (i - s))
      + loc a b (B + 32 * (i + 1 - cov s i)) (32 * cov s i)
      = loc a b (B + 32 * (i + 1 - cov (2 * s) i)) (32 * cov (2 * s) i) := by
  have e : B + 32 * (i + 1 - cov (2 * s) i) = B + 32 * (i - s + 1 - cov s (i - s)) := by
    unfold cov; omega
  rw [e]
  exact loc_glue a b ha (by unfold cov; omega) (by unfold cov; omega)

theorem scan_p (a : ℕ → EReal) (B s i : ℕ) (hi : s ≤ i) :
    prd a (B + 32 * (i + 1 - cov s i)) (32 * cov s i)
        * prd a (B + 32 * (i - s + 1 - cov s (i - s))) (32 * cov s (i - s))
      = prd a (B + 32 * (i + 1 - cov (2 * s) i)) (32 * cov (2 * s) i) := by
  have e : B + 32 * (i + 1 - cov (2 * s) i) = B + 32 * (i - s + 1 - cov s (i - s)) := by
    unfold cov; omega
  rw [e, mul_comm]
  exact prd_glue a (by unfold cov; omega) (by unfold cov; omega)

theorem cov_small (s i : ℕ) (h : ¬ s ≤ i) : cov (2 * s) i = cov s i := by unfold cov; omega

/-! ## A row picked by a row of zeros and a one -/

theorem sum_pick {n : ℕ} (p f : Fin n → EReal) (k : Fin n) (hp : ∀ x, p x = if x = k then 1 else 0) :
    ∑ x, p x * f x = f k := by
  simp [hp]

/-- The time of row `r` in a block of 256 rows laid out as eight segments side by side. -/
def tau (r : ℕ) : ℕ := r % 8 * 32 + r / 8

def tauEquiv : Fin 256 ≃ Fin 256 where
  toFun r := ⟨tau r.1, by have := r.2; unfold tau; omega⟩
  invFun t := ⟨t.1 % 32 * 8 + t.1 / 32, by have := t.2; omega⟩
  left_inv r := by
    apply Fin.ext; have := r.2; simp only [tau]; omega
  right_inv t := by
    apply Fin.ext; have := t.2; simp only [tau]; omega

theorem sum_tau {M : Type} [AddCommMonoid M] (f : ℕ → M) : ∑ r : Fin 256, f (tau r.1) = ∑ i ∈ Finset.range 256, f i := by
  rw [Finset.sum_range]
  exact Fintype.sum_equiv tauEquiv _ _ (fun r => rfl)

/-! ## Retention over the reals -/

/-- The decay of head `h`. -/
def gam (h : ℕ) : ℝ := 1 - 1 / 2 ^ (5 + h)

/-- Its logarithm. -/
def lgm (h : ℕ) : ℝ := Real.log (gam h)

theorem gam_pos (h : ℕ) : 0 < gam h := by
  have h1 : (1 : ℝ) < 2 ^ (5 + h) := one_lt_pow₀ (by norm_num) (by omega)
  unfold gam
  have : (1 : ℝ) / 2 ^ (5 + h) < 1 := by
    rw [div_lt_one (by positivity)]; exact h1
  linarith

theorem exp_lgm (h n : ℕ) : Real.exp (lgm h * n) = gam h ^ n := by
  rw [mul_comm, Real.exp_nat_mul, lgm, Real.exp_log (gam_pos h)]

/-- The weight of key `m` for query `n`. -/
def wgt (L : ℝ) (n m : ℕ) : ℝ := if m / 64 ≤ n / 64 then Real.exp (L * |(n : ℝ) - m|) else 0

theorem wgt_shift (L : ℝ) (B j i : ℕ) (hB : 64 ∣ B) : wgt L (B + j) (B + i) = wgt L j i := by
  obtain ⟨c, rfl⟩ := hB
  unfold wgt
  have e : ((64 * c + j : ℕ) : ℝ) - (64 * c + i : ℕ) = (j : ℝ) - i := by push_cast; ring
  rw [e]
  congr 1
  apply propext
  omega

/-- The decayed sum of the outer products before time `B`. -/
def sta (L : ℝ) (k v : ℕ → ℝ) (B : ℕ) : ℝ :=
  ∑ m ∈ Finset.range B, k m * Real.exp (L * ((B : ℝ) - 1 - m)) * v m

theorem sta_step (L : ℝ) (k v : ℕ → ℝ) (B : ℕ) :
    sta L k v (B + 256) = sta L k v B * Real.exp (L * (256 : ℕ))
      + ∑ i ∈ Finset.range 256, k (B + i) * Real.exp (L * (255 - (i : ℝ))) * v (B + i) := by
  unfold sta
  rw [Finset.sum_range_add, Finset.sum_mul]
  congr 1
  · refine Finset.sum_congr rfl fun m _ => ?_
    have : L * (((B + 256 : ℕ) : ℝ) - 1 - m) = L * ((B : ℝ) - 1 - m) + L * (256 : ℕ) := by
      push_cast; ring
    rw [this, Real.exp_add]; ring
  · refine Finset.sum_congr rfl fun m _ => ?_
    have : L * (((B + 256 : ℕ) : ℝ) - 1 - (B + m : ℕ)) = L * (255 - (m : ℝ)) := by
      push_cast; ring
    rw [this]

theorem ret_out (L : ℝ) (q : Fin 128 → ℝ) (k : ℕ → Fin 128 → ℝ) (v : ℕ → ℝ) (B j : ℕ) (hB : 256 ∣ B)
    (hj : j < 256) (hT : B + 256 ≤ 2048) :
    ∑ m ∈ Finset.range 2048, v m * ((∑ d, q d * k m d) * wgt L (B + j) m)
      = (∑ i ∈ Finset.range 256, ((∑ d, q d * k (B + i) d) * wgt L j i) * v (B + i))
        + ∑ d, (q d * Real.exp (L * ((j : ℝ) + 1))) * sta L (fun m => k m d) v B := by
  obtain ⟨R, hR⟩ : ∃ R, 2048 = B + 256 + R := ⟨2048 - (B + 256), by omega⟩
  obtain ⟨c, rfl⟩ := hB
  rw [hR, Finset.sum_range_add, Finset.sum_range_add]
  have z : ∑ x ∈ Finset.range R, v (256 * c + 256 + x)
      * ((∑ d, q d * k (256 * c + 256 + x) d) * wgt L (256 * c + j) (256 * c + 256 + x)) = 0 := by
    refine Finset.sum_eq_zero fun x _ => ?_
    have : wgt L (256 * c + j) (256 * c + 256 + x) = 0 := if_neg (by omega)
    rw [this]; ring
  rw [z, add_zero, add_comm]
  congr 1
  · refine Finset.sum_congr rfl fun i _ => ?_
    rw [wgt_shift L (256 * c) j i ⟨4 * c, by ring⟩]; ring
  · unfold sta
    simp only [Finset.mul_sum]
    rw [Finset.sum_comm]
    refine Finset.sum_congr rfl fun m hm => ?_
    have hm' : m < 256 * c := Finset.mem_range.1 hm
    have : wgt L (256 * c + j) m = Real.exp (L * ((j : ℝ) + 1)) * Real.exp (L * (((256 * c : ℕ) : ℝ) - 1 - m)) := by
      unfold wgt
      rw [if_pos (by omega), ← Real.exp_add]
      congr 1
      have h1 : (0 : ℝ) ≤ ((256 * c + j : ℕ) : ℝ) - m := by
        have : (m : ℝ) ≤ ((256 * c + j : ℕ) : ℝ) := by exact_mod_cast (by omega)
        linarith
      rw [abs_of_nonneg h1]
      push_cast; ring
    rw [this, Finset.sum_mul, Finset.mul_sum]
    refine Finset.sum_congr rfl fun d _ => ?_
    ring

/-! ## Finite extended reals -/

/-- The value is a real number. -/
def Fnt (x : EReal) : Prop := x ≠ ⊤ ∧ x ≠ ⊥

theorem Fnt.coe {x : EReal} (h : Fnt x) : ((x.toReal : ℝ) : EReal) = x := EReal.coe_toReal h.1 h.2

theorem fnt_coe (r : ℝ) : Fnt (r : EReal) := ⟨EReal.coe_ne_top r, EReal.coe_ne_bot r⟩

theorem Fnt.mul {x y : EReal} (hx : Fnt x) (hy : Fnt y) : Fnt (x * y) := by
  rw [← hx.coe, ← hy.coe, ← EReal.coe_mul]; exact fnt_coe _

theorem Fnt.add {x y : EReal} (hx : Fnt x) (hy : Fnt y) : Fnt (x + y) := by
  rw [← hx.coe, ← hy.coe, ← EReal.coe_add]; exact fnt_coe _

theorem Fnt.sub {x y : EReal} (hx : Fnt x) (hy : Fnt y) : Fnt (x - y) := by
  rw [← hx.coe, ← hy.coe, ← EReal.coe_sub]; exact fnt_coe _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fnt.sum {ι : Type} (s : Finset ι) (f : ι → EReal) (h : ∀ i, Fnt (f i)) : Fnt (∑ i ∈ s, f i) := by
  have : ∑ i ∈ s, f i = ((∑ i ∈ s, (f i).toReal : ℝ) : EReal) := by
    rw [coe_sum]; exact Finset.sum_congr rfl fun i _ => (h i).coe.symm
  rw [this]; exact fnt_coe _

end Cert.Mix

end
-- ==== Proof.MixSpec.lean ====
module

public import proofs.«01_k».proof.Proof.MixMath
public import Idealize.ShloMosaic.Lib.ValueIdx

@[expose] public section

noncomputable section

namespace Cert.Mix

open Idealize.ShloMosaic

/-- The token mixer's arrays for one sequence, indexed by natural numbers. -/
structure Arr where
  x : ℕ → ℕ → EReal
  pos : ℕ → EReal
  n1w : ℕ → EReal
  win : ℕ → ℕ → EReal
  mga : ℕ → EReal
  mgb : ℕ → EReal
  gnw : ℕ → EReal
  wro : ℕ → ℕ → EReal
  cw : ℕ → ℕ → EReal
  cb : ℕ → EReal
  wr : ℕ → ℕ → ℕ → EReal
  br : ℕ → ℕ → EReal
  wi : ℕ → ℕ → ℕ → EReal
  bi : ℕ → ℕ → EReal
  lam : ℕ → EReal
  wlo : ℕ → ℕ → EReal
  wout : ℕ → ℕ → EReal

/-- The inverse root mean square of a frame. -/
def inv (A : Arr) (t : ℕ) : EReal :=
  Ideal.rsqrt (Ideal.div (∑ k : Fin 1024, A.x t k * A.x t k) (Ideal.ofBits FTy.f32 1149239296#32) + Ideal.ofBits FTy.f32 897988541#32)

/-- The normalised frame. -/
def hrow (A : Arr) (t k : ℕ) : EReal := A.x t k * inv A t * A.n1w k

/-- A column of the input projection. -/
def prj (A : Arr) (t c : ℕ) : EReal := ∑ k : Fin 1024, hrow A t k * A.win k c

/-- The rotary frequencies. -/
def invf (d : ℕ) : EReal :=
  Ideal.pow (Ideal.ofBits FTy.f32 1176256512#32) (Ideal.div (-FloatOps.sitofp (F := Ideal) FTy.f32 (BitVec.ofNat 32 d)) (Ideal.ofBits FTy.f32 1115684864#32))

/-- The rotary angle. -/
def ang (A : Arr) (t d : ℕ) : EReal := A.pos t * invf d

/-- The rotary embedding of the 128 columns from `c`. -/
def rot (A : Arr) (c t d : ℕ) : EReal :=
  if d < 64 then prj A t (c + d) * Ideal.cos (ang A t d) - prj A t (c + (64 + d)) * Ideal.sin (ang A t d)
  else prj A t (c + (d - 64)) * Ideal.sin (ang A t (d - 64)) + prj A t (c + (64 + (d - 64))) * Ideal.cos (ang A t (d - 64))

/-- Queries, keys and values of head `h`. -/
def qf (A : Arr) (h t d : ℕ) : EReal := rot A (h * 128) t d

def kf (A : Arr) (h t d : ℕ) : EReal := rot A (512 + h * 128) t d * Ideal.ofBits FTy.f32 1035273459#32

def vf (A : Arr) (h t e : ℕ) : EReal := prj A t (1024 + (h * 256 + e))

/-- The retention of head `h`. -/
def ret (A : Arr) (h t e : ℕ) : EReal :=
  ∑ m : Fin 2048, vf A h m e * ((∑ d : Fin 128, qf A h t d * kf A h m d) * ((wgt (lgm h) t m : ℝ) : EReal))

def mu (A : Arr) (h t : ℕ) : EReal := Ideal.div (∑ e : Fin 256, ret A h t e) (Ideal.ofBits FTy.f32 1132462080#32)

/-- The normalised retention of head `h`, before the weight. -/
def gn (A : Arr) (h t e : ℕ) : EReal :=
  (ret A h t e - mu A h t)
    * Ideal.rsqrt (Ideal.div (∑ e : Fin 256, (ret A h t e - mu A h t) * (ret A h t e - mu A h t)) (Ideal.ofBits FTy.f32 1132462080#32) + Ideal.ofBits FTy.f32 897988541#32)

/-- The logistic function. -/
def sig (x : EReal) : EReal := Ideal.div 1 (1 + Ideal.exp (-x))

/-- The gated retention. -/
def aact (A : Arr) (t k : ℕ) : EReal :=
  gn A (k / 256) t (k % 256) * A.gnw k * (prj A t (2048 + k) * sig (prj A t (2048 + k)))

def ya (A : Arr) (t k : ℕ) : EReal := ∑ x : Fin 1024, aact A t x * A.wro x k

/-- The recurrence's input `t - 3`, zero before the first frame. -/
def xlp (A : Arr) (t k : ℕ) : EReal := if 3 ≤ t then prj A (t - 3) (3072 + k) else 0

/-- The causal convolution of the recurrence's input. -/
def xc (A : Arr) (t k : ℕ) : EReal :=
  xlp A t k * A.cw 0 k + xlp A (1 + t) k * A.cw 1 k + xlp A (2 + t) k * A.cw 2 k + xlp A (3 + t) k * A.cw 3 k + A.cb k

def rg (A : Arr) (t k : ℕ) : EReal :=
  sig (∑ x : Fin 256, A.wr (k / 256) x (k % 256) * xc A t (k / 256 * 256 + x) + A.br (k / 256) (k % 256))

def ig (A : Arr) (t k : ℕ) : EReal :=
  sig (∑ x : Fin 256, A.wi (k / 256) x (k % 256) * xc A t (k / 256 * 256 + x) + A.bi (k / 256) (k % 256))

def spl (y : EReal) : EReal := max (-y) 0 + Ideal.log1p (Ideal.exp (-FloatOps.absf (F := Ideal) (φ := FTy.f32) (-y)))

/-- The logarithm of the recurrence's coefficient. -/
def la (A : Arr) (t k : ℕ) : EReal := Ideal.ofBits FTy.f32 3238002688#32 * rg A t k * spl (A.lam k)

def av (A : Arr) (k t : ℕ) : EReal := Ideal.exp (la A t k)

def bv (A : Arr) (k t : ℕ) : EReal :=
  Ideal.sqrt (-(Ideal.exp (Ideal.ofBits FTy.f32 1073741824#32 * la A t k) - 1)) * (ig A t k * xc A t k)

/-- The recurrence before frame `n`. -/
def hst (A : Arr) (n k : ℕ) : EReal := loc (av A k) (bv A k) 0 n

def gelu (y : EReal) : EReal :=
  y * (Ideal.ofBits FTy.f32 1056964608#32 * (1 + Ideal.tanh (Ideal.ofBits FTy.f32 1061962282#32 * (y + Ideal.ofBits FTy.f32 1027024659#32 * (y * y * y)))))

def bact (A : Arr) (t k : ℕ) : EReal := hst A (t + 1) k * gelu (prj A t (4096 + k))

def yb (A : Arr) (t k : ℕ) : EReal := ∑ x : Fin 1024, bact A t x * A.wlo x k

def mixv (A : Arr) (t k : ℕ) : EReal :=
  sig (prj A t (5120 + k) + A.mga k) * ya A t k + sig (prj A t (6144 + k) + A.mgb k) * yb A t k

/-- The token mixer's result. -/
def res (A : Arr) (t k : ℕ) : EReal := A.x t k + ∑ x : Fin 1024, mixv A t x * A.wout x k

/-- An array of one, two or three axes read at natural numbers. -/
def ex1 {n : ℕ} (f : Fin n → EReal) (i : ℕ) : EReal := if h : i < n then f ⟨i, h⟩ else 0

def ex2 {n m : ℕ} (f : Fin n → Fin m → EReal) (i j : ℕ) : EReal :=
  if h : i < n ∧ j < m then f ⟨i, h.1⟩ ⟨j, h.2⟩ else 0

def ex3 {n m l : ℕ} (f : Fin n → Fin m → Fin l → EReal) (i j k : ℕ) : EReal :=
  if h : i < n ∧ j < m ∧ k < l then f ⟨i, h.1⟩ ⟨j, h.2.1⟩ ⟨k, h.2.2⟩ else 0

theorem ex1_eq {n : ℕ} (f : Fin n → EReal) {i : ℕ} (h : i < n) : ex1 f i = f ⟨i, h⟩ := dif_pos h

theorem ex2_eq {n m : ℕ} (f : Fin n → Fin m → EReal) {i j : ℕ} (h : i < n) (h' : j < m) : ex2 f i j = f ⟨i, h⟩ ⟨j, h'⟩ :=
  dif_pos ⟨h, h'⟩

theorem ex3_eq {n m l : ℕ} (f : Fin n → Fin m → Fin l → EReal) {i j k : ℕ} (h : i < n) (h' : j < m) (h'' : k < l) :
    ex3 f i j k = f ⟨i, h⟩ ⟨j, h'⟩ ⟨k, h''⟩ := dif_pos ⟨h, h', h''⟩

/-- The arrays of sequence `b`. -/
def arrOf (x0 : (⟨3, ![32, 2048, 1024]⟩ : Shape).Idx → EReal) (x1 : (⟨2, ![32, 2048]⟩ : Shape).Idx → BitVec 32)
    (x2 : (⟨2, ![1, 1024]⟩ : Shape).Idx → EReal) (x3 : (⟨3, ![1, 1024, 7168]⟩ : Shape).Idx → EReal)
    (x4 : (⟨3, ![1, 2, 1024]⟩ : Shape).Idx → EReal) (x5 : (⟨2, ![1, 1024]⟩ : Shape).Idx → EReal)
    (x6 : (⟨3, ![1, 1024, 1024]⟩ : Shape).Idx → EReal) (x7 : (⟨3, ![1, 4, 1024]⟩ : Shape).Idx → EReal)
    (x8 : (⟨2, ![1, 1024]⟩ : Shape).Idx → EReal) (x9 : (⟨4, ![1, 4, 256, 256]⟩ : Shape).Idx → EReal)
    (x10 : (⟨3, ![1, 4, 256]⟩ : Shape).Idx → EReal) (x11 : (⟨4, ![1, 4, 256, 256]⟩ : Shape).Idx → EReal)
    (x12 : (⟨3, ![1, 4, 256]⟩ : Shape).Idx → EReal) (x13 : (⟨2, ![1, 1024]⟩ : Shape).Idx → EReal)
    (x14 x15 : (⟨3, ![1, 1024, 1024]⟩ : Shape).Idx → EReal) (b : Fin 32) : Arr where
  x := ex2 fun t k => x0 (ix3 b t k)
  pos := ex1 fun t => FloatOps.sitofp (F := Ideal) FTy.f32 (x1 (ix2 b t))
  n1w := ex1 fun k => x2 (ix2 0 k)
  win := ex2 fun k c => x3 (ix3 0 k c)
  mga := ex1 fun k => x4 (ix3 0 0 k)
  mgb := ex1 fun k => x4 (ix3 0 1 k)
  gnw := ex1 fun k => x5 (ix2 0 k)
  wro := ex2 fun k c => x6 (ix3 0 k c)
  cw := ex2 fun i k => x7 (ix3 0 i k)
  cb := ex1 fun k => x8 (ix2 0 k)
  wr := ex3 fun b k c => x9 (ix4 0 b k c)
  br := ex2 fun b c => x10 (ix3 0 b c)
  wi := ex3 fun b k c => x11 (ix4 0 b k c)
  bi := ex2 fun b c => x12 (ix3 0 b c)
  lam := ex1 fun k => x13 (ix2 0 k)
  wlo := ex2 fun k c => x14 (ix3 0 k c)
  wout := ex2 fun k c => x15 (ix3 0 k c)

end Cert.Mix

end
-- ==== Proof.MixLaws.lean ====
module

public import proofs.«01_k».proof.Proof.MixSpec
public import Idealize.ShloMosaic.Lib.WordCmp

@[expose] public section

noncomputable section

namespace Cert.Mix

open Idealize.ShloMosaic

theorem sel_dec {α : Type} (p : Prop) [Decidable p] (a b : α) : Scalar.select (BitVec.ofBool (decide p)) a b = if p then a else b := by
  by_cases h : p <;> simp [h, Scalar.select]

theorem nat_word (n : ℕ) (h : n < 2 ^ 31) : FloatOps.sitofp (F := Ideal) FTy.f32 (BitVec.ofNat 32 n) = (((n : ℝ) : EReal)) := by
  show ((((BitVec.ofNat 32 n).toInt : ℝ) : EReal)) = _
  rw [WordCmp.toInt_ofNat_of_lt (w := 32) (by simpa using h)]
  simp

theorem abs_coe (r : ℝ) : FloatOps.absf (F := Ideal) (φ := FTy.f32) (r : EReal) = ((|r| : ℝ) : EReal) := by
  show max (r : EReal) (-(r : EReal)) = _
  rw [← EReal.coe_neg]
  rcases le_total r (-r) with h | h
  · rw [max_eq_right (EReal.coe_le_coe_iff.2 h), abs_of_nonpos (by linarith)]
  · rw [max_eq_left (EReal.coe_le_coe_iff.2 h), abs_of_nonneg (by linarith)]

theorem bits_two : Ideal.ofBits FTy.f32 1073741824#32 = ((2 : ℝ) : EReal) := by
  simp [Ideal.ofBits, Ideal.ieee]
  rw [← EReal.coe_mul]; norm_num

theorem bits_neg5 : Ideal.ofBits FTy.f32 3231711232#32 = ((-5 : ℝ) : EReal) := by
  simp [Ideal.ofBits, Ideal.ieee]
  rw [← EReal.coe_mul]; norm_num

theorem bits_neg8 : Ideal.ofBits FTy.f32 3238002688#32 = ((-8 : ℝ) : EReal) := by
  simp [Ideal.ofBits, Ideal.ieee]
  rw [← EReal.coe_mul]; norm_num

theorem bits_1024 : Ideal.ofBits FTy.f32 1149239296#32 = ((1024 : ℝ) : EReal) := by
  simp [Ideal.ofBits, Ideal.ieee]
  rw [← EReal.coe_mul]; norm_num

theorem log_gamma (h : ℕ) (hh : h < 4) :
    Ideal.log1p (-Ideal.pow (Ideal.ofBits FTy.f32 1073741824#32) (Ideal.ofBits FTy.f32 3231711232#32 - FloatOps.sitofp (F := Ideal) FTy.f32 (BitVec.ofNat 32 h)))
      = ((lgm h : ℝ) : EReal) := by
  rw [bits_two, bits_neg5, nat_word h (by omega), ← EReal.coe_sub, Ideal.pow_coe_coe, ← EReal.coe_neg]
  unfold Ideal.log1p
  have e : (1 : EReal) + ((-(2 : ℝ).rpow (-5 - (h : ℝ)) : ℝ) : EReal) = ((gam h : ℝ) : EReal) := by
    rw [← EReal.coe_one, ← EReal.coe_add]
    congr 1
    have : (2 : ℝ).rpow (-5 - (h : ℝ)) = 1 / 2 ^ (5 + h) := by
      show (2 : ℝ) ^ (-5 - (h : ℝ)) = _
      rw [show (-5 - (h : ℝ)) = -((5 + h : ℕ) : ℝ) by push_cast; ring, Real.rpow_neg (by norm_num), Real.rpow_natCast]
      simp
    rw [this]; unfold gam; ring
  rw [e, Ideal.log_coe, if_neg (not_le.2 (gam_pos h))]
  rfl

theorem wgt_coe (L : ℝ) (n m : ℕ) (z : EReal) (hz : z = 0) :
    (if m / 64 ≤ n / 64 then Ideal.exp ((L : EReal) * FloatOps.absf (F := Ideal) (φ := FTy.f32) (((n : ℝ) : EReal) - ((m : ℝ) : EReal))) else z)
      = ((wgt L n m : ℝ) : EReal) := by
  unfold wgt
  rw [← EReal.coe_sub, abs_coe, ← EReal.coe_mul, Ideal.exp_coe, hz]
  split_ifs <;> simp

/-! ## The recurrence's coefficient lies in the unit interval -/

theorem exp_nonneg (x : EReal) : 0 ≤ Ideal.exp x := by
  induction x using EReal.rec with
  | bot => exact le_refl _
  | top => exact le_top
  | coe r => rw [Ideal.exp_coe]; exact_mod_cast (Real.exp_pos r).le

theorem sig_unit (x : EReal) : ∃ r : ℝ, 0 ≤ r ∧ sig x = (r : EReal) := by
  unfold sig
  induction x using EReal.rec with
  | bot =>
    refine ⟨0, le_refl _, ?_⟩
    rw [EReal.neg_bot, Ideal.exp_top]
    unfold Ideal.div
    have : (1 : EReal) + ⊤ = ⊤ := by rw [← EReal.coe_one]; exact EReal.coe_add_top 1
    rw [this, if_neg (by simp)]; simp
  | top =>
    refine ⟨1, zero_le_one, ?_⟩
    rw [EReal.neg_top, Ideal.exp_bot]
    unfold Ideal.div; simp
  | coe r =>
    refine ⟨1 * (1 / (1 + Real.exp (-r))), by positivity, ?_⟩
    have h : (1 + Real.exp (-r)) ≠ 0 := by positivity
    rw [← EReal.coe_neg, Ideal.exp_coe, ← EReal.coe_one, ← EReal.coe_add]
    unfold Ideal.div
    rw [if_neg (by exact_mod_cast h), ← EReal.coe_inv, ← EReal.coe_mul]
    congr 1; simp

theorem spl_nonneg (y : EReal) : 0 ≤ spl y := by
  unfold spl
  refine add_nonneg (le_max_right _ _) ?_
  unfold Ideal.log1p
  have h := exp_nonneg (-FloatOps.absf (F := Ideal) (φ := FTy.f32) (-y))
  generalize Ideal.exp (-FloatOps.absf (F := Ideal) (φ := FTy.f32) (-y)) = e at h
  induction e using EReal.rec with
  | bot => simp at h
  | top => rw [← EReal.coe_one, EReal.coe_add_top]; exact le_top
  | coe r =>
    have hr : 0 ≤ r := by exact_mod_cast h
    rw [← EReal.coe_one, ← EReal.coe_add, Ideal.log_coe, if_neg (by linarith)]
    exact_mod_cast Real.log_nonneg (by linarith)

theorem la_nonpos (A : Arr) (t k : ℕ) : la A t k ≤ 0 := by
  unfold la rg
  obtain ⟨r, hr, e⟩ := sig_unit (∑ x : Fin 256, A.wr (k / 256) x (k % 256) * xc A t (k / 256 * 256 + x) + A.br (k / 256) (k % 256))
  rw [e, bits_neg8, ← EReal.coe_mul]
  have h8 : (-8 : ℝ) * r ≤ 0 := by nlinarith
  exact EReal.mul_nonpos_iff.2 (Or.inr ⟨EReal.coe_nonpos.2 h8, spl_nonneg _⟩)

theorem av_ok (A : Arr) (k t : ℕ) : 0 ≤ av A k t ∧ av A k t ≠ ⊤ := by
  refine ⟨exp_nonneg _, ?_⟩
  have h := la_nonpos A t k
  unfold av
  generalize la A t k = x at h
  induction x using EReal.rec with
  | bot => simp
  | top => simp at h
  | coe r => rw [Ideal.exp_coe]; exact EReal.coe_ne_top _

/-- The kernel's form of the recurrence's input scale. -/
theorem root_eq (x : EReal) (hx : x ≤ 0) :
    (if 0 < 1 - Ideal.exp x * Ideal.exp x then (1 - Ideal.exp x * Ideal.exp x) * Ideal.rsqrt (1 - Ideal.exp x * Ideal.exp x) else 0)
      = Ideal.sqrt (-(Ideal.exp (Ideal.ofBits FTy.f32 1073741824#32 * x) - 1)) := by
  have key : ∃ r : ℝ, 0 ≤ 1 - r * r ∧ Ideal.exp x = (r : EReal) ∧ Ideal.exp (Ideal.ofBits FTy.f32 1073741824#32 * x) = ((r * r : ℝ) : EReal) := by
    rw [bits_two]
    induction x using EReal.rec with
    | bot =>
      refine ⟨0, by norm_num, by simp, ?_⟩
      rw [EReal.coe_mul_bot_of_pos (by norm_num)]; simp
    | top => simp at hx
    | coe r =>
      have hr : r ≤ 0 := by exact_mod_cast hx
      refine ⟨Real.exp r, ?_, Ideal.exp_coe .., ?_⟩
      · have h1 : Real.exp r ≤ 1 := Real.exp_le_one_iff.2 hr
        have h0 := Real.exp_pos r
        nlinarith
      · rw [← EReal.coe_mul, Ideal.exp_coe, ← Real.exp_add]; congr 2; ring
  obtain ⟨r, hr, e1, e2⟩ := key
  rw [e1, e2, ← EReal.coe_mul, ← EReal.coe_one, ← EReal.coe_sub, ← EReal.coe_sub, ← EReal.coe_neg,
    show -(r * r - 1) = 1 - r * r by ring]
  generalize 1 - r * r = s at hr
  rw [Ideal.sqrt_coe, Ideal.rsqrt_coe, if_neg (not_lt.2 hr), if_neg (not_lt.2 hr)]
  rcases hr.eq_or_lt with h | h
  · rw [← h]; simp
  · rw [if_pos (by exact_mod_cast h), if_neg h.ne', ← EReal.coe_mul]
    congr 1
    rw [← div_eq_mul_inv, Real.div_sqrt]

/-! ## One level of the reference's scan, on the way up -/

theorem up_level (a b : ℕ → EReal) (ha : ∀ t, 0 ≤ a t ∧ a t ≠ ⊤) (c d n j : ℕ) (hd : d = 2 * c) (hj : j < 2 * n) :
    ((if j % 2 = 0 ∧ j / 2 < n then
        if j / 2 < 1 then loc a b (c * (j / 2)) c
        else prd a (c * (2 + 2 * (j / 2 - 1))) c * loc a b 0 (d * (j / 2 - 1 + 1)) + loc a b (c * (2 + 2 * (j / 2 - 1))) c
      else 0)
      + if 1 ≤ j ∧ (j - 1) % 2 = 0 ∧ (j - 1) / 2 < n then loc a b 0 (d * ((j - 1) / 2 + 1)) else 0)
      = loc a b 0 (c * (j + 1)) := by
  subst hd
  rcases Nat.even_or_odd' j with ⟨i, rfl | rfl⟩
  · rw [if_pos (by omega), if_neg (c := 1 ≤ 2 * i ∧ _) (by omega), add_zero]
    have e : 2 * i / 2 = i := by omega
    rw [e]
    by_cases h : i < 1
    · have : i = 0 := by omega
      subst this; simp
    · rw [if_neg h]
      obtain ⟨p, rfl⟩ : ∃ p, i = p + 1 := ⟨i - 1, by omega⟩
      exact loc_glue a b ha (by rw [Nat.add_sub_cancel]; ring) (by rw [Nat.add_sub_cancel]; ring)
  · rw [if_neg (by omega), if_pos (by omega), zero_add]
    congr 1
    have e : (2 * i + 1 - 1) / 2 = i := by omega
    rw [e]; ring

/-! ## Finite queries, keys and values -/

theorem mul_self_nonneg' (x : EReal) : 0 ≤ x * x := by
  induction x using EReal.rec with
  | bot => simp
  | top => simp
  | coe r => rw [← EReal.coe_mul]; exact_mod_cast mul_self_nonneg r

theorem fnt_hrow (A : Arr) (hn : ∀ k < 1024, Fnt (A.n1w k)) (t k : ℕ) (hk : k < 1024) : Fnt (hrow A t k) := by
  refine Fnt.mul ?_ (hn k hk)
  unfold inv
  rw [bits_1024]
  have heps : ∃ e : ℝ, 0 < e ∧ Ideal.ofBits FTy.f32 897988541#32 = (e : EReal) := by
    refine ⟨_, ?_, by simp [Ideal.ofBits, Ideal.ieee]; rfl⟩
    norm_num
  obtain ⟨ε, he, hε⟩ := heps
  rw [hε]
  have hS : 0 ≤ ∑ k : Fin 1024, A.x t k * A.x t k := Finset.sum_nonneg fun i _ => mul_self_nonneg' _
  by_cases hT : ∑ k : Fin 1024, A.x t k * A.x t k = ⊤
  · have e : Ideal.rsqrt (Ideal.div ⊤ ((1024 : ℝ) : EReal) + (ε : EReal)) = 0 := by
      have : Ideal.div ⊤ ((1024 : ℝ) : EReal) = ⊤ := by
        unfold Ideal.div
        rw [if_neg (by exact_mod_cast (by norm_num : (1024 : ℝ) ≠ 0)), ← EReal.coe_inv, EReal.top_mul_coe_of_pos (by norm_num)]
      rw [this, EReal.top_add_coe]; rfl
    rw [hT, e, mul_zero]; exact ⟨by simp, by simp⟩
  · have hx : Fnt (A.x t k) := by
      have hle : A.x t k * A.x t k ≤ ∑ k : Fin 1024, A.x t k * A.x t k :=
        Finset.single_le_sum (f := fun k : Fin 1024 => A.x t k * A.x t k) (fun i _ => mul_self_nonneg' _) (Finset.mem_univ (⟨k, hk⟩ : Fin 1024))
      constructor
      · intro h; rw [h] at hle; exact hT (top_le_iff.1 (by simpa using hle))
      · intro h; rw [h] at hle; exact hT (top_le_iff.1 (by simpa using hle))
    refine Fnt.mul hx ?_
    have hb : ∑ k : Fin 1024, A.x t k * A.x t k ≠ ⊥ := fun h => by rw [h] at hS; simp at hS
    have hc := EReal.coe_toReal hT hb
    rw [← hc] at hS ⊢
    generalize (∑ k : Fin 1024, A.x t k * A.x t k).toReal = s at hS
    have hs : 0 ≤ s := by exact_mod_cast hS
    have : Ideal.div (s : EReal) ((1024 : ℝ) : EReal) = ((s * (1024 : ℝ)⁻¹ : ℝ) : EReal) := by
      unfold Ideal.div
      rw [if_neg (by exact_mod_cast (by norm_num : (1024 : ℝ) ≠ 0)), ← EReal.coe_inv, ← EReal.coe_mul]
    rw [this, ← EReal.coe_add, Ideal.rsqrt_coe]
    have hp : 0 < s * (1024 : ℝ)⁻¹ + ε := by positivity
    rw [if_neg (not_lt.2 hp.le), if_neg hp.ne']
    exact fnt_coe _

/-- The norm's weights and the query, key and value columns are real numbers, and so are the positions. -/
structure Good (A : Arr) : Prop where
  n1w : ∀ k < 1024, Fnt (A.n1w k)
  win : ∀ k < 1024, ∀ c < 2048, Fnt (A.win k c)
  pos : ∀ t, Fnt (A.pos t)

theorem fnt_prj (A : Arr) (h : Good A) (t c : ℕ) (hc : c < 2048) : Fnt (prj A t c) :=
  Fnt.sum _ _ fun k => (fnt_hrow A h.n1w t k k.2).mul (h.win k k.2 c hc)

theorem fnt_invf (d : ℕ) (hd : d < 64) : Fnt (invf d) := by
  unfold invf
  have e1 : ∃ r : ℝ, Ideal.ofBits FTy.f32 1176256512#32 = (r : EReal) := ⟨_, by simp [Ideal.ofBits, Ideal.ieee]; rfl⟩
  have e2 : Ideal.ofBits FTy.f32 1115684864#32 = ((64 : ℝ) : EReal) := by
    simp [Ideal.ofBits, Ideal.ieee]
    rw [← EReal.coe_mul]; norm_num
  obtain ⟨r, e1⟩ := e1
  rw [e1, e2, nat_word d (by omega), ← EReal.coe_neg]
  unfold Ideal.div
  rw [if_neg (by exact_mod_cast (by norm_num : (64 : ℝ) ≠ 0)), ← EReal.coe_inv, ← EReal.coe_mul, Ideal.pow_coe_coe]
  exact fnt_coe _

theorem fnt_cos (x : EReal) (hx : Fnt x) : Fnt (Ideal.cos x) := by
  rw [← hx.coe, Ideal.cos_coe]; exact fnt_coe _

theorem fnt_sin (x : EReal) (hx : Fnt x) : Fnt (Ideal.sin x) := by
  rw [← hx.coe, Ideal.sin_coe]; exact fnt_coe _

theorem fnt_rot (A : Arr) (h : Good A) (c t d : ℕ) (hc : c + 128 ≤ 2048) (hd : d < 128) : Fnt (rot A c t d) := by
  unfold rot
  split_ifs with hl
  · have ha : Fnt (ang A t d) := (h.pos t).mul (fnt_invf d hl)
    exact ((fnt_prj A h t _ (by omega)).mul (fnt_cos _ ha)).sub ((fnt_prj A h t _ (by omega)).mul (fnt_sin _ ha))
  · have ha : Fnt (ang A t (d - 64)) := (h.pos t).mul (fnt_invf _ (by omega))
    exact ((fnt_prj A h t _ (by omega)).mul (fnt_sin _ ha)).add ((fnt_prj A h t _ (by omega)).mul (fnt_cos _ ha))

theorem fnt_q (A : Arr) (h : Good A) (hd t d : ℕ) (h4 : hd < 4) (h128 : d < 128) : Fnt (qf A hd t d) :=
  fnt_rot A h _ t d (by omega) h128

theorem fnt_k (A : Arr) (h : Good A) (hd t d : ℕ) (h4 : hd < 4) (h128 : d < 128) : Fnt (kf A hd t d) := by
  refine (fnt_rot A h _ t d (by omega) h128).mul ?_
  have e : ∃ r : ℝ, Ideal.ofBits FTy.f32 1035273459#32 = (r : EReal) := ⟨_, by simp [Ideal.ofBits, Ideal.ieee]; rfl⟩
  obtain ⟨r, e⟩ := e
  rw [e]; exact fnt_coe r

theorem fnt_v (A : Arr) (h : Good A) (hd t e : ℕ) (h4 : hd < 4) (h256 : e < 256) : Fnt (vf A hd t e) :=
  fnt_prj A h t _ (by omega)

/-! ## Retention by sub-blocks of 256 frames -/

/-- The state of head `hd` before frame `B`. -/
def stE (A : Arr) (hd B d e : ℕ) : EReal :=
  ((sta (lgm hd) (fun m => (kf A hd m d).toReal) (fun m => (vf A hd m e).toReal) B : ℝ) : EReal)

theorem stE_zero (A : Arr) (hd d e : ℕ) : stE A hd 0 d e = 0 := by
  unfold stE sta; simp

theorem stE_step (A : Arr) (h : Good A) (hd B d e : ℕ) (h4 : hd < 4) (h128 : d < 128) (h256 : e < 256) :
    stE A hd B d e * ((gam hd ^ 256 : ℝ) : EReal)
        + ∑ r : Fin 256, kf A hd (B + tau r) d * ((Real.exp (lgm hd * (255 - (tau r : ℝ))) : ℝ) : EReal) * vf A hd (B + tau r) e
      = stE A hd (B + 256) d e := by
  rw [sum_tau fun i => kf A hd (B + i) d * ((Real.exp (lgm hd * (255 - (i : ℝ))) : ℝ) : EReal) * vf A hd (B + i) e]
  unfold stE
  rw [sta_step, exp_lgm, EReal.coe_add, EReal.coe_mul, coe_sum]
  congr 1
  refine Finset.sum_congr rfl fun i _ => ?_
  rw [EReal.coe_mul, EReal.coe_mul, (fnt_k A h hd _ d h4 h128).coe, (fnt_v A h hd _ e h4 h256).coe]

theorem ret_eq (A : Arr) (h : Good A) (hd B j e : ℕ) (h4 : hd < 4) (h256 : e < 256) (hB : 256 ∣ B) (hj : j < 256) (hT : B + 256 ≤ 2048) :
    (∑ r : Fin 256, ((∑ d : Fin 128, qf A hd (B + j) d * kf A hd (B + tau r) d) * ((wgt (lgm hd) j (tau r) : ℝ) : EReal)) * vf A hd (B + tau r) e)
        + ∑ d : Fin 128, (qf A hd (B + j) d * ((Real.exp (lgm hd * ((j : ℝ) + 1)) : ℝ) : EReal)) * stE A hd B d e
      = ret A hd (B + j) e := by
  rw [sum_tau fun i => ((∑ d : Fin 128, qf A hd (B + j) d * kf A hd (B + i) d) * ((wgt (lgm hd) j i : ℝ) : EReal)) * vf A hd (B + i) e]
  have key := ret_out (lgm hd) (fun d : Fin 128 => (qf A hd (B + j) d).toReal) (fun m (d : Fin 128) => (kf A hd m d).toReal)
    (fun m => (vf A hd m e).toReal) B j hB hj hT
  have key2 := congrArg (fun r : ℝ => (r : EReal)) key
  simp only [EReal.coe_add, coe_sum, EReal.coe_mul] at key2
  have hq : ∀ d : Fin 128, (((qf A hd (B + j) d).toReal : ℝ) : EReal) = qf A hd (B + j) d := fun d => (fnt_q A h hd _ d h4 d.2).coe
  have hk : ∀ m (d : Fin 128), (((kf A hd m d).toReal : ℝ) : EReal) = kf A hd m d := fun m d => (fnt_k A h hd m d h4 d.2).coe
  have hv : ∀ m, (((vf A hd m e).toReal : ℝ) : EReal) = vf A hd m e := fun m => (fnt_v A h hd m e h4 h256).coe
  simp only [hq, hk, hv] at key2
  unfold ret stE
  rw [← Finset.sum_range fun m => vf A hd m e * ((∑ d : Fin 128, qf A hd (B + j) d * kf A hd m d) * ((wgt (lgm hd) (B + j) m : ℝ) : EReal))]
  exact key2.symm

end Cert.Mix

end
-- ==== Proof.MixRef.lean ====
module

public import proofs.«01_k».proof.Proof.MixLaws
public import proofs.«01_k».proof.Proof.Gen.ReferenceIdeal.Read
public import Idealize.ShloMosaic.Lib.Tactic
public import Idealize.ShloMosaic.Lib.Pointwise

@[expose] public section

set_option maxRecDepth 16384

noncomputable section

namespace Cert.Mix.Ref

open Cert.ReferenceIdeal Cert.ReferenceIdeal.Gen Cert.ReferenceIdeal.Read Idealize.ShloMosaic Idealize.ShloMosaic.TcCoe Idealize.SL.Sem

variable (x0 : (⟨S32x2048x1024, .f32⟩ : BufTy).Contents (Elt Ideal)) (x1 : (⟨S32x2048, .i32⟩ : BufTy).Contents (Elt Ideal))
  (x2 : (⟨S1x1024, .f32⟩ : BufTy).Contents (Elt Ideal)) (x3 : (⟨S1x1024x7168, .f32⟩ : BufTy).Contents (Elt Ideal))
  (x4 : (⟨S1x2x1024, .f32⟩ : BufTy).Contents (Elt Ideal)) (x5 : (⟨S1x1024, .f32⟩ : BufTy).Contents (Elt Ideal))
  (x6 : (⟨S1x1024x1024, .f32⟩ : BufTy).Contents (Elt Ideal)) (x7 : (⟨S1x4x1024, .f32⟩ : BufTy).Contents (Elt Ideal))
  (x8 : (⟨S1x1024, .f32⟩ : BufTy).Contents (Elt Ideal)) (x9 : (⟨S1x4x256x256, .f32⟩ : BufTy).Contents (Elt Ideal))
  (x10 : (⟨S1x4x256, .f32⟩ : BufTy).Contents (Elt Ideal)) (x11 : (⟨S1x4x256x256, .f32⟩ : BufTy).Contents (Elt Ideal))
  (x12 : (⟨S1x4x256, .f32⟩ : BufTy).Contents (Elt Ideal)) (x13 : (⟨S1x1024, .f32⟩ : BufTy).Contents (Elt Ideal))
  (x14 x15 : (⟨S1x1024x1024, .f32⟩ : BufTy).Contents (Elt Ideal))

theorem f_x (b : Fin 32) (t : Fin 2048) (k : Fin 1024) : x0 (ix3 b t k) = (arrOf x0 x1 x2 x3 x4 x5 x6 x7 x8 x9 x10 x11 x12 x13 x14 x15 b).x t k := by
  unfold arrOf; dsimp only; rw [ex2_eq _ t.2 k.2]

theorem f_pos (b : Fin 32) (t : Fin 2048) : FloatOps.sitofp (F := Ideal) FTy.f32 (x1 (ix2 b t)) = (arrOf x0 x1 x2 x3 x4 x5 x6 x7 x8 x9 x10 x11 x12 x13 x14 x15 b).pos t := by
  unfold arrOf; dsimp only; rw [ex1_eq _ t.2]

theorem f_n1w (b : Fin 32) (k : Fin 1024) : x2 (ix2 0 k) = (arrOf x0 x1 x2 x3 x4 x5 x6 x7 x8 x9 x10 x11 x12 x13 x14 x15 b).n1w k := by
  unfold arrOf; dsimp only; rw [ex1_eq _ k.2]

theorem f_win (b : Fin 32) (k : Fin 1024) (c : Fin 7168) : x3 (ix3 0 k c) = (arrOf x0 x1 x2 x3 x4 x5 x6 x7 x8 x9 x10 x11 x12 x13 x14 x15 b).win k c := by
  unfold arrOf; dsimp only; rw [ex2_eq _ k.2 c.2]

theorem f_mga (b : Fin 32) (k : Fin 1024) : x4 (ix3 0 0 k) = (arrOf x0 x1 x2 x3 x4 x5 x6 x7 x8 x9 x10 x11 x12 x13 x14 x15 b).mga k := by
  unfold arrOf; dsimp only; rw [ex1_eq _ k.2]

theorem f_mgb (b : Fin 32) (k : Fin 1024) : x4 (ix3 0 1 k) = (arrOf x0 x1 x2 x3 x4 x5 x6 x7 x8 x9 x10 x11 x12 x13 x14 x15 b).mgb k := by
  unfold arrOf; dsimp only; rw [ex1_eq _ k.2]

theorem f_gnw (b : Fin 32) (k : Fin 1024) : x5 (ix2 0 k) = (arrOf x0 x1 x2 x3 x4 x5 x6 x7 x8 x9 x10 x11 x12 x13 x14 x15 b).gnw k := by
  unfold arrOf; dsimp only; rw [ex1_eq _ k.2]

theorem f_wro (b : Fin 32) (k c : Fin 1024) : x6 (ix3 0 k c) = (arrOf x0 x1 x2 x3 x4 x5 x6 x7 x8 x9 x10 x11 x12 x13 x14 x15 b).wro k c := by
  unfold arrOf; dsimp only; rw [ex2_eq _ k.2 c.2]

theorem f_cw (b : Fin 32) (i : Fin 4) (k : Fin 1024) : x7 (ix3 0 i k) = (arrOf x0 x1 x2 x3 x4 x5 x6 x7 x8 x9 x10 x11 x12 x13 x14 x15 b).cw i k := by
  unfold arrOf; dsimp only; rw [ex2_eq _ i.2 k.2]

theorem f_cb (b : Fin 32) (k : Fin 1024) : x8 (ix2 0 k) = (arrOf x0 x1 x2 x3 x4 x5 x6 x7 x8 x9 x10 x11 x12 x13 x14 x15 b).cb k := by
  unfold arrOf; dsimp only; rw [ex1_eq _ k.2]

theorem f_wr (b : Fin 32) (i : Fin 4) (k c : Fin 256) : x9 (ix4 0 i k c) = (arrOf x0 x1 x2 x3 x4 x5 x6 x7 x8 x9 x10 x11 x12 x13 x14 x15 b).wr i k c := by
  unfold arrOf; dsimp only; rw [ex3_eq _ i.2 k.2 c.2]

theorem f_br (b : Fin 32) (i : Fin 4) (c : Fin 256) : x10 (ix3 0 i c) = (arrOf x0 x1 x2 x3 x4 x5 x6 x7 x8 x9 x10 x11 x12 x13 x14 x15 b).br i c := by
  unfold arrOf; dsimp only; rw [ex2_eq _ i.2 c.2]

theorem f_wi (b : Fin 32) (i : Fin 4) (k c : Fin 256) : x11 (ix4 0 i k c) = (arrOf x0 x1 x2 x3 x4 x5 x6 x7 x8 x9 x10 x11 x12 x13 x14 x15 b).wi i k c := by
  unfold arrOf; dsimp only; rw [ex3_eq _ i.2 k.2 c.2]

theorem f_bi (b : Fin 32) (i : Fin 4) (c : Fin 256) : x12 (ix3 0 i c) = (arrOf x0 x1 x2 x3 x4 x5 x6 x7 x8 x9 x10 x11 x12 x13 x14 x15 b).bi i c := by
  unfold arrOf; dsimp only; rw [ex2_eq _ i.2 c.2]

theorem f_lam (b : Fin 32) (k : Fin 1024) : x13 (ix2 0 k) = (arrOf x0 x1 x2 x3 x4 x5 x6 x7 x8 x9 x10 x11 x12 x13 x14 x15 b).lam k := by
  unfold arrOf; dsimp only; rw [ex1_eq _ k.2]

theorem f_wlo (b : Fin 32) (k c : Fin 1024) : x14 (ix3 0 k c) = (arrOf x0 x1 x2 x3 x4 x5 x6 x7 x8 x9 x10 x11 x12 x13 x14 x15 b).wlo k c := by
  unfold arrOf; dsimp only; rw [ex2_eq _ k.2 c.2]

theorem f_wout (b : Fin 32) (k c : Fin 1024) : x15 (ix3 0 k c) = (arrOf x0 x1 x2 x3 x4 x5 x6 x7 x8 x9 x10 x11 x12 x13 x14 x15 b).wout k c := by
  unfold arrOf; dsimp only; rw [ex2_eq _ k.2 c.2]

theorem v13_at (b : Fin 32) (t : Fin 2048) (k : Fin 1024) :
    val_main_v13 (F := Ideal) x0 x2 (ix3 b t k) = hrow (arrOf x0 x1 x2 x3 x4 x5 x6 x7 x8 x9 x10 x11 x12 x13 x14 x15 b) t k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  simp only [f_x x0 x1 x2 x3 x4 x5 x6 x7 x8 x9 x10 x11 x12 x13 x14 x15 b, f_n1w x0 x1 x2 x3 x4 x5 x6 x7 x8 x9 x10 x11 x12 x13 x14 x15 b]
  rfl

theorem v15_at (b : Fin 32) (t : Fin 2048) (c : Fin 7168) :
    val_main_v15 (F := Ideal) x0 x2 x3 (ix3 b t c) = prj (arrOf x0 x1 x2 x3 x4 x5 x6 x7 x8 x9 x10 x11 x12 x13 x14 x15 b) t c := by
  pointwise [val_main_v14, val_main_v15]
  simp only [v13_at x0 x1 x2 x3 x4 x5 x6 x7 x8 x9 x10 x11 x12 x13 x14 x15 b, f_win x0 x1 x2 x3 x4 x5 x6 x7 x8 x9 x10 x11 x12 x13 x14 x15 b]
  rfl

theorem v16_at (b : Fin 32) (t : Fin 2048) (c : Fin 512) :
    val_main_v16 (F := Ideal) x0 x2 x3 (ix3 b t c) = prj (arrOf x0 x1 x2 x3 x4 x5 x6 x7 x8 x9 x10 x11 x12 x13 x14 x15 b) t (c.1) := by
  pointwise [val_main_v16]
  exact v15_at x0 x1 x2 x3 x4 x5 x6 x7 x8 x9 x10 x11 x12 x13 x14 x15 b t _

theorem v17_at (b : Fin 32) (t : Fin 2048) (c : Fin 512) :
    val_main_v17 (F := Ideal) x0 x2 x3 (ix3 b t c) = prj (arrOf x0 x1 x2 x3 x4 x5 x6 x7 x8 x9 x10 x11 x12 x13 x14 x15 b) t (512 + c.1) := by
  pointwise [val_main_v17]
  exact v15_at x0 x1 x2 x3 x4 x5 x6 x7 x8 x9 x10 x11 x12 x13 x14 x15 b t _

theorem v18_at (b : Fin 32) (t : Fin 2048) (c : Fin 1024) :
    val_main_v18 (F := Ideal) x0 x2 x3 (ix3 b t c) = prj (arrOf x0 x1 x2 x3 x4 x5 x6 x7 x8 x9 x10 x11 x12 x13 x14 x15 b) t (1024 + c.1) := by
  pointwise [val_main_v18]
  exact v15_at x0 x1 x2 x3 x4 x5 x6 x7 x8 x9 x10 x11 x12 x13 x14 x15 b t _

theorem v19_at (b : Fin 32) (t : Fin 2048) (c : Fin 1024) :
    val_main_v19 (F := Ideal) x0 x2 x3 (ix3 b t c) = prj (arrOf x0 x1 x2 x3 x4 x5 x6 x7 x8 x9 x10 x11 x12 x13 x14 x15 b) t (2048 + c.1) := by
  pointwise [val_main_v19]
  exact v15_at x0 x1 x2 x3 x4 x5 x6 x7 x8 x9 x10 x11 x12 x13 x14 x15 b t _

theorem v20_at (b : Fin 32) (t : Fin 2048) (c : Fin 1024) :
    val_main_v20 (F := Ideal) x0 x2 x3 (ix3 b t c) = prj (arrOf x0 x1 x2 x3 x4 x5 x6 x7 x8 x9 x10 x11 x12 x13 x14 x15 b) t (3072 + c.1) := by
  pointwise [val_main_v20]
  exact v15_at x0 x1 x2 x3 x4 x5 x6 x7 x8 x9 x10 x11 x12 x13 x14 x15 b t _

theorem v21_at (b : Fin 32) (t : Fin 2048) (c : Fin 1024) :
    val_main_v21 (F := Ideal) x0 x2 x3 (ix3 b t c) = prj (arrOf x0 x1 x2 x3 x4 x5 x6 x7 x8 x9 x10 x11 x12 x13 x14 x15 b) t (4096 + c.1) := by
  pointwise [val_main_v21]
  exact v15_at x0 x1 x2 x3 x4 x5 x6 x7 x8 x9 x10 x11 x12 x13 x14 x15 b t _

theorem v22_at (b : Fin 32) (t : Fin 2048) (c : Fin 1024) :
    val_main_v22 (F := Ideal) x0 x2 x3 (ix3 b t c) = prj (arrOf x0 x1 x2 x3 x4 x5 x6 x7 x8 x9 x10 x11 x12 x13 x14 x15 b) t (5120 + c.1) := by
  pointwise [val_main_v22]
  exact v15_at x0 x1 x2 x3 x4 x5 x6 x7 x8 x9 x10 x11 x12 x13 x14 x15 b t _

theorem v23_at (b : Fin 32) (t : Fin 2048) (c : Fin 1024) :
    val_main_v23 (F := Ideal) x0 x2 x3 (ix3 b t c) = prj (arrOf x0 x1 x2 x3 x4 x5 x6 x7 x8 x9 x10 x11 x12 x13 x14 x15 b) t (6144 + c.1) := by
  pointwise [val_main_v23]
  exact v15_at x0 x1 x2 x3 x4 x5 x6 x7 x8 x9 x10 x11 x12 x13 x14 x15 b t _

theorem v53_at (b : Fin 32) (t : Fin 2048) (h : Fin 4) (d : Fin 128) :
    val_main_v53 (F := Ideal) x0 x1 x2 x3 (ix4 b t h d) = qf (arrOf x0 x1 x2 x3 x4 x5 x6 x7 x8 x9 x10 x11 x12 x13 x14 x15 b) h t d := by
  pointwise [val_main_v24, val_main_v25, val_main_v26, val_main_cst_2, val_main_v27, val_main_v28, val_main_cst_3, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53]
  simp only [v16_at x0 x1 x2 x3 x4 x5 x6 x7 x8 x9 x10 x11 x12 x13 x14 x15 b, f_pos x0 x1 x2 x3 x4 x5 x6 x7 x8 x9 x10 x11 x12 x13 x14 x15 b]
  unfold qf rot ang invf
  split_ifs <;> rfl

theorem v85_at (b : Fin 32) (t : Fin 2048) (h : Fin 4) (d : Fin 128) :
    val_main_v85 (F := Ideal) x0 x1 x2 x3 (ix4 b t h d) = kf (arrOf x0 x1 x2 x3 x4 x5 x6 x7 x8 x9 x10 x11 x12 x13 x14 x15 b) h t d := by
  pointwise [val_main_v54, val_main_v55, val_main_v56, val_main_cst_4, val_main_v57, val_main_v58, val_main_cst_5, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_cst_6, val_main_v84, val_main_v85]
  simp only [v17_at x0 x1 x2 x3 x4 x5 x6 x7 x8 x9 x10 x11 x12 x13 x14 x15 b, f_pos x0 x1 x2 x3 x4 x5 x6 x7 x8 x9 x10 x11 x12 x13 x14 x15 b]
  unfold kf rot ang invf
  simp only [Nat.add_assoc]
  split_ifs <;> rfl

theorem v86_at (b : Fin 32) (t : Fin 2048) (h : Fin 4) (e : Fin 256) :
    val_main_v86 (F := Ideal) x0 x2 x3 (ix4 b t h e) = vf (arrOf x0 x1 x2 x3 x4 x5 x6 x7 x8 x9 x10 x11 x12 x13 x14 x15 b) h t e := by
  pointwise [val_main_v86]
  exact v18_at x0 x1 x2 x3 x4 x5 x6 x7 x8 x9 x10 x11 x12 x13 x14 x15 b t _

theorem v114_at (h : Fin 4) (n m : Fin 2048) :
    val_main_v114 (F := Ideal)  (ix3 h n m) = ((wgt (lgm h) n m : ℝ) : EReal) := by
  have e : val_main_v93 (F := Ideal) (ix1 h) = ((lgm h : ℝ) : EReal) := by
    pointwise [val_main_v87, val_main_cst_7, val_main_v88, val_main_v89, val_main_cst_8, val_main_v90, val_main_v91, val_main_v92, val_main_v93]
    exact log_gamma h.1 h.2
  pointwise [val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_cst_9, val_main_call0_v0, val_main_call0_v1, val_main_call0_v2, val_main_v114]
  rw [e, WordCmp.cmpi_sle_ofNat (by have := m.2; omega) (by have := n.2; omega), sel_dec, nat_word n.1 (by have := n.2; omega), nat_word m.1 (by have := m.2; omega)]
  exact wgt_coe (lgm h) n m _ Ideal.ofBits_zero_f32

theorem v120_at (b : Fin 32) (t : Fin 2048) (h : Fin 4) (e : Fin 256) :
    val_main_v120 (F := Ideal) x0 x1 x2 x3 (ix4 b t h e) = ret (arrOf x0 x1 x2 x3 x4 x5 x6 x7 x8 x9 x10 x11 x12 x13 x14 x15 b) h t e := by
  pointwise [val_main_v115, val_main_v116, val_main_v117, val_main_v118, val_main_v119, val_main_v120]
  simp only [v53_at x0 x1 x2 x3 x4 x5 x6 x7 x8 x9 x10 x11 x12 x13 x14 x15 b, v85_at x0 x1 x2 x3 x4 x5 x6 x7 x8 x9 x10 x11 x12 x13 x14 x15 b, v86_at x0 x1 x2 x3 x4 x5 x6 x7 x8 x9 x10 x11 x12 x13 x14 x15 b, v114_at]
  rfl

theorem v143_at (b : Fin 32) (t : Fin 2048) (k : Fin 1024) :
    val_main_v143 (F := Ideal) x0 x1 x2 x3 x5 (ix3 b t k) = gn (arrOf x0 x1 x2 x3 x4 x5 x6 x7 x8 x9 x10 x11 x12 x13 x14 x15 b) (k / 256) t (k % 256) * (arrOf x0 x1 x2 x3 x4 x5 x6 x7 x8 x9 x10 x11 x12 x13 x14 x15 b).gnw k := by
  pointwise [val_main_v121, val_main_cst_10, val_main_v122, val_main_v123, val_main_cst_11, val_main_v124, val_main_v125, val_main_v126, val_main_v127, val_main_v128, val_main_cst_12, val_main_v129, val_main_v130, val_main_cst_13, val_main_v131, val_main_v132, val_main_v133, val_main_v134, val_main_cst_14, val_main_v135, val_main_v136, val_main_v137, val_main_v138, val_main_v139, val_main_v140, val_main_v141, val_main_v142, val_main_v143]
  simp only [v120_at x0 x1 x2 x3 x4 x5 x6 x7 x8 x9 x10 x11 x12 x13 x14 x15 b, f_gnw x0 x1 x2 x3 x4 x5 x6 x7 x8 x9 x10 x11 x12 x13 x14 x15 b]
  rfl

theorem v145_at (b : Fin 32) (t : Fin 2048) (k : Fin 1024) :
    val_main_v145 (F := Ideal) x0 x1 x2 x3 x5 (ix3 b t k) = aact (arrOf x0 x1 x2 x3 x4 x5 x6 x7 x8 x9 x10 x11 x12 x13 x14 x15 b) t k := by
  pointwise [val_main_call1_v0, val_main_call1_v1, val_main_call1_cst, val_main_call1_v2, val_main_call1_v3, val_main_call1_cst_0, val_main_call1_v4, val_main_call1_v5, val_main_v144, val_main_v145]
  simp only [v143_at x0 x1 x2 x3 x4 x5 x6 x7 x8 x9 x10 x11 x12 x13 x14 x15 b, v19_at x0 x1 x2 x3 x4 x5 x6 x7 x8 x9 x10 x11 x12 x13 x14 x15 b]
  rfl

theorem v147_at (b : Fin 32) (t : Fin 2048) (k : Fin 1024) :
    val_main_v147 (F := Ideal) x0 x1 x2 x3 x5 x6 (ix3 b t k) = ya (arrOf x0 x1 x2 x3 x4 x5 x6 x7 x8 x9 x10 x11 x12 x13 x14 x15 b) t k := by
  pointwise [val_main_v146, val_main_v147]
  simp only [v145_at x0 x1 x2 x3 x4 x5 x6 x7 x8 x9 x10 x11 x12 x13 x14 x15 b, f_wro x0 x1 x2 x3 x4 x5 x6 x7 x8 x9 x10 x11 x12 x13 x14 x15 b]
  rfl

theorem v150_at (b : Fin 32) (t : Fin 2051) (k : Fin 1024) :
    val_main_v150 (F := Ideal) x0 x2 x3 (ix3 b t k) = xlp (arrOf x0 x1 x2 x3 x4 x5 x6 x7 x8 x9 x10 x11 x12 x13 x14 x15 b) t k := by
  pointwise [val_main_c, val_main_call2_v0, val_main_v150]
  have z : FloatOps.sitofp (F := Ideal) FTy.f32 0#32 = (0 : EReal) := by
    show ((((0#32).toInt : ℝ) : EReal)) = 0
    simp
  unfold xlp
  have ht := t.2
  by_cases hp : 3 ≤ t.1
  · rw [dif_pos ⟨hp, by omega⟩, if_pos hp]
    exact v20_at x0 x1 x2 x3 x4 x5 x6 x7 x8 x9 x10 x11 x12 x13 x14 x15 b ⟨t.1 - 3, by omega⟩ k
  · rw [dif_neg (by omega), if_neg hp, z]

theorem v182_at (b : Fin 32) (t : Fin 2048) (k : Fin 1024) :
    val_main_v182 (F := Ideal) x0 x2 x3 x7 x8 (ix3 b t k) = xc (arrOf x0 x1 x2 x3 x4 x5 x6 x7 x8 x9 x10 x11 x12 x13 x14 x15 b) t k := by
  pointwise [val_main_v148, val_main_v149, val_main_v151, val_main_v152, val_main_v153, val_main_v154, val_main_v155, val_main_v156, val_main_cst_15, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182]
  simp only [v150_at x0 x1 x2 x3 x4 x5 x6 x7 x8 x9 x10 x11 x12 x13 x14 x15 b, f_cw x0 x1 x2 x3 x4 x5 x6 x7 x8 x9 x10 x11 x12 x13 x14 x15 b, f_cb x0 x1 x2 x3 x4 x5 x6 x7 x8 x9 x10 x11 x12 x13 x14 x15 b]
  rfl

theorem v200_at (b : Fin 32) (t : Fin 2048) (k : Fin 1024) :
    val_main_v200 (F := Ideal) x0 x2 x3 x7 x8 x9 x10 (ix3 b t k) = rg (arrOf x0 x1 x2 x3 x4 x5 x6 x7 x8 x9 x10 x11 x12 x13 x14 x15 b) t k := by
  pointwise [val_main_v183, val_main_v184, val_main_v185, val_main_v186, val_main_v187, val_main_v188, val_main_v188, val_main_v189, val_main_v190, val_main_v191, val_main_v192, val_main_v193, val_main_v194, val_main_v195, val_main_cst_16, val_main_v196, val_main_v197, val_main_cst_17, val_main_v198, val_main_v199, val_main_v200]
  simp only [v182_at x0 x1 x2 x3 x4 x5 x6 x7 x8 x9 x10 x11 x12 x13 x14 x15 b, f_wr x0 x1 x2 x3 x4 x5 x6 x7 x8 x9 x10 x11 x12 x13 x14 x15 b, f_br x0 x1 x2 x3 x4 x5 x6 x7 x8 x9 x10 x11 x12 x13 x14 x15 b]
  rfl

theorem v212_at (b : Fin 32) (t : Fin 2048) (k : Fin 1024) :
    val_main_v212 (F := Ideal) x0 x2 x3 x7 x8 x11 x12 (ix3 b t k) = ig (arrOf x0 x1 x2 x3 x4 x5 x6 x7 x8 x9 x10 x11 x12 x13 x14 x15 b) t k := by
  pointwise [val_main_v183, val_main_v184, val_main_v185, val_main_v186, val_main_v187, val_main_v188, val_main_v201, val_main_v202, val_main_v203, val_main_v204, val_main_v205, val_main_v206, val_main_v207, val_main_cst_18, val_main_v208, val_main_v209, val_main_cst_19, val_main_v210, val_main_v211, val_main_v212]
  simp only [v182_at x0 x1 x2 x3 x4 x5 x6 x7 x8 x9 x10 x11 x12 x13 x14 x15 b, f_wi x0 x1 x2 x3 x4 x5 x6 x7 x8 x9 x10 x11 x12 x13 x14 x15 b, f_bi x0 x1 x2 x3 x4 x5 x6 x7 x8 x9 x10 x11 x12 x13 x14 x15 b]
  rfl

theorem v219_at (b : Fin 32) (t : Fin 2048) (k : Fin 1024) :
    val_main_v219 (F := Ideal) x0 x2 x3 x7 x8 x9 x10 x13 (ix3 b t k) = la (arrOf x0 x1 x2 x3 x4 x5 x6 x7 x8 x9 x10 x11 x12 x13 x14 x15 b) t k := by
  pointwise [val_main_v187, val_main_cst_20, val_main_v213, val_main_v214, val_main_v215, val_main_call3_cst, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_v216, val_main_v217, val_main_v218, val_main_v219]
  simp only [v200_at x0 x1 x2 x3 x4 x5 x6 x7 x8 x9 x10 x11 x12 x13 x14 x15 b, f_lam x0 x1 x2 x3 x4 x5 x6 x7 x8 x9 x10 x11 x12 x13 x14 x15 b, ne_eq, not_true_eq_false, if_false]
  rfl

theorem v220_at (b : Fin 32) (t : Fin 2048) (k : Fin 1024) :
    val_main_v220 (F := Ideal) x0 x2 x3 x7 x8 x9 x10 x13 (ix3 b t k) = av (arrOf x0 x1 x2 x3 x4 x5 x6 x7 x8 x9 x10 x11 x12 x13 x14 x15 b) k t := by
  pointwise [val_main_v220]
  simp only [v219_at x0 x1 x2 x3 x4 x5 x6 x7 x8 x9 x10 x11 x12 x13 x14 x15 b]
  rfl

theorem v227_at (b : Fin 32) (t : Fin 2048) (k : Fin 1024) :
    val_main_v227 (F := Ideal) x0 x2 x3 x7 x8 x9 x10 x11 x12 x13 (ix3 b t k) = bv (arrOf x0 x1 x2 x3 x4 x5 x6 x7 x8 x9 x10 x11 x12 x13 x14 x15 b) k t := by
  pointwise [val_main_cst_21, val_main_v221, val_main_v222, val_main_v223, val_main_v224, val_main_v225, val_main_v226, val_main_v227]
  simp only [v219_at x0 x1 x2 x3 x4 x5 x6 x7 x8 x9 x10 x11 x12 x13 x14 x15 b, v212_at x0 x1 x2 x3 x4 x5 x6 x7 x8 x9 x10 x11 x12 x13 x14 x15 b, v182_at x0 x1 x2 x3 x4 x5 x6 x7 x8 x9 x10 x11 x12 x13 x14 x15 b]
  rfl

theorem l0a_at (b : Fin 32) (i : Fin 2048) (k : Fin 1024) :
    val_main_v220 (F := Ideal) x0 x2 x3 x7 x8 x9 x10 x13 (ix3 b i k) = prd (av (arrOf x0 x1 x2 x3 x4 x5 x6 x7 x8 x9 x10 x11 x12 x13 x14 x15 b) k) (1 * i) 1 := by
  rw [v220_at x0 x1 x2 x3 x4 x5 x6 x7 x8 x9 x10 x11 x12 x13 x14 x15]; simp [prd]

theorem l0b_at (b : Fin 32) (i : Fin 2048) (k : Fin 1024) :
    val_main_v227 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (1 * i) 1 := by
  rw [v227_at x0 x1 x2 x3 x4 x5 x6 x7 x8 x9 x10 x11 x12 x13 x14 x15]; simp [loc]

theorem l1a_at (b : Fin 32) (i : Fin 1024) (k : Fin 1024) :
    val_main_v232 (F := Ideal) x0 x2 x3 x7 x8 x9 x10 x13 (ix3 b i k) = prd (av (arrOf x0 x1 x2 x3 x4 x5 x6 x7 x8 x9 x10 x11 x12 x13 x14 x15 b) k) (2 * i) 2 := by
  pointwise [val_main_v228, val_main_v229, val_main_v230, val_main_v231, val_main_v232, val_main_v233, val_main_v234]
  simp only [l0a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 2) (by omega) (by omega)]
  congr 1; omega

theorem l1b_at (b : Fin 32) (i : Fin 1024) (k : Fin 1024) :
    val_main_v234 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (2 * i) 2 := by
  pointwise [val_main_v228, val_main_v229, val_main_v230, val_main_v231, val_main_v232, val_main_v233, val_main_v234]
  simp only [l0a_at x0 x1 x2 x3 x4 x5 x6 x7 x8 x9 x10 x11 x12 x13 x14 x15 b, l0b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 2) (by omega) (by omega)]
  congr 1; omega

theorem l2a_at (b : Fin 32) (i : Fin 512) (k : Fin 1024) :
    val_main_v239 (F := Ideal) x0 x2 x3 x7 x8 x9 x10 x13 (ix3 b i k) = prd (av (arrOf x0 x1 x2 x3 x4 x5 x6 x7 x8 x9 x10 x11 x12 x13 x14 x15 b) k) (4 * i) 4 := by
  pointwise [val_main_v235, val_main_v236, val_main_v237, val_main_v238, val_main_v239, val_main_v240, val_main_v241]
  simp only [l1a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 4) (by omega) (by omega)]
  congr 1; omega

theorem l2b_at (b : Fin 32) (i : Fin 512) (k : Fin 1024) :
    val_main_v241 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (4 * i) 4 := by
  pointwise [val_main_v235, val_main_v236, val_main_v237, val_main_v238, val_main_v239, val_main_v240, val_main_v241]
  simp only [l1a_at x0 x1 x2 x3 x4 x5 x6 x7 x8 x9 x10 x11 x12 x13 x14 x15 b, l1b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 4) (by omega) (by omega)]
  congr 1; omega

theorem l3a_at (b : Fin 32) (i : Fin 256) (k : Fin 1024) :
    val_main_v246 (F := Ideal) x0 x2 x3 x7 x8 x9 x10 x13 (ix3 b i k) = prd (av (arrOf x0 x1 x2 x3 x4 x5 x6 x7 x8 x9 x10 x11 x12 x13 x14 x15 b) k) (8 * i) 8 := by
  pointwise [val_main_v242, val_main_v243, val_main_v244, val_main_v245, val_main_v246, val_main_v247, val_main_v248]
  simp only [l2a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 8) (by omega) (by omega)]
  congr 1; omega

theorem l3b_at (b : Fin 32) (i : Fin 256) (k : Fin 1024) :
    val_main_v248 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (8 * i) 8 := by
  pointwise [val_main_v242, val_main_v243, val_main_v244, val_main_v245, val_main_v246, val_main_v247, val_main_v248]
  simp only [l2a_at x0 x1 x2 x3 x4 x5 x6 x7 x8 x9 x10 x11 x12 x13 x14 x15 b, l2b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 8) (by omega) (by omega)]
  congr 1; omega

theorem l4a_at (b : Fin 32) (i : Fin 128) (k : Fin 1024) :
    val_main_v253 (F := Ideal) x0 x2 x3 x7 x8 x9 x10 x13 (ix3 b i k) = prd (av (arrOf x0 x1 x2 x3 x4 x5 x6 x7 x8 x9 x10 x11 x12 x13 x14 x15 b) k) (16 * i) 16 := by
  pointwise [val_main_v249, val_main_v250, val_main_v251, val_main_v252, val_main_v253, val_main_v254, val_main_v255]
  simp only [l3a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 16) (by omega) (by omega)]
  congr 1; omega

theorem l4b_at (b : Fin 32) (i : Fin 128) (k : Fin 1024) :
    val_main_v255 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (16 * i) 16 := by
  pointwise [val_main_v249, val_main_v250, val_main_v251, val_main_v252, val_main_v253, val_main_v254, val_main_v255]
  simp only [l3a_at x0 x1 x2 x3 x4 x5 x6 x7 x8 x9 x10 x11 x12 x13 x14 x15 b, l3b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 16) (by omega) (by omega)]
  congr 1; omega

theorem l5a_at (b : Fin 32) (i : Fin 64) (k : Fin 1024) :
    val_main_v260 (F := Ideal) x0 x2 x3 x7 x8 x9 x10 x13 (ix3 b i k) = prd (av (arrOf x0 x1 x2 x3 x4 x5 x6 x7 x8 x9 x10 x11 x12 x13 x14 x15 b) k) (32 * i) 32 := by
  pointwise [val_main_v256, val_main_v257, val_main_v258, val_main_v259, val_main_v260, val_main_v261, val_main_v262]
  simp only [l4a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 32) (by omega) (by omega)]
  congr 1; omega

theorem l5b_at (b : Fin 32) (i : Fin 64) (k : Fin 1024) :
    val_main_v262 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (32 * i) 32 := by
  pointwise [val_main_v256, val_main_v257, val_main_v258, val_main_v259, val_main_v260, val_main_v261, val_main_v262]
  simp only [l4a_at x0 x1 x2 x3 x4 x5 x6 x7 x8 x9 x10 x11 x12 x13 x14 x15 b, l4b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 32) (by omega) (by omega)]
  congr 1; omega

theorem l6a_at (b : Fin 32) (i : Fin 32) (k : Fin 1024) :
    val_main_v267 (F := Ideal) x0 x2 x3 x7 x8 x9 x10 x13 (ix3 b i k) = prd (av (arrOf x0 x1 x2 x3 x4 x5 x6 x7 x8 x9 x10 x11 x12 x13 x14 x15 b) k) (64 * i) 64 := by
  pointwise [val_main_v263, val_main_v264, val_main_v265, val_main_v266, val_main_v267, val_main_v268, val_main_v269]
  simp only [l5a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 64) (by omega) (by omega)]
  congr 1; omega

theorem l6b_at (b : Fin 32) (i : Fin 32) (k : Fin 1024) :
    val_main_v269 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (64 * i) 64 := by
  pointwise [val_main_v263, val_main_v264, val_main_v265, val_main_v266, val_main_v267, val_main_v268, val_main_v269]
  simp only [l5a_at x0 x1 x2 x3 x4 x5 x6 x7 x8 x9 x10 x11 x12 x13 x14 x15 b, l5b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 64) (by omega) (by omega)]
  congr 1; omega

theorem l7a_at (b : Fin 32) (i : Fin 16) (k : Fin 1024) :
    val_main_v274 (F := Ideal) x0 x2 x3 x7 x8 x9 x10 x13 (ix3 b i k) = prd (av (arrOf x0 x1 x2 x3 x4 x5 x6 x7 x8 x9 x10 x11 x12 x13 x14 x15 b) k) (128 * i) 128 := by
  pointwise [val_main_v270, val_main_v271, val_main_v272, val_main_v273, val_main_v274, val_main_v275, val_main_v276]
  simp only [l6a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 128) (by omega) (by omega)]
  congr 1; omega

theorem l7b_at (b : Fin 32) (i : Fin 16) (k : Fin 1024) :
    val_main_v276 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (128 * i) 128 := by
  pointwise [val_main_v270, val_main_v271, val_main_v272, val_main_v273, val_main_v274, val_main_v275, val_main_v276]
  simp only [l6a_at x0 x1 x2 x3 x4 x5 x6 x7 x8 x9 x10 x11 x12 x13 x14 x15 b, l6b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 128) (by omega) (by omega)]
  congr 1; omega

theorem l8a_at (b : Fin 32) (i : Fin 8) (k : Fin 1024) :
    val_main_v281 (F := Ideal) x0 x2 x3 x7 x8 x9 x10 x13 (ix3 b i k) = prd (av (arrOf x0 x1 x2 x3 x4 x5 x6 x7 x8 x9 x10 x11 x12 x13 x14 x15 b) k) (256 * i) 256 := by
  pointwise [val_main_v277, val_main_v278, val_main_v279, val_main_v280, val_main_v281, val_main_v282, val_main_v283]
  simp only [l7a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 256) (by omega) (by omega)]
  congr 1; omega

theorem l8b_at (b : Fin 32) (i : Fin 8) (k : Fin 1024) :
    val_main_v283 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (256 * i) 256 := by
  pointwise [val_main_v277, val_main_v278, val_main_v279, val_main_v280, val_main_v281, val_main_v282, val_main_v283]
  simp only [l7a_at x0 x1 x2 x3 x4 x5 x6 x7 x8 x9 x10 x11 x12 x13 x14 x15 b, l7b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 256) (by omega) (by omega)]
  congr 1; omega

theorem l9a_at (b : Fin 32) (i : Fin 4) (k : Fin 1024) :
    val_main_v288 (F := Ideal) x0 x2 x3 x7 x8 x9 x10 x13 (ix3 b i k) = prd (av (arrOf x0 x1 x2 x3 x4 x5 x6 x7 x8 x9 x10 x11 x12 x13 x14 x15 b) k) (512 * i) 512 := by
  pointwise [val_main_v284, val_main_v285, val_main_v286, val_main_v287, val_main_v288, val_main_v289, val_main_v290]
  simp only [l8a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 512) (by omega) (by omega)]
  congr 1; omega

theorem l9b_at (b : Fin 32) (i : Fin 4) (k : Fin 1024) :
    val_main_v290 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (512 * i) 512 := by
  pointwise [val_main_v284, val_main_v285, val_main_v286, val_main_v287, val_main_v288, val_main_v289, val_main_v290]
  simp only [l8a_at x0 x1 x2 x3 x4 x5 x6 x7 x8 x9 x10 x11 x12 x13 x14 x15 b, l8b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 512) (by omega) (by omega)]
  congr 1; omega

theorem l10a_at (b : Fin 32) (i : Fin 2) (k : Fin 1024) :
    val_main_v295 (F := Ideal) x0 x2 x3 x7 x8 x9 x10 x13 (ix3 b i k) = prd (av (arrOf x0 x1 x2 x3 x4 x5 x6 x7 x8 x9 x10 x11 x12 x13 x14 x15 b) k) (1024 * i) 1024 := by
  pointwise [val_main_v291, val_main_v292, val_main_v293, val_main_v294, val_main_v295, val_main_v296, val_main_v297]
  simp only [l9a_at x0 x1 x2 x3 x4 x5 x6 x7 x8 x9 x10 x11 x12 x13 x14 x15 b]
  rw [show (1 + 2 * i.1) = 2 * i.1 + 1 from Nat.add_comm _ _]
  rw [prd_glue (av (arrOf x0 x1 x2 x3 x4 x5 x6 x7 x8 x9 x10 x11 x12 x13 x14 x15 b) k) (k := 1024) (by omega) (by omega)]
  congr 1; omega

theorem l10b_at (b : Fin 32) (i : Fin 2) (k : Fin 1024) :
    val_main_v297 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (1024 * i) 1024 := by
  pointwise [val_main_v291, val_main_v292, val_main_v293, val_main_v294, val_main_v295, val_main_v296, val_main_v297]
  simp only [l9a_at x0 x1 x2 x3 x4 x5 x6 x7 x8 x9 x10 x11 x12 x13 x14 x15 b, l9b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 1024) (by omega) (by omega)]
  congr 1; omega

theorem l11b_at (b : Fin 32) (i : Fin 1) (k : Fin 1024) :
    val_main_v304 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) (2048 * i) 2048 := by
  pointwise [val_main_v298, val_main_v299, val_main_v300, val_main_v301, val_main_v302, val_main_v303, val_main_v304]
  simp only [l10a_at x0 x1 x2 x3 x4 x5 x6 x7 x8 x9 x10 x11 x12 x13 x14 x15 b, l10b_at x0 x1 x2 x3 x4 x5 x6 x7 x8 x9 x10 x11 x12 x13 x14 x15 b]
  rw [loc_glue (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) (k := 2048) (by omega) (by omega)]
  simp

theorem u11_at (b : Fin 32) (i : Fin 1) (k : Fin 1024) :
    val_main_v304 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (2048 * (i + 1)) := by
  rw [l11b_at x0 x1 x2 x3 x4 x5 x6 x7 x8 x9 x10 x11 x12 x13 x14 x15]; have : i.1 = 0 := by omega
  simp only [this]

theorem u10_at (b : Fin 32) (i : Fin 2) (k : Fin 1024) :
    val_main_v321 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (1024 * (i + 1)) := by
  pointwise [val_main_v305, val_main_v306, val_main_v307, val_main_v308, val_main_v309, val_main_v310, val_main_v311, val_main_v312, val_main_v313, val_main_v314, val_main_v315, val_main_cst_22, val_main_v316, val_main_cst_23, val_main_v317, val_main_v318, val_main_cst_24, val_main_v319, val_main_cst_25, val_main_v320, val_main_v321]
  simp only [u11_at x0 x1 x2 x3 x4 x5 x6 x7 x8 x9 x10 x11 x12 x13 x14 x15 b, l10a_at x0 x1 x2 x3 x4 x5 x6 x7 x8 x9 x10 x11 x12 x13 x14 x15 b, l10b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 1024 2048 1 i rfl (by have := i.2; omega)

theorem u9_at (b : Fin 32) (i : Fin 4) (k : Fin 1024) :
    val_main_v338 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (512 * (i + 1)) := by
  pointwise [val_main_v322, val_main_v323, val_main_v324, val_main_v325, val_main_v326, val_main_v327, val_main_v328, val_main_v329, val_main_v330, val_main_v331, val_main_v332, val_main_cst_26, val_main_v333, val_main_cst_27, val_main_v334, val_main_v335, val_main_cst_28, val_main_v336, val_main_cst_29, val_main_v337, val_main_v338]
  simp only [u10_at x0 x1 x2 x3 x4 x5 x6 x7 x8 x9 x10 x11 x12 x13 x14 x15 b, l9a_at x0 x1 x2 x3 x4 x5 x6 x7 x8 x9 x10 x11 x12 x13 x14 x15 b, l9b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 512 1024 2 i rfl (by have := i.2; omega)

theorem u8_at (b : Fin 32) (i : Fin 8) (k : Fin 1024) :
    val_main_v355 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (256 * (i + 1)) := by
  pointwise [val_main_v339, val_main_v340, val_main_v341, val_main_v342, val_main_v343, val_main_v344, val_main_v345, val_main_v346, val_main_v347, val_main_v348, val_main_v349, val_main_cst_30, val_main_v350, val_main_cst_31, val_main_v351, val_main_v352, val_main_cst_32, val_main_v353, val_main_cst_33, val_main_v354, val_main_v355]
  simp only [u9_at x0 x1 x2 x3 x4 x5 x6 x7 x8 x9 x10 x11 x12 x13 x14 x15 b, l8a_at x0 x1 x2 x3 x4 x5 x6 x7 x8 x9 x10 x11 x12 x13 x14 x15 b, l8b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 256 512 4 i rfl (by have := i.2; omega)

theorem u7_at (b : Fin 32) (i : Fin 16) (k : Fin 1024) :
    val_main_v372 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (128 * (i + 1)) := by
  pointwise [val_main_v356, val_main_v357, val_main_v358, val_main_v359, val_main_v360, val_main_v361, val_main_v362, val_main_v363, val_main_v364, val_main_v365, val_main_v366, val_main_cst_34, val_main_v367, val_main_cst_35, val_main_v368, val_main_v369, val_main_cst_36, val_main_v370, val_main_cst_37, val_main_v371, val_main_v372]
  simp only [u8_at x0 x1 x2 x3 x4 x5 x6 x7 x8 x9 x10 x11 x12 x13 x14 x15 b, l7a_at x0 x1 x2 x3 x4 x5 x6 x7 x8 x9 x10 x11 x12 x13 x14 x15 b, l7b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 128 256 8 i rfl (by have := i.2; omega)

theorem u6_at (b : Fin 32) (i : Fin 32) (k : Fin 1024) :
    val_main_v389 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (64 * (i + 1)) := by
  pointwise [val_main_v373, val_main_v374, val_main_v375, val_main_v376, val_main_v377, val_main_v378, val_main_v379, val_main_v380, val_main_v381, val_main_v382, val_main_v383, val_main_cst_38, val_main_v384, val_main_cst_39, val_main_v385, val_main_v386, val_main_cst_40, val_main_v387, val_main_cst_41, val_main_v388, val_main_v389]
  simp only [u7_at x0 x1 x2 x3 x4 x5 x6 x7 x8 x9 x10 x11 x12 x13 x14 x15 b, l6a_at x0 x1 x2 x3 x4 x5 x6 x7 x8 x9 x10 x11 x12 x13 x14 x15 b, l6b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 64 128 16 i rfl (by have := i.2; omega)

theorem u5_at (b : Fin 32) (i : Fin 64) (k : Fin 1024) :
    val_main_v406 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (32 * (i + 1)) := by
  pointwise [val_main_v390, val_main_v391, val_main_v392, val_main_v393, val_main_v394, val_main_v395, val_main_v396, val_main_v397, val_main_v398, val_main_v399, val_main_v400, val_main_cst_42, val_main_v401, val_main_cst_43, val_main_v402, val_main_v403, val_main_cst_44, val_main_v404, val_main_cst_45, val_main_v405, val_main_v406]
  simp only [u6_at x0 x1 x2 x3 x4 x5 x6 x7 x8 x9 x10 x11 x12 x13 x14 x15 b, l5a_at x0 x1 x2 x3 x4 x5 x6 x7 x8 x9 x10 x11 x12 x13 x14 x15 b, l5b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 32 64 32 i rfl (by have := i.2; omega)

theorem u4_at (b : Fin 32) (i : Fin 128) (k : Fin 1024) :
    val_main_v423 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (16 * (i + 1)) := by
  pointwise [val_main_v407, val_main_v408, val_main_v409, val_main_v410, val_main_v411, val_main_v412, val_main_v413, val_main_v414, val_main_v415, val_main_v416, val_main_v417, val_main_cst_46, val_main_v418, val_main_cst_47, val_main_v419, val_main_v420, val_main_cst_48, val_main_v421, val_main_cst_49, val_main_v422, val_main_v423]
  simp only [u5_at x0 x1 x2 x3 x4 x5 x6 x7 x8 x9 x10 x11 x12 x13 x14 x15 b, l4a_at x0 x1 x2 x3 x4 x5 x6 x7 x8 x9 x10 x11 x12 x13 x14 x15 b, l4b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 16 32 64 i rfl (by have := i.2; omega)

theorem u3_at (b : Fin 32) (i : Fin 256) (k : Fin 1024) :
    val_main_v440 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (8 * (i + 1)) := by
  pointwise [val_main_v424, val_main_v425, val_main_v426, val_main_v427, val_main_v428, val_main_v429, val_main_v430, val_main_v431, val_main_v432, val_main_v433, val_main_v434, val_main_cst_50, val_main_v435, val_main_cst_51, val_main_v436, val_main_v437, val_main_cst_52, val_main_v438, val_main_cst_53, val_main_v439, val_main_v440]
  simp only [u4_at x0 x1 x2 x3 x4 x5 x6 x7 x8 x9 x10 x11 x12 x13 x14 x15 b, l3a_at x0 x1 x2 x3 x4 x5 x6 x7 x8 x9 x10 x11 x12 x13 x14 x15 b, l3b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 8 16 128 i rfl (by have := i.2; omega)

theorem u2_at (b : Fin 32) (i : Fin 512) (k : Fin 1024) :
    val_main_v457 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (4 * (i + 1)) := by
  pointwise [val_main_v441, val_main_v442, val_main_v443, val_main_v444, val_main_v445, val_main_v446, val_main_v447, val_main_v448, val_main_v449, val_main_v450, val_main_v451, val_main_cst_54, val_main_v452, val_main_cst_55, val_main_v453, val_main_v454, val_main_cst_56, val_main_v455, val_main_cst_57, val_main_v456, val_main_v457]
  simp only [u3_at x0 x1 x2 x3 x4 x5 x6 x7 x8 x9 x10 x11 x12 x13 x14 x15 b, l2a_at x0 x1 x2 x3 x4 x5 x6 x7 x8 x9 x10 x11 x12 x13 x14 x15 b, l2b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 4 8 256 i rfl (by have := i.2; omega)

theorem u1_at (b : Fin 32) (i : Fin 1024) (k : Fin 1024) :
    val_main_v474 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (2 * (i + 1)) := by
  pointwise [val_main_v458, val_main_v459, val_main_v460, val_main_v461, val_main_v462, val_main_v463, val_main_v464, val_main_v465, val_main_v466, val_main_v467, val_main_v468, val_main_cst_58, val_main_v469, val_main_cst_59, val_main_v470, val_main_v471, val_main_cst_60, val_main_v472, val_main_cst_61, val_main_v473, val_main_v474]
  simp only [u2_at x0 x1 x2 x3 x4 x5 x6 x7 x8 x9 x10 x11 x12 x13 x14 x15 b, l1a_at x0 x1 x2 x3 x4 x5 x6 x7 x8 x9 x10 x11 x12 x13 x14 x15 b, l1b_at x0 x1 x2 x3 x4 x5 x6 x7 x8 x9 x10 x11 x12 x13 x14 x15 b, dite_eq_ite]
  exact up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 2 4 512 i rfl (by have := i.2; omega)

theorem u0_at (b : Fin 32) (i : Fin 2048) (k : Fin 1024) :
    val_main_v491 (F := Ideal) x0 x2 x3 x7 x8 x9 x10 x11 x12 x13 (ix3 b i k) = loc (av (arrOf x0 x1 x2 x3 x4 x5 x6 x7 x8 x9 x10 x11 x12 x13 x14 x15 b) k) (bv (arrOf x0 x1 x2 x3 x4 x5 x6 x7 x8 x9 x10 x11 x12 x13 x14 x15 b) k) 0 (i + 1) := by
  pointwise [val_main_v475, val_main_v476, val_main_v477, val_main_v478, val_main_v479, val_main_v480, val_main_v481, val_main_v482, val_main_v483, val_main_v484, val_main_v485, val_main_cst_62, val_main_v486, val_main_cst_63, val_main_v487, val_main_v488, val_main_cst_64, val_main_v489, val_main_cst_65, val_main_v490, val_main_v491]
  simp only [u1_at x0 x1 x2 x3 x4 x5 x6 x7 x8 x9 x10 x11 x12 x13 x14 x15 b, l0a_at x0 x1 x2 x3 x4 x5 x6 x7 x8 x9 x10 x11 x12 x13 x14 x15 b, l0b_at x0 x1 x2 x3 x4 x5 x6 x7 x8 x9 x10 x11 x12 x13 x14 x15 b, dite_eq_ite]
  refine Eq.trans ?_ ((up_level (av (arrOf x0 x1 x2 x3 x4 x5 x6 x7 x8 x9 x10 x11 x12 x13 x14 x15 b) k) (bv (arrOf x0 x1 x2 x3 x4 x5 x6 x7 x8 x9 x10 x11 x12 x13 x14 x15 b) k) (av_ok (arrOf x0 x1 x2 x3 x4 x5 x6 x7 x8 x9 x10 x11 x12 x13 x14 x15 b) k) 1 2 1024 i rfl (by have := i.2; omega)).trans (by rw [Nat.one_mul]))
  rfl

theorem v504_at (b : Fin 32) (t : Fin 2048) (k : Fin 1024) :
    val_main_v504 (F := Ideal) x0 x2 x3 (ix3 b t k) = gelu (prj (arrOf x0 x1 x2 x3 x4 x5 x6 x7 x8 x9 x10 x11 x12 x13 x14 x15 b) t (4096 + k)) := by
  pointwise [val_main_v492, val_main_v493, val_main_cst_66, val_main_v494, val_main_v495, val_main_v496, val_main_cst_67, val_main_v497, val_main_v498, val_main_v499, val_main_cst_68, val_main_v500, val_main_v501, val_main_cst_69, val_main_v502, val_main_v503, val_main_v504]
  simp only [v21_at x0 x1 x2 x3 x4 x5 x6 x7 x8 x9 x10 x11 x12 x13 x14 x15 b]
  rfl

theorem ref_at (b : Fin 32) (t : Fin 2048) (k : Fin 1024) :
    val_main_v535 (F := Ideal) x0 x1 x2 x3 x4 x5 x6 x7 x8 x9 x10 x11 x12 x13 x14 x15 (ix3 b t k) = res (arrOf x0 x1 x2 x3 x4 x5 x6 x7 x8 x9 x10 x11 x12 x13 x14 x15 b) t k := by
  pointwise [val_main_v505, val_main_v506, val_main_v507, val_main_v508, val_main_v509, val_main_v510, val_main_v511, val_main_v512, val_main_v513, val_main_v514, val_main_cst_70, val_main_v515, val_main_v516, val_main_cst_71, val_main_v517, val_main_v518, val_main_v519, val_main_v520, val_main_v521, val_main_v522, val_main_v523, val_main_v524, val_main_v525, val_main_v526, val_main_cst_72, val_main_v527, val_main_v528, val_main_cst_73, val_main_v529, val_main_v530, val_main_v531, val_main_v532, val_main_v533, val_main_v534, val_main_v535]
  simp only [u0_at x0 x1 x2 x3 x4 x5 x6 x7 x8 x9 x10 x11 x12 x13 x14 x15 b, v504_at x0 x1 x2 x3 x4 x5 x6 x7 x8 x9 x10 x11 x12 x13 x14 x15 b, v22_at x0 x1 x2 x3 x4 x5 x6 x7 x8 x9 x10 x11 x12 x13 x14 x15 b, v23_at x0 x1 x2 x3 x4 x5 x6 x7 x8 x9 x10 x11 x12 x13 x14 x15 b, v147_at x0 x1 x2 x3 x4 x5 x6 x7 x8 x9 x10 x11 x12 x13 x14 x15 b, f_x x0 x1 x2 x3 x4 x5 x6 x7 x8 x9 x10 x11 x12 x13 x14 x15 b, f_mga x0 x1 x2 x3 x4 x5 x6 x7 x8 x9 x10 x11 x12 x13 x14 x15 b, f_mgb x0 x1 x2 x3 x4 x5 x6 x7 x8 x9 x10 x11 x12 x13 x14 x15 b, f_wlo x0 x1 x2 x3 x4 x5 x6 x7 x8 x9 x10 x11 x12 x13 x14 x15 b, f_wout x0 x1 x2 x3 x4 x5 x6 x7 x8 x9 x10 x11 x12 x13 x14 x15 b, Nat.one_mul]
  rfl

end Cert.Mix.Ref

end
-- ==== Proof.MixStage.lean ====
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.Mix

open Cert.KernelIdeal Cert.KernelIdeal.Gen Idealize.ShloMosaic Idealize.ShloMosaic.TcCoe Idealize.SL.Sem

/-- What one grid point of the token mixer reads: its input blocks and the carried scratch rows. -/
structure In where
  x0 : Vec Ideal S1x512x1024 .f32
  x1 : Vec Ideal S1x1x4x128 .i32
  x2 : Vec Ideal S256x256 .bf16
  x3 : Vec Ideal S256x256 .bf16
  x4 : Vec Ideal S1x128 .f32
  x5 : Vec Ideal S1x1024 .f32
  x6 : Vec Ideal S1024x7168 .bf16
  x7 : Vec Ideal S2x1024 .f32
  x8 : Vec Ideal S1x1024 .f32
  x9 : Vec Ideal S1024x1024 .bf16
  x10 : Vec Ideal S4x1024 .f32
  x11 : Vec Ideal S1x1024 .f32
  x12 : Vec Ideal S4x256x512 .bf16
  x13 : Vec Ideal S1x1024 .f32
  x14 : Vec Ideal S1x1024 .f32
  x15 : Vec Ideal S1x1024 .f32
  x16 : Vec Ideal S1024x1024 .bf16
  x17 : Vec Ideal S1024x1024 .bf16
  x18 : Vec Ideal S4x256x256 .f32
  x19 : Vec Ideal S256x512 .f32
  x20 : Vec Ideal S256x512 .f32
  z0 : Vec Ideal S1x128x256 .f32
  z1 : Vec Ideal S1x128x256 .f32
  z2 : Vec Ideal S1x128x256 .f32
  z3 : Vec Ideal S1x128x256 .f32
  zh : Vec Ideal S1x1024 .f32
  zx : Vec Ideal S24x1024 .f32

def s_v4 (I : In) : FVec Ideal S512x1024 .f32 := k0_pay5 (F := Ideal) I.x0

def s_v30 (I : In) : FVec Ideal S512x1024 .bf16 := k0_pay6 (F := Ideal) I.x0 I.x5 I.x2 I.x2

def l_v502 (I : In) : Vec Ideal S1024x1024 .bf16 := View.ld I.x6 (Rect.unit (s := S1024x7168) ![0, 4096] S1024x1024.size inb_S1024x7168_S1024x1024_0_4096)

def s_v504 (I : In) : FVec Ideal S512x1024 .f32 := k0_pay102 (F := Ideal) (s_v30 I) (l_v502 I)

def l_v191 (I : In) : Vec Ideal S1024x1024 .bf16 := View.ld I.x6 (Rect.unit (s := S1024x7168) ![0, 3072] S1024x1024.size inb_S1024x7168_S1024x1024_0_3072)

def s_v193 (I : In) : FVec Ideal S512x1024 .f32 := k0_pay34 (F := Ideal) (s_v30 I) (l_v191 I)

def s_v306 (I : In) : FVec Ideal S256x1024 .f32 := k0_pay70 (F := Ideal) (s_v193 I)

def l_v307 (I : In) : Vec Ideal S1x1024 .f32 := View.ld I.x10 (Rect.unit (s := S4x1024) ![3, 0] S1x1024.size inb_S4x1024_S1x1024_3_0)

def l_v325 (I : In) : Vec Ideal S1x1024 .f32 := View.ld I.x10 (Rect.unit (s := S4x1024) ![2, 0] S1x1024.size inb_S4x1024_S1x1024_2_0)

def s_v329 (I : In) : FVec Ideal S256x1024 .f32 := k0_pay71 (F := Ideal) I.zx (s_v193 I) (l_v307 I) I.x11 (l_v325 I)

def s_v337 (I : In) : FVec Ideal S8x1024 .f32 := k0_pay73 (F := Ideal) I.zx (s_v193 I)

def s_v342 (I : In) : FVec Ideal S8x1024 .f32 := k0_pay74 (F := Ideal) I.zx (s_v193 I)

def s_v343 (I : In) : FVec Ideal S240x1024 .f32 := k0_pay75 (F := Ideal) (s_v193 I)

def l_v345 (I : In) : Vec Ideal S1x1024 .f32 := View.ld I.x10 (Rect.unit (s := S4x1024) ![1, 0] S1x1024.size inb_S4x1024_S1x1024_1_0)

def l_v370 (I : In) : Vec Ideal S1x1024 .f32 := View.ld I.x10 (Rect.unit (s := S4x1024) ![0, 0] S1x1024.size inb_S4x1024_S1x1024_0_0)

def s_v374 (I : In) : FVec Ideal S256x1024 .f32 := k0_pay76 (F := Ideal) I.zx (s_v306 I) (s_v329 I) (s_v337 I) (s_v342 I) (s_v343 I) (l_v345 I) (l_v370 I)

def s_v375 (I : In) : FVec Ideal S24x1024 .f32 := k0_pay77 (F := Ideal) (s_v306 I)

def s_v376 (I : In) : FVec Ideal S256x1024 .f32 := k0_pay78 (F := Ideal) (s_v193 I)

def l_v377 (I : In) : Vec Ideal S1x1024 .f32 := View.ld I.x10 (Rect.unit (s := S4x1024) ![3, 0] S1x1024.size inb_S4x1024_S1x1024_3_0)

def s_v384 (I : In) : FVec Ideal S256x1024 .f32 := k0_pay79 (F := Ideal) (s_v193 I) (l_v377 I) I.x11

def s_v387 (I : In) : IVec S8x1024 1 := k0_pay80

def l_v395 (I : In) : Vec Ideal S1x1024 .f32 := View.ld I.x10 (Rect.unit (s := S4x1024) ![2, 0] S1x1024.size inb_S4x1024_S1x1024_2_0)

def l_v415 (I : In) : Vec Ideal S1x1024 .f32 := View.ld I.x10 (Rect.unit (s := S4x1024) ![1, 0] S1x1024.size inb_S4x1024_S1x1024_1_0)

def s_v419 (I : In) : FVec Ideal S256x1024 .f32 := k0_pay81 (F := Ideal) (s_v375 I) (s_v376 I) (s_v384 I) (s_v387 I) (l_v395 I) (l_v415 I)

def s_v422 (I : In) : IVec S8x1024 1 := k0_pay82

def s_v427 (I : In) : FVec Ideal S8x1024 .f32 := k0_pay83 (F := Ideal) (s_v375 I) (s_v376 I)

def s_v430 (I : In) : FVec Ideal S8x1024 .f32 := k0_pay84 (F := Ideal) (s_v375 I)

def s_v431 (I : In) : FVec Ideal S8x1024 .f32 := k0_pay85 (F := Ideal) (s_v376 I)

def l_v440 (I : In) : Vec Ideal S1x1024 .f32 := View.ld I.x10 (Rect.unit (s := S4x1024) ![0, 0] S1x1024.size inb_S4x1024_S1x1024_0_0)

def s_v446 (I : In) : FVec Ideal S512x1024 .f32 := k0_pay87 (F := Ideal) (s_v374 I) (s_v375 I) (s_v376 I) (s_v419 I) (s_v422 I) (s_v427 I) (s_v430 I) (s_v431 I) (l_v440 I)

def l_v484 (I : In) : Vec Ideal S1x256x512 .bf16 := View.ld I.x12 (Rect.unit (s := S4x256x512) ![0, 0, 0] S1x256x512.size inb_S4x256x512_S1x256x512_0_0_0)

def s_v486 (I : In) : FVec Ideal S512x512 .f32 := k0_pay98 (F := Ideal) (s_v446 I) (l_v484 I)

def l_v489 (I : In) : Vec Ideal S1x256x512 .bf16 := View.ld I.x12 (Rect.unit (s := S4x256x512) ![1, 0, 0] S1x256x512.size inb_S4x256x512_S1x256x512_1_0_0)

def s_v491 (I : In) : FVec Ideal S512x512 .f32 := k0_pay99 (F := Ideal) (s_v446 I) (l_v489 I)

def l_v494 (I : In) : Vec Ideal S1x256x512 .bf16 := View.ld I.x12 (Rect.unit (s := S4x256x512) ![2, 0, 0] S1x256x512.size inb_S4x256x512_S1x256x512_2_0_0)

def s_v496 (I : In) : FVec Ideal S512x512 .f32 := k0_pay100 (F := Ideal) (s_v446 I) (l_v494 I)

def l_v499 (I : In) : Vec Ideal S1x256x512 .bf16 := View.ld I.x12 (Rect.unit (s := S4x256x512) ![3, 0, 0] S1x256x512.size inb_S4x256x512_S1x256x512_3_0_0)

def s_v501 (I : In) : FVec Ideal S512x512 .f32 := k0_pay101 (F := Ideal) (s_v446 I) (l_v499 I)

def s_v616 (I : In) : FVec Ideal S512x1024 .f32 := k0_pay128 (F := Ideal) (s_v486 I) (s_v491 I) (s_v496 I) (s_v501 I) I.x13

def s_v634 (I : In) : FVec Ideal S1x1024 .f32 := k0_pay130 (F := Ideal) I.x15

def s_v649 (I : In) : FVec Ideal S512x1024 .f32 := k0_pay131 (F := Ideal) (s_v616 I) (s_v634 I)

def s_v753 (I : In) : FVec Ideal S256x1024 .f32 := k0_pay139 (F := Ideal) (s_v649 I)

def s_v632 (I : In) : FVec Ideal S512x1024 .f32 := k0_pay129 (F := Ideal) (s_v486 I) (s_v491 I) (s_v496 I) (s_v501 I) I.x14

def s_v660 (I : In) : FVec Ideal S512x1024 .f32 := k0_pay132 (F := Ideal) (s_v446 I) (s_v616 I) (s_v632 I) (s_v634 I)

def s_v754 (I : In) : FVec Ideal S256x1024 .f32 := k0_pay140 (F := Ideal) (s_v660 I)

def s_v775 (I : In) : FVec Ideal S8x1024 .f32 := k0_pay145 (F := Ideal) (s_v649 I) (s_v660 I)

def s_v777 (I : In) : FVec Ideal S8x1024 .f32 := k0_pay147 (F := Ideal) (s_v649 I)

def s_v835 (I : In) : FVec Ideal S8x1024 .f32 := k0_pay159 (F := Ideal) (s_v753 I) (s_v754 I) (s_v775 I) (s_v777 I)

def s_v837 (I : In) : FVec Ideal S8x1024 .f32 := k0_pay161 (F := Ideal) (s_v753 I)

def s_v895 (I : In) : FVec Ideal S8x1024 .f32 := k0_pay173 (F := Ideal) (s_v753 I) (s_v754 I) (s_v835 I) (s_v837 I)

def s_v776 (I : In) : FVec Ideal S8x1024 .f32 := k0_pay146 (F := Ideal) (s_v649 I)

def s_v836 (I : In) : FVec Ideal S8x1024 .f32 := k0_pay160 (F := Ideal) (s_v753 I) (s_v776 I) (s_v777 I)

def s_v896 (I : In) : FVec Ideal S8x1024 .f32 := k0_pay174 (F := Ideal) (s_v753 I) (s_v836 I) (s_v837 I)

def s_v897 (I : In) : FVec Ideal S8x1024 .f32 := k0_pay175 (F := Ideal) (s_v753 I)

def s_v938 (I : In) : FVec Ideal S8x1024 .f32 := k0_pay183 (F := Ideal) (s_v753 I) (s_v754 I) (s_v895 I) (s_v896 I) (s_v897 I)

def s_v939 (I : In) : FVec Ideal S8x1024 .f32 := k0_pay184 (F := Ideal) (s_v753 I) (s_v896 I) (s_v897 I)

def s_v941 (I : In) : IVec S8x1024 1 := k0_pay185

def s_v944 (I : In) : FVec Ideal S8x1024 .f32 := k0_pay186 (F := Ideal) (s_v753 I) (s_v896 I) (s_v897 I)

def s_v963 (I : In) : FVec Ideal S8x1024 .f32 := k0_pay188 (F := Ideal) I.zh (s_v753 I) (s_v754 I) (iota .tc S8x1024 32 [0] iota_S8x1024_d0_w32) (s_v938 I) (s_v939 I) (s_v941 I) (s_v944 I)

def s_v967 (I : In) : FVec Ideal S8x1024 .f32 := k0_pay189 (F := Ideal) I.zh (s_v753 I) (s_v754 I) (iota .tc S8x1024 32 [0] iota_S8x1024_d0_w32) (s_v938 I) (s_v939 I) (s_v941 I) (s_v944 I)

def s_v971 (I : In) : FVec Ideal S8x1024 .f32 := k0_pay190 (F := Ideal) I.zh (s_v753 I) (s_v754 I) (iota .tc S8x1024 32 [0] iota_S8x1024_d0_w32) (s_v938 I) (s_v939 I) (s_v941 I) (s_v944 I)

def s_v975 (I : In) : FVec Ideal S8x1024 .f32 := k0_pay191 (F := Ideal) I.zh (s_v753 I) (s_v754 I) (iota .tc S8x1024 32 [0] iota_S8x1024_d0_w32) (s_v938 I) (s_v939 I) (s_v941 I) (s_v944 I)

def s_v979 (I : In) : FVec Ideal S8x1024 .f32 := k0_pay192 (F := Ideal) I.zh (s_v753 I) (s_v754 I) (iota .tc S8x1024 32 [0] iota_S8x1024_d0_w32) (s_v938 I) (s_v939 I) (s_v941 I) (s_v944 I)

def s_v983 (I : In) : FVec Ideal S8x1024 .f32 := k0_pay193 (F := Ideal) I.zh (s_v753 I) (s_v754 I) (iota .tc S8x1024 32 [0] iota_S8x1024_d0_w32) (s_v938 I) (s_v939 I) (s_v941 I) (s_v944 I)

def s_v987 (I : In) : FVec Ideal S8x1024 .f32 := k0_pay194 (F := Ideal) I.zh (s_v753 I) (s_v754 I) (iota .tc S8x1024 32 [0] iota_S8x1024_d0_w32) (s_v938 I) (s_v939 I) (s_v941 I) (s_v944 I)

def s_v991 (I : In) : FVec Ideal S8x1024 .f32 := k0_pay195 (F := Ideal) I.zh (s_v753 I) (s_v754 I) (iota .tc S8x1024 32 [0] iota_S8x1024_d0_w32) (s_v938 I) (s_v939 I) (s_v941 I) (s_v944 I)

def s_v995 (I : In) : FVec Ideal S8x1024 .f32 := k0_pay196 (F := Ideal) I.zh (s_v753 I) (s_v754 I) (iota .tc S8x1024 32 [0] iota_S8x1024_d0_w32) (s_v938 I) (s_v939 I) (s_v941 I) (s_v944 I)

def s_v999 (I : In) : FVec Ideal S8x1024 .f32 := k0_pay197 (F := Ideal) I.zh (s_v753 I) (s_v754 I) (iota .tc S8x1024 32 [0] iota_S8x1024_d0_w32) (s_v938 I) (s_v939 I) (s_v941 I) (s_v944 I)

def s_v1000 (I : In) : FVec Ideal S8x1024 .f32 := k0_pay198 (F := Ideal) (s_v753 I)

def s_v1003 (I : In) : FVec Ideal S8x1024 .f32 := k0_pay199 (F := Ideal) (s_v754 I) (s_v999 I) (s_v1000 I)

def s_v1007 (I : In) : FVec Ideal S8x1024 .f32 := k0_pay200 (F := Ideal) (s_v753 I) (s_v754 I) (s_v999 I) (s_v1000 I)

def s_v1011 (I : In) : FVec Ideal S8x1024 .f32 := k0_pay201 (F := Ideal) (s_v753 I) (s_v754 I) (s_v999 I) (s_v1000 I)

def s_v1015 (I : In) : FVec Ideal S8x1024 .f32 := k0_pay202 (F := Ideal) (s_v753 I) (s_v754 I) (s_v999 I) (s_v1000 I)

def s_v1019 (I : In) : FVec Ideal S8x1024 .f32 := k0_pay203 (F := Ideal) (s_v753 I) (s_v754 I) (s_v999 I) (s_v1000 I)

def s_v1023 (I : In) : FVec Ideal S8x1024 .f32 := k0_pay204 (F := Ideal) (s_v753 I) (s_v754 I) (s_v999 I) (s_v1000 I)

def s_v1027 (I : In) : FVec Ideal S8x1024 .f32 := k0_pay205 (F := Ideal) (s_v753 I) (s_v754 I) (s_v999 I) (s_v1000 I)

def s_v1031 (I : In) : FVec Ideal S8x1024 .f32 := k0_pay206 (F := Ideal) (s_v753 I) (s_v754 I) (s_v999 I) (s_v1000 I)

def s_v1035 (I : In) : FVec Ideal S8x1024 .f32 := k0_pay207 (F := Ideal) (s_v753 I) (s_v754 I) (s_v999 I) (s_v1000 I)

def s_v1039 (I : In) : FVec Ideal S8x1024 .f32 := k0_pay208 (F := Ideal) (s_v753 I) (s_v754 I) (s_v999 I) (s_v1000 I)

def s_v1043 (I : In) : FVec Ideal S8x1024 .f32 := k0_pay209 (F := Ideal) (s_v753 I) (s_v754 I) (s_v999 I) (s_v1000 I)

def s_v1047 (I : In) : FVec Ideal S8x1024 .f32 := k0_pay210 (F := Ideal) (s_v753 I) (s_v754 I) (s_v999 I) (s_v1000 I)

def s_v1051 (I : In) : FVec Ideal S8x1024 .f32 := k0_pay211 (F := Ideal) (s_v753 I) (s_v754 I) (s_v999 I) (s_v1000 I)

def s_v1055 (I : In) : FVec Ideal S8x1024 .f32 := k0_pay212 (F := Ideal) (s_v753 I) (s_v754 I) (s_v999 I) (s_v1000 I)

def s_v1059 (I : In) : FVec Ideal S8x1024 .f32 := k0_pay213 (F := Ideal) (s_v753 I) (s_v754 I) (s_v999 I) (s_v1000 I)

def s_v1060 (I : In) : FVec Ideal S8x1024 .f32 := k0_pay214 (F := Ideal) (s_v753 I)

def s_v1088 (I : In) : FVec Ideal S256x1024 .f32 := k0_pay215 (F := Ideal) (s_v753 I) (s_v754 I) (s_v963 I) (s_v967 I) (s_v971 I) (s_v975 I) (s_v979 I) (s_v983 I) (s_v987 I) (s_v991 I) (s_v995 I) (s_v999 I) (s_v1003 I) (s_v1007 I) (s_v1011 I) (s_v1015 I) (s_v1019 I) (s_v1023 I) (s_v1027 I) (s_v1031 I) (s_v1035 I) (s_v1039 I) (s_v1043 I) (s_v1047 I) (s_v1051 I) (s_v1055 I) (s_v1059 I) (s_v1060 I)

def s_v1090 (I : In) : FVec Ideal S256x1024 .f32 := k0_pay217 (F := Ideal) (s_v649 I)

def s_v1091 (I : In) : FVec Ideal S256x1024 .f32 := k0_pay218 (F := Ideal) (s_v660 I)

def s_v953 (I : In) : FVec Ideal S8x1024 .f32 := k0_pay187 (F := Ideal) I.zh (s_v938 I) (s_v939 I) (s_v941 I) (s_v944 I)

def s_v1089 (I : In) : FVec Ideal S1x1024 .f32 := k0_pay216 (F := Ideal) (s_v953 I)

def s_v1117 (I : In) : FVec Ideal S8x1024 .f32 := k0_pay224 (F := Ideal) (s_v649 I) (s_v660 I)

def s_v1177 (I : In) : FVec Ideal S8x1024 .f32 := k0_pay238 (F := Ideal) (s_v1090 I) (s_v1091 I) (s_v1117 I)

def s_v1237 (I : In) : FVec Ideal S8x1024 .f32 := k0_pay252 (F := Ideal) (s_v1090 I) (s_v1091 I) (s_v1177 I)

def s_v1118 (I : In) : FVec Ideal S8x1024 .f32 := k0_pay225 (F := Ideal) (s_v649 I)

def s_v1178 (I : In) : FVec Ideal S8x1024 .f32 := k0_pay239 (F := Ideal) (s_v1090 I) (s_v1118 I)

def s_v1238 (I : In) : FVec Ideal S8x1024 .f32 := k0_pay253 (F := Ideal) (s_v1090 I) (s_v1178 I)

def s_v1275 (I : In) : FVec Ideal S8x1024 .f32 := k0_pay261 (F := Ideal) (s_v1090 I) (s_v1091 I) (s_v1237 I) (s_v1238 I)

def s_v1276 (I : In) : FVec Ideal S8x1024 .f32 := k0_pay262 (F := Ideal) (s_v1090 I) (s_v1238 I)

def s_v1278 (I : In) : IVec S8x1024 1 := k0_pay263

def s_v1281 (I : In) : FVec Ideal S8x1024 .f32 := k0_pay264 (F := Ideal) (s_v1090 I) (s_v1238 I)

def s_v1282 (I : In) : FVec Ideal S8x1024 .f32 := k0_pay265 (F := Ideal) (s_v1090 I) (s_v1091 I) (s_v1237 I) (s_v1238 I)

def s_v1283 (I : In) : FVec Ideal S8x1024 .f32 := k0_pay266 (F := Ideal)

def s_v1300 (I : In) : FVec Ideal S8x1024 .f32 := k0_pay268 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1304 (I : In) : FVec Ideal S8x1024 .f32 := k0_pay269 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1308 (I : In) : FVec Ideal S8x1024 .f32 := k0_pay270 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1312 (I : In) : FVec Ideal S8x1024 .f32 := k0_pay271 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1316 (I : In) : FVec Ideal S8x1024 .f32 := k0_pay272 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1320 (I : In) : FVec Ideal S8x1024 .f32 := k0_pay273 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1324 (I : In) : FVec Ideal S8x1024 .f32 := k0_pay274 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1328 (I : In) : FVec Ideal S8x1024 .f32 := k0_pay275 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1332 (I : In) : FVec Ideal S8x1024 .f32 := k0_pay276 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1336 (I : In) : FVec Ideal S8x1024 .f32 := k0_pay277 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1340 (I : In) : FVec Ideal S8x1024 .f32 := k0_pay278 (F := Ideal) (s_v1089 I) (s_v1090 I) (s_v1091 I) (iota .tc S8x1024 32 [0] iota_S8x1024_d0_w32) (s_v1275 I) (s_v1276 I) (s_v1278 I) (s_v1281 I) (s_v1282 I) (s_v1283 I)

def s_v1341 (I : In) : FVec Ideal S8x1024 .f32 := k0_pay279 (F := Ideal) (s_v1090 I)

def s_v1344 (I : In) : FVec Ideal S8x1024 .f32 := k0_pay280 (F := Ideal) (s_v1091 I) (s_v1340 I) (s_v1341 I)

def s_v1348 (I : In) : FVec Ideal S8x1024 .f32 := k0_pay281 (F := Ideal) (s_v1090 I) (s_v1091 I) (s_v1340 I) (s_v1341 I)

def s_v1352 (I : In) : FVec Ideal S8x1024 .f32 := k0_pay282 (F := Ideal) (s_v1090 I) (s_v1091 I) (s_v1340 I) (s_v1341 I)

def s_v1356 (I : In) : FVec Ideal S8x1024 .f32 := k0_pay283 (F := Ideal) (s_v1090 I) (s_v1091 I) (s_v1340 I) (s_v1341 I)

def s_v1360 (I : In) : FVec Ideal S8x1024 .f32 := k0_pay284 (F := Ideal) (s_v1090 I) (s_v1091 I) (s_v1340 I) (s_v1341 I)

def s_v1364 (I : In) : FVec Ideal S8x1024 .f32 := k0_pay285 (F := Ideal) (s_v1090 I) (s_v1091 I) (s_v1340 I) (s_v1341 I)

def s_v1368 (I : In) : FVec Ideal S8x1024 .f32 := k0_pay286 (F := Ideal) (s_v1090 I) (s_v1091 I) (s_v1340 I) (s_v1341 I)

def s_v1372 (I : In) : FVec Ideal S8x1024 .f32 := k0_pay287 (F := Ideal) (s_v1090 I) (s_v1091 I) (s_v1340 I) (s_v1341 I)

def s_v1376 (I : In) : FVec Ideal S8x1024 .f32 := k0_pay288 (F := Ideal) (s_v1090 I) (s_v1091 I) (s_v1340 I) (s_v1341 I)

def s_v1380 (I : In) : FVec Ideal S8x1024 .f32 := k0_pay289 (F := Ideal) (s_v1090 I) (s_v1091 I) (s_v1340 I) (s_v1341 I)

def s_v1384 (I : In) : FVec Ideal S8x1024 .f32 := k0_pay290 (F := Ideal) (s_v1090 I) (s_v1091 I) (s_v1340 I) (s_v1341 I)

def s_v1388 (I : In) : FVec Ideal S8x1024 .f32 := k0_pay291 (F := Ideal) (s_v1090 I) (s_v1091 I) (s_v1340 I) (s_v1341 I)

def s_v1392 (I : In) : FVec Ideal S8x1024 .f32 := k0_pay292 (F := Ideal) (s_v1090 I) (s_v1091 I) (s_v1340 I) (s_v1341 I)

def s_v1396 (I : In) : FVec Ideal S8x1024 .f32 := k0_pay293 (F := Ideal) (s_v1090 I) (s_v1091 I) (s_v1340 I) (s_v1341 I)

def s_v1400 (I : In) : FVec Ideal S8x1024 .f32 := k0_pay294 (F := Ideal) (s_v1090 I) (s_v1091 I) (s_v1340 I) (s_v1341 I)

def s_v1401 (I : In) : FVec Ideal S8x1024 .f32 := k0_pay295 (F := Ideal) (s_v1090 I)

def s_v1442 (I : In) : FVec Ideal S512x1024 .bf16 := k0_pay297 (F := Ideal) (s_v504 I) (s_v1088 I) (s_v1090 I) (s_v1091 I) (s_v1300 I) (s_v1304 I) (s_v1308 I) (s_v1312 I) (s_v1316 I) (s_v1320 I) (s_v1324 I) (s_v1328 I) (s_v1332 I) (s_v1336 I) (s_v1340 I) (s_v1344 I) (s_v1348 I) (s_v1352 I) (s_v1356 I) (s_v1360 I) (s_v1364 I) (s_v1368 I) (s_v1372 I) (s_v1376 I) (s_v1380 I) (s_v1384 I) (s_v1388 I) (s_v1392 I) (s_v1396 I) (s_v1400 I) (s_v1401 I)

def l_v479 (I : In) : Vec Ideal S1024x1024 .bf16 := View.ld I.x6 (Rect.unit (s := S1024x7168) ![0, 2048] S1024x1024.size inb_S1024x7168_S1024x1024_0_2048)

def s_v481 (I : In) : FVec Ideal S512x1024 .f32 := k0_pay97 (F := Ideal) (s_v30 I) (l_v479 I)

def s_v600 (I : In) : FVec Ideal S512x1024 .f32 := k0_pay127 (F := Ideal) (s_v481 I)

def s_v130 (I : In) : FVec Ideal S128x256 .f32 := k0_pay20 (F := Ideal) I.z0

def l_v187 (I : In) : Vec Ideal S1024x1024 .bf16 := View.ld I.x6 (Rect.unit (s := S1024x7168) ![0, 1024] S1024x1024.size inb_S1024x7168_S1024x1024_0_1024)

def s_v190 (I : In) : FVec Ideal S512x1024 .bf16 := k0_pay33 (F := Ideal) (s_v30 I) (l_v187 I)

def s_v33 (I : In) : FVec Ideal S4x128 .f32 := k0_pay7 (F := Ideal) I.x1

def s_v36 (I : In) : IVec S128x128 1 := k0_pay8

def s_v65 (I : In) : FVec Ideal S512x1 .f32 := k0_pay9 (F := Ideal) (s_v33 I) (s_v36 I)

def s_v71 (I : In) : IVec S128x128 1 := k0_pay10

def s_v81 (I : In) : FVec Ideal S128x128 .f32 := k0_pay12 (F := Ideal) (s_v33 I) (s_v36 I) I.x4

def s_v83 (I : In) : FVec Ideal S128x128 .f32 := k0_pay14 (F := Ideal) (s_v33 I) (s_v36 I) I.x4

def s_v124 (I : In) : FVec Ideal S512x128 .f32 := k0_pay17 (F := Ideal) (s_v65 I) (s_v71 I) (s_v81 I) (s_v83 I) I.x4

def s_v82 (I : In) : FVec Ideal S128x128 .f32 := k0_pay13 (F := Ideal) (s_v33 I) (s_v36 I) I.x4

def s_v125 (I : In) : FVec Ideal S512x128 .f32 := k0_pay18 (F := Ideal) (s_v65 I) (s_v71 I) (s_v82 I) 64#32 I.x4

def l_v126 (I : In) : Vec Ideal S1024x1024 .bf16 := View.ld I.x6 (Rect.unit (s := S1024x7168) ![0, 0] S1024x1024.size inb_S1024x7168_S1024x1024_0_0)

def s_v128 (I : In) : FVec Ideal S512x1024 .f32 := k0_pay19 (F := Ideal) (s_v30 I) (l_v126 I)

def s_v144 (I : In) : FVec Ideal S512x128 .f32 := k0_pay24 (F := Ideal) (s_v124 I) (s_v125 I) (s_v128 I)

def l_v203 (I : In) : Vec Ideal S256x128 .f32 := View.ld I.x19 (Rect.unit (s := S256x512) ![0, 0] S256x128.size inb_S256x512_S256x128_0_0)

def s_v206 (I : In) : FVec Ideal S256x128 .bf16 := k0_pay39 (F := Ideal) (s_v144 I) (l_v203 I)

def l_v208 (I : In) : Vec Ideal S256x128 .f32 := View.ld I.x19 (Rect.unit (s := S256x512) ![0, 0] S256x128.size inb_S256x512_S256x128_0_0)

def s_v211 (I : In) : FVec Ideal S256x128 .bf16 := k0_pay40 (F := Ideal) (s_v144 I) (l_v208 I)

def s_v150 (I : In) : FVec Ideal S512x128 .f32 := k0_pay25 (F := Ideal) (s_v124 I) (s_v125 I) (s_v128 I)

def l_v213 (I : In) : Vec Ideal S256x128 .f32 := View.ld I.x20 (Rect.unit (s := S256x512) ![0, 0] S256x128.size inb_S256x512_S256x128_0_0)

def s_v216 (I : In) : FVec Ideal S256x128 .bf16 := k0_pay41 (F := Ideal) (s_v150 I) (l_v213 I)

def s_v198 (I : In) : FVec Ideal S256x256 .f32 := k0_pay37 (F := Ideal) (s_v144 I) (s_v150 I)

def l_v447 (I : In) : Vec Ideal S1x256x256 .f32 := View.ld I.x18 (Rect.unit (s := S4x256x256) ![0, 0, 0] S1x256x256.size inb_S4x256x256_S1x256x256_0_0_0)

def s_v450 (I : In) : FVec Ideal S256x256 .bf16 := k0_pay88 (F := Ideal) (s_v198 I) (l_v447 I)

def s_v201 (I : In) : FVec Ideal S256x256 .f32 := k0_pay38 (F := Ideal) (s_v144 I) (s_v150 I)

def l_v451 (I : In) : Vec Ideal S1x256x256 .f32 := View.ld I.x18 (Rect.unit (s := S4x256x256) ![0, 0, 0] S1x256x256.size inb_S4x256x256_S1x256x256_0_0_0)

def s_v454 (I : In) : FVec Ideal S256x256 .bf16 := k0_pay89 (F := Ideal) (s_v201 I) (l_v451 I)

def s_v526 (I : In) : FVec Ideal S512x256 .f32 := k0_pay106 (F := Ideal) (s_v130 I) (s_v190 I) (s_v206 I) (s_v211 I) (s_v216 I) (s_v450 I) (s_v454 I)

def l_v677 (I : In) : Vec Ideal S1x256 .f32 := View.ld I.x8 (Rect.unit (s := S1x1024) ![0, 0] S1x256.size inb_S1x1024_S1x256_0_0)

def s_v680 (I : In) : FVec Ideal S512x256 .f32 := k0_pay133 (F := Ideal) (s_v526 I) (l_v677 I)

def s_v683 (I : In) : FVec Ideal S512x256 .bf16 := k0_pay134 (F := Ideal) (s_v600 I) (s_v680 I)

def s_v132 (I : In) : FVec Ideal S128x256 .f32 := k0_pay21 (F := Ideal) I.z1

def s_v156 (I : In) : FVec Ideal S512x128 .f32 := k0_pay26 (F := Ideal) (s_v124 I) (s_v125 I) (s_v128 I)

def l_v231 (I : In) : Vec Ideal S256x128 .f32 := View.ld I.x19 (Rect.unit (s := S256x512) ![0, 128] S256x128.size inb_S256x512_S256x128_0_128)

def s_v234 (I : In) : FVec Ideal S256x128 .bf16 := k0_pay47 (F := Ideal) (s_v156 I) (l_v231 I)

def s_v162 (I : In) : FVec Ideal S512x128 .f32 := k0_pay27 (F := Ideal) (s_v124 I) (s_v125 I) (s_v128 I)

def s_v226 (I : In) : FVec Ideal S256x256 .f32 := k0_pay45 (F := Ideal) (s_v156 I) (s_v162 I)

def l_v455 (I : In) : Vec Ideal S1x256x256 .f32 := View.ld I.x18 (Rect.unit (s := S4x256x256) ![1, 0, 0] S1x256x256.size inb_S4x256x256_S1x256x256_1_0_0)

def s_v458 (I : In) : FVec Ideal S256x256 .bf16 := k0_pay90 (F := Ideal) (s_v226 I) (l_v455 I)

def s_v532 (I : In) : FVec Ideal S256x256 .f32 := k0_pay108 (F := Ideal) (s_v132 I) (s_v190 I) (s_v234 I) (s_v458 I)

def l_v236 (I : In) : Vec Ideal S256x128 .f32 := View.ld I.x19 (Rect.unit (s := S256x512) ![0, 128] S256x128.size inb_S256x512_S256x128_0_128)

def s_v239 (I : In) : FVec Ideal S256x128 .bf16 := k0_pay48 (F := Ideal) (s_v156 I) (l_v236 I)

def l_v241 (I : In) : Vec Ideal S256x128 .f32 := View.ld I.x20 (Rect.unit (s := S256x512) ![0, 128] S256x128.size inb_S256x512_S256x128_0_128)

def s_v244 (I : In) : FVec Ideal S256x128 .bf16 := k0_pay49 (F := Ideal) (s_v162 I) (l_v241 I)

def s_v229 (I : In) : FVec Ideal S256x256 .f32 := k0_pay46 (F := Ideal) (s_v156 I) (s_v162 I)

def l_v459 (I : In) : Vec Ideal S1x256x256 .f32 := View.ld I.x18 (Rect.unit (s := S4x256x256) ![1, 0, 0] S1x256x256.size inb_S4x256x256_S1x256x256_1_0_0)

def s_v462 (I : In) : FVec Ideal S256x256 .bf16 := k0_pay91 (F := Ideal) (s_v229 I) (l_v459 I)

def s_v542 (I : In) : FVec Ideal S256x256 .f32 := k0_pay110 (F := Ideal) (s_v132 I) (s_v190 I) (s_v239 I) (s_v244 I) (s_v462 I)

def s_v548 (I : In) : FVec Ideal S512x256 .f32 := k0_pay114 (F := Ideal) (s_v532 I) (s_v542 I)

def l_v700 (I : In) : Vec Ideal S1x256 .f32 := View.ld I.x8 (Rect.unit (s := S1x1024) ![0, 256] S1x256.size inb_S1x1024_S1x256_0_256)

def s_v706 (I : In) : FVec Ideal S512x256 .bf16 := k0_pay135 (F := Ideal) (s_v548 I) (s_v600 I) (l_v700 I)

def s_v134 (I : In) : FVec Ideal S128x256 .f32 := k0_pay22 (F := Ideal) I.z2

def s_v168 (I : In) : FVec Ideal S512x128 .f32 := k0_pay29 (F := Ideal) (s_v124 I) (s_v125 I) (s_v128 I)

def l_v259 (I : In) : Vec Ideal S256x128 .f32 := View.ld I.x19 (Rect.unit (s := S256x512) ![0, 256] S256x128.size inb_S256x512_S256x128_0_256)

def s_v262 (I : In) : FVec Ideal S256x128 .bf16 := k0_pay57 (F := Ideal) (s_v168 I) (l_v259 I)

def l_v264 (I : In) : Vec Ideal S256x128 .f32 := View.ld I.x19 (Rect.unit (s := S256x512) ![0, 256] S256x128.size inb_S256x512_S256x128_0_256)

def s_v267 (I : In) : FVec Ideal S256x128 .bf16 := k0_pay58 (F := Ideal) (s_v168 I) (l_v264 I)

def s_v164 (I : In) : FVec Ideal S512x128 .f32 := k0_pay28 (F := Ideal) (s_v128 I)

def s_v174 (I : In) : FVec Ideal S512x128 .f32 := k0_pay30 (F := Ideal) (s_v124 I) (s_v125 I) (s_v164 I)

def l_v269 (I : In) : Vec Ideal S256x128 .f32 := View.ld I.x20 (Rect.unit (s := S256x512) ![0, 256] S256x128.size inb_S256x512_S256x128_0_256)

def s_v272 (I : In) : FVec Ideal S256x128 .bf16 := k0_pay59 (F := Ideal) (s_v174 I) (l_v269 I)

def s_v254 (I : In) : FVec Ideal S256x256 .f32 := k0_pay53 (F := Ideal) (s_v168 I) (s_v174 I)

def l_v463 (I : In) : Vec Ideal S1x256x256 .f32 := View.ld I.x18 (Rect.unit (s := S4x256x256) ![2, 0, 0] S1x256x256.size inb_S4x256x256_S1x256x256_2_0_0)

def s_v466 (I : In) : FVec Ideal S256x256 .bf16 := k0_pay92 (F := Ideal) (s_v254 I) (l_v463 I)

def s_v255 (I : In) : FVec Ideal S256x128 .bf16 := k0_pay54 (F := Ideal) (s_v168 I)

def s_v256 (I : In) : FVec Ideal S256x128 .bf16 := k0_pay55 (F := Ideal) (s_v174 I)

def s_v257 (I : In) : FVec Ideal S256x256 .f32 := k0_pay56 (F := Ideal) (s_v255 I) (s_v256 I)

def l_v467 (I : In) : Vec Ideal S1x256x256 .f32 := View.ld I.x18 (Rect.unit (s := S4x256x256) ![2, 0, 0] S1x256x256.size inb_S4x256x256_S1x256x256_2_0_0)

def s_v469 (I : In) : FVec Ideal S256x256 .f32 := k0_pay93 (F := Ideal) (s_v257 I) (l_v467 I)

def s_v470 (I : In) : FVec Ideal S256x256 .bf16 := k0_pay94 (F := Ideal) (s_v469 I)

def s_v570 (I : In) : FVec Ideal S512x256 .f32 := k0_pay118 (F := Ideal) (s_v134 I) (s_v190 I) (s_v262 I) (s_v267 I) (s_v272 I) (s_v466 I) (s_v470 I)

def l_v723 (I : In) : Vec Ideal S1x256 .f32 := View.ld I.x8 (Rect.unit (s := S1x1024) ![0, 512] S1x256.size inb_S1x1024_S1x256_0_512)

def s_v726 (I : In) : FVec Ideal S512x256 .f32 := k0_pay136 (F := Ideal) (s_v570 I) (l_v723 I)

def s_v729 (I : In) : FVec Ideal S512x256 .bf16 := k0_pay137 (F := Ideal) (s_v600 I) (s_v726 I)

def s_v136 (I : In) : FVec Ideal S128x256 .f32 := k0_pay23 (F := Ideal) I.z3

def s_v180 (I : In) : FVec Ideal S512x128 .f32 := k0_pay31 (F := Ideal) (s_v124 I) (s_v125 I) (s_v128 I)

def l_v287 (I : In) : Vec Ideal S256x128 .f32 := View.ld I.x19 (Rect.unit (s := S256x512) ![0, 384] S256x128.size inb_S256x512_S256x128_0_384)

def s_v290 (I : In) : FVec Ideal S256x128 .bf16 := k0_pay65 (F := Ideal) (s_v180 I) (l_v287 I)

def s_v186 (I : In) : FVec Ideal S512x128 .f32 := k0_pay32 (F := Ideal) (s_v124 I) (s_v125 I) (s_v128 I)

def s_v282 (I : In) : FVec Ideal S256x256 .f32 := k0_pay63 (F := Ideal) (s_v180 I) (s_v186 I)

def l_v471 (I : In) : Vec Ideal S1x256x256 .f32 := View.ld I.x18 (Rect.unit (s := S4x256x256) ![3, 0, 0] S1x256x256.size inb_S4x256x256_S1x256x256_3_0_0)

def s_v474 (I : In) : FVec Ideal S256x256 .bf16 := k0_pay95 (F := Ideal) (s_v282 I) (l_v471 I)

def s_v576 (I : In) : FVec Ideal S256x256 .f32 := k0_pay120 (F := Ideal) (s_v136 I) (s_v190 I) (s_v290 I) (s_v474 I)

def l_v292 (I : In) : Vec Ideal S256x128 .f32 := View.ld I.x19 (Rect.unit (s := S256x512) ![0, 384] S256x128.size inb_S256x512_S256x128_0_384)

def s_v295 (I : In) : FVec Ideal S256x128 .bf16 := k0_pay66 (F := Ideal) (s_v180 I) (l_v292 I)

def l_v297 (I : In) : Vec Ideal S256x128 .f32 := View.ld I.x20 (Rect.unit (s := S256x512) ![0, 384] S256x128.size inb_S256x512_S256x128_0_384)

def s_v299 (I : In) : FVec Ideal S256x128 .f32 := k0_pay67 (F := Ideal) (s_v186 I) (l_v297 I)

def s_v300 (I : In) : FVec Ideal S256x128 .bf16 := k0_pay68 (F := Ideal) (s_v299 I)

def s_v285 (I : In) : FVec Ideal S256x256 .f32 := k0_pay64 (F := Ideal) (s_v180 I) (s_v186 I)

def l_v475 (I : In) : Vec Ideal S1x256x256 .f32 := View.ld I.x18 (Rect.unit (s := S4x256x256) ![3, 0, 0] S1x256x256.size inb_S4x256x256_S1x256x256_3_0_0)

def s_v478 (I : In) : FVec Ideal S256x256 .bf16 := k0_pay96 (F := Ideal) (s_v285 I) (l_v475 I)

def s_v586 (I : In) : FVec Ideal S256x256 .f32 := k0_pay122 (F := Ideal) (s_v136 I) (s_v190 I) (s_v295 I) (s_v300 I) (s_v478 I)

def s_v592 (I : In) : FVec Ideal S512x256 .f32 := k0_pay126 (F := Ideal) (s_v576 I) (s_v586 I)

def l_v746 (I : In) : Vec Ideal S1x256 .f32 := View.ld I.x8 (Rect.unit (s := S1x1024) ![0, 768] S1x256.size inb_S1x1024_S1x256_0_768)

def s_v752 (I : In) : FVec Ideal S512x256 .bf16 := k0_pay138 (F := Ideal) (s_v592 I) (s_v600 I) (l_v746 I)

def s_v1443 (I : In) : FVec Ideal S512x1024 .bf16 := k0_pay298 (F := Ideal) (s_v683 I) (s_v706 I) (s_v729 I) (s_v752 I)

def l_v1462 (I : In) : Vec Ideal S1024x2048 .bf16 := View.ld I.x6 (Rect.unit (s := S1024x7168) ![0, 5120] S1024x2048.size inb_S1024x7168_S1024x2048_0_5120)

def l_v1466 (I : In) : Vec Ideal S1x1024 .f32 := View.ld I.x7 (Rect.unit (s := S2x1024) ![0, 0] S1x1024.size inb_S2x1024_S1x1024_0_0)

def s_v1476 (I : In) : FVec Ideal S512x1024 .f32 := k0_pay306 (F := Ideal) (s_v30 I) (l_v1462 I) (l_v1466 I)

def l_v1478 (I : In) : Vec Ideal S1x1024 .f32 := View.ld I.x7 (Rect.unit (s := S2x1024) ![1, 0] S1x1024.size inb_S2x1024_S1x1024_1_0)

def s_v1484 (I : In) : FVec Ideal S512x1024 .f32 := k0_pay307 (F := Ideal) (s_v30 I) (l_v1462 I) (l_v1478 I)

def s_v1498 (I : In) : FVec Ideal S512x1024 .bf16 := k0_pay308 (F := Ideal) (s_v1442 I) (s_v1443 I) (s_v1476 I) (s_v1484 I) I.x9 I.x16

def s_v1502 (I : In) : FVec Ideal S256x1024 .f32 := k0_pay309 (F := Ideal) (s_v1442 I) (s_v1443 I) (s_v1476 I) (s_v1484 I) I.x9 I.x16 I.x3

def s_v1516 (I : In) : FVec Ideal S1x512x1024 .f32 := k0_pay1 (F := Ideal) (s_v4 I) (s_v1498 I) (s_v1502 I) I.x3 I.x17

def s_v80 (I : In) : FVec Ideal S128x128 .f32 := k0_pay11 (F := Ideal) (s_v33 I) (s_v36 I) I.x4

def s_v100 (I : In) : IVec S128x128 1 := k0_pay15

def s_v109 (I : In) : FVec Ideal S128x128 .f32 := k0_pay16 (F := Ideal) (s_v65 I) I.x4

def s_v194 (I : In) : FVec Ideal S512x128 .bf16 := k0_pay35 (F := Ideal) (s_v144 I)

def s_v195 (I : In) : FVec Ideal S512x128 .bf16 := k0_pay36 (F := Ideal) (s_v150 I)

def l_v218 (I : In) : Vec Ideal S256x128 .f32 := View.ld I.x20 (Rect.unit (s := S256x512) ![0, 0] S256x128.size inb_S256x512_S256x128_0_0)

def s_v221 (I : In) : FVec Ideal S256x128 .bf16 := k0_pay42 (F := Ideal) (s_v150 I) (l_v218 I)

def s_v222 (I : In) : FVec Ideal S512x128 .bf16 := k0_pay43 (F := Ideal) (s_v156 I)

def s_v223 (I : In) : FVec Ideal S512x128 .bf16 := k0_pay44 (F := Ideal) (s_v162 I)

def l_v246 (I : In) : Vec Ideal S256x128 .f32 := View.ld I.x20 (Rect.unit (s := S256x512) ![0, 128] S256x128.size inb_S256x512_S256x128_0_128)

def s_v249 (I : In) : FVec Ideal S256x128 .bf16 := k0_pay50 (F := Ideal) (s_v162 I) (l_v246 I)

def s_v250 (I : In) : FVec Ideal S512x128 .bf16 := k0_pay51 (F := Ideal) (s_v168 I)

def s_v251 (I : In) : FVec Ideal S512x128 .bf16 := k0_pay52 (F := Ideal) (s_v174 I)

def l_v274 (I : In) : Vec Ideal S256x128 .f32 := View.ld I.x20 (Rect.unit (s := S256x512) ![0, 256] S256x128.size inb_S256x512_S256x128_0_256)

def s_v277 (I : In) : FVec Ideal S256x128 .bf16 := k0_pay60 (F := Ideal) (s_v174 I) (l_v274 I)

def s_v278 (I : In) : FVec Ideal S512x128 .bf16 := k0_pay61 (F := Ideal) (s_v180 I)

def s_v279 (I : In) : FVec Ideal S512x128 .bf16 := k0_pay62 (F := Ideal) (s_v186 I)

def l_v302 (I : In) : Vec Ideal S256x128 .f32 := View.ld I.x20 (Rect.unit (s := S256x512) ![0, 384] S256x128.size inb_S256x512_S256x128_0_384)

def s_v305 (I : In) : FVec Ideal S256x128 .bf16 := k0_pay69 (F := Ideal) (s_v186 I) (l_v302 I)

def s_v332 (I : In) : IVec S8x1024 1 := k0_pay72

def s_v445 (I : In) : FVec Ideal S24x1024 .f32 := k0_pay86 (F := Ideal) (s_v376 I)

def s_v505 (I : In) : FVec Ideal S512x256 .bf16 := k0_pay103 (F := Ideal) (s_v190 I)

def s_v515 (I : In) : FVec Ideal S128x256 .f32 := k0_pay104 (F := Ideal) (s_v130 I) (s_v190 I) (s_v216 I)

def s_v525 (I : In) : FVec Ideal S128x256 .f32 := k0_pay105 (F := Ideal) (s_v130 I) (s_v190 I) (s_v216 I) (s_v221 I)

def s_v527 (I : In) : FVec Ideal S512x256 .bf16 := k0_pay107 (F := Ideal) (s_v190 I)

def s_v537 (I : In) : FVec Ideal S128x256 .f32 := k0_pay109 (F := Ideal) (s_v132 I) (s_v190 I) (s_v244 I)

def s_v544 (I : In) : FVec Ideal S128x256 .f32 := k0_pay111 (F := Ideal) (s_v132 I) (s_v190 I) (s_v244 I)

def s_v545 (I : In) : FVec Ideal S256x256 .bf16 := k0_pay112 (F := Ideal) (s_v190 I)

def s_v547 (I : In) : FVec Ideal S128x256 .f32 := k0_pay113 (F := Ideal) (s_v249 I) (s_v544 I) (s_v545 I) (constant (F := Ideal) S128x256 .f32 0x00000000#32)

def s_v549 (I : In) : FVec Ideal S512x256 .bf16 := k0_pay115 (F := Ideal) (s_v190 I)

def s_v559 (I : In) : FVec Ideal S128x256 .f32 := k0_pay116 (F := Ideal) (s_v134 I) (s_v190 I) (s_v272 I)

def s_v569 (I : In) : FVec Ideal S128x256 .f32 := k0_pay117 (F := Ideal) (s_v134 I) (s_v190 I) (s_v272 I) (s_v277 I)

def s_v571 (I : In) : FVec Ideal S512x256 .bf16 := k0_pay119 (F := Ideal) (s_v190 I)

def s_v581 (I : In) : FVec Ideal S128x256 .f32 := k0_pay121 (F := Ideal) (s_v136 I) (s_v190 I) (s_v300 I)

def s_v588 (I : In) : FVec Ideal S128x256 .f32 := k0_pay123 (F := Ideal) (s_v136 I) (s_v190 I) (s_v300 I)

def s_v589 (I : In) : FVec Ideal S256x256 .bf16 := k0_pay124 (F := Ideal) (s_v190 I)

def s_v591 (I : In) : FVec Ideal S128x256 .f32 := k0_pay125 (F := Ideal) (s_v305 I) (s_v588 I) (s_v589 I) (constant (F := Ideal) S128x256 .f32 0x00000000#32)

def s_v757 (I : In) : FVec Ideal S8x1024 .f32 := k0_pay141 (F := Ideal) (s_v649 I)

def s_v762 (I : In) : FVec Ideal S8x1024 .f32 := k0_pay142 (F := Ideal) (s_v649 I)

def s_v767 (I : In) : FVec Ideal S8x1024 .f32 := k0_pay143 (F := Ideal) (s_v649 I)

def s_v772 (I : In) : FVec Ideal S8x1024 .f32 := k0_pay144 (F := Ideal) (s_v649 I)

def s_v782 (I : In) : FVec Ideal S8x1024 .f32 := k0_pay148 (F := Ideal) (s_v753 I)

def s_v787 (I : In) : FVec Ideal S8x1024 .f32 := k0_pay149 (F := Ideal) (s_v753 I)

def s_v792 (I : In) : FVec Ideal S8x1024 .f32 := k0_pay150 (F := Ideal) (s_v753 I)

def s_v797 (I : In) : FVec Ideal S8x1024 .f32 := k0_pay151 (F := Ideal) (s_v753 I)

def s_v802 (I : In) : FVec Ideal S8x1024 .f32 := k0_pay152 (F := Ideal) (s_v753 I)

def s_v807 (I : In) : FVec Ideal S8x1024 .f32 := k0_pay153 (F := Ideal) (s_v753 I)

def s_v812 (I : In) : FVec Ideal S8x1024 .f32 := k0_pay154 (F := Ideal) (s_v753 I)

def s_v817 (I : In) : FVec Ideal S8x1024 .f32 := k0_pay155 (F := Ideal) (s_v753 I)

def s_v822 (I : In) : FVec Ideal S8x1024 .f32 := k0_pay156 (F := Ideal) (s_v753 I)

def s_v827 (I : In) : FVec Ideal S8x1024 .f32 := k0_pay157 (F := Ideal) (s_v753 I)

def s_v832 (I : In) : FVec Ideal S8x1024 .f32 := k0_pay158 (F := Ideal) (s_v753 I)

def s_v842 (I : In) : FVec Ideal S8x1024 .f32 := k0_pay162 (F := Ideal) (s_v753 I)

def s_v847 (I : In) : FVec Ideal S8x1024 .f32 := k0_pay163 (F := Ideal) (s_v753 I)

def s_v852 (I : In) : FVec Ideal S8x1024 .f32 := k0_pay164 (F := Ideal) (s_v753 I)

def s_v857 (I : In) : FVec Ideal S8x1024 .f32 := k0_pay165 (F := Ideal) (s_v753 I)

def s_v862 (I : In) : FVec Ideal S8x1024 .f32 := k0_pay166 (F := Ideal) (s_v753 I)

def s_v867 (I : In) : FVec Ideal S8x1024 .f32 := k0_pay167 (F := Ideal) (s_v753 I)

def s_v872 (I : In) : FVec Ideal S8x1024 .f32 := k0_pay168 (F := Ideal) (s_v753 I)

def s_v877 (I : In) : FVec Ideal S8x1024 .f32 := k0_pay169 (F := Ideal) (s_v753 I)

def s_v882 (I : In) : FVec Ideal S8x1024 .f32 := k0_pay170 (F := Ideal) (s_v753 I)

def s_v887 (I : In) : FVec Ideal S8x1024 .f32 := k0_pay171 (F := Ideal) (s_v753 I)

def s_v892 (I : In) : FVec Ideal S8x1024 .f32 := k0_pay172 (F := Ideal) (s_v753 I)

def s_v902 (I : In) : FVec Ideal S8x1024 .f32 := k0_pay176 (F := Ideal) (s_v753 I)

def s_v907 (I : In) : FVec Ideal S8x1024 .f32 := k0_pay177 (F := Ideal) (s_v753 I)

def s_v912 (I : In) : FVec Ideal S8x1024 .f32 := k0_pay178 (F := Ideal) (s_v753 I)

def s_v916 (I : In) : FVec Ideal S8x1024 .f32 := k0_pay179 (F := Ideal) (s_v753 I) (s_v896 I) (s_v897 I)

def s_v919 (I : In) : IVec S8x1024 1 := k0_pay180

def s_v928 (I : In) : FVec Ideal S8x1024 .f32 := k0_pay181 (F := Ideal) (s_v753 I) (s_v896 I) (s_v897 I)

def s_v930 (I : In) : IVec S8x1024 1 := k0_pay182

def s_v1094 (I : In) : FVec Ideal S8x1024 .f32 := k0_pay219 (F := Ideal) (s_v649 I)

def s_v1099 (I : In) : FVec Ideal S8x1024 .f32 := k0_pay220 (F := Ideal) (s_v649 I)

def s_v1104 (I : In) : FVec Ideal S8x1024 .f32 := k0_pay221 (F := Ideal) (s_v649 I)

def s_v1109 (I : In) : FVec Ideal S8x1024 .f32 := k0_pay222 (F := Ideal) (s_v649 I)

def s_v1114 (I : In) : FVec Ideal S8x1024 .f32 := k0_pay223 (F := Ideal) (s_v649 I)

def s_v1119 (I : In) : FVec Ideal S8x1024 .f32 := k0_pay226 (F := Ideal) (s_v1090 I)

def s_v1124 (I : In) : FVec Ideal S8x1024 .f32 := k0_pay227 (F := Ideal) (s_v1090 I)

def s_v1129 (I : In) : FVec Ideal S8x1024 .f32 := k0_pay228 (F := Ideal) (s_v1090 I)

def s_v1134 (I : In) : FVec Ideal S8x1024 .f32 := k0_pay229 (F := Ideal) (s_v1090 I)

def s_v1139 (I : In) : FVec Ideal S8x1024 .f32 := k0_pay230 (F := Ideal) (s_v1090 I)

def s_v1144 (I : In) : FVec Ideal S8x1024 .f32 := k0_pay231 (F := Ideal) (s_v1090 I)

def s_v1149 (I : In) : FVec Ideal S8x1024 .f32 := k0_pay232 (F := Ideal) (s_v1090 I)

def s_v1154 (I : In) : FVec Ideal S8x1024 .f32 := k0_pay233 (F := Ideal) (s_v1090 I)

def s_v1159 (I : In) : FVec Ideal S8x1024 .f32 := k0_pay234 (F := Ideal) (s_v1090 I)

def s_v1164 (I : In) : FVec Ideal S8x1024 .f32 := k0_pay235 (F := Ideal) (s_v1090 I)

def s_v1169 (I : In) : FVec Ideal S8x1024 .f32 := k0_pay236 (F := Ideal) (s_v1090 I)

def s_v1174 (I : In) : FVec Ideal S8x1024 .f32 := k0_pay237 (F := Ideal) (s_v1090 I)

def s_v1179 (I : In) : FVec Ideal S8x1024 .f32 := k0_pay240 (F := Ideal) (s_v1090 I)

def s_v1184 (I : In) : FVec Ideal S8x1024 .f32 := k0_pay241 (F := Ideal) (s_v1090 I)

def s_v1189 (I : In) : FVec Ideal S8x1024 .f32 := k0_pay242 (F := Ideal) (s_v1090 I)

def s_v1194 (I : In) : FVec Ideal S8x1024 .f32 := k0_pay243 (F := Ideal) (s_v1090 I)

def s_v1199 (I : In) : FVec Ideal S8x1024 .f32 := k0_pay244 (F := Ideal) (s_v1090 I)

def s_v1204 (I : In) : FVec Ideal S8x1024 .f32 := k0_pay245 (F := Ideal) (s_v1090 I)

def s_v1209 (I : In) : FVec Ideal S8x1024 .f32 := k0_pay246 (F := Ideal) (s_v1090 I)

def s_v1214 (I : In) : FVec Ideal S8x1024 .f32 := k0_pay247 (F := Ideal) (s_v1090 I)

def s_v1219 (I : In) : FVec Ideal S8x1024 .f32 := k0_pay248 (F := Ideal) (s_v1090 I)

def s_v1224 (I : In) : FVec Ideal S8x1024 .f32 := k0_pay249 (F := Ideal) (s_v1090 I)

def s_v1229 (I : In) : FVec Ideal S8x1024 .f32 := k0_pay250 (F := Ideal) (s_v1090 I)

def s_v1234 (I : In) : FVec Ideal S8x1024 .f32 := k0_pay251 (F := Ideal) (s_v1090 I)

def s_v1239 (I : In) : FVec Ideal S8x1024 .f32 := k0_pay254 (F := Ideal) (s_v1090 I)

def s_v1244 (I : In) : FVec Ideal S8x1024 .f32 := k0_pay255 (F := Ideal) (s_v1090 I)

def s_v1249 (I : In) : FVec Ideal S8x1024 .f32 := k0_pay256 (F := Ideal) (s_v1090 I)

def s_v1253 (I : In) : FVec Ideal S8x1024 .f32 := k0_pay257 (F := Ideal) (s_v1090 I) (s_v1238 I)

def s_v1256 (I : In) : IVec S8x1024 1 := k0_pay258

def s_v1265 (I : In) : FVec Ideal S8x1024 .f32 := k0_pay259 (F := Ideal) (s_v1090 I) (s_v1238 I)

def s_v1267 (I : In) : IVec S8x1024 1 := k0_pay260

def s_v1290 (I : In) : FVec Ideal S8x1024 .f32 := k0_pay267 (F := Ideal) (s_v1089 I) (s_v1275 I) (s_v1276 I) (s_v1278 I) (s_v1281 I) (s_v1282 I) (s_v1283 I)

def s_v1426 (I : In) : FVec Ideal S1x1024 .f32 := k0_pay296 (F := Ideal) (s_v1290 I)

def s_v1446 (I : In) : FVec Ideal S1x128x256 .f32 := k0_pay299 (F := Ideal) (s_v525 I)

def s_v1449 (I : In) : FVec Ideal S1x128x256 .f32 := k0_pay300 (F := Ideal) (s_v547 I)

def s_v1452 (I : In) : FVec Ideal S1x128x256 .f32 := k0_pay301 (F := Ideal) (s_v569 I)

def s_v1455 (I : In) : FVec Ideal S1x128x256 .f32 := k0_pay302 (F := Ideal) (s_v591 I)

def s_v1458 (I : In) : FVec Ideal S1x1024 .f32 := k0_pay303 (F := Ideal) (s_v1426 I)

def s_v1461 (I : In) : FVec Ideal S24x1024 .f32 := k0_pay304 (F := Ideal) (s_v445 I)

def s_v1464 (I : In) : FVec Ideal S512x2048 .f32 := k0_pay305 (F := Ideal) (s_v30 I) (l_v1462 I)

end Cert.Mix
-- ==== Proof.MixTile.lean ====
module

public import proofs.«01_k».proof.Proof.MixLaws
public import proofs.«01_k».proof.Proof.MixStage
public import Idealize.ShloMosaic.Lib.Tactic
public import Idealize.ShloMosaic.Lib.ValueIdx

@[expose] public section

set_option maxRecDepth 16384

noncomputable section

namespace Cert.Mix

open Cert.KernelIdeal Cert.KernelIdeal.Gen Idealize.ShloMosaic Idealize.ShloMosaic.TcCoe Idealize.SL.Sem

/-- The time of row `r` of tile `s`: the kernel keeps each half of a tile in the order of the scan's segments. -/
def tm (s r : ℕ) : ℕ := 512 * s + 256 * (r / 256) + tau (r % 256)

theorem tau_lt {r : ℕ} (h : r < 256) : tau r < 256 := by unfold tau; omega

theorem tm_lo (s : ℕ) {r : ℕ} (h : r < 256) : tm s r = 512 * s + tau r := by
  unfold tm; rw [Nat.mod_eq_of_lt h, Nat.div_eq_of_lt h]; omega

theorem tm_hi (s : ℕ) {r : ℕ} (h : r < 256) : tm s (256 + r) = 512 * s + 256 + tau r := by
  unfold tm; rw [show (256 + r) % 256 = r by omega, show (256 + r) / 256 = 1 by omega]

theorem tm_hi' (s : ℕ) {r : ℕ} (h : 256 ≤ r) (h' : r < 512) : tm s r = 512 * s + 256 + tau (r - 256) := by
  have := tm_hi s (r := r - 256) (by omega)
  rwa [show 256 + (r - 256) = r by omega] at this

/-- What grid point `s` of a sequence reads, in terms of the sequence's arrays. -/
structure Tile (A : Arr) (s : ℕ) (I : In) : Prop where
  hs : s < 4
  good : Good A
  hx : ∀ (i : Fin 512) (j : Fin 1024), I.x0 (ix3 0 i j) = A.x (512 * s + i) j
  hpos : ∀ (r : Fin 4) (l : Fin 128), FloatOps.sitofp (F := Ideal) FTy.f32 (I.x1 (ix4 0 0 r l)) = A.pos (tm s (128 * r + l))
  hperm : ∀ i x : Fin 256, I.x2 (ix2 i x) = if x.1 = tau i then 1 else 0
  hunperm : ∀ i x : Fin 256, I.x3 (ix2 i x) = if i.1 = tau x then 1 else 0
  hinvf : ∀ j : Fin 128, I.x4 (ix2 0 j) = invf (j % 64)
  hn1w : ∀ j : Fin 1024, I.x5 (ix2 0 j) = A.n1w j
  hwin : ∀ (k : Fin 1024) (c : Fin 7168), I.x6 (ix2 k c) = A.win k c
  hmga : ∀ j : Fin 1024, I.x7 (ix2 0 j) = A.mga j
  hmgb : ∀ j : Fin 1024, I.x7 (ix2 1 j) = A.mgb j
  hgnw : ∀ j : Fin 1024, I.x8 (ix2 0 j) = A.gnw j
  hwro : ∀ k j : Fin 1024, I.x9 (ix2 k j) = A.wro k j
  hcw : ∀ (r : Fin 4) (j : Fin 1024), I.x10 (ix2 r j) = A.cw r j
  hcb : ∀ j : Fin 1024, I.x11 (ix2 0 j) = A.cb j
  hwr : ∀ (b : Fin 4) (k j : Fin 256), I.x12 (ix3 b k ⟨j.1, by omega⟩) = A.wr b k j
  hwi : ∀ (b : Fin 4) (k j : Fin 256), I.x12 (ix3 b k ⟨256 + j.1, by omega⟩) = A.wi b k j
  hbr : ∀ j : Fin 1024, I.x13 (ix2 0 j) = A.br (j / 256) (j % 256)
  hbi : ∀ j : Fin 1024, I.x14 (ix2 0 j) = A.bi (j / 256) (j % 256)
  hlam : ∀ j : Fin 1024, I.x15 (ix2 0 j) = A.lam j
  hwlo : ∀ k j : Fin 1024, I.x16 (ix2 k j) = A.wlo k j
  hwout : ∀ k j : Fin 1024, I.x17 (ix2 k j) = A.wout k j
  hdmask : ∀ (h : Fin 4) (i j : Fin 256), I.x18 (ix3 h i j) = ((wgt (lgm h) (tau i) (tau j) : ℝ) : EReal)
  hqdec : ∀ (i : Fin 256) (h : Fin 4) (d : Fin 128),
    I.x19 (ix2 i ⟨128 * h.1 + d.1, by omega⟩) = ((Real.exp (lgm h * ((tau i : ℝ) + 1)) : ℝ) : EReal)
  hkdec : ∀ (i : Fin 256) (h : Fin 4) (d : Fin 128),
    I.x20 (ix2 i ⟨128 * h.1 + d.1, by omega⟩) = ((Real.exp (lgm h * (255 - (tau i : ℝ))) : ℝ) : EReal)
  hz0 : ∀ (d : Fin 128) (e : Fin 256), I.z0 (ix3 0 d e) = stE A 0 (512 * s) d e
  hz1 : ∀ (d : Fin 128) (e : Fin 256), I.z1 (ix3 0 d e) = stE A 1 (512 * s) d e
  hz2 : ∀ (d : Fin 128) (e : Fin 256), I.z2 (ix3 0 d e) = stE A 2 (512 * s) d e
  hz3 : ∀ (d : Fin 128) (e : Fin 256), I.z3 (ix3 0 d e) = stE A 3 (512 * s) d e
  hzh : ∀ j : Fin 1024, I.zh (ix2 0 j) = hst A (512 * s) j
  hzx : ∀ (g : Fin 3) (j : Fin 1024), I.zx (ix2 ⟨8 * g.1 + 7, by omega⟩ j) = xlp A (512 * s + g) j

theorem slt64 (n : ℕ) (h : n < 128) : IntOp.cmpi CmpIPredicate.slt (BitVec.ofNat 32 n) 64#32 = BitVec.ofBool (decide (n < 64)) :=
  WordCmp.cmpi_slt_ofNat (by omega) (by omega)

theorem eq0w (n : ℕ) (h : n < 1024) : IntOp.cmpi CmpIPredicate.eq (BitVec.ofNat 32 n) 0#32 = BitVec.ofBool (decide (n = 0)) :=
  WordCmp.cmpi_eq_ofNat (by omega) (by omega)

theorem sgew (n m : ℕ) (h : n < 1024) (h' : m < 1024) : IntOp.cmpi CmpIPredicate.sge (BitVec.ofNat 32 n) (BitVec.ofNat 32 m) = BitVec.ofBool (decide (m ≤ n)) := by
  exact WordCmp.cmpi_sge_ofNat (by omega) (by omega)

theorem ld2 {n m n' m' : ℕ} {α : EltTy} (x : Vec Ideal ⟨2, ![n, m]⟩ α) (a b : ℕ) (inb : ∀ k, (![a, b] : Fin 2 → ℕ) k + (![n', m'] : Fin 2 → ℕ) k ≤ (![n, m] : Fin 2 → ℕ) k)
    (i : Fin n') (j : Fin m') (hi : a + i < n) (hj : b + j < m) :
    View.ld x (Rect.unit (s := ⟨2, ![n, m]⟩) ![a, b] ![n', m'] inb) (ix2 i j) = x (ix2 ⟨a + i, hi⟩ ⟨b + j, hj⟩) := by
  refine (View.ld_apply _ _ _).trans (congrArg x ?_)
  funext k; apply Fin.ext
  fin_cases k <;> simp [Rect.idx_unit_val, ix2]

theorem ld3 {n m l n' m' l' : ℕ} {α : EltTy} (x : Vec Ideal ⟨3, ![n, m, l]⟩ α) (a b c : ℕ) (inb : ∀ k, (![a, b, c] : Fin 3 → ℕ) k + (![n', m', l'] : Fin 3 → ℕ) k ≤ (![n, m, l] : Fin 3 → ℕ) k)
    (i : Fin n') (j : Fin m') (k : Fin l') (hi : a + i < n) (hj : b + j < m) (hk : c + k < l) :
    View.ld x (Rect.unit (s := ⟨3, ![n, m, l]⟩) ![a, b, c] ![n', m', l'] inb) (ix3 i j k) = x (ix3 ⟨a + i, hi⟩ ⟨b + j, hj⟩ ⟨c + k, hk⟩) := by
  refine (View.ld_apply _ _ _).trans (congrArg x ?_)
  funext k; apply Fin.ext
  fin_cases k <;> simp [Rect.idx_unit_val, ix3]

end Cert.Mix

end
-- ==== Proof.MixProj.lean ====
module

public import proofs.«01_k».proof.Proof.MixTile
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable {A : Arr} {s : ℕ} {I : In}

theorem v4_at (T : Tile A s I) (i : Fin 512) (j : Fin 1024) : s_v4 I (ix2 i j) = A.x (512 * s + i) j := by
  unfold s_v4
  pointwise [k0_pay5]
  exact T.hx i j

/-- The normalised rows, in the order of the segments. -/
theorem v30_at (T : Tile A s I) (i : Fin 512) (j : Fin 1024) : s_v30 I (ix2 i j) = hrow A (tm s i) j := by
  unfold s_v30
  pointwise [k0_pay6, k0_pay5]
  simp only [T.hx, T.hn1w]
  have hi := i.2
  by_cases h : i.1 < 256
  · rw [dif_pos h]
    refine (sum_pick _ _ ⟨tau i.1, tau_lt h⟩ fun x => ?_).trans ?_
    · rw [T.hperm]; simp [Fin.ext_iff]
    · rw [tm_lo s h]; rfl
  · rw [dif_neg h]
    refine (sum_pick _ _ ⟨tau (i.1 - 256), tau_lt (by omega)⟩ fun x => ?_).trans ?_
    · rw [T.hperm]; simp [Fin.ext_iff]
    · rw [tm_hi' s (by omega) hi, Nat.add_assoc]; rfl

theorem v128_at (T : Tile A s I) (i : Fin 512) (j : Fin 1024) : s_v128 I (ix2 i j) = prj A (tm s i) (0 + j) := by
  unfold s_v128
  pointwise [k0_pay19]
  refine Finset.sum_congr rfl fun x _ => ?_
  rw [v30_at T]
  unfold l_v126
  rw [ld2 I.x6 0 0 _ x j (by have := x.2; omega) (by have := j.2; omega), T.hwin]
  simp only [Nat.zero_add]

theorem v190_at (T : Tile A s I) (i : Fin 512) (j : Fin 1024) : s_v190 I (ix2 i j) = prj A (tm s i) (1024 + j) := by
  unfold s_v190
  pointwise [k0_pay33]
  refine Finset.sum_congr rfl fun x _ => ?_
  rw [v30_at T]
  unfold l_v187
  rw [ld2 I.x6 0 1024 _ x j (by have := x.2; omega) (by have := j.2; omega), T.hwin]
  simp only [Nat.zero_add]

theorem v193_at (T : Tile A s I) (i : Fin 512) (j : Fin 1024) : s_v193 I (ix2 i j) = prj A (tm s i) (3072 + j) := by
  unfold s_v193
  pointwise [k0_pay34]
  refine Finset.sum_congr rfl fun x _ => ?_
  rw [v30_at T]
  unfold l_v191
  rw [ld2 I.x6 0 3072 _ x j (by have := x.2; omega) (by have := j.2; omega), T.hwin]
  simp only [Nat.zero_add]

theorem v481_at (T : Tile A s I) (i : Fin 512) (j : Fin 1024) : s_v481 I (ix2 i j) = prj A (tm s i) (2048 + j) := by
  unfold s_v481
  pointwise [k0_pay97]
  refine Finset.sum_congr rfl fun x _ => ?_
  rw [v30_at T]
  unfold l_v479
  rw [ld2 I.x6 0 2048 _ x j (by have := x.2; omega) (by have := j.2; omega), T.hwin]
  simp only [Nat.zero_add]

theorem v504_at (T : Tile A s I) (i : Fin 512) (j : Fin 1024) : s_v504 I (ix2 i j) = prj A (tm s i) (4096 + j) := by
  unfold s_v504
  pointwise [k0_pay102]
  refine Finset.sum_congr rfl fun x _ => ?_
  rw [v30_at T]
  unfold l_v502
  rw [ld2 I.x6 0 4096 _ x j (by have := x.2; omega) (by have := j.2; omega), T.hwin]
  simp only [Nat.zero_add]

theorem v1464_at (T : Tile A s I) (i : Fin 512) (j : Fin 2048) : s_v1464 I (ix2 i j) = prj A (tm s i) (5120 + j) := by
  unfold s_v1464
  pointwise [k0_pay305]
  refine Finset.sum_congr rfl fun x _ => ?_
  rw [v30_at T]
  unfold l_v1462
  rw [ld2 I.x6 0 5120 _ x j (by have := x.2; omega) (by have := j.2; omega), T.hwin]
  simp only [Nat.zero_add]

theorem sum_sel (f : Fin 128 → EReal) (i : Fin 128) :
    ∑ x : Fin 128, Scalar.select (IntOp.cmpi CmpIPredicate.eq (BitVec.ofNat 32 i) (BitVec.ofNat 32 x)) (f x) 0 = f i := by
  have h : ∀ x : Fin 128, Scalar.select (IntOp.cmpi CmpIPredicate.eq (BitVec.ofNat 32 i) (BitVec.ofNat 32 x)) (f x) 0
      = if x = i then f x else 0 := fun x => by
    rw [WordCmp.cmpi_eq_ofNat (by have := i.2; omega) (by have := x.2; omega), sel_dec]
    by_cases e : i = x
    · subst e; simp
    · rw [if_neg (fun h => e (Fin.ext h)), if_neg (fun h => e h.symm)]
  simp only [h]
  rw [Finset.sum_ite_eq' Finset.univ i f]; simp

/-- The positions as a column. -/
theorem v65_at (T : Tile A s I) (i : Fin 512) (j : Fin 1) : s_v65 I (ix2 i j) = A.pos (tm s i) := by
  have hi := i.2
  have h33 : ∀ (r : Fin 4) (l : Fin 128), s_v33 I (ix2 r l) = A.pos (tm s (128 * r + l)) := fun r l => by
    unfold s_v33
    pointwise [k0_pay7]
    exact T.hpos r l
  have h36 : ∀ a b : Fin 128, s_v36 I (ix2 a b) = IntOp.cmpi CmpIPredicate.eq (BitVec.ofNat 32 a) (BitVec.ofNat 32 b) := fun a b => by
    unfold s_v36
    pointwise [k0_pay8]
  unfold s_v65
  pointwise [k0_pay9]
  simp only [h36]
  split_ifs with h1 h2 h3
  · refine (sum_sel _ ⟨i.1, h1⟩).trans ?_
    rw [h33]; congr 2; simp
  · refine (sum_sel _ ⟨i.1 - 128, h2⟩).trans ?_
    rw [h33]; congr 2; simp; omega
  · refine (sum_sel _ ⟨i.1 - 128 - 128, h3⟩).trans ?_
    rw [h33]; congr 2; simp; omega
  · refine (sum_sel _ ⟨i.1 - 128 - 128 - 128, by omega⟩).trans ?_
    rw [h33]; congr 2; simp; omega

theorem v71_at (i j : Fin 128) : s_v71 I (ix2 i j) = BitVec.ofBool (decide (j.1 < 64)) := by
  unfold s_v71
  pointwise [k0_pay10]
  exact slt64 j.1 j.2

theorem v80_at (T : Tile A s I) (i j : Fin 128) : s_v80 I (ix2 i j) = (if j.1 < 64 then ang A (tm s i) j else ang A (tm s (128 + i)) (j - 64)) := by
  unfold s_v80
  pointwise [k0_pay11]
  have h1 := v65_at T ⟨i.1, by omega⟩ 0
  have h2 := v65_at T ⟨128 + i.1, by omega⟩ 0
  have h3 := v71_at (I := I) i j
  unfold s_v65 at h1 h2
  unfold s_v71 at h3
  rw [h1, h2, h3, sel_dec, T.hinvf]
  have hj := j.2
  split_ifs with h
  · rw [Nat.mod_eq_of_lt h]; rfl
  · rw [show j.1 % 64 = j.1 - 64 by omega]; rfl

theorem v81_at (T : Tile A s I) (i j : Fin 128) : s_v81 I (ix2 i j) = Ideal.cos (if j.1 < 64 then ang A (tm s i) j else ang A (tm s (128 + i)) (j - 64)) := by
  unfold s_v81
  rw [← v80_at T]
  pointwise [k0_pay12]
  unfold s_v80
  pointwise [k0_pay11]

theorem v82_at (T : Tile A s I) (i j : Fin 128) : s_v82 I (ix2 i j) = Ideal.sin (if j.1 < 64 then ang A (tm s i) j else ang A (tm s (128 + i)) (j - 64)) := by
  unfold s_v82
  rw [← v80_at T]
  pointwise [k0_pay13]
  unfold s_v80
  pointwise [k0_pay11]

theorem v83_at (T : Tile A s I) (i j : Fin 128) : s_v83 I (ix2 i j) = Ideal.cos (if j.1 < 64 then ang A (tm s (128 + i)) j else ang A (tm s i) (j - 64)) := by
  unfold s_v83
  pointwise [k0_pay14, k0_pay12]
  have h := v80_at T i ⟨(j.1 + 128 - 64) % 128, by omega⟩
  unfold s_v80 at h
  refine (congrArg Ideal.cos h).trans ?_
  have hj := j.2
  by_cases h1 : j.1 < 64
  · rw [if_pos h1, if_neg (by simp only; omega), show (j.1 + 128 - 64) % 128 - 64 = j.1 by omega]
  · rw [if_neg h1, if_pos (by simp only; omega)]; dsimp only; rw [show (j.1 + 128 - 64) % 128 = j.1 - 64 by omega]

theorem swap_eq (j : ℕ) (hj : j < 128) : ((j + 128 - 64) % 128 < 64) = ¬ (j < 64) := by
  by_cases h : j < 64
  · simp [h]; omega
  · simp [h]; omega

/-- The cosines of the angles. -/
theorem v124_at (T : Tile A s I) (i : Fin 512) (j : Fin 128) : s_v124 I (ix2 i j) = Ideal.cos (ang A (tm s i) (j % 64)) := by
  have hi := i.2
  have hj := j.2
  unfold s_v124
  pointwise [k0_pay17, k0_pay16, k0_pay15]
  simp only [v71_at, v81_at T, v83_at T, v65_at T, T.hinvf, slt64 j.1 j.2, slt64 ((j.1 + 128 - 64) % 128) (by omega), sel_dec, swap_eq j.1 j.2]
  by_cases h : j.1 < 64
  · simp only [h, if_true, not_true, if_false]
    have e1 : j.1 % 64 = j.1 := by omega
    have e2 : (j.1 + 128 - 64) % 128 % 64 = j.1 := by omega
    rw [e1, e2]
    split_ifs with h1 h2 h3
    · rfl
    · rw [show 128 + (i.1 - 128) = i.1 by omega]
    · rw [show 256 + (i.1 - 256) = i.1 by omega]; rfl
    · rw [show 256 + (128 + (i.1 - 256 - 128)) = i.1 by omega]; rfl
  · simp only [h, if_true, not_false_eq_true, if_false]
    have e1 : j.1 % 64 = j.1 - 64 := by omega
    have e2 : (j.1 + 128 - 64) % 128 % 64 = j.1 - 64 := by omega
    rw [e1, e2]
    split_ifs with h1 h2 h3
    · rfl
    · rw [show 128 + (i.1 - 128) = i.1 by omega]
    · rw [show 256 + (i.1 - 256) = i.1 by omega]; rfl
    · rw [show 256 + (128 + (i.1 - 256 - 128)) = i.1 by omega]; rfl

/-- The sines of the angles, negated in the low lanes. -/
theorem v125_at (T : Tile A s I) (i : Fin 512) (j : Fin 128) : s_v125 I (ix2 i j)
    = (if j.1 < 64 then -Ideal.sin (ang A (tm s i) j) else Ideal.sin (ang A (tm s i) (j - 64))) := by
  have hi := i.2
  have hj := j.2
  unfold s_v125
  pointwise [k0_pay18, k0_pay16, k0_pay15]
  simp only [v71_at, v82_at T, v65_at T, T.hinvf, slt64 j.1 j.2, slt64 ((j.1 + 128 - 64) % 128) (by omega), sel_dec, swap_eq j.1 j.2, zero_sub]
  by_cases h : j.1 < 64
  · simp only [h, if_true, not_true, if_false]
    have e1 : j.1 % 64 = j.1 := by omega
    have e2 : (j.1 + 128 - 64) % 128 % 64 = j.1 := by omega
    have e3 : (j.1 + 128 - 64) % 128 - 64 = j.1 := by omega
    try rw [e1]
    try rw [e2]
    try rw [e3]
    split_ifs with h1 h2 h3
    · rfl
    · rw [show 128 + (i.1 - 128) = i.1 by omega]
    · rw [show 256 + (i.1 - 256) = i.1 by omega]; rfl
    · rw [show 256 + (128 + (i.1 - 256 - 128)) = i.1 by omega]; rfl
  · simp only [h, if_true, not_false_eq_true, if_false]
    have e1 : j.1 % 64 = j.1 - 64 := by omega
    have e2 : (j.1 + 128 - 64) % 128 % 64 = j.1 - 64 := by omega
    have e3 : (j.1 + 128 - 64) % 128 = j.1 - 64 := by omega
    try rw [e1]
    try rw [e2]
    try rw [e3]
    split_ifs with h1 h2 h3
    · rfl
    · rw [show 128 + (i.1 - 128) = i.1 by omega]
    · rw [show 256 + (i.1 - 256) = i.1 by omega]; rfl
    · rw [show 256 + (128 + (i.1 - 256 - 128)) = i.1 by omega]; rfl

theorem rot_eq (A : Arr) (c t j : ℕ) (hj : j < 128) :
    prj A t (c + j) * Ideal.cos (ang A t (j % 64))
        + prj A t (c + (j + 128 - 64) % 128) * (if j < 64 then -Ideal.sin (ang A t j) else Ideal.sin (ang A t (j - 64)))
      = rot A c t j := by
  unfold rot
  split_ifs with h
  · rw [show j % 64 = j by omega, show (j + 128 - 64) % 128 = 64 + j by omega, mul_neg, sub_eq_add_neg]
  · rw [show j % 64 = j - 64 by omega, show (j + 128 - 64) % 128 = j - 64 by omega, show 64 + (j - 64) = j by omega, add_comm]

theorem v144_at (T : Tile A s I) (i : Fin 512) (j : Fin 128) : s_v144 I (ix2 i j) = qf A 0 (tm s i) j := by
  unfold s_v144
  pointwise [k0_pay24]
  simp only [v128_at T, v124_at T, v125_at T]
  simp only [Nat.zero_add]
  have e := rot_eq A 0 (tm s i) j j.2
  simp only [Nat.zero_add] at e
  exact e

theorem v150_at (T : Tile A s I) (i : Fin 512) (j : Fin 128) : s_v150 I (ix2 i j) = kf A 0 (tm s i) j := by
  unfold s_v150
  pointwise [k0_pay25]
  simp only [v128_at T, v124_at T, v125_at T, Nat.zero_add]
  exact congrArg (· * Ideal.ofBits FTy.f32 1035273459#32) (rot_eq A 512 (tm s i) j j.2)

theorem v156_at (T : Tile A s I) (i : Fin 512) (j : Fin 128) : s_v156 I (ix2 i j) = qf A 1 (tm s i) j := by
  unfold s_v156
  pointwise [k0_pay26]
  simp only [v128_at T, v124_at T, v125_at T, Nat.zero_add]

  have e := rot_eq A 128 (tm s i) j j.2

  exact e

theorem v162_at (T : Tile A s I) (i : Fin 512) (j : Fin 128) : s_v162 I (ix2 i j) = kf A 1 (tm s i) j := by
  unfold s_v162
  pointwise [k0_pay27]
  simp only [v128_at T, v124_at T, v125_at T, Nat.zero_add]
  exact congrArg (· * Ideal.ofBits FTy.f32 1035273459#32) (rot_eq A 640 (tm s i) j j.2)

theorem v168_at (T : Tile A s I) (i : Fin 512) (j : Fin 128) : s_v168 I (ix2 i j) = qf A 2 (tm s i) j := by
  unfold s_v168
  pointwise [k0_pay29]
  simp only [v128_at T, v124_at T, v125_at T, Nat.zero_add]

  have e := rot_eq A 256 (tm s i) j j.2

  exact e

theorem v174_at (T : Tile A s I) (i : Fin 512) (j : Fin 128) : s_v174 I (ix2 i j) = kf A 2 (tm s i) j := by
  unfold s_v174 s_v164
  pointwise [k0_pay30, k0_pay28]
  simp only [v128_at T, v124_at T, v125_at T, Nat.zero_add]
  exact congrArg (· * Ideal.ofBits FTy.f32 1035273459#32) (rot_eq A 768 (tm s i) j j.2)

theorem v180_at (T : Tile A s I) (i : Fin 512) (j : Fin 128) : s_v180 I (ix2 i j) = qf A 3 (tm s i) j := by
  unfold s_v180
  pointwise [k0_pay31]
  simp only [v128_at T, v124_at T, v125_at T, Nat.zero_add]

  have e := rot_eq A 384 (tm s i) j j.2

  exact e

theorem v186_at (T : Tile A s I) (i : Fin 512) (j : Fin 128) : s_v186 I (ix2 i j) = kf A 3 (tm s i) j := by
  unfold s_v186
  pointwise [k0_pay32]
  simp only [v128_at T, v124_at T, v125_at T, Nat.zero_add]
  exact congrArg (· * Ideal.ofBits FTy.f32 1035273459#32) (rot_eq A 896 (tm s i) j j.2)

end Cert.Mix

end
-- ==== Proof.MixRec.lean ====
module

public import proofs.«01_k».proof.Proof.MixProj
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable {A : Arr} {s : ℕ} {I : In}

theorem xlp_prj (A : Arr) (t k : ℕ) : prj A t (3072 + k) = xlp A (t + 3) k := by
  unfold xlp; rw [if_pos (by omega), Nat.add_sub_cancel]

theorem zx_at (T : Tile A s I) {j : Fin 1024} (r : Fin 24) (h : r.1 % 8 = 7) : I.zx (ix2 r j) = xlp A (512 * s + r / 8) j := by
  have hr := r.2
  rw [← T.hzx ⟨r.1 / 8, by omega⟩ j]
  congr 2
  apply Fin.ext; simp only; omega

theorem v306_at (T : Tile A s I) (r : Fin 256) (j : Fin 1024) : s_v306 I (ix2 r j) = xlp A (512 * s + tau r + 3) j := by
  unfold s_v306
  pointwise [k0_pay70]
  rw [v193_at T, xlp_prj, tm_lo s (by exact r.2)]

theorem v376_at (T : Tile A s I) (r : Fin 256) (j : Fin 1024) : s_v376 I (ix2 r j) = xlp A (512 * s + 256 + tau r + 3) j := by
  unfold s_v376
  pointwise [k0_pay78]
  rw [v193_at T, xlp_prj, tm_hi s (by exact r.2)]

theorem v375_at (T : Tile A s I) (r : Fin 24) (j : Fin 1024) : s_v375 I (ix2 r j) = xlp A (512 * s + tau (232 + r) + 3) j := by
  unfold s_v375
  pointwise [k0_pay77]
  rw [v306_at T]

theorem v445_at (T : Tile A s I) (r : Fin 24) (j : Fin 1024) : s_v445 I (ix2 r j) = xlp A (512 * s + 256 + tau (232 + r) + 3) j := by
  unfold s_v445
  pointwise [k0_pay86]
  rw [v376_at T]

theorem l_v307_at (T : Tile A s I) (j : Fin 1024) : l_v307 I (ix2 0 j) = A.cw 3 j := by
  unfold l_v307
  rw [ld2 I.x10 3 0 _ 0 j (by decide) (by have := j.2; omega), T.hcw]
  simp

theorem l_v377_at (T : Tile A s I) (j : Fin 1024) : l_v377 I (ix2 0 j) = A.cw 3 j := by
  unfold l_v377
  rw [ld2 I.x10 3 0 _ 0 j (by decide) (by have := j.2; omega), T.hcw]
  simp

theorem l_v325_at (T : Tile A s I) (j : Fin 1024) : l_v325 I (ix2 0 j) = A.cw 2 j := by
  unfold l_v325
  rw [ld2 I.x10 2 0 _ 0 j (by decide) (by have := j.2; omega), T.hcw]
  simp

theorem l_v395_at (T : Tile A s I) (j : Fin 1024) : l_v395 I (ix2 0 j) = A.cw 2 j := by
  unfold l_v395
  rw [ld2 I.x10 2 0 _ 0 j (by decide) (by have := j.2; omega), T.hcw]
  simp

theorem l_v345_at (T : Tile A s I) (j : Fin 1024) : l_v345 I (ix2 0 j) = A.cw 1 j := by
  unfold l_v345
  rw [ld2 I.x10 1 0 _ 0 j (by decide) (by have := j.2; omega), T.hcw]
  simp

theorem l_v415_at (T : Tile A s I) (j : Fin 1024) : l_v415 I (ix2 0 j) = A.cw 1 j := by
  unfold l_v415
  rw [ld2 I.x10 1 0 _ 0 j (by decide) (by have := j.2; omega), T.hcw]
  simp

theorem l_v370_at (T : Tile A s I) (j : Fin 1024) : l_v370 I (ix2 0 j) = A.cw 0 j := by
  unfold l_v370
  rw [ld2 I.x10 0 0 _ 0 j (by decide) (by have := j.2; omega), T.hcw]
  simp

theorem l_v440_at (T : Tile A s I) (j : Fin 1024) : l_v440 I (ix2 0 j) = A.cw 0 j := by
  unfold l_v440
  rw [ld2 I.x10 0 0 _ 0 j (by decide) (by have := j.2; omega), T.hcw]
  simp

/-- The convolution's inputs one, two and three frames back, in the first half of a tile. -/
theorem v329_at (T : Tile A s I) (i : Fin 256) (j : Fin 1024) : s_v329 I (ix2 i j)
    = xlp A (3 + (512 * s + tau i)) j * A.cw 3 j + A.cb j + xlp A (2 + (512 * s + tau i)) j * A.cw 2 j := by
  have hi := i.2
  have h306 := fun (r : Fin 256) (j : Fin 1024) => v306_at T r j
  unfold s_v306 at h306
  unfold s_v329
  pointwise [k0_pay71]
  simp only [h306, l_v307_at T, l_v325_at T, T.hcb]
  have e : (if h : i.1 < 8 then
          Scalar.select (IntOp.cmpi CmpIPredicate.eq (BitVec.ofNat 32 i.1) 0#32)
            (I.zx (ix2 ⟨16 + (i.1 + 8 - 1) % 8, by omega⟩ j)) (xlp A (512 * s + tau (248 + (i.1 + 8 - 1) % 8) + 3) j)
        else xlp A (512 * s + tau (i.1 - 8) + 3) j) = xlp A (2 + (512 * s + tau i)) j := by
    rw [eq0w i.1 (by omega), sel_dec]
    split_ifs <;> first
    | (rw [zx_at T _ (by simp only; omega)]; refine congrArg (fun m => xlp A m j) ?_; simp only [tau] <;> omega)
    | (refine congrArg (fun m => xlp A m j) ?_; simp only [tau] <;> omega)
  rw [show 3 + (512 * s + tau i.1) = 512 * s + tau i.1 + 3 by omega, ← e]

theorem v337_at (T : Tile A s I) (i : Fin 8) (j : Fin 1024) : s_v337 I (ix2 i j) = xlp A (512 * s + tau i + 1) j := by
  have hi := i.2
  have h306 := fun (r : Fin 256) (j : Fin 1024) => v306_at T r j
  unfold s_v306 at h306
  unfold s_v337
  pointwise [k0_pay73, k0_pay72]
  simp only [h306]
  rw [eq0w i.1 (by omega), sel_dec]
  split_ifs <;> first
    | (rw [zx_at T _ (by simp only; omega)]; refine congrArg (fun m => xlp A m j) ?_; simp only [tau] <;> omega)
    | (refine congrArg (fun m => xlp A m j) ?_; simp only [tau] <;> omega)

theorem v342_at (T : Tile A s I) (i : Fin 8) (j : Fin 1024) : s_v342 I (ix2 i j) = xlp A (512 * s + tau i + 2) j := by
  have hi := i.2
  have h306 := fun (r : Fin 256) (j : Fin 1024) => v306_at T r j
  unfold s_v306 at h306
  unfold s_v342
  pointwise [k0_pay74, k0_pay72]
  simp only [h306]
  rw [eq0w i.1 (by omega), sel_dec]
  split_ifs <;> first
    | (rw [zx_at T _ (by simp only; omega)]; refine congrArg (fun m => xlp A m j) ?_; simp only [tau] <;> omega)
    | (refine congrArg (fun m => xlp A m j) ?_; simp only [tau] <;> omega)

theorem v343_at (T : Tile A s I) (i : Fin 240) (j : Fin 1024) : s_v343 I (ix2 i j) = xlp A (512 * s + tau i + 3) j := by
  have h306 := fun (r : Fin 256) (j : Fin 1024) => v306_at T r j
  unfold s_v306 at h306
  unfold s_v343
  pointwise [k0_pay75]
  rw [h306]

theorem conv_comm (a b c d e : EReal) : d + e + c + b + a = a + b + c + d + e := by abel

theorem v374_at (T : Tile A s I) (i : Fin 256) (j : Fin 1024) : s_v374 I (ix2 i j) = xc A (512 * s + tau i) j := by
  have hi := i.2
  unfold s_v374
  pointwise [k0_pay76]
  simp only [v306_at T, v329_at T, v337_at T, v342_at T, v343_at T, l_v345_at T, l_v370_at T]
  unfold xc
  refine Eq.trans ?_ (conv_comm _ _ _ _ _)
  congr 2
  · congr 1
    split_ifs <;> first
    | (rw [zx_at T _ (by simp only; omega)]; refine congrArg (fun m => xlp A m j) ?_; simp only [tau] <;> omega)
    | (refine congrArg (fun m => xlp A m j) ?_; simp only [tau] <;> omega)
  · rw [eq0w i.1 (by omega), eq0w (i.1 - 8) (by omega), eq0w (i.1 - 8 - 8) (by omega)]
    simp only [sel_dec]
    split_ifs <;> first
    | (rw [zx_at T _ (by simp only; omega)]; refine congrArg (fun m => xlp A m j) ?_; simp only [tau] <;> omega)
    | (refine congrArg (fun m => xlp A m j) ?_; simp only [tau] <;> omega)

theorem v384_at (T : Tile A s I) (i : Fin 256) (j : Fin 1024) : s_v384 I (ix2 i j) = xlp A (512 * s + 256 + tau i + 3) j * A.cw 3 j + A.cb j := by
  have h376 := fun (r : Fin 256) (j : Fin 1024) => v376_at T r j
  unfold s_v376 at h376
  unfold s_v384
  pointwise [k0_pay79]
  rw [h376, l_v377_at T, T.hcb]

theorem v387_at (i : Fin 8) (j : Fin 1024) : s_v387 I (ix2 i j) = BitVec.ofBool (decide (i.1 = 0)) := by
  unfold s_v387
  pointwise [k0_pay80]
  exact eq0w i.1 (by omega)

theorem v422_at (i : Fin 8) (j : Fin 1024) : s_v422 I (ix2 i j) = BitVec.ofBool (decide (i.1 = 0)) := by
  unfold s_v422
  pointwise [k0_pay82]
  exact eq0w i.1 (by omega)

theorem v419_at (T : Tile A s I) (i : Fin 256) (j : Fin 1024) : s_v419 I (ix2 i j)
    = xlp A (3 + (512 * s + 256 + tau i)) j * A.cw 3 j + A.cb j + xlp A (2 + (512 * s + 256 + tau i)) j * A.cw 2 j
      + xlp A (1 + (512 * s + 256 + tau i)) j * A.cw 1 j := by
  have hi := i.2
  unfold s_v419
  pointwise [k0_pay81]
  simp only [v384_at T, v375_at T, v376_at T, v387_at, l_v395_at T, l_v415_at T]
  rw [show 3 + (512 * s + 256 + tau i.1) = 512 * s + 256 + tau i.1 + 3 by omega]
  congr 2
  · congr 1
    simp only [sel_dec]
    split_ifs <;> first
    | (rw [zx_at T _ (by simp only; omega)]; refine congrArg (fun m => xlp A m j) ?_; simp only [tau] <;> omega)
    | (refine congrArg (fun m => xlp A m j) ?_; simp only [tau] <;> omega)
  · rw [eq0w i.1 (by omega), eq0w (i.1 - 8) (by omega)]
    simp only [sel_dec]
    split_ifs <;> first
    | (rw [zx_at T _ (by simp only; omega)]; refine congrArg (fun m => xlp A m j) ?_; simp only [tau] <;> omega)
    | (refine congrArg (fun m => xlp A m j) ?_; simp only [tau] <;> omega)

theorem v427_at (T : Tile A s I) (i : Fin 8) (j : Fin 1024) : s_v427 I (ix2 i j) = xlp A (512 * s + 256 + tau i) j := by
  have hi := i.2
  have h422 := fun (i : Fin 8) (j : Fin 1024) => v422_at (I := I) i j
  unfold s_v422 at h422
  unfold s_v427
  pointwise [k0_pay83]
  simp only [v375_at T, v376_at T, h422, sel_dec]
  split_ifs <;> first
    | (rw [zx_at T _ (by simp only; omega)]; refine congrArg (fun m => xlp A m j) ?_; simp only [tau] <;> omega)
    | (refine congrArg (fun m => xlp A m j) ?_; simp only [tau] <;> omega)

theorem v430_at (T : Tile A s I) (i : Fin 8) (j : Fin 1024) : s_v430 I (ix2 i j) = xlp A (512 * s + tau (240 + (i.1 + 8 - 1) % 8) + 3) j := by
  have hi := i.2
  unfold s_v430
  pointwise [k0_pay84]
  rw [v375_at T]
  first
    | (rw [zx_at T _ (by simp only; omega)]; refine congrArg (fun m => xlp A m j) ?_; simp only [tau] <;> omega)
    | (refine congrArg (fun m => xlp A m j) ?_; simp only [tau] <;> omega)

theorem v431_at (T : Tile A s I) (i : Fin 8) (j : Fin 1024) : s_v431 I (ix2 i j) = xlp A (512 * s + 256 + tau (240 + (i.1 + 8 - 1) % 8) + 3) j := by
  have hi := i.2
  unfold s_v431
  pointwise [k0_pay85]
  rw [v376_at T]

/-- The causal convolution of the recurrence's input. -/
theorem v446_at (T : Tile A s I) (i : Fin 512) (j : Fin 1024) : s_v446 I (ix2 i j) = xc A (tm s i) j := by
  have hi := i.2
  unfold s_v446
  pointwise [k0_pay87]
  by_cases h : i.1 < 256
  · rw [dif_pos h, v374_at T, tm_lo s h]
  · rw [dif_neg h, tm_hi' s (by omega) hi]
    simp only [v419_at T, v427_at T, v422_at, v430_at T, v431_at T, v375_at T, v376_at T, l_v440_at T, sel_dec]
    unfold xc
    refine Eq.trans ?_ (conv_comm _ _ _ _ _)
    congr 2
    split_ifs <;> first
    | (rw [zx_at T _ (by simp only; omega)]; refine congrArg (fun m => xlp A m j) ?_; simp only [tau] <;> omega)
    | (refine congrArg (fun m => xlp A m j) ?_; simp only [tau] <;> omega)

theorem v486_lo (T : Tile A s I) (i : Fin 512) (j : Fin 256) : s_v486 I (ix2 i ⟨j.1, by omega⟩)
    = ∑ x : Fin 256, A.wr 0 x j * xc A (tm s i) (0 * 256 + x) := by
  have hj := j.2
  unfold s_v486
  pointwise [k0_pay98]
  refine Finset.sum_congr rfl fun x _ => ?_
  have hx := x.2
  rw [v446_at T, mul_comm]
  unfold l_v484
  rw [ld3 I.x12 0 0 0 _ 0 x ⟨j.1, by omega⟩ (by decide) (by omega) (by first | omega | (simp only; omega))]
  refine congrArg₂ (· * ·) (Eq.trans ?_ (T.hwr 0 x j)) ?_
  · congr 2 <;> (apply Fin.ext; simp)
  · refine congrArg (xc A _) ?_; first | omega | (simp only <;> omega)

theorem v486_hi (T : Tile A s I) (i : Fin 512) (j : Fin 256) : s_v486 I (ix2 i ⟨256 + j.1, by omega⟩)
    = ∑ x : Fin 256, A.wi 0 x j * xc A (tm s i) (0 * 256 + x) := by
  have hj := j.2
  unfold s_v486
  pointwise [k0_pay98]
  refine Finset.sum_congr rfl fun x _ => ?_
  have hx := x.2
  rw [v446_at T, mul_comm]
  unfold l_v484
  rw [ld3 I.x12 0 0 0 _ 0 x ⟨256 + j.1, by omega⟩ (by decide) (by omega) (by first | omega | (simp only; omega))]
  refine congrArg₂ (· * ·) (Eq.trans ?_ (T.hwi 0 x j)) ?_
  · congr 2 <;> (apply Fin.ext; simp)
  · refine congrArg (xc A _) ?_; first | omega | (simp only <;> omega)

theorem v491_lo (T : Tile A s I) (i : Fin 512) (j : Fin 256) : s_v491 I (ix2 i ⟨j.1, by omega⟩)
    = ∑ x : Fin 256, A.wr 1 x j * xc A (tm s i) (1 * 256 + x) := by
  have hj := j.2
  unfold s_v491
  pointwise [k0_pay99]
  refine Finset.sum_congr rfl fun x _ => ?_
  have hx := x.2
  rw [v446_at T, mul_comm]
  unfold l_v489
  rw [ld3 I.x12 1 0 0 _ 0 x ⟨j.1, by omega⟩ (by decide) (by omega) (by first | omega | (simp only; omega))]
  refine congrArg₂ (· * ·) (Eq.trans ?_ (T.hwr 1 x j)) ?_
  · congr 2 <;> (apply Fin.ext; simp)
  · refine congrArg (xc A _) ?_; first | omega | (simp only <;> omega)

theorem v491_hi (T : Tile A s I) (i : Fin 512) (j : Fin 256) : s_v491 I (ix2 i ⟨256 + j.1, by omega⟩)
    = ∑ x : Fin 256, A.wi 1 x j * xc A (tm s i) (1 * 256 + x) := by
  have hj := j.2
  unfold s_v491
  pointwise [k0_pay99]
  refine Finset.sum_congr rfl fun x _ => ?_
  have hx := x.2
  rw [v446_at T, mul_comm]
  unfold l_v489
  rw [ld3 I.x12 1 0 0 _ 0 x ⟨256 + j.1, by omega⟩ (by decide) (by omega) (by first | omega | (simp only; omega))]
  refine congrArg₂ (· * ·) (Eq.trans ?_ (T.hwi 1 x j)) ?_
  · congr 2 <;> (apply Fin.ext; simp)
  · refine congrArg (xc A _) ?_; first | omega | (simp only <;> omega)

theorem v496_lo (T : Tile A s I) (i : Fin 512) (j : Fin 256) : s_v496 I (ix2 i ⟨j.1, by omega⟩)
    = ∑ x : Fin 256, A.wr 2 x j * xc A (tm s i) (2 * 256 + x) := by
  have hj := j.2
  unfold s_v496
  pointwise [k0_pay100]
  refine Finset.sum_congr rfl fun x _ => ?_
  have hx := x.2
  rw [v446_at T, mul_comm]
  unfold l_v494
  rw [ld3 I.x12 2 0 0 _ 0 x ⟨j.1, by omega⟩ (by decide) (by omega) (by first | omega | (simp only; omega))]
  refine congrArg₂ (· * ·) (Eq.trans ?_ (T.hwr 2 x j)) ?_
  · congr 2 <;> (apply Fin.ext; simp)
  · refine congrArg (xc A _) ?_; first | omega | (simp only <;> omega)

theorem v496_hi (T : Tile A s I) (i : Fin 512) (j : Fin 256) : s_v496 I (ix2 i ⟨256 + j.1, by omega⟩)
    = ∑ x : Fin 256, A.wi 2 x j * xc A (tm s i) (2 * 256 + x) := by
  have hj := j.2
  unfold s_v496
  pointwise [k0_pay100]
  refine Finset.sum_congr rfl fun x _ => ?_
  have hx := x.2
  rw [v446_at T, mul_comm]
  unfold l_v494
  rw [ld3 I.x12 2 0 0 _ 0 x ⟨256 + j.1, by omega⟩ (by decide) (by omega) (by first | omega | (simp only; omega))]
  refine congrArg₂ (· * ·) (Eq.trans ?_ (T.hwi 2 x j)) ?_
  · congr 2 <;> (apply Fin.ext; simp)
  · refine congrArg (xc A _) ?_; first | omega | (simp only <;> omega)

theorem v501_lo (T : Tile A s I) (i : Fin 512) (j : Fin 256) : s_v501 I (ix2 i ⟨j.1, by omega⟩)
    = ∑ x : Fin 256, A.wr 3 x j * xc A (tm s i) (3 * 256 + x) := by
  have hj := j.2
  unfold s_v501
  pointwise [k0_pay101]
  refine Finset.sum_congr rfl fun x _ => ?_
  have hx := x.2
  rw [v446_at T, mul_comm]
  unfold l_v499
  rw [ld3 I.x12 3 0 0 _ 0 x ⟨j.1, by omega⟩ (by decide) (by omega) (by first | omega | (simp only; omega))]
  refine congrArg₂ (· * ·) (Eq.trans ?_ (T.hwr 3 x j)) ?_
  · congr 2 <;> (apply Fin.ext; simp)
  · refine congrArg (xc A _) ?_; first | omega | (simp only <;> omega)

theorem v501_hi (T : Tile A s I) (i : Fin 512) (j : Fin 256) : s_v501 I (ix2 i ⟨256 + j.1, by omega⟩)
    = ∑ x : Fin 256, A.wi 3 x j * xc A (tm s i) (3 * 256 + x) := by
  have hj := j.2
  unfold s_v501
  pointwise [k0_pay101]
  refine Finset.sum_congr rfl fun x _ => ?_
  have hx := x.2
  rw [v446_at T, mul_comm]
  unfold l_v499
  rw [ld3 I.x12 3 0 0 _ 0 x ⟨256 + j.1, by omega⟩ (by decide) (by omega) (by first | omega | (simp only; omega))]
  refine congrArg₂ (· * ·) (Eq.trans ?_ (T.hwi 3 x j)) ?_
  · congr 2 <;> (apply Fin.ext; simp)
  · refine congrArg (xc A _) ?_; first | omega | (simp only <;> omega)

theorem v616_at (T : Tile A s I) (i : Fin 512) (j : Fin 1024) : s_v616 I (ix2 i j) = rg A (tm s i) j := by
  have hj := j.2
  unfold s_v616
  pointwise [k0_pay128]
  simp only [T.hbr, zero_sub]
  unfold rg sig
  by_cases h1 : j.1 < 256
  · rw [dif_pos h1, show j.1 / 256 = 0 by omega, show j.1 % 256 = j.1 by omega]
    have e := v486_lo T i ⟨j.1, by omega⟩
    dsimp only at e
    rw [e]
  by_cases h2 : j.1 - 256 < 256
  · rw [dif_neg h1, dif_pos h2, show j.1 / 256 = 1 by omega, show j.1 % 256 = j.1 - 256 by omega]
    have e := v491_lo T i ⟨j.1 - 256, by omega⟩
    dsimp only at e
    rw [e]
  by_cases h3 : j.1 - 256 - 256 < 256
  · rw [dif_neg h1, dif_neg h2, dif_pos h3, show j.1 / 256 = 2 by omega, show j.1 % 256 = j.1 - 256 - 256 by omega]
    have e := v496_lo T i ⟨j.1 - 256 - 256, by omega⟩
    dsimp only at e
    rw [e]
  · rw [dif_neg h1, dif_neg h2, dif_neg h3, show j.1 / 256 = 3 by omega, show j.1 % 256 = j.1 - 256 - 256 - 256 by omega]
    have e := v501_lo T i ⟨j.1 - 256 - 256 - 256, by omega⟩
    dsimp only at e
    rw [e]

theorem v632_at (T : Tile A s I) (i : Fin 512) (j : Fin 1024) : s_v632 I (ix2 i j) = ig A (tm s i) j := by
  have hj := j.2
  unfold s_v632
  pointwise [k0_pay129]
  simp only [T.hbi, zero_sub]
  unfold ig sig
  by_cases h1 : j.1 < 256
  · rw [dif_pos h1, show j.1 / 256 = 0 by omega, show j.1 % 256 = j.1 by omega]
    have e := v486_hi T i ⟨j.1, by omega⟩
    dsimp only at e
    rw [e]
  by_cases h2 : j.1 - 256 < 256
  · rw [dif_neg h1, dif_pos h2, show j.1 / 256 = 1 by omega, show j.1 % 256 = j.1 - 256 by omega]
    have e := v491_hi T i ⟨j.1 - 256, by omega⟩
    dsimp only at e
    rw [e]
  by_cases h3 : j.1 - 256 - 256 < 256
  · rw [dif_neg h1, dif_neg h2, dif_pos h3, show j.1 / 256 = 2 by omega, show j.1 % 256 = j.1 - 256 - 256 by omega]
    have e := v496_hi T i ⟨j.1 - 256 - 256, by omega⟩
    dsimp only at e
    rw [e]
  · rw [dif_neg h1, dif_neg h2, dif_neg h3, show j.1 / 256 = 3 by omega, show j.1 % 256 = j.1 - 256 - 256 - 256 by omega]
    have e := v501_hi T i ⟨j.1 - 256 - 256 - 256, by omega⟩
    dsimp only at e
    rw [e]

theorem v634_at (T : Tile A s I) (j : Fin 1024) : s_v634 I (ix2 0 j) = A.lam j := by
  unfold s_v634
  pointwise [k0_pay130]
  exact T.hlam j

/-- The recurrence's coefficient. -/
theorem v649_at (T : Tile A s I) (i : Fin 512) (j : Fin 1024) : s_v649 I (ix2 i j) = av A j (tm s i) := by
  unfold s_v649
  pointwise [k0_pay131]
  simp only [v616_at T, v634_at T, zero_sub]
  rfl

/-- The recurrence's input term. -/
theorem v660_at (T : Tile A s I) (i : Fin 512) (j : Fin 1024) : s_v660 I (ix2 i j) = bv A j (tm s i) := by
  have h649 := v649_at T i j
  unfold s_v649 at h649
  unfold s_v660
  pointwise [k0_pay132]
  simp only [h649, v632_at T, v446_at T]
  unfold bv
  rw [← root_eq _ (la_nonpos A (tm s i) j)]
  rfl

end Cert.Mix

end
-- ==== Proof.MixRet.lean ====
module

public import proofs.«01_k».proof.Proof.MixRec
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable {A : Arr} {s : ℕ} {I : In}

theorem tmf_lo (s : ℕ) (x : Fin 256) : tm s x.1 = 512 * s + tau x.1 := tm_lo s x.2

theorem tmf_hi (s : ℕ) (x : Fin 256) : tm s (256 + x.1) = 512 * s + 256 + tau x.1 := tm_hi s x.2

theorem named_dec (n : String) (b : BitVec 32) (v : ℝ) (h : κ n = some (v : EReal)) : Named.named (F := Ideal) (φ := FTy.f32) κ n b = (v : EReal) := by
  simp [Named.named, h]

theorem dec0_eq : Named.named (F := Ideal) (φ := FTy.f32) κ "decay0" 966446241#32 = ((gam 0 ^ 256 : ℝ) : EReal) := by
  refine named_dec _ _ _ ?_
  unfold κ
  simp only
  refine congrArg some (congrArg Real.toEReal ?_)
  unfold gam
  norm_num

theorem dec1_eq : Named.named (F := Ideal) (φ := FTy.f32) κ "decay1" 1016160421#32 = ((gam 1 ^ 256 : ℝ) : EReal) := by
  refine named_dec _ _ _ ?_
  unfold κ
  simp only
  refine congrArg some (congrArg Real.toEReal ?_)
  unfold gam
  norm_num

theorem dec2_eq : Named.named (F := Ideal) (φ := FTy.f32) κ "decay2" 1040809934#32 = ((gam 2 ^ 256 : ℝ) : EReal) := by
  refine named_dec _ _ _ ?_
  unfold κ
  simp only
  refine congrArg some (congrArg Real.toEReal ?_)
  unfold gam
  norm_num

theorem dec3_eq : Named.named (F := Ideal) (φ := FTy.f32) κ "decay3" 1052507229#32 = ((gam 3 ^ 256 : ℝ) : EReal) := by
  refine named_dec _ _ _ ?_
  unfold κ
  simp only
  refine congrArg some (congrArg Real.toEReal ?_)
  unfold gam
  norm_num

theorem v130_at (T : Tile A s I) (d : Fin 128) (e : Fin 256) : s_v130 I (ix2 d e) = stE A 0 (512 * s) d e := by
  unfold s_v130
  pointwise [k0_pay20]
  exact T.hz0 d e

theorem v190_h0 (T : Tile A s I) (r : Fin 512) (e : Fin 256) : s_v190 I (ix2 r ⟨e.1, by omega⟩) = vf A 0 (tm s r) e := by
  rw [v190_at T]
  unfold vf
  refine congrArg (prj A _) ?_
  simp only <;> omega

theorem v132_at (T : Tile A s I) (d : Fin 128) (e : Fin 256) : s_v132 I (ix2 d e) = stE A 1 (512 * s) d e := by
  unfold s_v132
  pointwise [k0_pay21]
  exact T.hz1 d e

theorem v190_h1 (T : Tile A s I) (r : Fin 512) (e : Fin 256) : s_v190 I (ix2 r ⟨256 + e.1, by omega⟩) = vf A 1 (tm s r) e := by
  rw [v190_at T]
  unfold vf
  refine congrArg (prj A _) ?_
  simp only <;> omega

theorem v134_at (T : Tile A s I) (d : Fin 128) (e : Fin 256) : s_v134 I (ix2 d e) = stE A 2 (512 * s) d e := by
  unfold s_v134
  pointwise [k0_pay22]
  exact T.hz2 d e

theorem v190_h2 (T : Tile A s I) (r : Fin 512) (e : Fin 256) : s_v190 I (ix2 r ⟨512 + e.1, by omega⟩) = vf A 2 (tm s r) e := by
  rw [v190_at T]
  unfold vf
  refine congrArg (prj A _) ?_
  simp only <;> omega

theorem v136_at (T : Tile A s I) (d : Fin 128) (e : Fin 256) : s_v136 I (ix2 d e) = stE A 3 (512 * s) d e := by
  unfold s_v136
  pointwise [k0_pay23]
  exact T.hz3 d e

theorem v190_h3 (T : Tile A s I) (r : Fin 512) (e : Fin 256) : s_v190 I (ix2 r ⟨768 + e.1, by omega⟩) = vf A 3 (tm s r) e := by
  rw [v190_at T]
  unfold vf
  refine congrArg (prj A _) ?_
  simp only <;> omega

theorem v527_at (T : Tile A s I) (r : Fin 512) (e : Fin 256) : k0_pay107 (F := Ideal) (s_v190 I) (ix2 r e) = vf A 1 (tm s r) e := by
  pointwise [k0_pay107]
  exact v190_h1 T r e

theorem v571_at (T : Tile A s I) (r : Fin 512) (e : Fin 256) : k0_pay119 (F := Ideal) (s_v190 I) (ix2 r e) = vf A 3 (tm s r) e := by
  pointwise [k0_pay119]
  exact v190_h3 T r e

theorem v545_at (T : Tile A s I) (r e : Fin 256) : s_v545 I (ix2 r e) = vf A 1 (512 * s + 256 + tau r) e := by
  unfold s_v545
  pointwise [k0_pay112]
  rw [v527_at T, tmf_hi]

theorem v589_at (T : Tile A s I) (r e : Fin 256) : s_v589 I (ix2 r e) = vf A 3 (512 * s + 256 + tau r) e := by
  unfold s_v589
  pointwise [k0_pay124]
  rw [v571_at T, tmf_hi]

theorem v198_at (T : Tile A s I) (i j : Fin 256) : s_v198 I (ix2 i j)
    = ∑ d : Fin 128, qf A 0 (512 * s + tau i) d * kf A 0 (512 * s + tau j) d := by
  unfold s_v198
  pointwise [k0_pay37, k0_pay35, k0_pay36]
  simp only [v144_at T, v150_at T, tmf_lo]

theorem v450_at (T : Tile A s I) (i j : Fin 256) : s_v450 I (ix2 i j)
    = (∑ d : Fin 128, qf A 0 (512 * s + tau i) d * kf A 0 (512 * s + tau j) d) * ((wgt (lgm 0) (tau i) (tau j) : ℝ) : EReal) := by
  have e := T.hdmask 0 i j
  have hi := i.2
  have hj := j.2
  unfold s_v450
  pointwise [k0_pay88]
  rw [v198_at T]
  unfold l_v447
  rw [ld3 I.x18 0 0 0 _ 0 i j (by decide) (by omega) (by omega)]
  refine congrArg (_ * ·) (Eq.trans ?_ e)
  congr 2 <;> (apply Fin.ext; simp)

theorem v206_at (T : Tile A s I) (i : Fin 256) (d : Fin 128) : s_v206 I (ix2 i d)
    = qf A 0 (512 * s + tau i) d * ((Real.exp (lgm 0 * ((tau i : ℝ) + 1)) : ℝ) : EReal) := by
  have e := T.hqdec i 0 d
  have hi := i.2
  have hd := d.2
  unfold s_v206
  pointwise [k0_pay39]
  rw [v144_at T]
  simp only [tmf_lo]
  unfold l_v203
  rw [ld2 I.x19 0 0 _ i d (by omega) (by omega)]
  have e3 : I.x19 (ix2 ⟨0 + i.1, by omega⟩ ⟨0 + d.1, by omega⟩) = ((Real.exp (lgm 0 * ((tau i : ℝ) + 1)) : ℝ) : EReal) := by
    refine Eq.trans ?_ e
    congr 2; apply Fin.ext; simp
  rw [e3]

theorem v216_at (T : Tile A s I) (i : Fin 256) (d : Fin 128) : s_v216 I (ix2 i d)
    = kf A 0 (512 * s + tau i) d * ((Real.exp (lgm 0 * (255 - (tau i : ℝ))) : ℝ) : EReal) := by
  have e := T.hkdec i 0 d
  have hi := i.2
  have hd := d.2
  unfold s_v216
  pointwise [k0_pay41]
  rw [v150_at T]
  simp only [tmf_lo]
  unfold l_v213
  rw [ld2 I.x20 0 0 _ i d (by omega) (by omega)]
  have e3 : I.x20 (ix2 ⟨0 + i.1, by omega⟩ ⟨0 + d.1, by omega⟩) = ((Real.exp (lgm 0 * (255 - (tau i : ℝ))) : ℝ) : EReal) := by
    refine Eq.trans ?_ e
    congr 2; apply Fin.ext; simp
  rw [e3]

theorem v201_at (T : Tile A s I) (i j : Fin 256) : s_v201 I (ix2 i j)
    = ∑ d : Fin 128, qf A 0 (512 * s + 256 + tau i) d * kf A 0 (512 * s + 256 + tau j) d := by
  unfold s_v201
  pointwise [k0_pay38, k0_pay35, k0_pay36]
  simp only [v144_at T, v150_at T, tmf_hi]

theorem v454_at (T : Tile A s I) (i j : Fin 256) : s_v454 I (ix2 i j)
    = (∑ d : Fin 128, qf A 0 (512 * s + 256 + tau i) d * kf A 0 (512 * s + 256 + tau j) d) * ((wgt (lgm 0) (tau i) (tau j) : ℝ) : EReal) := by
  have e := T.hdmask 0 i j
  have hi := i.2
  have hj := j.2
  unfold s_v454
  pointwise [k0_pay89]
  rw [v201_at T]
  unfold l_v451
  rw [ld3 I.x18 0 0 0 _ 0 i j (by decide) (by omega) (by omega)]
  refine congrArg (_ * ·) (Eq.trans ?_ e)
  congr 2 <;> (apply Fin.ext; simp)

theorem v211_at (T : Tile A s I) (i : Fin 256) (d : Fin 128) : s_v211 I (ix2 i d)
    = qf A 0 (512 * s + 256 + tau i) d * ((Real.exp (lgm 0 * ((tau i : ℝ) + 1)) : ℝ) : EReal) := by
  have e := T.hqdec i 0 d
  have hi := i.2
  have hd := d.2
  unfold s_v211
  pointwise [k0_pay40]
  rw [v144_at T]
  simp only [tmf_hi]
  unfold l_v208
  rw [ld2 I.x19 0 0 _ i d (by omega) (by omega)]
  have e3 : I.x19 (ix2 ⟨0 + i.1, by omega⟩ ⟨0 + d.1, by omega⟩) = ((Real.exp (lgm 0 * ((tau i : ℝ) + 1)) : ℝ) : EReal) := by
    refine Eq.trans ?_ e
    congr 2; apply Fin.ext; simp
  rw [e3]

theorem v221_at (T : Tile A s I) (i : Fin 256) (d : Fin 128) : s_v221 I (ix2 i d)
    = kf A 0 (512 * s + 256 + tau i) d * ((Real.exp (lgm 0 * (255 - (tau i : ℝ))) : ℝ) : EReal) := by
  have e := T.hkdec i 0 d
  have hi := i.2
  have hd := d.2
  unfold s_v221
  pointwise [k0_pay42]
  rw [v150_at T]
  simp only [tmf_hi]
  unfold l_v218
  rw [ld2 I.x20 0 0 _ i d (by omega) (by omega)]
  have e3 : I.x20 (ix2 ⟨0 + i.1, by omega⟩ ⟨0 + d.1, by omega⟩) = ((Real.exp (lgm 0 * (255 - (tau i : ℝ))) : ℝ) : EReal) := by
    refine Eq.trans ?_ e
    congr 2; apply Fin.ext; simp
  rw [e3]

theorem v226_at (T : Tile A s I) (i j : Fin 256) : s_v226 I (ix2 i j)
    = ∑ d : Fin 128, qf A 1 (512 * s + tau i) d * kf A 1 (512 * s + tau j) d := by
  unfold s_v226
  pointwise [k0_pay45, k0_pay43, k0_pay44]
  simp only [v156_at T, v162_at T, tmf_lo]

theorem v458_at (T : Tile A s I) (i j : Fin 256) : s_v458 I (ix2 i j)
    = (∑ d : Fin 128, qf A 1 (512 * s + tau i) d * kf A 1 (512 * s + tau j) d) * ((wgt (lgm 1) (tau i) (tau j) : ℝ) : EReal) := by
  have e := T.hdmask 1 i j
  have hi := i.2
  have hj := j.2
  unfold s_v458
  pointwise [k0_pay90]
  rw [v226_at T]
  unfold l_v455
  rw [ld3 I.x18 1 0 0 _ 0 i j (by decide) (by omega) (by omega)]
  refine congrArg (_ * ·) (Eq.trans ?_ e)
  congr 2 <;> (apply Fin.ext; simp)

theorem v234_at (T : Tile A s I) (i : Fin 256) (d : Fin 128) : s_v234 I (ix2 i d)
    = qf A 1 (512 * s + tau i) d * ((Real.exp (lgm 1 * ((tau i : ℝ) + 1)) : ℝ) : EReal) := by
  have e := T.hqdec i 1 d
  have hi := i.2
  have hd := d.2
  unfold s_v234
  pointwise [k0_pay47]
  rw [v156_at T]
  simp only [tmf_lo]
  unfold l_v231
  rw [ld2 I.x19 0 128 _ i d (by omega) (by omega)]
  have e3 : I.x19 (ix2 ⟨0 + i.1, by omega⟩ ⟨128 + d.1, by omega⟩) = ((Real.exp (lgm 1 * ((tau i : ℝ) + 1)) : ℝ) : EReal) := by
    refine Eq.trans ?_ e
    congr 2; apply Fin.ext; simp
  rw [e3]

theorem v244_at (T : Tile A s I) (i : Fin 256) (d : Fin 128) : s_v244 I (ix2 i d)
    = kf A 1 (512 * s + tau i) d * ((Real.exp (lgm 1 * (255 - (tau i : ℝ))) : ℝ) : EReal) := by
  have e := T.hkdec i 1 d
  have hi := i.2
  have hd := d.2
  unfold s_v244
  pointwise [k0_pay49]
  rw [v162_at T]
  simp only [tmf_lo]
  unfold l_v241
  rw [ld2 I.x20 0 128 _ i d (by omega) (by omega)]
  have e3 : I.x20 (ix2 ⟨0 + i.1, by omega⟩ ⟨128 + d.1, by omega⟩) = ((Real.exp (lgm 1 * (255 - (tau i : ℝ))) : ℝ) : EReal) := by
    refine Eq.trans ?_ e
    congr 2; apply Fin.ext; simp
  rw [e3]

theorem v229_at (T : Tile A s I) (i j : Fin 256) : s_v229 I (ix2 i j)
    = ∑ d : Fin 128, qf A 1 (512 * s + 256 + tau i) d * kf A 1 (512 * s + 256 + tau j) d := by
  unfold s_v229
  pointwise [k0_pay46, k0_pay43, k0_pay44]
  simp only [v156_at T, v162_at T, tmf_hi]

theorem v462_at (T : Tile A s I) (i j : Fin 256) : s_v462 I (ix2 i j)
    = (∑ d : Fin 128, qf A 1 (512 * s + 256 + tau i) d * kf A 1 (512 * s + 256 + tau j) d) * ((wgt (lgm 1) (tau i) (tau j) : ℝ) : EReal) := by
  have e := T.hdmask 1 i j
  have hi := i.2
  have hj := j.2
  unfold s_v462
  pointwise [k0_pay91]
  rw [v229_at T]
  unfold l_v459
  rw [ld3 I.x18 1 0 0 _ 0 i j (by decide) (by omega) (by omega)]
  refine congrArg (_ * ·) (Eq.trans ?_ e)
  congr 2 <;> (apply Fin.ext; simp)

theorem v239_at (T : Tile A s I) (i : Fin 256) (d : Fin 128) : s_v239 I (ix2 i d)
    = qf A 1 (512 * s + 256 + tau i) d * ((Real.exp (lgm 1 * ((tau i : ℝ) + 1)) : ℝ) : EReal) := by
  have e := T.hqdec i 1 d
  have hi := i.2
  have hd := d.2
  unfold s_v239
  pointwise [k0_pay48]
  rw [v156_at T]
  simp only [tmf_hi]
  unfold l_v236
  rw [ld2 I.x19 0 128 _ i d (by omega) (by omega)]
  have e3 : I.x19 (ix2 ⟨0 + i.1, by omega⟩ ⟨128 + d.1, by omega⟩) = ((Real.exp (lgm 1 * ((tau i : ℝ) + 1)) : ℝ) : EReal) := by
    refine Eq.trans ?_ e
    congr 2; apply Fin.ext; simp
  rw [e3]

theorem v249_at (T : Tile A s I) (i : Fin 256) (d : Fin 128) : s_v249 I (ix2 i d)
    = kf A 1 (512 * s + 256 + tau i) d * ((Real.exp (lgm 1 * (255 - (tau i : ℝ))) : ℝ) : EReal) := by
  have e := T.hkdec i 1 d
  have hi := i.2
  have hd := d.2
  unfold s_v249
  pointwise [k0_pay50]
  rw [v162_at T]
  simp only [tmf_hi]
  unfold l_v246
  rw [ld2 I.x20 0 128 _ i d (by omega) (by omega)]
  have e3 : I.x20 (ix2 ⟨0 + i.1, by omega⟩ ⟨128 + d.1, by omega⟩) = ((Real.exp (lgm 1 * (255 - (tau i : ℝ))) : ℝ) : EReal) := by
    refine Eq.trans ?_ e
    congr 2; apply Fin.ext; simp
  rw [e3]

theorem v254_at (T : Tile A s I) (i j : Fin 256) : s_v254 I (ix2 i j)
    = ∑ d : Fin 128, qf A 2 (512 * s + tau i) d * kf A 2 (512 * s + tau j) d := by
  unfold s_v254
  pointwise [k0_pay53, k0_pay51, k0_pay52]
  simp only [v168_at T, v174_at T, tmf_lo]

theorem v466_at (T : Tile A s I) (i j : Fin 256) : s_v466 I (ix2 i j)
    = (∑ d : Fin 128, qf A 2 (512 * s + tau i) d * kf A 2 (512 * s + tau j) d) * ((wgt (lgm 2) (tau i) (tau j) : ℝ) : EReal) := by
  have e := T.hdmask 2 i j
  have hi := i.2
  have hj := j.2
  unfold s_v466
  pointwise [k0_pay92]
  rw [v254_at T]
  unfold l_v463
  rw [ld3 I.x18 2 0 0 _ 0 i j (by decide) (by omega) (by omega)]
  refine congrArg (_ * ·) (Eq.trans ?_ e)
  congr 2 <;> (apply Fin.ext; simp)

theorem v262_at (T : Tile A s I) (i : Fin 256) (d : Fin 128) : s_v262 I (ix2 i d)
    = qf A 2 (512 * s + tau i) d * ((Real.exp (lgm 2 * ((tau i : ℝ) + 1)) : ℝ) : EReal) := by
  have e := T.hqdec i 2 d
  have hi := i.2
  have hd := d.2
  unfold s_v262
  pointwise [k0_pay57]
  rw [v168_at T]
  simp only [tmf_lo]
  unfold l_v259
  rw [ld2 I.x19 0 256 _ i d (by omega) (by omega)]
  have e3 : I.x19 (ix2 ⟨0 + i.1, by omega⟩ ⟨256 + d.1, by omega⟩) = ((Real.exp (lgm 2 * ((tau i : ℝ) + 1)) : ℝ) : EReal) := by
    refine Eq.trans ?_ e
    congr 2; apply Fin.ext; simp
  rw [e3]

theorem v272_at (T : Tile A s I) (i : Fin 256) (d : Fin 128) : s_v272 I (ix2 i d)
    = kf A 2 (512 * s + tau i) d * ((Real.exp (lgm 2 * (255 - (tau i : ℝ))) : ℝ) : EReal) := by
  have e := T.hkdec i 2 d
  have hi := i.2
  have hd := d.2
  unfold s_v272
  pointwise [k0_pay59]
  rw [v174_at T]
  simp only [tmf_lo]
  unfold l_v269
  rw [ld2 I.x20 0 256 _ i d (by omega) (by omega)]
  have e3 : I.x20 (ix2 ⟨0 + i.1, by omega⟩ ⟨256 + d.1, by omega⟩) = ((Real.exp (lgm 2 * (255 - (tau i : ℝ))) : ℝ) : EReal) := by
    refine Eq.trans ?_ e
    congr 2; apply Fin.ext; simp
  rw [e3]

theorem v257_at (T : Tile A s I) (i j : Fin 256) : s_v257 I (ix2 i j)
    = ∑ d : Fin 128, qf A 2 (512 * s + 256 + tau i) d * kf A 2 (512 * s + 256 + tau j) d := by
  unfold s_v257 s_v255 s_v256
  pointwise [k0_pay56, k0_pay54, k0_pay55, k0_pay51, k0_pay52]
  simp only [v168_at T, v174_at T, tmf_hi]

theorem v470_at (T : Tile A s I) (i j : Fin 256) : s_v470 I (ix2 i j)
    = (∑ d : Fin 128, qf A 2 (512 * s + 256 + tau i) d * kf A 2 (512 * s + 256 + tau j) d) * ((wgt (lgm 2) (tau i) (tau j) : ℝ) : EReal) := by
  have e := T.hdmask 2 i j
  have hi := i.2
  have hj := j.2
  unfold s_v470 s_v469
  pointwise [k0_pay94, k0_pay93]
  rw [v257_at T]
  unfold l_v467
  rw [ld3 I.x18 2 0 0 _ 0 i j (by decide) (by omega) (by omega)]
  refine congrArg (_ * ·) (Eq.trans ?_ e)
  congr 2 <;> (apply Fin.ext; simp)

theorem v267_at (T : Tile A s I) (i : Fin 256) (d : Fin 128) : s_v267 I (ix2 i d)
    = qf A 2 (512 * s + 256 + tau i) d * ((Real.exp (lgm 2 * ((tau i : ℝ) + 1)) : ℝ) : EReal) := by
  have e := T.hqdec i 2 d
  have hi := i.2
  have hd := d.2
  unfold s_v267
  pointwise [k0_pay58]
  rw [v168_at T]
  simp only [tmf_hi]
  unfold l_v264
  rw [ld2 I.x19 0 256 _ i d (by omega) (by omega)]
  have e3 : I.x19 (ix2 ⟨0 + i.1, by omega⟩ ⟨256 + d.1, by omega⟩) = ((Real.exp (lgm 2 * ((tau i : ℝ) + 1)) : ℝ) : EReal) := by
    refine Eq.trans ?_ e
    congr 2; apply Fin.ext; simp
  rw [e3]

theorem v277_at (T : Tile A s I) (i : Fin 256) (d : Fin 128) : s_v277 I (ix2 i d)
    = kf A 2 (512 * s + 256 + tau i) d * ((Real.exp (lgm 2 * (255 - (tau i : ℝ))) : ℝ) : EReal) := by
  have e := T.hkdec i 2 d
  have hi := i.2
  have hd := d.2
  unfold s_v277
  pointwise [k0_pay60]
  rw [v174_at T]
  simp only [tmf_hi]
  unfold l_v274
  rw [ld2 I.x20 0 256 _ i d (by omega) (by omega)]
  have e3 : I.x20 (ix2 ⟨0 + i.1, by omega⟩ ⟨256 + d.1, by omega⟩) = ((Real.exp (lgm 2 * (255 - (tau i : ℝ))) : ℝ) : EReal) := by
    refine Eq.trans ?_ e
    congr 2; apply Fin.ext; simp
  rw [e3]

theorem v282_at (T : Tile A s I) (i j : Fin 256) : s_v282 I (ix2 i j)
    = ∑ d : Fin 128, qf A 3 (512 * s + tau i) d * kf A 3 (512 * s + tau j) d := by
  unfold s_v282
  pointwise [k0_pay63, k0_pay61, k0_pay62]
  simp only [v180_at T, v186_at T, tmf_lo]

theorem v474_at (T : Tile A s I) (i j : Fin 256) : s_v474 I (ix2 i j)
    = (∑ d : Fin 128, qf A 3 (512 * s + tau i) d * kf A 3 (512 * s + tau j) d) * ((wgt (lgm 3) (tau i) (tau j) : ℝ) : EReal) := by
  have e := T.hdmask 3 i j
  have hi := i.2
  have hj := j.2
  unfold s_v474
  pointwise [k0_pay95]
  rw [v282_at T]
  unfold l_v471
  rw [ld3 I.x18 3 0 0 _ 0 i j (by decide) (by omega) (by omega)]
  refine congrArg (_ * ·) (Eq.trans ?_ e)
  congr 2 <;> (apply Fin.ext; simp)

theorem v290_at (T : Tile A s I) (i : Fin 256) (d : Fin 128) : s_v290 I (ix2 i d)
    = qf A 3 (512 * s + tau i) d * ((Real.exp (lgm 3 * ((tau i : ℝ) + 1)) : ℝ) : EReal) := by
  have e := T.hqdec i 3 d
  have hi := i.2
  have hd := d.2
  unfold s_v290
  pointwise [k0_pay65]
  rw [v180_at T]
  simp only [tmf_lo]
  unfold l_v287
  rw [ld2 I.x19 0 384 _ i d (by omega) (by omega)]
  have e3 : I.x19 (ix2 ⟨0 + i.1, by omega⟩ ⟨384 + d.1, by omega⟩) = ((Real.exp (lgm 3 * ((tau i : ℝ) + 1)) : ℝ) : EReal) := by
    refine Eq.trans ?_ e
    congr 2; apply Fin.ext; simp
  rw [e3]

theorem v300_at (T : Tile A s I) (i : Fin 256) (d : Fin 128) : s_v300 I (ix2 i d)
    = kf A 3 (512 * s + tau i) d * ((Real.exp (lgm 3 * (255 - (tau i : ℝ))) : ℝ) : EReal) := by
  have e := T.hkdec i 3 d
  have hi := i.2
  have hd := d.2
  unfold s_v300 s_v299
  pointwise [k0_pay68, k0_pay67]
  rw [v186_at T]
  simp only [tmf_lo]
  unfold l_v297
  rw [ld2 I.x20 0 384 _ i d (by omega) (by omega)]
  have e3 : I.x20 (ix2 ⟨0 + i.1, by omega⟩ ⟨384 + d.1, by omega⟩) = ((Real.exp (lgm 3 * (255 - (tau i : ℝ))) : ℝ) : EReal) := by
    refine Eq.trans ?_ e
    congr 2; apply Fin.ext; simp
  rw [e3]

theorem v285_at (T : Tile A s I) (i j : Fin 256) : s_v285 I (ix2 i j)
    = ∑ d : Fin 128, qf A 3 (512 * s + 256 + tau i) d * kf A 3 (512 * s + 256 + tau j) d := by
  unfold s_v285
  pointwise [k0_pay64, k0_pay61, k0_pay62]
  simp only [v180_at T, v186_at T, tmf_hi]

theorem v478_at (T : Tile A s I) (i j : Fin 256) : s_v478 I (ix2 i j)
    = (∑ d : Fin 128, qf A 3 (512 * s + 256 + tau i) d * kf A 3 (512 * s + 256 + tau j) d) * ((wgt (lgm 3) (tau i) (tau j) : ℝ) : EReal) := by
  have e := T.hdmask 3 i j
  have hi := i.2
  have hj := j.2
  unfold s_v478
  pointwise [k0_pay96]
  rw [v285_at T]
  unfold l_v475
  rw [ld3 I.x18 3 0 0 _ 0 i j (by decide) (by omega) (by omega)]
  refine congrArg (_ * ·) (Eq.trans ?_ e)
  congr 2 <;> (apply Fin.ext; simp)

theorem v295_at (T : Tile A s I) (i : Fin 256) (d : Fin 128) : s_v295 I (ix2 i d)
    = qf A 3 (512 * s + 256 + tau i) d * ((Real.exp (lgm 3 * ((tau i : ℝ) + 1)) : ℝ) : EReal) := by
  have e := T.hqdec i 3 d
  have hi := i.2
  have hd := d.2
  unfold s_v295
  pointwise [k0_pay66]
  rw [v180_at T]
  simp only [tmf_hi]
  unfold l_v292
  rw [ld2 I.x19 0 384 _ i d (by omega) (by omega)]
  have e3 : I.x19 (ix2 ⟨0 + i.1, by omega⟩ ⟨384 + d.1, by omega⟩) = ((Real.exp (lgm 3 * ((tau i : ℝ) + 1)) : ℝ) : EReal) := by
    refine Eq.trans ?_ e
    congr 2; apply Fin.ext; simp
  rw [e3]

theorem v305_at (T : Tile A s I) (i : Fin 256) (d : Fin 128) : s_v305 I (ix2 i d)
    = kf A 3 (512 * s + 256 + tau i) d * ((Real.exp (lgm 3 * (255 - (tau i : ℝ))) : ℝ) : EReal) := by
  have e := T.hkdec i 3 d
  have hi := i.2
  have hd := d.2
  unfold s_v305
  pointwise [k0_pay69]
  rw [v186_at T]
  simp only [tmf_hi]
  unfold l_v302
  rw [ld2 I.x20 0 384 _ i d (by omega) (by omega)]
  have e3 : I.x20 (ix2 ⟨0 + i.1, by omega⟩ ⟨384 + d.1, by omega⟩) = ((Real.exp (lgm 3 * (255 - (tau i : ℝ))) : ℝ) : EReal) := by
    refine Eq.trans ?_ e
    congr 2; apply Fin.ext; simp
  rw [e3]

/-- The state of head 0 after the tile. -/
theorem v525_at (T : Tile A s I) (d : Fin 128) (e : Fin 256) : s_v525 I (ix2 d e) = stE A 0 (512 * s + 256 + 256) d e := by
  unfold s_v525
  pointwise [k0_pay105, k0_pay104, k0_pay103]
  simp only [v130_at T, v216_at T, v221_at T, v190_h0 T, tmf_lo, tmf_hi, dec0_eq]
  rw [stE_step A T.good 0 _ _ _ (by decide) d.2 e.2, stE_step A T.good 0 _ _ _ (by decide) d.2 e.2]

/-- The state of head 2 after the tile. -/
theorem v569_at (T : Tile A s I) (d : Fin 128) (e : Fin 256) : s_v569 I (ix2 d e) = stE A 2 (512 * s + 256 + 256) d e := by
  unfold s_v569
  pointwise [k0_pay117, k0_pay116, k0_pay115]
  simp only [v134_at T, v272_at T, v277_at T, v190_h2 T, tmf_lo, tmf_hi, dec2_eq]
  rw [stE_step A T.good 2 _ _ _ (by decide) d.2 e.2, stE_step A T.good 2 _ _ _ (by decide) d.2 e.2]

/-- The state of head 1 after the tile. -/
theorem v547_at (T : Tile A s I) (d : Fin 128) (e : Fin 256) : s_v547 I (ix2 d e) = stE A 1 (512 * s + 256 + 256) d e := by
  unfold s_v547 s_v544
  pointwise [k0_pay113, k0_pay111, k0_pay109]
  simp only [v132_at T, v244_at T, v249_at T, v545_at T, v527_at T, tmf_lo, tmf_hi, dec1_eq]
  rw [stE_step A T.good 1 _ _ _ (by decide) d.2 e.2, stE_step A T.good 1 _ _ _ (by decide) d.2 e.2]

/-- The state of head 3 after the tile. -/
theorem v591_at (T : Tile A s I) (d : Fin 128) (e : Fin 256) : s_v591 I (ix2 d e) = stE A 3 (512 * s + 256 + 256) d e := by
  unfold s_v591 s_v588
  pointwise [k0_pay125, k0_pay123, k0_pay121]
  simp only [v136_at T, v300_at T, v305_at T, v589_at T, v571_at T, tmf_lo, tmf_hi, dec3_eq]
  rw [stE_step A T.good 3 _ _ _ (by decide) d.2 e.2, stE_step A T.good 3 _ _ _ (by decide) d.2 e.2]

/-- The retention of head 0. -/
theorem v526_at (T : Tile A s I) (i : Fin 512) (e : Fin 256) : s_v526 I (ix2 i e) = ret A 0 (tm s i) e := by
  have hi := i.2
  have hs := T.hs
  unfold s_v526
  pointwise [k0_pay106, k0_pay104, k0_pay103]
  by_cases h : i.1 < 256
  · rw [dif_pos h, tm_lo s h]
    simp only [v130_at T, v450_at T, v206_at T, v190_h0 T, tmf_lo, tmf_hi]
    exact ret_eq A T.good 0 (512 * s) (tau i.1) e (by decide) e.2 (by omega) (tau_lt h) (by omega)
  · rw [dif_neg h, tm_hi' s (by omega) hi]
    have hst : ∀ d : Fin 128, stE A 0 (512 * s) d e * ((gam 0 ^ 256 : ℝ) : EReal)
        + ∑ r : Fin 256, kf A 0 (512 * s + tau r) d * ((Real.exp (lgm 0 * (255 - (tau r : ℝ))) : ℝ) : EReal) * vf A 0 (512 * s + tau r) e
        = stE A 0 (512 * s + 256) d e := fun d => stE_step A T.good 0 _ _ _ (by decide) d.2 e.2
    simp only [v130_at T, v454_at T, v211_at T, v216_at T, v190_h0 T, tmf_lo, tmf_hi, dec0_eq, hst]
    exact ret_eq A T.good 0 (512 * s + 256) (tau (i.1 - 256)) e (by decide) e.2 (by omega) (tau_lt (by omega)) (by omega)

/-- The retention of head 1. -/
theorem v548_at (T : Tile A s I) (i : Fin 512) (e : Fin 256) : s_v548 I (ix2 i e) = ret A 1 (tm s i) e := by
  have hi := i.2
  have hs := T.hs
  unfold s_v548 s_v532 s_v542
  pointwise [k0_pay114, k0_pay108, k0_pay110, k0_pay109]
  by_cases h : i.1 < 256
  · rw [dif_pos h, tm_lo s h]
    simp only [v132_at T, v458_at T, v234_at T, v527_at T, tmf_lo, tmf_hi]
    exact ret_eq A T.good 1 (512 * s) (tau i.1) e (by decide) e.2 (by omega) (tau_lt h) (by omega)
  · rw [dif_neg h, tm_hi' s (by omega) hi]
    have hst : ∀ d : Fin 128, stE A 1 (512 * s) d e * ((gam 1 ^ 256 : ℝ) : EReal)
        + ∑ r : Fin 256, kf A 1 (512 * s + tau r) d * ((Real.exp (lgm 1 * (255 - (tau r : ℝ))) : ℝ) : EReal) * vf A 1 (512 * s + tau r) e
        = stE A 1 (512 * s + 256) d e := fun d => stE_step A T.good 1 _ _ _ (by decide) d.2 e.2
    simp only [v132_at T, v462_at T, v239_at T, v244_at T, v527_at T, tmf_lo, tmf_hi, dec1_eq, hst]
    exact ret_eq A T.good 1 (512 * s + 256) (tau (i.1 - 256)) e (by decide) e.2 (by omega) (tau_lt (by omega)) (by omega)

/-- The retention of head 2. -/
theorem v570_at (T : Tile A s I) (i : Fin 512) (e : Fin 256) : s_v570 I (ix2 i e) = ret A 2 (tm s i) e := by
  have hi := i.2
  have hs := T.hs
  unfold s_v570
  pointwise [k0_pay118, k0_pay116, k0_pay115]
  by_cases h : i.1 < 256
  · rw [dif_pos h, tm_lo s h]
    simp only [v134_at T, v466_at T, v262_at T, v190_h2 T, tmf_lo, tmf_hi]
    exact ret_eq A T.good 2 (512 * s) (tau i.1) e (by decide) e.2 (by omega) (tau_lt h) (by omega)
  · rw [dif_neg h, tm_hi' s (by omega) hi]
    have hst : ∀ d : Fin 128, stE A 2 (512 * s) d e * ((gam 2 ^ 256 : ℝ) : EReal)
        + ∑ r : Fin 256, kf A 2 (512 * s + tau r) d * ((Real.exp (lgm 2 * (255 - (tau r : ℝ))) : ℝ) : EReal) * vf A 2 (512 * s + tau r) e
        = stE A 2 (512 * s + 256) d e := fun d => stE_step A T.good 2 _ _ _ (by decide) d.2 e.2
    simp only [v134_at T, v470_at T, v267_at T, v272_at T, v190_h2 T, tmf_lo, tmf_hi, dec2_eq, hst]
    exact ret_eq A T.good 2 (512 * s + 256) (tau (i.1 - 256)) e (by decide) e.2 (by omega) (tau_lt (by omega)) (by omega)

/-- The retention of head 3. -/
theorem v592_at (T : Tile A s I) (i : Fin 512) (e : Fin 256) : s_v592 I (ix2 i e) = ret A 3 (tm s i) e := by
  have hi := i.2
  have hs := T.hs
  unfold s_v592 s_v576 s_v586
  pointwise [k0_pay126, k0_pay120, k0_pay122, k0_pay121]
  by_cases h : i.1 < 256
  · rw [dif_pos h, tm_lo s h]
    simp only [v136_at T, v474_at T, v290_at T, v571_at T, tmf_lo, tmf_hi]
    exact ret_eq A T.good 3 (512 * s) (tau i.1) e (by decide) e.2 (by omega) (tau_lt h) (by omega)
  · rw [dif_neg h, tm_hi' s (by omega) hi]
    have hst : ∀ d : Fin 128, stE A 3 (512 * s) d e * ((gam 3 ^ 256 : ℝ) : EReal)
        + ∑ r : Fin 256, kf A 3 (512 * s + tau r) d * ((Real.exp (lgm 3 * (255 - (tau r : ℝ))) : ℝ) : EReal) * vf A 3 (512 * s + tau r) e
        = stE A 3 (512 * s + 256) d e := fun d => stE_step A T.good 3 _ _ _ (by decide) d.2 e.2
    simp only [v136_at T, v478_at T, v295_at T, v300_at T, v571_at T, tmf_lo, tmf_hi, dec3_eq, hst]
    exact ret_eq A T.good 3 (512 * s + 256) (tau (i.1 - 256)) e (by decide) e.2 (by omega) (tau_lt (by omega)) (by omega)

theorem v600_at (T : Tile A s I) (i : Fin 512) (j : Fin 1024) : s_v600 I (ix2 i j) = prj A (tm s i) (2048 + j) * sig (prj A (tm s i) (2048 + j)) := by
  unfold s_v600
  pointwise [k0_pay127]
  simp only [v481_at T, zero_sub]
  rfl

theorem v683_at (T : Tile A s I) (i : Fin 512) (j : Fin 256) : s_v683 I (ix2 i j) = aact A (tm s i) (0 + j) := by
  have hj := j.2
  unfold s_v683 s_v680
  pointwise [k0_pay134, k0_pay133]
  simp only [v526_at T, v600_at T]
  unfold aact
  rw [show (j.1) / 256 = 0 by omega, show (j.1) % 256 = j.1 by omega]
  unfold l_v677
  rw [ld2 I.x8 0 0 _ 0 j (by decide) (by omega)]
  have e := T.hgnw ⟨0 + j.1, by omega⟩
  dsimp only at e
  simp only [Nat.zero_add] at e
  rw [← e]
  simp only [Nat.zero_add]
  rfl

theorem v706_at (T : Tile A s I) (i : Fin 512) (j : Fin 256) : s_v706 I (ix2 i j) = aact A (tm s i) (256 + j) := by
  have hj := j.2
  unfold s_v706
  pointwise [k0_pay135]
  simp only [v548_at T, v600_at T]
  unfold aact
  rw [show (256 + j.1) / 256 = 1 by omega, show (256 + j.1) % 256 = j.1 by omega]
  unfold l_v700
  rw [ld2 I.x8 0 256 _ 0 j (by decide) (by omega)]
  have e := T.hgnw ⟨256 + j.1, by omega⟩
  dsimp only at e

  rw [← e]

  rfl

theorem v729_at (T : Tile A s I) (i : Fin 512) (j : Fin 256) : s_v729 I (ix2 i j) = aact A (tm s i) (512 + j) := by
  have hj := j.2
  unfold s_v729 s_v726
  pointwise [k0_pay137, k0_pay136]
  simp only [v570_at T, v600_at T]
  unfold aact
  rw [show (512 + j.1) / 256 = 2 by omega, show (512 + j.1) % 256 = j.1 by omega]
  unfold l_v723
  rw [ld2 I.x8 0 512 _ 0 j (by decide) (by omega)]
  have e := T.hgnw ⟨512 + j.1, by omega⟩
  dsimp only at e

  rw [← e]

  rfl

theorem v752_at (T : Tile A s I) (i : Fin 512) (j : Fin 256) : s_v752 I (ix2 i j) = aact A (tm s i) (768 + j) := by
  have hj := j.2
  unfold s_v752
  pointwise [k0_pay138]
  simp only [v592_at T, v600_at T]
  unfold aact
  rw [show (768 + j.1) / 256 = 3 by omega, show (768 + j.1) % 256 = j.1 by omega]
  unfold l_v746
  rw [ld2 I.x8 0 768 _ 0 j (by decide) (by omega)]
  have e := T.hgnw ⟨768 + j.1, by omega⟩
  dsimp only at e

  rw [← e]

  rfl

/-- The gated retention. -/
theorem v1443_at (T : Tile A s I) (i : Fin 512) (j : Fin 1024) : s_v1443 I (ix2 i j) = aact A (tm s i) j := by
  have hj := j.2
  unfold s_v1443
  pointwise [k0_pay298]
  simp only [v683_at T, v706_at T, v729_at T, v752_at T]
  by_cases h1 : j.1 < 256
  · rw [dif_pos h1, Nat.zero_add]
  · by_cases h2 : j.1 - 256 < 256
    · rw [dif_neg h1, dif_pos h2, show 256 + (j.1 - 256) = j.1 by omega]
    · by_cases h3 : j.1 - 256 - 256 < 256
      · rw [dif_neg h1, dif_neg h2, dif_pos h3, show 512 + (j.1 - 256 - 256) = j.1 by omega]
      · rw [dif_neg h1, dif_neg h2, dif_neg h3, show 768 + (j.1 - 256 - 256 - 256) = j.1 by omega]

end Cert.Mix

end
-- ==== Proof.MixScan.lean ====
module

public import proofs.«01_k».proof.Proof.MixRec
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable {A : Arr} {s : ℕ} {I : In}

theorem trf0 (i : Fin 8) : tau (i.1) = 32 * i.1 := by have := i.2; unfold tau; omega
theorem trm0 (y : ℕ) : tau (y % 8) = 32 * (y % 8) := by unfold tau; omega
theorem trf1 (i : Fin 8) : tau (8 + i.1) = 32 * i.1 + 1 := by have := i.2; unfold tau; omega
theorem trm1 (y : ℕ) : tau (8 + y % 8) = 32 * (y % 8) + 1 := by unfold tau; omega
theorem trf2 (i : Fin 8) : tau (16 + i.1) = 32 * i.1 + 2 := by have := i.2; unfold tau; omega
theorem trm2 (y : ℕ) : tau (16 + y % 8) = 32 * (y % 8) + 2 := by unfold tau; omega
theorem trf3 (i : Fin 8) : tau (24 + i.1) = 32 * i.1 + 3 := by have := i.2; unfold tau; omega
theorem trm3 (y : ℕ) : tau (24 + y % 8) = 32 * (y % 8) + 3 := by unfold tau; omega
theorem trf4 (i : Fin 8) : tau (32 + i.1) = 32 * i.1 + 4 := by have := i.2; unfold tau; omega
theorem trm4 (y : ℕ) : tau (32 + y % 8) = 32 * (y % 8) + 4 := by unfold tau; omega
theorem trf5 (i : Fin 8) : tau (40 + i.1) = 32 * i.1 + 5 := by have := i.2; unfold tau; omega
theorem trm5 (y : ℕ) : tau (40 + y % 8) = 32 * (y % 8) + 5 := by unfold tau; omega
theorem trf6 (i : Fin 8) : tau (48 + i.1) = 32 * i.1 + 6 := by have := i.2; unfold tau; omega
theorem trm6 (y : ℕ) : tau (48 + y % 8) = 32 * (y % 8) + 6 := by unfold tau; omega
theorem trf7 (i : Fin 8) : tau (56 + i.1) = 32 * i.1 + 7 := by have := i.2; unfold tau; omega
theorem trm7 (y : ℕ) : tau (56 + y % 8) = 32 * (y % 8) + 7 := by unfold tau; omega
theorem trf8 (i : Fin 8) : tau (64 + i.1) = 32 * i.1 + 8 := by have := i.2; unfold tau; omega
theorem trm8 (y : ℕ) : tau (64 + y % 8) = 32 * (y % 8) + 8 := by unfold tau; omega
theorem trf9 (i : Fin 8) : tau (72 + i.1) = 32 * i.1 + 9 := by have := i.2; unfold tau; omega
theorem trm9 (y : ℕ) : tau (72 + y % 8) = 32 * (y % 8) + 9 := by unfold tau; omega
theorem trf10 (i : Fin 8) : tau (80 + i.1) = 32 * i.1 + 10 := by have := i.2; unfold tau; omega
theorem trm10 (y : ℕ) : tau (80 + y % 8) = 32 * (y % 8) + 10 := by unfold tau; omega
theorem trf11 (i : Fin 8) : tau (88 + i.1) = 32 * i.1 + 11 := by have := i.2; unfold tau; omega
theorem trm11 (y : ℕ) : tau (88 + y % 8) = 32 * (y % 8) + 11 := by unfold tau; omega
theorem trf12 (i : Fin 8) : tau (96 + i.1) = 32 * i.1 + 12 := by have := i.2; unfold tau; omega
theorem trm12 (y : ℕ) : tau (96 + y % 8) = 32 * (y % 8) + 12 := by unfold tau; omega
theorem trf13 (i : Fin 8) : tau (104 + i.1) = 32 * i.1 + 13 := by have := i.2; unfold tau; omega
theorem trm13 (y : ℕ) : tau (104 + y % 8) = 32 * (y % 8) + 13 := by unfold tau; omega
theorem trf14 (i : Fin 8) : tau (112 + i.1) = 32 * i.1 + 14 := by have := i.2; unfold tau; omega
theorem trm14 (y : ℕ) : tau (112 + y % 8) = 32 * (y % 8) + 14 := by unfold tau; omega
theorem trf15 (i : Fin 8) : tau (120 + i.1) = 32 * i.1 + 15 := by have := i.2; unfold tau; omega
theorem trm15 (y : ℕ) : tau (120 + y % 8) = 32 * (y % 8) + 15 := by unfold tau; omega
theorem trf16 (i : Fin 8) : tau (128 + i.1) = 32 * i.1 + 16 := by have := i.2; unfold tau; omega
theorem trm16 (y : ℕ) : tau (128 + y % 8) = 32 * (y % 8) + 16 := by unfold tau; omega
theorem trf17 (i : Fin 8) : tau (136 + i.1) = 32 * i.1 + 17 := by have := i.2; unfold tau; omega
theorem trm17 (y : ℕ) : tau (136 + y % 8) = 32 * (y % 8) + 17 := by unfold tau; omega
theorem trf18 (i : Fin 8) : tau (144 + i.1) = 32 * i.1 + 18 := by have := i.2; unfold tau; omega
theorem trm18 (y : ℕ) : tau (144 + y % 8) = 32 * (y % 8) + 18 := by unfold tau; omega
theorem trf19 (i : Fin 8) : tau (152 + i.1) = 32 * i.1 + 19 := by have := i.2; unfold tau; omega
theorem trm19 (y : ℕ) : tau (152 + y % 8) = 32 * (y % 8) + 19 := by unfold tau; omega
theorem trf20 (i : Fin 8) : tau (160 + i.1) = 32 * i.1 + 20 := by have := i.2; unfold tau; omega
theorem trm20 (y : ℕ) : tau (160 + y % 8) = 32 * (y % 8) + 20 := by unfold tau; omega
theorem trf21 (i : Fin 8) : tau (168 + i.1) = 32 * i.1 + 21 := by have := i.2; unfold tau; omega
theorem trm21 (y : ℕ) : tau (168 + y % 8) = 32 * (y % 8) + 21 := by unfold tau; omega
theorem trf22 (i : Fin 8) : tau (176 + i.1) = 32 * i.1 + 22 := by have := i.2; unfold tau; omega
theorem trm22 (y : ℕ) : tau (176 + y % 8) = 32 * (y % 8) + 22 := by unfold tau; omega
theorem trf23 (i : Fin 8) : tau (184 + i.1) = 32 * i.1 + 23 := by have := i.2; unfold tau; omega
theorem trm23 (y : ℕ) : tau (184 + y % 8) = 32 * (y % 8) + 23 := by unfold tau; omega
theorem trf24 (i : Fin 8) : tau (192 + i.1) = 32 * i.1 + 24 := by have := i.2; unfold tau; omega
theorem trm24 (y : ℕ) : tau (192 + y % 8) = 32 * (y % 8) + 24 := by unfold tau; omega
theorem trf25 (i : Fin 8) : tau (200 + i.1) = 32 * i.1 + 25 := by have := i.2; unfold tau; omega
theorem trm25 (y : ℕ) : tau (200 + y % 8) = 32 * (y % 8) + 25 := by unfold tau; omega
theorem trf26 (i : Fin 8) : tau (208 + i.1) = 32 * i.1 + 26 := by have := i.2; unfold tau; omega
theorem trm26 (y : ℕ) : tau (208 + y % 8) = 32 * (y % 8) + 26 := by unfold tau; omega
theorem trf27 (i : Fin 8) : tau (216 + i.1) = 32 * i.1 + 27 := by have := i.2; unfold tau; omega
theorem trm27 (y : ℕ) : tau (216 + y % 8) = 32 * (y % 8) + 27 := by unfold tau; omega
theorem trf28 (i : Fin 8) : tau (224 + i.1) = 32 * i.1 + 28 := by have := i.2; unfold tau; omega
theorem trm28 (y : ℕ) : tau (224 + y % 8) = 32 * (y % 8) + 28 := by unfold tau; omega
theorem trf29 (i : Fin 8) : tau (232 + i.1) = 32 * i.1 + 29 := by have := i.2; unfold tau; omega
theorem trm29 (y : ℕ) : tau (232 + y % 8) = 32 * (y % 8) + 29 := by unfold tau; omega
theorem trf30 (i : Fin 8) : tau (240 + i.1) = 32 * i.1 + 30 := by have := i.2; unfold tau; omega
theorem trm30 (y : ℕ) : tau (240 + y % 8) = 32 * (y % 8) + 30 := by unfold tau; omega
theorem trf31 (i : Fin 8) : tau (248 + i.1) = 32 * i.1 + 31 := by have := i.2; unfold tau; omega
theorem trm31 (y : ℕ) : tau (248 + y % 8) = 32 * (y % 8) + 31 := by unfold tau; omega
theorem sgf1 (i : Fin 8) (x y : EReal) : Scalar.select (IntOp.cmpi CmpIPredicate.sge (BitVec.ofNat 32 i.1) 1#32) x y = if 1 ≤ i.1 then x else y := by
  have := i.2
  rw [sgew i.1 1 (by omega) (by omega), sel_dec]
theorem sgm1 (n : ℕ) (x y : EReal) : Scalar.select (IntOp.cmpi CmpIPredicate.sge (BitVec.ofNat 32 (n % 8)) 1#32) x y = if 1 ≤ n % 8 then x else y := by
  rw [sgew (n % 8) 1 (by omega) (by omega), sel_dec]
theorem sgf2 (i : Fin 8) (x y : EReal) : Scalar.select (IntOp.cmpi CmpIPredicate.sge (BitVec.ofNat 32 i.1) 2#32) x y = if 2 ≤ i.1 then x else y := by
  have := i.2
  rw [sgew i.1 2 (by omega) (by omega), sel_dec]
theorem sgm2 (n : ℕ) (x y : EReal) : Scalar.select (IntOp.cmpi CmpIPredicate.sge (BitVec.ofNat 32 (n % 8)) 2#32) x y = if 2 ≤ n % 8 then x else y := by
  rw [sgew (n % 8) 2 (by omega) (by omega), sel_dec]
theorem sgf4 (i : Fin 8) (x y : EReal) : Scalar.select (IntOp.cmpi CmpIPredicate.sge (BitVec.ofNat 32 i.1) 4#32) x y = if 4 ≤ i.1 then x else y := by
  have := i.2
  rw [sgew i.1 4 (by omega) (by omega), sel_dec]
theorem sgm4 (n : ℕ) (x y : EReal) : Scalar.select (IntOp.cmpi CmpIPredicate.sge (BitVec.ofNat 32 (n % 8)) 4#32) x y = if 4 ≤ n % 8 then x else y := by
  rw [sgew (n % 8) 4 (by omega) (by omega), sel_dec]
theorem eqf (i : Fin 8) (x y : EReal) : Scalar.select (IntOp.cmpi CmpIPredicate.eq (BitVec.ofNat 32 i.1) 0#32) x y = if i.1 = 0 then x else y := by
  have := i.2
  rw [eq0w i.1 (by omega), sel_dec]

/-- The recurrence over the last `c` segments of 32 steps that end with segment `i`. -/
def Hc (A : Arr) (j B c i : ℕ) : EReal := loc (av A j) (bv A j) (B + 32 * (i + 1 - cov c i)) (32 * cov c i)

/-- The product of the coefficients over the same steps. -/
def Pc (A : Arr) (j B c i : ℕ) : EReal := prd (av A j) (B + 32 * (i + 1 - cov c i)) (32 * cov c i)

theorem Hc_one (A : Arr) (j B i : ℕ) : Hc A j B 1 i = loc (av A j) (bv A j) (B + 32 * i) 32 := by
  have e : cov 1 i = 1 := by unfold cov; omega
  unfold Hc
  rw [e, Nat.add_sub_cancel]

theorem Pc_one (A : Arr) (j B i : ℕ) : Pc A j B 1 i = prd (av A j) (B + 32 * i) 32 := by
  have e : cov 1 i = 1 := by unfold cov; omega
  unfold Pc
  rw [e, Nat.add_sub_cancel]

theorem rot_ge (c i : ℕ) (h : c ≤ i) (hi : i < 8) : (i + 8 - c) % 8 = i - c := by omega

theorem stepH (A : Arr) (j B c c' i : ℕ) (hc : c' = 2 * c) (hi : i < 8) :
    (if c ≤ i then Pc A j B c i * Hc A j B c ((i + 8 - c) % 8) else 0) + Hc A j B c i = Hc A j B c' i := by
  subst hc
  by_cases h : c ≤ i
  · rw [if_pos h, rot_ge c i h hi]
    exact scan_h (av A j) (bv A j) (av_ok A j) B c i h
  · rw [if_neg h, zero_add]
    unfold Hc
    rw [cov_small c i h]

theorem stepH' (A : Arr) (j B c c' i : ℕ) (hc : c' = 2 * c) (hi : i < 8) :
    Pc A j B c i * (if c ≤ i then Hc A j B c ((i + 8 - c) % 8) else 0) + Hc A j B c i = Hc A j B c' i := by
  rw [← stepH A j B c c' i hc hi]
  by_cases h : c ≤ i
  · rw [if_pos h, if_pos h]
  · rw [if_neg h, if_neg h, mul_zero]

theorem stepP (A : Arr) (j B c c' i : ℕ) (hc : c' = 2 * c) (hi : i < 8) :
    Pc A j B c i * (if c ≤ i then Pc A j B c ((i + 8 - c) % 8) else 1) = Pc A j B c' i := by
  subst hc
  by_cases h : c ≤ i
  · rw [if_pos h, rot_ge c i h hi]
    exact scan_p (av A j) B c i h
  · rw [if_neg h, mul_one]
    unfold Pc
    rw [cov_small c i h]

theorem hst_s (A : Arr) (n j : ℕ) : av A j n * hst A n j + bv A j n = hst A (n + 1) j := by
  unfold hst
  rw [loc, Nat.zero_add]

theorem hst_end (A : Arr) (j B i : ℕ) (hi : i < 8) : Hc A j B 8 i + Pc A j B 8 i * hst A B j = hst A (B + 32 * (i + 1)) j := by
  have e : cov 8 i = i + 1 := by unfold cov; omega
  unfold Hc Pc hst
  rw [e, Nat.sub_self, Nat.mul_zero, Nat.add_zero, add_comm]
  exact loc_glue (av A j) (bv A j) (av_ok A j) (Nat.zero_add B) rfl

theorem hst_prev (A : Arr) (j B : ℕ) (i : Fin 8) :
    (if i.1 = 0 then hst A B j else hst A (B + 32 * ((i.1 + 8 - 1) % 8 + 1)) j) = hst A (B + 32 * i.1) j := by
  have := i.2
  by_cases h : i.1 = 0
  · rw [if_pos h, h, Nat.mul_zero, Nat.add_zero]
  · rw [if_neg h]
    congr 2
    omega

theorem fold28 (A : Arr) (j B x : ℕ) : av A j (B + 32 * x + 31) * (av A j (B + 32 * x + 30) * (av A j (B + 32 * x + 29) * (av A j (B + 32 * x + 28) * loc (av A j) (bv A j) (B + 32 * x) 28 + bv A j (B + 32 * x + 28)) + bv A j (B + 32 * x + 29)) + bv A j (B + 32 * x + 30)) + bv A j (B + 32 * x + 31) = Hc A j B 1 x := by
  rw [Hc_one]
  rfl

theorem fold29 (A : Arr) (j B x : ℕ) : av A j (B + 32 * x + 31) * (av A j (B + 32 * x + 30) * (av A j (B + 32 * x + 29) * loc (av A j) (bv A j) (B + 32 * x) 29 + bv A j (B + 32 * x + 29)) + bv A j (B + 32 * x + 30)) + bv A j (B + 32 * x + 31) = Hc A j B 1 x := by
  rw [Hc_one]
  rfl

/-- A piece of eight rows as an operand. -/
def pc (x : S8x1024.Idx → EReal) : (s : Shape) × (s.Idx → EReal) := ⟨S8x1024, x⟩

/-- The pieces from the `k`th on hold the rows of `G`. -/
def Rows (G : ℕ → EReal) (j : Fin 1024) : List (S8x1024.Idx → EReal) → ℕ → Prop
  | [], _ => True
  | x :: l, k => (∀ i : Fin 8, x (ix2 i j) = G (32 * i.1 + k)) ∧ Rows G j l (k + 1)

theorem rows_get (G : ℕ → EReal) (j : Fin 1024) (l : List (S8x1024.Idx → EReal)) (k : ℕ) (h : Rows G j l k) (n : ℕ) (hn : n < l.length)
    (i : Fin 8) : l[n] (ix2 i j) = G (32 * i.1 + (k + n)) := by
  induction l generalizing k n with
  | nil => exact absurd hn (by simp)
  | cons x l ih =>
    cases n with
    | zero => exact h.1 i
    | succ n =>
      refine (ih (k + 1) h.2 n (by simpa using hn)).trans ?_
      rw [Nat.add_assoc k 1 n, Nat.add_comm 1 n]

theorem map_pc (l : List (S8x1024.Idx → EReal)) : l.map pc = List.ofFn fun n : Fin l.length => (⟨S8x1024, l.get n⟩ : (s : Shape) × (s.Idx → EReal)) := by
  apply List.ext_getElem
  · simp
  · intro n h1 h2
    simp [pc]

theorem cat_rows (G : ℕ → EReal) (j : Fin 1024) (l : List (S8x1024.Idx → EReal)) (hl : l.length = 32)
    (h : Shape.Concatenates ((l.map pc).map (·.1)) S256x1024 0) (hg : Rows G j l 0) (r : Fin 256) :
    concatenate S256x1024 0 (l.map pc) h (ix2 r j) = G (tau r) := by
  have hr := r.2
  revert h
  rw [map_pc l]
  intro h
  have hn : r.1 / 8 < l.length := by omega
  refine (concatenate_ofFn_apply (t := S256x1024) (s₁ := S8x1024) 0 (fun n : Fin l.length => l.get n) h rfl 8 rfl (ix2 r j) ⟨r.1 / 8, hn⟩ rfl
    (ix2 ⟨r.1 % 8, by omega⟩ j) rfl (by intro b hb; fin_cases b; exact absurd rfl hb; rfl)).trans ?_
  refine (rows_get G j l 0 hg (r.1 / 8) hn _).trans (congrArg G ?_)
  show 32 * (r.1 % 8) + (0 + r.1 / 8) = tau r.1
  unfold tau
  omega

theorem v753_at (T : Tile A s I) (r : Fin 256) (j : Fin 1024) : s_v753 I (ix2 r j) = av A j (512 * s + tau r) := by
  unfold s_v753
  pointwise [k0_pay139]
  rw [v649_at T]
  simp only [tm_lo s r.2]

theorem v753_at' (T : Tile A s I) (r : Fin 256) (j : Fin 1024) : k0_pay139 (F := Ideal) (s_v649 I) (ix2 r j) = av A j (512 * s + tau r) :=
  v753_at T r j

theorem v754_at (T : Tile A s I) (r : Fin 256) (j : Fin 1024) : s_v754 I (ix2 r j) = bv A j (512 * s + tau r) := by
  unfold s_v754
  pointwise [k0_pay140]
  rw [v660_at T]
  simp only [tm_lo s r.2]

theorem v754_at' (T : Tile A s I) (r : Fin 256) (j : Fin 1024) : k0_pay140 (F := Ideal) (s_v660 I) (ix2 r j) = bv A j (512 * s + tau r) :=
  v754_at T r j

theorem v1090_at (T : Tile A s I) (r : Fin 256) (j : Fin 1024) : s_v1090 I (ix2 r j) = av A j (512 * s + 256 + tau r) := by
  unfold s_v1090
  pointwise [k0_pay217]
  rw [v649_at T]
  simp only [tm_hi s r.2]

theorem v1090_at' (T : Tile A s I) (r : Fin 256) (j : Fin 1024) : k0_pay217 (F := Ideal) (s_v649 I) (ix2 r j) = av A j (512 * s + 256 + tau r) :=
  v1090_at T r j

theorem v1091_at (T : Tile A s I) (r : Fin 256) (j : Fin 1024) : s_v1091 I (ix2 r j) = bv A j (512 * s + 256 + tau r) := by
  unfold s_v1091
  pointwise [k0_pay218]
  rw [v660_at T]
  simp only [tm_hi s r.2]

theorem v1091_at' (T : Tile A s I) (r : Fin 256) (j : Fin 1024) : k0_pay218 (F := Ideal) (s_v660 I) (ix2 r j) = bv A j (512 * s + 256 + tau r) :=
  v1091_at T r j

theorem v775_at (T : Tile A s I) (i : Fin 8) (j : Fin 1024) : s_v775 I (ix2 i j) = loc (av A j) (bv A j) (512 * s + 32 * i.1) 4 := by
  have hi := i.2
  unfold s_v775
  pointwise [k0_pay145, k0_pay141, k0_pay142, k0_pay143, k0_pay144]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v776_at (T : Tile A s I) (i : Fin 8) (j : Fin 1024) : s_v776 I (ix2 i j) = prd (av A j) (512 * s + 32 * i.1) 4 := by
  have hi := i.2
  unfold s_v776
  pointwise [k0_pay146, k0_pay141, k0_pay142, k0_pay143, k0_pay144]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v777_at (T : Tile A s I) (i : Fin 8) (j : Fin 1024) : s_v777 I (ix2 i j) = av A j (512 * s + 32 * i.1 + 4) := by
  have hi := i.2
  unfold s_v777
  pointwise [k0_pay147]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v835_at (T : Tile A s I) (i : Fin 8) (j : Fin 1024) : s_v835 I (ix2 i j) = loc (av A j) (bv A j) (512 * s + 32 * i.1) 16 := by
  have hi := i.2
  unfold s_v835
  pointwise [k0_pay159, k0_pay148, k0_pay149, k0_pay150, k0_pay151, k0_pay152, k0_pay153, k0_pay154, k0_pay155, k0_pay156, k0_pay157, k0_pay158]
  simp only [v775_at T, v777_at T, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v836_at (T : Tile A s I) (i : Fin 8) (j : Fin 1024) : s_v836 I (ix2 i j) = prd (av A j) (512 * s + 32 * i.1) 16 := by
  have hi := i.2
  unfold s_v836
  pointwise [k0_pay160, k0_pay148, k0_pay149, k0_pay150, k0_pay151, k0_pay152, k0_pay153, k0_pay154, k0_pay155, k0_pay156, k0_pay157, k0_pay158]
  simp only [v776_at T, v777_at T, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v837_at (T : Tile A s I) (i : Fin 8) (j : Fin 1024) : s_v837 I (ix2 i j) = av A j (512 * s + 32 * i.1 + 16) := by
  have hi := i.2
  unfold s_v837
  pointwise [k0_pay161]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v895_at (T : Tile A s I) (i : Fin 8) (j : Fin 1024) : s_v895 I (ix2 i j) = loc (av A j) (bv A j) (512 * s + 32 * i.1) 28 := by
  have hi := i.2
  unfold s_v895
  pointwise [k0_pay173, k0_pay162, k0_pay163, k0_pay164, k0_pay165, k0_pay166, k0_pay167, k0_pay168, k0_pay169, k0_pay170, k0_pay171, k0_pay172]
  simp only [v835_at T, v837_at T, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v896_at (T : Tile A s I) (i : Fin 8) (j : Fin 1024) : s_v896 I (ix2 i j) = prd (av A j) (512 * s + 32 * i.1) 28 := by
  have hi := i.2
  unfold s_v896
  pointwise [k0_pay174, k0_pay162, k0_pay163, k0_pay164, k0_pay165, k0_pay166, k0_pay167, k0_pay168, k0_pay169, k0_pay170, k0_pay171, k0_pay172]
  simp only [v836_at T, v837_at T, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v897_at (T : Tile A s I) (i : Fin 8) (j : Fin 1024) : s_v897 I (ix2 i j) = av A j (512 * s + 32 * i.1 + 28) := by
  have hi := i.2
  unfold s_v897
  pointwise [k0_pay175]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v1117_at (T : Tile A s I) (i : Fin 8) (j : Fin 1024) : s_v1117 I (ix2 i j) = loc (av A j) (bv A j) (512 * s + 256 + 32 * i.1) 5 := by
  have hi := i.2
  unfold s_v1117
  pointwise [k0_pay224, k0_pay219, k0_pay220, k0_pay221, k0_pay222, k0_pay223]
  simp only [v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v1118_at (T : Tile A s I) (i : Fin 8) (j : Fin 1024) : s_v1118 I (ix2 i j) = prd (av A j) (512 * s + 256 + 32 * i.1) 5 := by
  have hi := i.2
  unfold s_v1118
  pointwise [k0_pay225, k0_pay219, k0_pay220, k0_pay221, k0_pay222, k0_pay223]
  simp only [v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v1177_at (T : Tile A s I) (i : Fin 8) (j : Fin 1024) : s_v1177 I (ix2 i j) = loc (av A j) (bv A j) (512 * s + 256 + 32 * i.1) 17 := by
  have hi := i.2
  unfold s_v1177
  pointwise [k0_pay238, k0_pay226, k0_pay227, k0_pay228, k0_pay229, k0_pay230, k0_pay231, k0_pay232, k0_pay233, k0_pay234, k0_pay235, k0_pay236, k0_pay237]
  simp only [v1117_at T, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v1178_at (T : Tile A s I) (i : Fin 8) (j : Fin 1024) : s_v1178 I (ix2 i j) = prd (av A j) (512 * s + 256 + 32 * i.1) 17 := by
  have hi := i.2
  unfold s_v1178
  pointwise [k0_pay239, k0_pay226, k0_pay227, k0_pay228, k0_pay229, k0_pay230, k0_pay231, k0_pay232, k0_pay233, k0_pay234, k0_pay235, k0_pay236, k0_pay237]
  simp only [v1118_at T, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v1237_at (T : Tile A s I) (i : Fin 8) (j : Fin 1024) : s_v1237 I (ix2 i j) = loc (av A j) (bv A j) (512 * s + 256 + 32 * i.1) 29 := by
  have hi := i.2
  unfold s_v1237
  pointwise [k0_pay252, k0_pay240, k0_pay241, k0_pay242, k0_pay243, k0_pay244, k0_pay245, k0_pay246, k0_pay247, k0_pay248, k0_pay249, k0_pay250, k0_pay251]
  simp only [v1177_at T, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem v1238_at (T : Tile A s I) (i : Fin 8) (j : Fin 1024) : s_v1238 I (ix2 i j) = prd (av A j) (512 * s + 256 + 32 * i.1) 29 := by
  have hi := i.2
  unfold s_v1238
  pointwise [k0_pay253, k0_pay240, k0_pay241, k0_pay242, k0_pay243, k0_pay244, k0_pay245, k0_pay246, k0_pay247, k0_pay248, k0_pay249, k0_pay250, k0_pay251]
  simp only [v1178_at T, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  simp only [loc, prd, Nat.add_zero, one_mul]

theorem pa0_at (T : Tile A s I) (i : Fin 8) (j : Fin 1024) : k0_pay179 (F := Ideal) (s_v753 I) (s_v896 I) (s_v897 I) (ix2 i j) = Pc A j (512 * s) 1 i := by
  pointwise [k0_pay179, k0_pay176, k0_pay177, k0_pay178]
  simp only [v896_at T, v897_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc, sgf1, sgm1, sgf2, sgm2, sgf4, sgm4]
  rw [Pc_one]
  rfl

theorem pb0_at (T : Tile A s I) (i : Fin 8) (j : Fin 1024) : k0_pay181 (F := Ideal) (s_v753 I) (s_v896 I) (s_v897 I) (ix2 i j) = Pc A j (512 * s) 2 i := by
  pointwise [k0_pay181, k0_pay180]
  simp only [pa0_at T, sgf1, sgm1, sgf2, sgm2, sgf4, sgm4]
  exact stepP A j _ 1 2 i rfl i.2

theorem v938_at (T : Tile A s I) (i : Fin 8) (j : Fin 1024) : s_v938 I (ix2 i j) = Hc A j (512 * s) 4 i := by
  unfold s_v938
  pointwise [k0_pay183, k0_pay180, k0_pay182, k0_pay176, k0_pay177, k0_pay178]
  simp only [pa0_at T, pb0_at T, v895_at T, v897_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc, sgf1, sgm1, sgf2, sgm2, sgf4, sgm4]
  simp only [fold28 A j (512 * s)]
  rw [stepH A j _ 1 2 i rfl i.2, stepH A j _ 1 2 _ rfl (Nat.mod_lt _ (by decide)), stepH A j _ 2 4 i rfl i.2]

theorem v939_at (T : Tile A s I) (i : Fin 8) (j : Fin 1024) : s_v939 I (ix2 i j) = Pc A j (512 * s) 4 i := by
  unfold s_v939
  pointwise [k0_pay184, k0_pay182]
  simp only [pb0_at T, sgf1, sgm1, sgf2, sgm2, sgf4, sgm4]
  exact stepP A j _ 2 4 i rfl i.2

theorem v944_at (T : Tile A s I) (i : Fin 8) (j : Fin 1024) : s_v944 I (ix2 i j) = if 4 ≤ i.1 then Pc A j (512 * s) 4 ((i.1 + 8 - 4) % 8) else 1 := by
  have e := v939_at T
  unfold s_v939 at e
  unfold s_v944
  pointwise [k0_pay186, k0_pay185]
  simp only [e, sgf1, sgm1, sgf2, sgm2, sgf4, sgm4]

theorem v941_at (T : Tile A s I) (i : Fin 8) (j : Fin 1024) : s_v941 I (ix2 i j) = IntOp.cmpi CmpIPredicate.sge (BitVec.ofNat 32 i.1) 4#32 := by
  unfold s_v941
  pointwise [k0_pay185]

/-- The state at the end of every segment. -/
theorem v953_at (T : Tile A s I) (i : Fin 8) (j : Fin 1024) : s_v953 I (ix2 i j) = hst A (512 * s + 32 * (i.1 + 1)) j := by
  unfold s_v953
  pointwise [k0_pay187]
  simp only [v938_at T, v939_at T, v941_at T, v944_at T, T.hzh, sgf1, sgm1, sgf2, sgm2, sgf4, sgm4]
  rw [stepH A j _ 4 8 i rfl i.2, stepP A j _ 4 8 i rfl i.2]
  exact hst_end A j _ i i.2

theorem v1089_at (T : Tile A s I) (j : Fin 1024) : s_v1089 I (ix2 0 j) = hst A (512 * s + 256) j := by
  unfold s_v1089
  pointwise [k0_pay216]
  rw [v953_at T]
  rfl

theorem v1000_at (T : Tile A s I) (i : Fin 8) (j : Fin 1024) : s_v1000 I (ix2 i j) = av A j (512 * s + 32 * i.1 + 10) := by
  have hi := i.2
  unfold s_v1000
  pointwise [k0_pay198]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v1060_at (T : Tile A s I) (i : Fin 8) (j : Fin 1024) : s_v1060 I (ix2 i j) = av A j (512 * s + 32 * i.1 + 25) := by
  have hi := i.2
  unfold s_v1060
  pointwise [k0_pay214]
  simp only [v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v963_at (T : Tile A s I) (i : Fin 8) (j : Fin 1024) : s_v963 I (ix2 i j) = hst A (512 * s + 32 * i.1 + 1) j := by
  have hi := i.2
  have e0 := v953_at T
  unfold s_v953 at e0
  unfold s_v963
  pointwise [k0_pay188]
  simp only [T.hzh, eqf, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  rw [hst_prev]
  exact hst_s _ _ _

theorem v967_at (T : Tile A s I) (i : Fin 8) (j : Fin 1024) : s_v967 I (ix2 i j) = hst A (512 * s + 32 * i.1 + 2) j := by
  have hi := i.2
  have e0 := v963_at T
  unfold s_v963 at e0
  unfold s_v967
  pointwise [k0_pay189]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v971_at (T : Tile A s I) (i : Fin 8) (j : Fin 1024) : s_v971 I (ix2 i j) = hst A (512 * s + 32 * i.1 + 3) j := by
  have hi := i.2
  have e0 := v967_at T
  unfold s_v967 at e0
  unfold s_v971
  pointwise [k0_pay190]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v975_at (T : Tile A s I) (i : Fin 8) (j : Fin 1024) : s_v975 I (ix2 i j) = hst A (512 * s + 32 * i.1 + 4) j := by
  have hi := i.2
  have e0 := v971_at T
  unfold s_v971 at e0
  unfold s_v975
  pointwise [k0_pay191]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v979_at (T : Tile A s I) (i : Fin 8) (j : Fin 1024) : s_v979 I (ix2 i j) = hst A (512 * s + 32 * i.1 + 5) j := by
  have hi := i.2
  have e0 := v975_at T
  unfold s_v975 at e0
  unfold s_v979
  pointwise [k0_pay192]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v983_at (T : Tile A s I) (i : Fin 8) (j : Fin 1024) : s_v983 I (ix2 i j) = hst A (512 * s + 32 * i.1 + 6) j := by
  have hi := i.2
  have e0 := v979_at T
  unfold s_v979 at e0
  unfold s_v983
  pointwise [k0_pay193]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v987_at (T : Tile A s I) (i : Fin 8) (j : Fin 1024) : s_v987 I (ix2 i j) = hst A (512 * s + 32 * i.1 + 7) j := by
  have hi := i.2
  have e0 := v983_at T
  unfold s_v983 at e0
  unfold s_v987
  pointwise [k0_pay194]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v991_at (T : Tile A s I) (i : Fin 8) (j : Fin 1024) : s_v991 I (ix2 i j) = hst A (512 * s + 32 * i.1 + 8) j := by
  have hi := i.2
  have e0 := v987_at T
  unfold s_v987 at e0
  unfold s_v991
  pointwise [k0_pay195]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v995_at (T : Tile A s I) (i : Fin 8) (j : Fin 1024) : s_v995 I (ix2 i j) = hst A (512 * s + 32 * i.1 + 9) j := by
  have hi := i.2
  have e0 := v991_at T
  unfold s_v991 at e0
  unfold s_v995
  pointwise [k0_pay196]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v999_at (T : Tile A s I) (i : Fin 8) (j : Fin 1024) : s_v999 I (ix2 i j) = hst A (512 * s + 32 * i.1 + 10) j := by
  have hi := i.2
  have e0 := v995_at T
  unfold s_v995 at e0
  unfold s_v999
  pointwise [k0_pay197]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1003_at (T : Tile A s I) (i : Fin 8) (j : Fin 1024) : s_v1003 I (ix2 i j) = hst A (512 * s + 32 * i.1 + 11) j := by
  have hi := i.2
  unfold s_v1003
  pointwise [k0_pay199]
  simp only [v1000_at T, v1060_at T, v999_at T, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1007_at (T : Tile A s I) (i : Fin 8) (j : Fin 1024) : s_v1007 I (ix2 i j) = hst A (512 * s + 32 * i.1 + 12) j := by
  have hi := i.2
  have e0 := v1003_at T
  unfold s_v1003 at e0
  unfold s_v1007
  pointwise [k0_pay200]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1011_at (T : Tile A s I) (i : Fin 8) (j : Fin 1024) : s_v1011 I (ix2 i j) = hst A (512 * s + 32 * i.1 + 13) j := by
  have hi := i.2
  have e0 := v1007_at T
  unfold s_v1007 at e0
  unfold s_v1011
  pointwise [k0_pay201]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1015_at (T : Tile A s I) (i : Fin 8) (j : Fin 1024) : s_v1015 I (ix2 i j) = hst A (512 * s + 32 * i.1 + 14) j := by
  have hi := i.2
  have e0 := v1011_at T
  unfold s_v1011 at e0
  unfold s_v1015
  pointwise [k0_pay202]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1019_at (T : Tile A s I) (i : Fin 8) (j : Fin 1024) : s_v1019 I (ix2 i j) = hst A (512 * s + 32 * i.1 + 15) j := by
  have hi := i.2
  have e0 := v1015_at T
  unfold s_v1015 at e0
  unfold s_v1019
  pointwise [k0_pay203]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1023_at (T : Tile A s I) (i : Fin 8) (j : Fin 1024) : s_v1023 I (ix2 i j) = hst A (512 * s + 32 * i.1 + 16) j := by
  have hi := i.2
  have e0 := v1019_at T
  unfold s_v1019 at e0
  unfold s_v1023
  pointwise [k0_pay204]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1027_at (T : Tile A s I) (i : Fin 8) (j : Fin 1024) : s_v1027 I (ix2 i j) = hst A (512 * s + 32 * i.1 + 17) j := by
  have hi := i.2
  have e0 := v1023_at T
  unfold s_v1023 at e0
  unfold s_v1027
  pointwise [k0_pay205]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1031_at (T : Tile A s I) (i : Fin 8) (j : Fin 1024) : s_v1031 I (ix2 i j) = hst A (512 * s + 32 * i.1 + 18) j := by
  have hi := i.2
  have e0 := v1027_at T
  unfold s_v1027 at e0
  unfold s_v1031
  pointwise [k0_pay206]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1035_at (T : Tile A s I) (i : Fin 8) (j : Fin 1024) : s_v1035 I (ix2 i j) = hst A (512 * s + 32 * i.1 + 19) j := by
  have hi := i.2
  have e0 := v1031_at T
  unfold s_v1031 at e0
  unfold s_v1035
  pointwise [k0_pay207]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1039_at (T : Tile A s I) (i : Fin 8) (j : Fin 1024) : s_v1039 I (ix2 i j) = hst A (512 * s + 32 * i.1 + 20) j := by
  have hi := i.2
  have e0 := v1035_at T
  unfold s_v1035 at e0
  unfold s_v1039
  pointwise [k0_pay208]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1043_at (T : Tile A s I) (i : Fin 8) (j : Fin 1024) : s_v1043 I (ix2 i j) = hst A (512 * s + 32 * i.1 + 21) j := by
  have hi := i.2
  have e0 := v1039_at T
  unfold s_v1039 at e0
  unfold s_v1043
  pointwise [k0_pay209]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1047_at (T : Tile A s I) (i : Fin 8) (j : Fin 1024) : s_v1047 I (ix2 i j) = hst A (512 * s + 32 * i.1 + 22) j := by
  have hi := i.2
  have e0 := v1043_at T
  unfold s_v1043 at e0
  unfold s_v1047
  pointwise [k0_pay210]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1051_at (T : Tile A s I) (i : Fin 8) (j : Fin 1024) : s_v1051 I (ix2 i j) = hst A (512 * s + 32 * i.1 + 23) j := by
  have hi := i.2
  have e0 := v1047_at T
  unfold s_v1047 at e0
  unfold s_v1051
  pointwise [k0_pay211]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1055_at (T : Tile A s I) (i : Fin 8) (j : Fin 1024) : s_v1055 I (ix2 i j) = hst A (512 * s + 32 * i.1 + 24) j := by
  have hi := i.2
  have e0 := v1051_at T
  unfold s_v1051 at e0
  unfold s_v1055
  pointwise [k0_pay212]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1059_at (T : Tile A s I) (i : Fin 8) (j : Fin 1024) : s_v1059 I (ix2 i j) = hst A (512 * s + 32 * i.1 + 25) j := by
  have hi := i.2
  have e0 := v1055_at T
  unfold s_v1055 at e0
  unfold s_v1059
  pointwise [k0_pay213]
  simp only [v1000_at T, v1060_at T, e0, v753_at T, v754_at T, v753_at' T, v754_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

/-- The states of the first half of the tile. -/
theorem v1088_at (T : Tile A s I) (r : Fin 256) (j : Fin 1024) : s_v1088 I (ix2 r j) = hst A (512 * s + tau r + 1) j := by
  unfold s_v1088 k0_pay215
  refine cat_rows (fun t => hst A (512 * s + t + 1) j) j [_, _, _, _, _, _, _, _, _, _, _, _, _, _, _, _, _, _, _, _, _, _, _, _, _, _, _, _, _, _, _, _] rfl _ ⟨(fun i => v963_at T i j), (fun i => v967_at T i j), (fun i => v971_at T i j), (fun i => v975_at T i j), (fun i => v979_at T i j), (fun i => v983_at T i j), (fun i => v987_at T i j), (fun i => v991_at T i j), (fun i => v995_at T i j), (fun i => v999_at T i j), (fun i => v1003_at T i j), (fun i => v1007_at T i j), (fun i => v1011_at T i j), (fun i => v1015_at T i j), (fun i => v1019_at T i j), (fun i => v1023_at T i j), (fun i => v1027_at T i j), (fun i => v1031_at T i j), (fun i => v1035_at T i j), (fun i => v1039_at T i j), (fun i => v1043_at T i j), (fun i => v1047_at T i j), (fun i => v1051_at T i j), (fun i => v1055_at T i j), (fun i => v1059_at T i j), ?_, ?_, ?_, ?_, ?_, ?_, ?_, trivial⟩ r
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1060_at T, v1059_at T, v753_at T, v754_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]

theorem pa1_at (T : Tile A s I) (i : Fin 8) (j : Fin 1024) : k0_pay257 (F := Ideal) (s_v1090 I) (s_v1238 I) (ix2 i j) = Pc A j (512 * s + 256) 1 i := by
  pointwise [k0_pay257, k0_pay254, k0_pay255, k0_pay256]
  simp only [v1238_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc, sgf1, sgm1, sgf2, sgm2, sgf4, sgm4]
  rw [Pc_one]
  rfl

theorem pb1_at (T : Tile A s I) (i : Fin 8) (j : Fin 1024) : k0_pay259 (F := Ideal) (s_v1090 I) (s_v1238 I) (ix2 i j) = Pc A j (512 * s + 256) 2 i := by
  pointwise [k0_pay259, k0_pay258]
  simp only [pa1_at T, sgf1, sgm1, sgf2, sgm2, sgf4, sgm4]
  exact stepP A j _ 1 2 i rfl i.2

theorem v1275_at (T : Tile A s I) (i : Fin 8) (j : Fin 1024) : s_v1275 I (ix2 i j) = Hc A j (512 * s + 256) 4 i := by
  unfold s_v1275
  pointwise [k0_pay261, k0_pay258, k0_pay260, k0_pay254, k0_pay255, k0_pay256]
  simp only [pa1_at T, pb1_at T, v1237_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc, sgf1, sgm1, sgf2, sgm2, sgf4, sgm4]
  simp only [fold29 A j (512 * s + 256)]
  rw [stepH A j _ 1 2 i rfl i.2, stepH A j _ 1 2 _ rfl (Nat.mod_lt _ (by decide)), stepH A j _ 2 4 i rfl i.2]

theorem v1276_at (T : Tile A s I) (i : Fin 8) (j : Fin 1024) : s_v1276 I (ix2 i j) = Pc A j (512 * s + 256) 4 i := by
  unfold s_v1276
  pointwise [k0_pay262, k0_pay260]
  simp only [pb1_at T, sgf1, sgm1, sgf2, sgm2, sgf4, sgm4]
  exact stepP A j _ 2 4 i rfl i.2

theorem v1281_at (T : Tile A s I) (i : Fin 8) (j : Fin 1024) : s_v1281 I (ix2 i j) = if 4 ≤ i.1 then Pc A j (512 * s + 256) 4 ((i.1 + 8 - 4) % 8) else 1 := by
  have e := v1276_at T
  unfold s_v1276 at e
  unfold s_v1281
  pointwise [k0_pay264, k0_pay263]
  simp only [e, sgf1, sgm1, sgf2, sgm2, sgf4, sgm4]

theorem v1278_at (T : Tile A s I) (i : Fin 8) (j : Fin 1024) : s_v1278 I (ix2 i j) = IntOp.cmpi CmpIPredicate.sge (BitVec.ofNat 32 i.1) 4#32 := by
  unfold s_v1278
  pointwise [k0_pay263]

theorem v1282_at (T : Tile A s I) (i : Fin 8) (j : Fin 1024) : s_v1282 I (ix2 i j) = Hc A j (512 * s + 256) 4 ((i.1 + 8 - 4) % 8) := by
  have e := v1275_at T
  unfold s_v1275 at e
  unfold s_v1282
  pointwise [k0_pay265]
  rw [e]

theorem v1283_at (i : Fin 8) (j : Fin 1024) : s_v1283 I (ix2 i j) = 0 := by
  unfold s_v1283
  pointwise [k0_pay266]

/-- The state at the end of every segment. -/
theorem v1290_at (T : Tile A s I) (i : Fin 8) (j : Fin 1024) : s_v1290 I (ix2 i j) = hst A (512 * s + 256 + 32 * (i.1 + 1)) j := by
  unfold s_v1290
  pointwise [k0_pay267]
  simp only [v1275_at T, v1276_at T, v1278_at T, v1281_at T, v1282_at T, v1283_at, v1089_at T, sgf1, sgm1, sgf2, sgm2, sgf4, sgm4]
  rw [stepH' A j _ 4 8 i rfl i.2, stepP A j _ 4 8 i rfl i.2]
  exact hst_end A j _ i i.2

/-- The state at the end of the tile. -/
theorem v1426_at (T : Tile A s I) (j : Fin 1024) : s_v1426 I (ix2 0 j) = hst A (512 * s + 512) j := by
  unfold s_v1426
  pointwise [k0_pay296]
  rw [v1290_at T]
  rfl

theorem v1341_at (T : Tile A s I) (i : Fin 8) (j : Fin 1024) : s_v1341 I (ix2 i j) = av A j (512 * s + 256 + 32 * i.1 + 11) := by
  have hi := i.2
  unfold s_v1341
  pointwise [k0_pay279]
  simp only [v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v1401_at (T : Tile A s I) (i : Fin 8) (j : Fin 1024) : s_v1401 I (ix2 i j) = av A j (512 * s + 256 + 32 * i.1 + 26) := by
  have hi := i.2
  unfold s_v1401
  pointwise [k0_pay295]
  simp only [v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]

theorem v1300_at (T : Tile A s I) (i : Fin 8) (j : Fin 1024) : s_v1300 I (ix2 i j) = hst A (512 * s + 256 + 32 * i.1 + 1) j := by
  have hi := i.2
  have e0 := v1290_at T
  unfold s_v1290 at e0
  unfold s_v1300
  pointwise [k0_pay268]
  simp only [v1089_at T, eqf, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  rw [hst_prev]
  exact hst_s _ _ _

theorem v1304_at (T : Tile A s I) (i : Fin 8) (j : Fin 1024) : s_v1304 I (ix2 i j) = hst A (512 * s + 256 + 32 * i.1 + 2) j := by
  have hi := i.2
  have e0 := v1300_at T
  unfold s_v1300 at e0
  unfold s_v1304
  pointwise [k0_pay269]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1308_at (T : Tile A s I) (i : Fin 8) (j : Fin 1024) : s_v1308 I (ix2 i j) = hst A (512 * s + 256 + 32 * i.1 + 3) j := by
  have hi := i.2
  have e0 := v1304_at T
  unfold s_v1304 at e0
  unfold s_v1308
  pointwise [k0_pay270]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1312_at (T : Tile A s I) (i : Fin 8) (j : Fin 1024) : s_v1312 I (ix2 i j) = hst A (512 * s + 256 + 32 * i.1 + 4) j := by
  have hi := i.2
  have e0 := v1308_at T
  unfold s_v1308 at e0
  unfold s_v1312
  pointwise [k0_pay271]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1316_at (T : Tile A s I) (i : Fin 8) (j : Fin 1024) : s_v1316 I (ix2 i j) = hst A (512 * s + 256 + 32 * i.1 + 5) j := by
  have hi := i.2
  have e0 := v1312_at T
  unfold s_v1312 at e0
  unfold s_v1316
  pointwise [k0_pay272]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1320_at (T : Tile A s I) (i : Fin 8) (j : Fin 1024) : s_v1320 I (ix2 i j) = hst A (512 * s + 256 + 32 * i.1 + 6) j := by
  have hi := i.2
  have e0 := v1316_at T
  unfold s_v1316 at e0
  unfold s_v1320
  pointwise [k0_pay273]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1324_at (T : Tile A s I) (i : Fin 8) (j : Fin 1024) : s_v1324 I (ix2 i j) = hst A (512 * s + 256 + 32 * i.1 + 7) j := by
  have hi := i.2
  have e0 := v1320_at T
  unfold s_v1320 at e0
  unfold s_v1324
  pointwise [k0_pay274]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1328_at (T : Tile A s I) (i : Fin 8) (j : Fin 1024) : s_v1328 I (ix2 i j) = hst A (512 * s + 256 + 32 * i.1 + 8) j := by
  have hi := i.2
  have e0 := v1324_at T
  unfold s_v1324 at e0
  unfold s_v1328
  pointwise [k0_pay275]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1332_at (T : Tile A s I) (i : Fin 8) (j : Fin 1024) : s_v1332 I (ix2 i j) = hst A (512 * s + 256 + 32 * i.1 + 9) j := by
  have hi := i.2
  have e0 := v1328_at T
  unfold s_v1328 at e0
  unfold s_v1332
  pointwise [k0_pay276]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1336_at (T : Tile A s I) (i : Fin 8) (j : Fin 1024) : s_v1336 I (ix2 i j) = hst A (512 * s + 256 + 32 * i.1 + 10) j := by
  have hi := i.2
  have e0 := v1332_at T
  unfold s_v1332 at e0
  unfold s_v1336
  pointwise [k0_pay277]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1340_at (T : Tile A s I) (i : Fin 8) (j : Fin 1024) : s_v1340 I (ix2 i j) = hst A (512 * s + 256 + 32 * i.1 + 11) j := by
  have hi := i.2
  have e0 := v1336_at T
  unfold s_v1336 at e0
  unfold s_v1340
  pointwise [k0_pay278]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1344_at (T : Tile A s I) (i : Fin 8) (j : Fin 1024) : s_v1344 I (ix2 i j) = hst A (512 * s + 256 + 32 * i.1 + 12) j := by
  have hi := i.2
  unfold s_v1344
  pointwise [k0_pay280]
  simp only [v1341_at T, v1401_at T, v1340_at T, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1348_at (T : Tile A s I) (i : Fin 8) (j : Fin 1024) : s_v1348 I (ix2 i j) = hst A (512 * s + 256 + 32 * i.1 + 13) j := by
  have hi := i.2
  have e0 := v1344_at T
  unfold s_v1344 at e0
  unfold s_v1348
  pointwise [k0_pay281]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1352_at (T : Tile A s I) (i : Fin 8) (j : Fin 1024) : s_v1352 I (ix2 i j) = hst A (512 * s + 256 + 32 * i.1 + 14) j := by
  have hi := i.2
  have e0 := v1348_at T
  unfold s_v1348 at e0
  unfold s_v1352
  pointwise [k0_pay282]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1356_at (T : Tile A s I) (i : Fin 8) (j : Fin 1024) : s_v1356 I (ix2 i j) = hst A (512 * s + 256 + 32 * i.1 + 15) j := by
  have hi := i.2
  have e0 := v1352_at T
  unfold s_v1352 at e0
  unfold s_v1356
  pointwise [k0_pay283]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1360_at (T : Tile A s I) (i : Fin 8) (j : Fin 1024) : s_v1360 I (ix2 i j) = hst A (512 * s + 256 + 32 * i.1 + 16) j := by
  have hi := i.2
  have e0 := v1356_at T
  unfold s_v1356 at e0
  unfold s_v1360
  pointwise [k0_pay284]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1364_at (T : Tile A s I) (i : Fin 8) (j : Fin 1024) : s_v1364 I (ix2 i j) = hst A (512 * s + 256 + 32 * i.1 + 17) j := by
  have hi := i.2
  have e0 := v1360_at T
  unfold s_v1360 at e0
  unfold s_v1364
  pointwise [k0_pay285]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1368_at (T : Tile A s I) (i : Fin 8) (j : Fin 1024) : s_v1368 I (ix2 i j) = hst A (512 * s + 256 + 32 * i.1 + 18) j := by
  have hi := i.2
  have e0 := v1364_at T
  unfold s_v1364 at e0
  unfold s_v1368
  pointwise [k0_pay286]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1372_at (T : Tile A s I) (i : Fin 8) (j : Fin 1024) : s_v1372 I (ix2 i j) = hst A (512 * s + 256 + 32 * i.1 + 19) j := by
  have hi := i.2
  have e0 := v1368_at T
  unfold s_v1368 at e0
  unfold s_v1372
  pointwise [k0_pay287]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1376_at (T : Tile A s I) (i : Fin 8) (j : Fin 1024) : s_v1376 I (ix2 i j) = hst A (512 * s + 256 + 32 * i.1 + 20) j := by
  have hi := i.2
  have e0 := v1372_at T
  unfold s_v1372 at e0
  unfold s_v1376
  pointwise [k0_pay288]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1380_at (T : Tile A s I) (i : Fin 8) (j : Fin 1024) : s_v1380 I (ix2 i j) = hst A (512 * s + 256 + 32 * i.1 + 21) j := by
  have hi := i.2
  have e0 := v1376_at T
  unfold s_v1376 at e0
  unfold s_v1380
  pointwise [k0_pay289]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1384_at (T : Tile A s I) (i : Fin 8) (j : Fin 1024) : s_v1384 I (ix2 i j) = hst A (512 * s + 256 + 32 * i.1 + 22) j := by
  have hi := i.2
  have e0 := v1380_at T
  unfold s_v1380 at e0
  unfold s_v1384
  pointwise [k0_pay290]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1388_at (T : Tile A s I) (i : Fin 8) (j : Fin 1024) : s_v1388 I (ix2 i j) = hst A (512 * s + 256 + 32 * i.1 + 23) j := by
  have hi := i.2
  have e0 := v1384_at T
  unfold s_v1384 at e0
  unfold s_v1388
  pointwise [k0_pay291]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1392_at (T : Tile A s I) (i : Fin 8) (j : Fin 1024) : s_v1392 I (ix2 i j) = hst A (512 * s + 256 + 32 * i.1 + 24) j := by
  have hi := i.2
  have e0 := v1388_at T
  unfold s_v1388 at e0
  unfold s_v1392
  pointwise [k0_pay292]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1396_at (T : Tile A s I) (i : Fin 8) (j : Fin 1024) : s_v1396 I (ix2 i j) = hst A (512 * s + 256 + 32 * i.1 + 25) j := by
  have hi := i.2
  have e0 := v1392_at T
  unfold s_v1392 at e0
  unfold s_v1396
  pointwise [k0_pay293]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

theorem v1400_at (T : Tile A s I) (i : Fin 8) (j : Fin 1024) : s_v1400 I (ix2 i j) = hst A (512 * s + 256 + 32 * i.1 + 26) j := by
  have hi := i.2
  have e0 := v1396_at T
  unfold s_v1396 at e0
  unfold s_v1400
  pointwise [k0_pay294]
  simp only [v1341_at T, v1401_at T, e0, v1090_at T, v1091_at T, v1090_at' T, v1091_at' T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
  exact hst_s _ _ _

/-- The states of the second half of the tile, row by row. -/
def catB (v1090 : FVec Ideal S256x1024 .f32) (v1091 : FVec Ideal S256x1024 .f32) (v1300 : FVec Ideal S8x1024 .f32) (v1304 : FVec Ideal S8x1024 .f32) (v1308 : FVec Ideal S8x1024 .f32) (v1312 : FVec Ideal S8x1024 .f32) (v1316 : FVec Ideal S8x1024 .f32) (v1320 : FVec Ideal S8x1024 .f32) (v1324 : FVec Ideal S8x1024 .f32) (v1328 : FVec Ideal S8x1024 .f32) (v1332 : FVec Ideal S8x1024 .f32) (v1336 : FVec Ideal S8x1024 .f32) (v1340 : FVec Ideal S8x1024 .f32) (v1344 : FVec Ideal S8x1024 .f32) (v1348 : FVec Ideal S8x1024 .f32) (v1352 : FVec Ideal S8x1024 .f32) (v1356 : FVec Ideal S8x1024 .f32) (v1360 : FVec Ideal S8x1024 .f32) (v1364 : FVec Ideal S8x1024 .f32) (v1368 : FVec Ideal S8x1024 .f32) (v1372 : FVec Ideal S8x1024 .f32) (v1376 : FVec Ideal S8x1024 .f32) (v1380 : FVec Ideal S8x1024 .f32) (v1384 : FVec Ideal S8x1024 .f32) (v1388 : FVec Ideal S8x1024 .f32) (v1392 : FVec Ideal S8x1024 .f32) (v1396 : FVec Ideal S8x1024 .f32) (v1400 : FVec Ideal S8x1024 .f32) (v1401 : FVec Ideal S8x1024 .f32) : FVec Ideal S256x1024 .f32 :=
  have v1402 : FVec Ideal S8x1024 .f32 := mulf v1401 v1400
  have v1403 : FVec Ideal S8x1024 .f32 := extractStridedSlice S8x1024 ![208, 0] v1091 slices_S256x1024_o208_0_S8x1024
  have v1404 : FVec Ideal S8x1024 .f32 := addf v1402 v1403
  have v1405 : FVec Ideal S8x1024 .f32 := extractStridedSlice S8x1024 ![216, 0] v1090 slices_S256x1024_o216_0_S8x1024
  have v1406 : FVec Ideal S8x1024 .f32 := mulf v1405 v1404
  have v1407 : FVec Ideal S8x1024 .f32 := extractStridedSlice S8x1024 ![216, 0] v1091 slices_S256x1024_o216_0_S8x1024
  have v1408 : FVec Ideal S8x1024 .f32 := addf v1406 v1407
  have v1409 : FVec Ideal S8x1024 .f32 := extractStridedSlice S8x1024 ![224, 0] v1090 slices_S256x1024_o224_0_S8x1024
  have v1410 : FVec Ideal S8x1024 .f32 := mulf v1409 v1408
  have v1411 : FVec Ideal S8x1024 .f32 := extractStridedSlice S8x1024 ![224, 0] v1091 slices_S256x1024_o224_0_S8x1024
  have v1412 : FVec Ideal S8x1024 .f32 := addf v1410 v1411
  have v1413 : FVec Ideal S8x1024 .f32 := extractStridedSlice S8x1024 ![232, 0] v1090 slices_S256x1024_o232_0_S8x1024
  have v1414 : FVec Ideal S8x1024 .f32 := mulf v1413 v1412
  have v1415 : FVec Ideal S8x1024 .f32 := extractStridedSlice S8x1024 ![232, 0] v1091 slices_S256x1024_o232_0_S8x1024
  have v1416 : FVec Ideal S8x1024 .f32 := addf v1414 v1415
  have v1417 : FVec Ideal S8x1024 .f32 := extractStridedSlice S8x1024 ![240, 0] v1090 slices_S256x1024_o240_0_S8x1024
  have v1418 : FVec Ideal S8x1024 .f32 := mulf v1417 v1416
  have v1419 : FVec Ideal S8x1024 .f32 := extractStridedSlice S8x1024 ![240, 0] v1091 slices_S256x1024_o240_0_S8x1024
  have v1420 : FVec Ideal S8x1024 .f32 := addf v1418 v1419
  have v1421 : FVec Ideal S8x1024 .f32 := extractStridedSlice S8x1024 ![248, 0] v1090 slices_S256x1024_o248_0_S8x1024
  have v1422 : FVec Ideal S8x1024 .f32 := mulf v1421 v1420
  have v1423 : FVec Ideal S8x1024 .f32 := extractStridedSlice S8x1024 ![248, 0] v1091 slices_S256x1024_o248_0_S8x1024
  have v1424 : FVec Ideal S8x1024 .f32 := addf v1422 v1423
  have v1425 : FVec Ideal S256x1024 .f32 := concatenate S256x1024 0 [⟨S8x1024, v1300⟩, ⟨S8x1024, v1304⟩, ⟨S8x1024, v1308⟩, ⟨S8x1024, v1312⟩, ⟨S8x1024, v1316⟩, ⟨S8x1024, v1320⟩, ⟨S8x1024, v1324⟩, ⟨S8x1024, v1328⟩, ⟨S8x1024, v1332⟩, ⟨S8x1024, v1336⟩, ⟨S8x1024, v1340⟩, ⟨S8x1024, v1344⟩, ⟨S8x1024, v1348⟩, ⟨S8x1024, v1352⟩, ⟨S8x1024, v1356⟩, ⟨S8x1024, v1360⟩, ⟨S8x1024, v1364⟩, ⟨S8x1024, v1368⟩, ⟨S8x1024, v1372⟩, ⟨S8x1024, v1376⟩, ⟨S8x1024, v1380⟩, ⟨S8x1024, v1384⟩, ⟨S8x1024, v1388⟩, ⟨S8x1024, v1392⟩, ⟨S8x1024, v1396⟩, ⟨S8x1024, v1400⟩, ⟨S8x1024, v1404⟩, ⟨S8x1024, v1408⟩, ⟨S8x1024, v1412⟩, ⟨S8x1024, v1416⟩, ⟨S8x1024, v1420⟩, ⟨S8x1024, v1424⟩] concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S256x1024_d0
  v1425

/-- The states times the gate. -/
def gateB (v504 : FVec Ideal S512x1024 .f32) (v1088 v1425 : FVec Ideal S256x1024 .f32) : FVec Ideal S512x1024 .bf16 :=
  have v1427 : FVec Ideal S512x1024 .f32 := concatenate S512x1024 0 [⟨S256x1024, v1088⟩, ⟨S256x1024, v1425⟩] concatenates_S256x1024_S256x1024_S512x1024_d0
  have v1428 : FVec Ideal S512x1024 .f32 := mulf v504 v504
  have v1429 : FVec Ideal S512x1024 .f32 := mulf v504 v1428
  have cst_316 : Ideal .f32 := Scalar.ofBits .f32 0x3D372713#32
  have v1430 : FVec Ideal S512x1024 .f32 := broadcast S512x1024 cst_316
  have v1431 : FVec Ideal S512x1024 .f32 := mulf v1430 v1429
  have v1432 : FVec Ideal S512x1024 .f32 := addf v504 v1431
  have cst_317 : Ideal .f32 := Scalar.ofBits .f32 0x3F4C422A#32
  have v1433 : FVec Ideal S512x1024 .f32 := broadcast S512x1024 cst_317
  have v1434 : FVec Ideal S512x1024 .f32 := mulf v1433 v1432
  have v1435 : FVec Ideal S512x1024 .f32 := tanh v1434
  have cst_318 : Ideal .f32 := Scalar.ofBits .f32 0x3F800000#32
  have v1436 : FVec Ideal S512x1024 .f32 := broadcast S512x1024 cst_318
  have v1437 : FVec Ideal S512x1024 .f32 := addf v1436 v1435
  have cst_319 : Ideal .f32 := Scalar.ofBits .f32 0x3F000000#32
  have v1438 : FVec Ideal S512x1024 .f32 := broadcast S512x1024 cst_319
  have v1439 : FVec Ideal S512x1024 .f32 := mulf v1438 v1437
  have v1440 : FVec Ideal S512x1024 .f32 := mulf v504 v1439
  have v1441 : FVec Ideal S512x1024 .f32 := mulf v1427 v1440
  have v1442 : FVec Ideal S512x1024 .bf16 := truncf .bf16 v1441 bitsLt_bf16_f32
  v1442

theorem catB_at (T : Tile A s I) (r : Fin 256) (j : Fin 1024) : catB (s_v1090 I) (s_v1091 I) (s_v1300 I) (s_v1304 I) (s_v1308 I) (s_v1312 I) (s_v1316 I) (s_v1320 I) (s_v1324 I) (s_v1328 I) (s_v1332 I) (s_v1336 I) (s_v1340 I) (s_v1344 I) (s_v1348 I) (s_v1352 I) (s_v1356 I) (s_v1360 I) (s_v1364 I) (s_v1368 I) (s_v1372 I) (s_v1376 I) (s_v1380 I) (s_v1384 I) (s_v1388 I) (s_v1392 I) (s_v1396 I) (s_v1400 I) (s_v1401 I) (ix2 r j) = hst A (512 * s + 256 + tau r + 1) j := by
  unfold catB
  refine cat_rows (fun t => hst A (512 * s + 256 + t + 1) j) j [_, _, _, _, _, _, _, _, _, _, _, _, _, _, _, _, _, _, _, _, _, _, _, _, _, _, _, _, _, _, _, _] rfl _ ⟨(fun i => v1300_at T i j), (fun i => v1304_at T i j), (fun i => v1308_at T i j), (fun i => v1312_at T i j), (fun i => v1316_at T i j), (fun i => v1320_at T i j), (fun i => v1324_at T i j), (fun i => v1328_at T i j), (fun i => v1332_at T i j), (fun i => v1336_at T i j), (fun i => v1340_at T i j), (fun i => v1344_at T i j), (fun i => v1348_at T i j), (fun i => v1352_at T i j), (fun i => v1356_at T i j), (fun i => v1360_at T i j), (fun i => v1364_at T i j), (fun i => v1368_at T i j), (fun i => v1372_at T i j), (fun i => v1376_at T i j), (fun i => v1380_at T i j), (fun i => v1384_at T i j), (fun i => v1388_at T i j), (fun i => v1392_at T i j), (fun i => v1396_at T i j), (fun i => v1400_at T i j), ?_, ?_, ?_, ?_, ?_, ?_, trivial⟩ r
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]
  · intro i
    pointwise []
    simp only [v1401_at T, v1400_at T, v1090_at T, v1091_at T, trf0, trm0, trf1, trm1, trf2, trm2, trf3, trm3, trf4, trm4, trf5, trm5, trf6, trm6, trf7, trm7, trf8, trm8, trf9, trm9, trf10, trm10, trf11, trm11, trf12, trm12, trf13, trm13, trf14, trm14, trf15, trm15, trf16, trm16, trf17, trm17, trf18, trm18, trf19, trm19, trf20, trm20, trf21, trm21, trf22, trm22, trf23, trm23, trf24, trm24, trf25, trm25, trf26, trm26, trf27, trm27, trf28, trm28, trf29, trm29, trf30, trm30, trf31, trm31, ← Nat.add_assoc]
    simp only [hst_s]

theorem v1442_eq : s_v1442 I = gateB (s_v504 I) (s_v1088 I) (catB (s_v1090 I) (s_v1091 I) (s_v1300 I) (s_v1304 I) (s_v1308 I) (s_v1312 I) (s_v1316 I) (s_v1320 I) (s_v1324 I) (s_v1328 I) (s_v1332 I) (s_v1336 I) (s_v1340 I) (s_v1344 I) (s_v1348 I) (s_v1352 I) (s_v1356 I) (s_v1360 I) (s_v1364 I) (s_v1368 I) (s_v1372 I) (s_v1376 I) (s_v1380 I) (s_v1384 I) (s_v1388 I) (s_v1392 I) (s_v1396 I) (s_v1400 I) (s_v1401 I)) := rfl

/-- The gated recurrence. -/
theorem v1442_at (T : Tile A s I) (i : Fin 512) (j : Fin 1024) : s_v1442 I (ix2 i j) = bact A (tm s i) j := by
  have hi := i.2
  rw [v1442_eq]
  generalize hC : catB (s_v1090 I) (s_v1091 I) (s_v1300 I) (s_v1304 I) (s_v1308 I) (s_v1312 I) (s_v1316 I) (s_v1320 I) (s_v1324 I) (s_v1328 I) (s_v1332 I) (s_v1336 I) (s_v1340 I) (s_v1344 I) (s_v1348 I) (s_v1352 I) (s_v1356 I) (s_v1360 I) (s_v1364 I) (s_v1368 I) (s_v1372 I) (s_v1376 I) (s_v1380 I) (s_v1384 I) (s_v1388 I) (s_v1392 I) (s_v1396 I) (s_v1400 I) (s_v1401 I) = C
  have hc : ∀ r : Fin 256, C (ix2 r j) = hst A (512 * s + 256 + tau r + 1) j := fun r => by rw [← hC]; exact catB_at T r j
  pointwise [gateB]
  simp only [v504_at T, v1088_at T, hc]
  unfold bact gelu
  by_cases h : i.1 < 256
  · rw [dif_pos h, tm_lo s h, mul_assoc]
  · rw [dif_neg h, tm_hi' s (by omega) hi, mul_assoc]

end Cert.Mix

end
-- ==== Proof.MixOut.lean ====
module

public import proofs.«01_k».proof.Proof.MixRet
public import proofs.«01_k».proof.Proof.MixScan
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable {A : Arr} {s : ℕ} {I : In}

/-- The row that holds time `i` of a half tile. -/
def rowOf (i : Fin 256) : Fin 256 := tauEquiv.symm i

theorem tau_rowOf (i : Fin 256) : tau (rowOf i).1 = i.1 := congrArg Fin.val (tauEquiv.apply_symm_apply i)

theorem unperm_eq (i x : Fin 256) : (i.1 = tau x.1) ↔ x = rowOf i := by
  constructor
  · intro h
    unfold rowOf
    rw [Equiv.eq_symm_apply]
    exact Fin.ext h.symm
  · rintro rfl
    exact (tau_rowOf i).symm

theorem v1476_at (T : Tile A s I) (i : Fin 512) (j : Fin 1024) : s_v1476 I (ix2 i j) = sig (prj A (tm s i) (5120 + j) + A.mga j) := by
  have h := v1464_at T
  unfold s_v1464 at h
  unfold s_v1476
  pointwise [k0_pay306]
  rw [h]
  have e := T.hmga j
  unfold l_v1466
  rw [ld2 I.x7 0 0 _ 0 j (by decide) (by omega)]
  have e2 : I.x7 (ix2 ⟨0 + (0 : Fin 1).1, by decide⟩ ⟨0 + j.1, by omega⟩) = A.mga j := by
    refine Eq.trans ?_ e
    congr 2; apply Fin.ext; simp
  rw [e2, zero_sub]
  rfl

theorem v1484_at (T : Tile A s I) (i : Fin 512) (j : Fin 1024) : s_v1484 I (ix2 i j) = Ideal.exp (-(prj A (tm s i) (6144 + j) + A.mgb j)) := by
  have h := v1464_at T
  unfold s_v1464 at h
  unfold s_v1484
  pointwise [k0_pay307]
  rw [h]
  have e := T.hmgb j
  unfold l_v1478
  rw [ld2 I.x7 1 0 _ 0 j (by decide) (by omega)]
  have e2 : I.x7 (ix2 ⟨1 + (0 : Fin 1).1, by decide⟩ ⟨0 + j.1, by omega⟩) = A.mgb j := by
    refine Eq.trans ?_ e
    congr 2; apply Fin.ext; simp
  rw [e2, zero_sub]
  simp only [← Nat.add_assoc]

/-- The mixed branches, in the order of the rows. -/
theorem v1498_at (T : Tile A s I) (i : Fin 512) (j : Fin 1024) : s_v1498 I (ix2 i j) = mixv A (tm s i) j := by
  unfold s_v1498
  pointwise [k0_pay308]
  simp only [v1443_at T, v1442_at T, v1476_at T, v1484_at T, T.hwro, T.hwlo]
  rfl

/-- The first half in the order of time. -/
theorem v1502_at (T : Tile A s I) (i : Fin 256) (j : Fin 1024) : s_v1502 I (ix2 i j) = mixv A (512 * s + i) j := by
  have h := v1498_at T
  unfold s_v1498 at h
  unfold s_v1502
  pointwise [k0_pay309]
  simp only [h, T.hunperm, tmf_lo]
  refine (sum_pick _ _ (rowOf i) (fun x => by simp only [unperm_eq])).trans ?_
  rw [tau_rowOf]

/-- The tile's result. -/
theorem v1516_at (T : Tile A s I) (i : Fin 512) (j : Fin 1024) : s_v1516 I (ix3 0 i j) = res A (512 * s + i) j := by
  have hi := i.2
  unfold s_v1516
  pointwise [k0_pay1]
  simp only [v4_at T, v1502_at T, v1498_at T, T.hunperm, T.hwout, tmf_hi]
  unfold res
  refine congrArg (A.x (512 * s + i.1) j + ·) (Finset.sum_congr rfl fun x _ => ?_)
  refine congrArg (· * A.wout x j) ?_
  by_cases h : i.1 < 256
  · rw [dif_pos h]
  · rw [dif_neg h]
    refine (sum_pick _ _ (rowOf ⟨i.1 - 256, by omega⟩) (fun x => by simp only [← unperm_eq])).trans ?_
    rw [tau_rowOf]
    simp only
    congr 1
    omega

theorem v1458_at (T : Tile A s I) (j : Fin 1024) : s_v1458 I (ix2 0 j) = hst A (512 * (s + 1)) j := by
  unfold s_v1458
  pointwise [k0_pay303]
  rw [v1426_at T, show 512 * (s + 1) = 512 * s + 512 by omega]

theorem v1461_at (T : Tile A s I) (g : Fin 3) (j : Fin 1024) : s_v1461 I (ix2 ⟨8 * g.1 + 7, by omega⟩ j) = xlp A (512 * (s + 1) + g) j := by
  have hg := g.2
  unfold s_v1461
  pointwise [k0_pay304]
  rw [v445_at T]
  refine congrArg (fun t => xlp A t j) ?_
  simp only
  unfold tau
  omega

theorem v1446_at (T : Tile A s I) (d : Fin 128) (e : Fin 256) : s_v1446 I (ix3 0 d e) = stE A 0 (512 * (s + 1)) d e := by
  unfold s_v1446
  pointwise [k0_pay299]
  rw [v525_at T, show 512 * (s + 1) = 512 * s + 256 + 256 by omega]

theorem v1449_at (T : Tile A s I) (d : Fin 128) (e : Fin 256) : s_v1449 I (ix3 0 d e) = stE A 1 (512 * (s + 1)) d e := by
  unfold s_v1449
  pointwise [k0_pay300]
  rw [v547_at T, show 512 * (s + 1) = 512 * s + 256 + 256 by omega]

theorem v1452_at (T : Tile A s I) (d : Fin 128) (e : Fin 256) : s_v1452 I (ix3 0 d e) = stE A 2 (512 * (s + 1)) d e := by
  unfold s_v1452
  pointwise [k0_pay301]
  rw [v569_at T, show 512 * (s + 1) = 512 * s + 256 + 256 by omega]

theorem v1455_at (T : Tile A s I) (d : Fin 128) (e : Fin 256) : s_v1455 I (ix3 0 d e) = stE A 3 (512 * (s + 1)) d e := by
  unfold s_v1455
  pointwise [k0_pay302]
  rw [v591_at T, show 512 * (s + 1) = 512 * s + 256 + 256 by omega]

end Cert.Mix

end
-- ==== Proof.MixBody.lean ====
module

public import proofs.«01_k».proof.Proof.Gen.KernelIdeal.Value
public import proofs.«01_k».proof.Proof.MixOut
public import Idealize.ShloMosaic.Lib.Pointwise
public import Idealize.ShloMosaic.Lib.Pipeline.ValueKit
public import Idealize.ShloMosaic.Lib.VecWindow

@[expose] public section

set_option maxRecDepth 16384

noncomputable section

namespace Cert.Mix

open Cert.KernelIdeal Cert.KernelIdeal.Gen Idealize.ShloMosaic Idealize.ShloMosaic.TcCoe Idealize.SL.Sem

/-- The values a point of a batch row's first tile works on: the blocks, and nothing carried. -/
def inA (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) : In :=
  { x0 := x0, x1 := x1, x2 := x2, x3 := x3, x4 := x4, x5 := x5, x6 := x6, x7 := x7, x8 := x8, x9 := x9, x10 := x10, x11 := x11, x12 := x12, x13 := x13, x14 := x14, x15 := x15, x16 := x16, x17 := x17, x18 := x18, x19 := x19, x20 := x20, z0 := fun _ => 0, z1 := fun _ => 0, z2 := fun _ => 0, z3 := fun _ => 0, zh := fun _ => 0, zx := fun _ => 0 }

/-- The values a later point works on: the blocks, and what the point before it left. -/
def inB (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) : In :=
  { x0 := x0, x1 := x1, x2 := x2, x3 := x3, x4 := x4, x5 := x5, x6 := x6, x7 := x7, x8 := x8, x9 := x9, x10 := x10, x11 := x11, x12 := x12, x13 := x13, x14 := x14, x15 := x15, x16 := x16, x17 := x17, x18 := x18, x19 := x19, x20 := x20,
    z0 := View.ld xs0 (Rect.unit (s := S4x128x256) ![0, 0, 0] S1x128x256.size inb_S4x128x256_S1x128x256_0_0_0),
    z1 := View.ld xs0 (Rect.unit (s := S4x128x256) ![1, 0, 0] S1x128x256.size inb_S4x128x256_S1x128x256_1_0_0),
    z2 := View.ld xs0 (Rect.unit (s := S4x128x256) ![2, 0, 0] S1x128x256.size inb_S4x128x256_S1x128x256_2_0_0),
    z3 := View.ld xs0 (Rect.unit (s := S4x128x256) ![3, 0, 0] S1x128x256.size inb_S4x128x256_S1x128x256_3_0_0),
    zh := View.ld xs1 (Rect.unit (s := S8x1024) ![0, 0] S1x1024.size inb_S8x1024_S1x1024_0_0), zx := xs2 }

theorem pay2_zero (y : S4x128x256.Idx) : (k0_pay2 : FVec Ideal S4x128x256 .f32) y = 0 := by
  rw [eq_ix3 y]; pointwise [k0_pay2]
theorem pay3_zero (y : S8x1024.Idx) : (k0_pay3 : FVec Ideal S8x1024 .f32) y = 0 := by
  rw [eq_ix2 y]; pointwise [k0_pay3]
theorem pay4_zero (y : S24x1024.Idx) : (k0_pay4 : FVec Ideal S24x1024 .f32) y = 0 := by
  rw [eq_ix2 y]; pointwise [k0_pay4]

theorem v129_zero (c : Dev nD) (arg24 : Memref Cert.KernelIdeal.sig .tc .vmem S4x128x256 .f32) : kernelRun0_A.sl.v129 (F := Ideal) c arg24 = fun _ => 0 := by
  funext j
  have e := View.read_writes_full (Val := Elt Ideal) arg24.view arg24.view.junk (off := ![0, 0, 0]) inb_S4x128x256_S4x128x256_0_0_0 (k0_pay2 : FVec Ideal S4x128x256 .f32) []
  exact (congrFun e _).trans (pay2_zero _)

theorem v131_zero (c : Dev nD) (arg24 : Memref Cert.KernelIdeal.sig .tc .vmem S4x128x256 .f32) : kernelRun0_A.sl.v131 (F := Ideal) c arg24 = fun _ => 0 := by
  funext j
  have e := View.read_writes_full (Val := Elt Ideal) arg24.view arg24.view.junk (off := ![0, 0, 0]) inb_S4x128x256_S4x128x256_0_0_0 (k0_pay2 : FVec Ideal S4x128x256 .f32) []
  exact (congrFun e _).trans (pay2_zero _)

theorem v133_zero (c : Dev nD) (arg24 : Memref Cert.KernelIdeal.sig .tc .vmem S4x128x256 .f32) : kernelRun0_A.sl.v133 (F := Ideal) c arg24 = fun _ => 0 := by
  funext j
  have e := View.read_writes_full (Val := Elt Ideal) arg24.view arg24.view.junk (off := ![0, 0, 0]) inb_S4x128x256_S4x128x256_0_0_0 (k0_pay2 : FVec Ideal S4x128x256 .f32) []
  exact (congrFun e _).trans (pay2_zero _)

theorem v135_zero (c : Dev nD) (arg24 : Memref Cert.KernelIdeal.sig .tc .vmem S4x128x256 .f32) : kernelRun0_A.sl.v135 (F := Ideal) c arg24 = fun _ => 0 := by
  funext j
  have e := View.read_writes_full (Val := Elt Ideal) arg24.view arg24.view.junk (off := ![0, 0, 0]) inb_S4x128x256_S4x128x256_0_0_0 (k0_pay2 : FVec Ideal S4x128x256 .f32) []
  exact (congrFun e _).trans (pay2_zero _)

theorem v137_zero (c : Dev nD) (arg25 : Memref Cert.KernelIdeal.sig .tc .vmem S8x1024 .f32) : kernelRun0_A.sl.v137 (F := Ideal) c arg25 = fun _ => 0 := by
  funext j
  have e := View.read_writes_full (Val := Elt Ideal) arg25.view arg25.view.junk (off := ![0, 0]) inb_S8x1024_S8x1024_0_0 (k0_pay3 : FVec Ideal S8x1024 .f32) []
  exact (congrFun e _).trans (pay3_zero _)

theorem v138_zero (c : Dev nD) (arg26 : Memref Cert.KernelIdeal.sig .tc .vmem S24x1024 .f32) : kernelRun0_A.sl.v138 (F := Ideal) c arg26 = fun _ => 0 := by
  funext j
  have e := View.read_writes_full (Val := Elt Ideal) arg26.view arg26.view.junk (off := ![0, 0]) inb_S24x1024_S24x1024_0_0 (k0_pay4 : FVec Ideal S24x1024 .f32) []
  exact (congrFun e _).trans (pay4_zero _)

/-- What the body loads at a point of case A, as it loads it. -/
def rawA (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) : In where
    x0 := View.readAt (Elt Ideal) arg2.view (Rect.unit (s := S1x512x1024) ![0, 0, 0] S1x512x1024.size inb_S1x512x1024_S1x512x1024_0_0_0).toLoadRect (harg2.unread x0)
    x1 := View.readAt (Elt Ideal) arg3.view (Rect.unit (s := S1x1x4x128) ![0, 0, 0, 0] S1x1x4x128.size inb_S1x1x4x128_S1x1x4x128_0_0_0_0).toLoadRect (harg3.unread x1)
    x2 := View.readAt (Elt Ideal) arg4.view (Rect.unit (s := S256x256) ![0, 0] S256x256.size inb_S256x256_S256x256_0_0).toLoadRect (harg4.unread x2)
    x3 := View.readAt (Elt Ideal) arg5.view (Rect.unit (s := S256x256) ![0, 0] S256x256.size inb_S256x256_S256x256_0_0).toLoadRect (harg5.unread x3)
    x4 := View.readAt (Elt Ideal) arg6.view (Rect.unit (s := S1x128) ![0, 0] S1x128.size inb_S1x128_S1x128_0_0).toLoadRect (harg6.unread x4)
    x5 := View.readAt (Elt Ideal) arg7.view (Rect.unit (s := S1x1024) ![0, 0] S1x1024.size inb_S1x1024_S1x1024_0_0).toLoadRect (harg7.unread x5)
    x6 := arg8.view.read (Elt Ideal) (harg8.unread x6)
    x7 := arg9.view.read (Elt Ideal) (harg9.unread x7)
    x8 := arg10.view.read (Elt Ideal) (harg10.unread x8)
    x9 := View.readAt (Elt Ideal) arg11.view (Rect.unit (s := S1024x1024) ![0, 0] S1024x1024.size inb_S1024x1024_S1024x1024_0_0).toLoadRect (harg11.unread x9)
    x10 := arg12.view.read (Elt Ideal) (harg12.unread x10)
    x11 := View.readAt (Elt Ideal) arg13.view (Rect.unit (s := S1x1024) ![0, 0] S1x1024.size inb_S1x1024_S1x1024_0_0).toLoadRect (harg13.unread x11)
    x12 := arg14.view.read (Elt Ideal) (harg14.unread x12)
    x13 := View.readAt (Elt Ideal) arg15.view (Rect.unit (s := S1x1024) ![0, 0] S1x1024.size inb_S1x1024_S1x1024_0_0).toLoadRect (harg15.unread x13)
    x14 := View.readAt (Elt Ideal) arg16.view (Rect.unit (s := S1x1024) ![0, 0] S1x1024.size inb_S1x1024_S1x1024_0_0).toLoadRect (harg16.unread x14)
    x15 := View.readAt (Elt Ideal) arg17.view (Rect.unit (s := S1x1024) ![0, 0] S1x1024.size inb_S1x1024_S1x1024_0_0).toLoadRect (harg17.unread x15)
    x16 := View.readAt (Elt Ideal) arg18.view (Rect.unit (s := S1024x1024) ![0, 0] S1024x1024.size inb_S1024x1024_S1024x1024_0_0).toLoadRect (harg18.unread x16)
    x17 := View.readAt (Elt Ideal) arg19.view (Rect.unit (s := S1024x1024) ![0, 0] S1024x1024.size inb_S1024x1024_S1024x1024_0_0).toLoadRect (harg19.unread x17)
    x18 := arg20.view.read (Elt Ideal) (harg20.unread x18)
    x19 := arg21.view.read (Elt Ideal) (harg21.unread x19)
    x20 := arg22.view.read (Elt Ideal) (harg22.unread x20)
    z0 := kernelRun0_A.sl.v129 (F := Ideal) c arg24
    z1 := kernelRun0_A.sl.v131 (F := Ideal) c arg24
    z2 := kernelRun0_A.sl.v133 (F := Ideal) c arg24
    z3 := kernelRun0_A.sl.v135 (F := Ideal) c arg24
    zh := kernelRun0_A.sl.v137 (F := Ideal) c arg25
    zx := kernelRun0_A.sl.v138 (F := Ideal) c arg26

theorem rawA_eq (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) : rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = (inA x0 x1 x2 x3 x4 x5 x6 x7 x8 x9 x10 x11 x12 x13 x14 x15 x16 x17 x18 x19 x20) := by
  unfold rawA inA
  simp (disch := decide) only [v129_zero, v131_zero, v133_zero, v135_zero, v137_zero, v138_zero, View.readAt_eq_ld, Memref.IsWhole.read_unread, View.ld_unit_lit']
  rfl

theorem outA_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = VO0_21.read (Elt Ideal) (VO0_21.writes (Elt Ideal) VO0_21.junk [(⟨Rect.unit (s := S1x512x1024) ![0, 0, 0] S1x512x1024.size inb_S1x512x1024_S1x512x1024_0_0_0, s_v1516 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S1x512x1024 .f32)]) := by
  sl_kernel_rfl

theorem outA (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) : out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = s_v1516 (inA x0 x1 x2 x3 x4 x5 x6 x7 x8 x9 x10 x11 x12 x13 x14 x15 x16 x17 x18 x19 x20) := by
  rw [outA_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  funext q
  exact View.read_writes_cons_unit_of_mem VO0_21 VO0_21.junk (off := ![0, 0, 0]) (off' := ![0, 0, 0]) _ _ _ _ q rfl (fun a => by fin_cases a; { exact (Nat.zero_add _).symm }; { exact (Nat.zero_add _).symm }; { exact (Nat.zero_add _).symm })

theorem soutA_0_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = VS0_0.read (Elt Ideal) (VS0_0.writes (Elt Ideal) VS0_0.junk [(⟨Rect.unit (s := S4x128x256) ![3, 0, 0] S1x128x256.size inb_S4x128x256_S1x128x256_3_0_0, s_v1455 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S4x128x256 .f32), (⟨Rect.unit (s := S4x128x256) ![2, 0, 0] S1x128x256.size inb_S4x128x256_S1x128x256_2_0_0, s_v1452 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S4x128x256 .f32), (⟨Rect.unit (s := S4x128x256) ![1, 0, 0] S1x128x256.size inb_S4x128x256_S1x128x256_1_0_0, s_v1449 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S4x128x256 .f32), (⟨Rect.unit (s := S4x128x256) ![0, 0, 0] S1x128x256.size inb_S4x128x256_S1x128x256_0_0_0, s_v1446 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S4x128x256 .f32), (⟨Rect.unit (s := S4x128x256) ![0, 0, 0] S4x128x256.size inb_S4x128x256_S4x128x256_0_0_0, (k0_pay2 : FVec Ideal S4x128x256 .f32)⟩ : View.Piece (Elt Ideal) S4x128x256 .f32)]) := by
  sl_kernel_rfl

theorem soutA_0_0 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (d : Fin 128) (e : Fin 256) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 (ix3 0 d e) = s_v1446 (inA x0 x1 x2 x3 x4 x5 x6 x7 x8 x9 x10 x11 x12 x13 x14 x15 x16 x17 x18 x19 x20) (ix3 0 d e) := by
  rw [soutA_0_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  rw [View.read_writes_cons_unit_of_not_mem VS0_0 VS0_0.junk (off := ![3, 0, 0]) (off' := ![3, 0, 0]) _ _ _ _ rfl 0 (Or.inl (by show 0 < 3; omega))]
  rw [View.read_writes_cons_unit_of_not_mem VS0_0 VS0_0.junk (off := ![2, 0, 0]) (off' := ![2, 0, 0]) _ _ _ _ rfl 0 (Or.inl (by show 0 < 2; omega))]
  rw [View.read_writes_cons_unit_of_not_mem VS0_0 VS0_0.junk (off := ![1, 0, 0]) (off' := ![1, 0, 0]) _ _ _ _ rfl 0 (Or.inl (by show 0 < 1; omega))]
  exact View.read_writes_cons_unit_of_mem VS0_0 VS0_0.junk (off := ![0, 0, 0]) (off' := ![0, 0, 0]) _ _ _ _ (ix3 (n0 := 1) (n1 := 128) (n2 := 256) 0 d e) rfl (fun a => by fin_cases a; { rfl }; { show d.1 = 0 + d.1; omega }; { show e.1 = 0 + e.1; omega })

theorem soutA_0_1 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (d : Fin 128) (e : Fin 256) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 (ix3 1 d e) = s_v1449 (inA x0 x1 x2 x3 x4 x5 x6 x7 x8 x9 x10 x11 x12 x13 x14 x15 x16 x17 x18 x19 x20) (ix3 0 d e) := by
  rw [soutA_0_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  rw [View.read_writes_cons_unit_of_not_mem VS0_0 VS0_0.junk (off := ![3, 0, 0]) (off' := ![3, 0, 0]) _ _ _ _ rfl 0 (Or.inl (by show 1 < 3; omega))]
  rw [View.read_writes_cons_unit_of_not_mem VS0_0 VS0_0.junk (off := ![2, 0, 0]) (off' := ![2, 0, 0]) _ _ _ _ rfl 0 (Or.inl (by show 1 < 2; omega))]
  exact View.read_writes_cons_unit_of_mem VS0_0 VS0_0.junk (off := ![1, 0, 0]) (off' := ![1, 0, 0]) _ _ _ _ (ix3 (n0 := 1) (n1 := 128) (n2 := 256) 0 d e) rfl (fun a => by fin_cases a; { rfl }; { show d.1 = 0 + d.1; omega }; { show e.1 = 0 + e.1; omega })

theorem soutA_0_2 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (d : Fin 128) (e : Fin 256) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 (ix3 2 d e) = s_v1452 (inA x0 x1 x2 x3 x4 x5 x6 x7 x8 x9 x10 x11 x12 x13 x14 x15 x16 x17 x18 x19 x20) (ix3 0 d e) := by
  rw [soutA_0_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  rw [View.read_writes_cons_unit_of_not_mem VS0_0 VS0_0.junk (off := ![3, 0, 0]) (off' := ![3, 0, 0]) _ _ _ _ rfl 0 (Or.inl (by show 2 < 3; omega))]
  exact View.read_writes_cons_unit_of_mem VS0_0 VS0_0.junk (off := ![2, 0, 0]) (off' := ![2, 0, 0]) _ _ _ _ (ix3 (n0 := 1) (n1 := 128) (n2 := 256) 0 d e) rfl (fun a => by fin_cases a; { rfl }; { show d.1 = 0 + d.1; omega }; { show e.1 = 0 + e.1; omega })

theorem soutA_0_3 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (d : Fin 128) (e : Fin 256) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 (ix3 3 d e) = s_v1455 (inA x0 x1 x2 x3 x4 x5 x6 x7 x8 x9 x10 x11 x12 x13 x14 x15 x16 x17 x18 x19 x20) (ix3 0 d e) := by
  rw [soutA_0_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  exact View.read_writes_cons_unit_of_mem VS0_0 VS0_0.junk (off := ![3, 0, 0]) (off' := ![3, 0, 0]) _ _ _ _ (ix3 (n0 := 1) (n1 := 128) (n2 := 256) 0 d e) rfl (fun a => by fin_cases a; { rfl }; { show d.1 = 0 + d.1; omega }; { show e.1 = 0 + e.1; omega })

theorem soutA_1_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = VS0_1.read (Elt Ideal) (VS0_1.writes (Elt Ideal) VS0_1.junk [(⟨Rect.unit (s := S8x1024) ![0, 0] S1x1024.size inb_S8x1024_S1x1024_0_0, s_v1458 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S8x1024 .f32), (⟨Rect.unit (s := S8x1024) ![0, 0] S8x1024.size inb_S8x1024_S8x1024_0_0, (k0_pay3 : FVec Ideal S8x1024 .f32)⟩ : View.Piece (Elt Ideal) S8x1024 .f32)]) := by
  sl_kernel_rfl

theorem soutA_1 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (j : Fin 1024) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 (ix2 0 j) = s_v1458 (inA x0 x1 x2 x3 x4 x5 x6 x7 x8 x9 x10 x11 x12 x13 x14 x15 x16 x17 x18 x19 x20) (ix2 0 j) := by
  rw [soutA_1_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  exact View.read_writes_cons_unit_of_mem VS0_1 VS0_1.junk (off := ![0, 0]) (off' := ![0, 0]) _ _ _ _ (ix2 (n0 := 1) (n1 := 1024) 0 j) rfl (fun a => by fin_cases a; { rfl }; { show j.1 = 0 + j.1; omega })

theorem soutA_2_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = VS0_2.read (Elt Ideal) (VS0_2.writes (Elt Ideal) VS0_2.junk [(⟨Rect.unit (s := S24x1024) ![0, 0] S24x1024.size inb_S24x1024_S24x1024_0_0, s_v1461 (rawA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20)⟩ : View.Piece (Elt Ideal) S24x1024 .f32), (⟨Rect.unit (s := S24x1024) ![0, 0] S24x1024.size inb_S24x1024_S24x1024_0_0, (k0_pay4 : FVec Ideal S24x1024 .f32)⟩ : View.Piece (Elt Ideal) S24x1024 .f32)]) := by
  sl_kernel_rfl

theorem soutA_2 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 = s_v1461 (inA x0 x1 x2 x3 x4 x5 x6 x7 x8 x9 x10 x11 x12 x13 x14 x15 x16 x17 x18 x19 x20) := by
  rw [soutA_2_raw, ← rawA_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20]
  funext q
  exact View.read_writes_cons_unit_of_mem VS0_2 VS0_2.junk (off := ![0, 0]) (off' := ![0, 0]) _ _ _ _ q rfl (fun a => by fin_cases a; { exact (Nat.zero_add _).symm }; { exact (Nat.zero_add _).symm })

/-- What the body loads at a point of case B, as it loads it. -/
def rawB (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) : In where
    x0 := View.readAt (Elt Ideal) arg2.view (Rect.unit (s := S1x512x1024) ![0, 0, 0] S1x512x1024.size inb_S1x512x1024_S1x512x1024_0_0_0).toLoadRect (harg2.unread x0)
    x1 := View.readAt (Elt Ideal) arg3.view (Rect.unit (s := S1x1x4x128) ![0, 0, 0, 0] S1x1x4x128.size inb_S1x1x4x128_S1x1x4x128_0_0_0_0).toLoadRect (harg3.unread x1)
    x2 := View.readAt (Elt Ideal) arg4.view (Rect.unit (s := S256x256) ![0, 0] S256x256.size inb_S256x256_S256x256_0_0).toLoadRect (harg4.unread x2)
    x3 := View.readAt (Elt Ideal) arg5.view (Rect.unit (s := S256x256) ![0, 0] S256x256.size inb_S256x256_S256x256_0_0).toLoadRect (harg5.unread x3)
    x4 := View.readAt (Elt Ideal) arg6.view (Rect.unit (s := S1x128) ![0, 0] S1x128.size inb_S1x128_S1x128_0_0).toLoadRect (harg6.unread x4)
    x5 := View.readAt (Elt Ideal) arg7.view (Rect.unit (s := S1x1024) ![0, 0] S1x1024.size inb_S1x1024_S1x1024_0_0).toLoadRect (harg7.unread x5)
    x6 := arg8.view.read (Elt Ideal) (harg8.unread x6)
    x7 := arg9.view.read (Elt Ideal) (harg9.unread x7)
    x8 := arg10.view.read (Elt Ideal) (harg10.unread x8)
    x9 := View.readAt (Elt Ideal) arg11.view (Rect.unit (s := S1024x1024) ![0, 0] S1024x1024.size inb_S1024x1024_S1024x1024_0_0).toLoadRect (harg11.unread x9)
    x10 := arg12.view.read (Elt Ideal) (harg12.unread x10)
    x11 := View.readAt (Elt Ideal) arg13.view (Rect.unit (s := S1x1024) ![0, 0] S1x1024.size inb_S1x1024_S1x1024_0_0).toLoadRect (harg13.unread x11)
    x12 := arg14.view.read (Elt Ideal) (harg14.unread x12)
    x13 := View.readAt (Elt Ideal) arg15.view (Rect.unit (s := S1x1024) ![0, 0] S1x1024.size inb_S1x1024_S1x1024_0_0).toLoadRect (harg15.unread x13)
    x14 := View.readAt (Elt Ideal) arg16.view (Rect.unit (s := S1x1024) ![0, 0] S1x1024.size inb_S1x1024_S1x1024_0_0).toLoadRect (harg16.unread x14)
    x15 := View.readAt (Elt Ideal) arg17.view (Rect.unit (s := S1x1024) ![0, 0] S1x1024.size inb_S1x1024_S1x1024_0_0).toLoadRect (harg17.unread x15)
    x16 := View.readAt (Elt Ideal) arg18.view (Rect.unit (s := S1024x1024) ![0, 0] S1024x1024.size inb_S1024x1024_S1024x1024_0_0).toLoadRect (harg18.unread x16)
    x17 := View.readAt (Elt Ideal) arg19.view (Rect.unit (s := S1024x1024) ![0, 0] S1024x1024.size inb_S1024x1024_S1024x1024_0_0).toLoadRect (harg19.unread x17)
    x18 := arg20.view.read (Elt Ideal) (harg20.unread x18)
    x19 := arg21.view.read (Elt Ideal) (harg21.unread x19)
    x20 := arg22.view.read (Elt Ideal) (harg22.unread x20)
    z0 := View.readAt (Elt Ideal) arg24.view (Rect.unit (s := S4x128x256) ![0, 0, 0] S1x128x256.size inb_S4x128x256_S1x128x256_0_0_0).toLoadRect (harg24.unread xs0)
    z1 := View.readAt (Elt Ideal) arg24.view (Rect.unit (s := S4x128x256) ![1, 0, 0] S1x128x256.size inb_S4x128x256_S1x128x256_1_0_0).toLoadRect (harg24.unread xs0)
    z2 := View.readAt (Elt Ideal) arg24.view (Rect.unit (s := S4x128x256) ![2, 0, 0] S1x128x256.size inb_S4x128x256_S1x128x256_2_0_0).toLoadRect (harg24.unread xs0)
    z3 := View.readAt (Elt Ideal) arg24.view (Rect.unit (s := S4x128x256) ![3, 0, 0] S1x128x256.size inb_S4x128x256_S1x128x256_3_0_0).toLoadRect (harg24.unread xs0)
    zh := View.readAt (Elt Ideal) arg25.view (Rect.unit (s := S8x1024) ![0, 0] S1x1024.size inb_S8x1024_S1x1024_0_0).toLoadRect (harg25.unread xs1)
    zx := View.readAt (Elt Ideal) arg26.view (Rect.unit (s := S24x1024) ![0, 0] S24x1024.size inb_S24x1024_S24x1024_0_0).toLoadRect (harg26.unread xs2)

theorem rawB_eq (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) : rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = (inB x0 x1 x2 x3 x4 x5 x6 x7 x8 x9 x10 x11 x12 x13 x14 x15 x16 x17 x18 x19 x20 xs0 xs1 xs2) := by
  unfold rawB inB
  simp (disch := decide) only [View.readAt_eq_ld, Memref.IsWhole.read_unread, View.ld_unit_lit']

theorem outB_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) :
    out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = VO0_21.read (Elt Ideal) (VO0_21.writes (Elt Ideal) VO0_21.junk [(⟨Rect.unit (s := S1x512x1024) ![0, 0, 0] S1x512x1024.size inb_S1x512x1024_S1x512x1024_0_0_0, s_v1516 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S1x512x1024 .f32)]) := by
  sl_kernel_rfl

theorem outB (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) : out0_B_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = s_v1516 (inB x0 x1 x2 x3 x4 x5 x6 x7 x8 x9 x10 x11 x12 x13 x14 x15 x16 x17 x18 x19 x20 xs0 xs1 xs2) := by
  rw [outB_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  funext q
  exact View.read_writes_cons_unit_of_mem VO0_21 VO0_21.junk (off := ![0, 0, 0]) (off' := ![0, 0, 0]) _ _ _ _ q rfl (fun a => by fin_cases a; { exact (Nat.zero_add _).symm }; { exact (Nat.zero_add _).symm }; { exact (Nat.zero_add _).symm })

theorem soutB_0_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = VS0_0.read (Elt Ideal) (VS0_0.writes (Elt Ideal) VS0_0.junk [(⟨Rect.unit (s := S4x128x256) ![3, 0, 0] S1x128x256.size inb_S4x128x256_S1x128x256_3_0_0, s_v1455 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S4x128x256 .f32), (⟨Rect.unit (s := S4x128x256) ![2, 0, 0] S1x128x256.size inb_S4x128x256_S1x128x256_2_0_0, s_v1452 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S4x128x256 .f32), (⟨Rect.unit (s := S4x128x256) ![1, 0, 0] S1x128x256.size inb_S4x128x256_S1x128x256_1_0_0, s_v1449 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S4x128x256 .f32), (⟨Rect.unit (s := S4x128x256) ![0, 0, 0] S1x128x256.size inb_S4x128x256_S1x128x256_0_0_0, s_v1446 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S4x128x256 .f32)]) := by
  sl_kernel_rfl

theorem soutB_0_0 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) (d : Fin 128) (e : Fin 256) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 (ix3 0 d e) = s_v1446 (inB x0 x1 x2 x3 x4 x5 x6 x7 x8 x9 x10 x11 x12 x13 x14 x15 x16 x17 x18 x19 x20 xs0 xs1 xs2) (ix3 0 d e) := by
  rw [soutB_0_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  rw [View.read_writes_cons_unit_of_not_mem VS0_0 VS0_0.junk (off := ![3, 0, 0]) (off' := ![3, 0, 0]) _ _ _ _ rfl 0 (Or.inl (by show 0 < 3; omega))]
  rw [View.read_writes_cons_unit_of_not_mem VS0_0 VS0_0.junk (off := ![2, 0, 0]) (off' := ![2, 0, 0]) _ _ _ _ rfl 0 (Or.inl (by show 0 < 2; omega))]
  rw [View.read_writes_cons_unit_of_not_mem VS0_0 VS0_0.junk (off := ![1, 0, 0]) (off' := ![1, 0, 0]) _ _ _ _ rfl 0 (Or.inl (by show 0 < 1; omega))]
  exact View.read_writes_cons_unit_of_mem VS0_0 VS0_0.junk (off := ![0, 0, 0]) (off' := ![0, 0, 0]) _ _ _ _ (ix3 (n0 := 1) (n1 := 128) (n2 := 256) 0 d e) rfl (fun a => by fin_cases a; { rfl }; { show d.1 = 0 + d.1; omega }; { show e.1 = 0 + e.1; omega })

theorem soutB_0_1 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) (d : Fin 128) (e : Fin 256) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 (ix3 1 d e) = s_v1449 (inB x0 x1 x2 x3 x4 x5 x6 x7 x8 x9 x10 x11 x12 x13 x14 x15 x16 x17 x18 x19 x20 xs0 xs1 xs2) (ix3 0 d e) := by
  rw [soutB_0_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  rw [View.read_writes_cons_unit_of_not_mem VS0_0 VS0_0.junk (off := ![3, 0, 0]) (off' := ![3, 0, 0]) _ _ _ _ rfl 0 (Or.inl (by show 1 < 3; omega))]
  rw [View.read_writes_cons_unit_of_not_mem VS0_0 VS0_0.junk (off := ![2, 0, 0]) (off' := ![2, 0, 0]) _ _ _ _ rfl 0 (Or.inl (by show 1 < 2; omega))]
  exact View.read_writes_cons_unit_of_mem VS0_0 VS0_0.junk (off := ![1, 0, 0]) (off' := ![1, 0, 0]) _ _ _ _ (ix3 (n0 := 1) (n1 := 128) (n2 := 256) 0 d e) rfl (fun a => by fin_cases a; { rfl }; { show d.1 = 0 + d.1; omega }; { show e.1 = 0 + e.1; omega })

theorem soutB_0_2 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) (d : Fin 128) (e : Fin 256) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 (ix3 2 d e) = s_v1452 (inB x0 x1 x2 x3 x4 x5 x6 x7 x8 x9 x10 x11 x12 x13 x14 x15 x16 x17 x18 x19 x20 xs0 xs1 xs2) (ix3 0 d e) := by
  rw [soutB_0_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  rw [View.read_writes_cons_unit_of_not_mem VS0_0 VS0_0.junk (off := ![3, 0, 0]) (off' := ![3, 0, 0]) _ _ _ _ rfl 0 (Or.inl (by show 2 < 3; omega))]
  exact View.read_writes_cons_unit_of_mem VS0_0 VS0_0.junk (off := ![2, 0, 0]) (off' := ![2, 0, 0]) _ _ _ _ (ix3 (n0 := 1) (n1 := 128) (n2 := 256) 0 d e) rfl (fun a => by fin_cases a; { rfl }; { show d.1 = 0 + d.1; omega }; { show e.1 = 0 + e.1; omega })

theorem soutB_0_3 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) (d : Fin 128) (e : Fin 256) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 (ix3 3 d e) = s_v1455 (inB x0 x1 x2 x3 x4 x5 x6 x7 x8 x9 x10 x11 x12 x13 x14 x15 x16 x17 x18 x19 x20 xs0 xs1 xs2) (ix3 0 d e) := by
  rw [soutB_0_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  exact View.read_writes_cons_unit_of_mem VS0_0 VS0_0.junk (off := ![3, 0, 0]) (off' := ![3, 0, 0]) _ _ _ _ (ix3 (n0 := 1) (n1 := 128) (n2 := 256) 0 d e) rfl (fun a => by fin_cases a; { rfl }; { show d.1 = 0 + d.1; omega }; { show e.1 = 0 + e.1; omega })

theorem soutB_1_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = arg25.view.read (Elt Ideal) (arg25.view.writes (Elt Ideal) (harg25.unread xs1) [(⟨Rect.unit (s := S8x1024) ![0, 0] S1x1024.size inb_S8x1024_S1x1024_0_0, s_v1458 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S8x1024 .f32)]) := by
  sl_kernel_rfl

theorem soutB_1 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) (j : Fin 1024) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 (ix2 0 j) = s_v1458 (inB x0 x1 x2 x3 x4 x5 x6 x7 x8 x9 x10 x11 x12 x13 x14 x15 x16 x17 x18 x19 x20 xs0 xs1 xs2) (ix2 0 j) := by
  rw [soutB_1_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  exact View.read_writes_cons_unit_of_mem arg25.view (harg25.unread xs1) (off := ![0, 0]) (off' := ![0, 0]) _ _ _ _ (ix2 (n0 := 1) (n1 := 1024) 0 j) rfl (fun a => by fin_cases a; { rfl }; { show j.1 = 0 + j.1; omega })

theorem soutB_2_raw (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = VS0_2.read (Elt Ideal) (VS0_2.writes (Elt Ideal) VS0_2.junk [(⟨Rect.unit (s := S24x1024) ![0, 0] S24x1024.size inb_S24x1024_S24x1024_0_0, s_v1461 (rawB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2)⟩ : View.Piece (Elt Ideal) S24x1024 .f32)]) := by
  sl_kernel_rfl

theorem soutB_2 (c : Dev nD) (i : grid0.Coords) (arg2 : Memref Cert.KernelIdeal.sig .tc .vmem S1x512x1024 .f32) (harg2 : arg2.IsWhole) (arg3 : Memref Cert.KernelIdeal.sig .tc .vmem S1x1x4x128 .i32) (harg3 : arg3.IsWhole) (arg4 : Memref Cert.KernelIdeal.sig .tc .vmem S256x256 .bf16) (harg4 : arg4.IsWhole) (arg5 : Memref Cert.KernelIdeal.sig .tc .vmem S256x256 .bf16) (harg5 : arg5.IsWhole) (arg6 : Memref Cert.KernelIdeal.sig .tc .vmem S1x128 .f32) (harg6 : arg6.IsWhole) (arg7 : Memref Cert.KernelIdeal.sig .tc .vmem S1x1024 .f32) (harg7 : arg7.IsWhole) (arg8 : Memref Cert.KernelIdeal.sig .tc .vmem S1024x7168 .bf16) (harg8 : arg8.IsWhole) (arg9 : Memref Cert.KernelIdeal.sig .tc .vmem S2x1024 .f32) (harg9 : arg9.IsWhole) (arg10 : Memref Cert.KernelIdeal.sig .tc .vmem S1x1024 .f32) (harg10 : arg10.IsWhole) (arg11 : Memref Cert.KernelIdeal.sig .tc .vmem S1024x1024 .bf16) (harg11 : arg11.IsWhole) (arg12 : Memref Cert.KernelIdeal.sig .tc .vmem S4x1024 .f32) (harg12 : arg12.IsWhole) (arg13 : Memref Cert.KernelIdeal.sig .tc .vmem S1x1024 .f32) (harg13 : arg13.IsWhole) (arg14 : Memref Cert.KernelIdeal.sig .tc .vmem S4x256x512 .bf16) (harg14 : arg14.IsWhole) (arg15 : Memref Cert.KernelIdeal.sig .tc .vmem S1x1024 .f32) (harg15 : arg15.IsWhole) (arg16 : Memref Cert.KernelIdeal.sig .tc .vmem S1x1024 .f32) (harg16 : arg16.IsWhole) (arg17 : Memref Cert.KernelIdeal.sig .tc .vmem S1x1024 .f32) (harg17 : arg17.IsWhole) (arg18 : Memref Cert.KernelIdeal.sig .tc .vmem S1024x1024 .bf16) (harg18 : arg18.IsWhole) (arg19 : Memref Cert.KernelIdeal.sig .tc .vmem S1024x1024 .bf16) (harg19 : arg19.IsWhole) (arg20 : Memref Cert.KernelIdeal.sig .tc .vmem S4x256x256 .f32) (harg20 : arg20.IsWhole) (arg21 : Memref Cert.KernelIdeal.sig .tc .vmem S256x512 .f32) (harg21 : arg21.IsWhole) (arg22 : Memref Cert.KernelIdeal.sig .tc .vmem S256x512 .f32) (harg22 : arg22.IsWhole) (arg23 : Memref Cert.KernelIdeal.sig .tc .vmem S1x512x1024 .f32) (harg23 : arg23.IsWhole) (arg24 : Memref Cert.KernelIdeal.sig .tc .vmem S4x128x256 .f32) (harg24 : arg24.IsWhole) (arg25 : Memref Cert.KernelIdeal.sig .tc .vmem S8x1024 .f32) (harg25 : arg25.IsWhole) (arg26 : Memref Cert.KernelIdeal.sig .tc .vmem S24x1024 .f32) (harg26 : arg26.IsWhole) (hc0 : ¬cond0_0 i)     (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (xs0 : Vec Ideal S4x128x256 .f32) (xs1 : Vec Ideal S8x1024 .f32) (xs2 : Vec Ideal S24x1024 .f32) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2 = s_v1461 (inB x0 x1 x2 x3 x4 x5 x6 x7 x8 x9 x10 x11 x12 x13 x14 x15 x16 x17 x18 x19 x20 xs0 xs1 xs2) := by
  rw [soutB_2_raw, ← rawB_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 x13 x14 x15 x16 x17 x18 x19 x20 xs0 xs1 xs2]
  funext q
  exact View.read_writes_cons_unit_of_mem VS0_2 VS0_2.junk (off := ![0, 0]) (off' := ![0, 0]) _ _ _ _ q rfl (fun a => by fin_cases a; { exact (Nat.zero_add _).symm }; { exact (Nat.zero_add _).symm })

end Cert.Mix

end
-- ==== Proof.MixHost.lean ====
module

public import proofs.«01_k».proof.Proof.MixBody
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

def h_v0 : FVec Ideal S64 .f32 := sitofp .f32 (iotaInDim S64 32 0)
def h_v1 : FVec Ideal S64 .f32 := Host.negf h_v0
def h_cst : FVec Ideal S_ .f32 := constant S_ .f32 0x42800000#32
def h_v2 : FVec Ideal S64 .f32 := broadcastInDim S64 ![] bcast_S_S64 h_cst
def h_v3 : FVec Ideal S64 .f32 := Host.divf h_v1 h_v2
def h_cst_0 : FVec Ideal S_ .f32 := constant S_ .f32 0x461C4000#32
def h_v4 : FVec Ideal S64 .f32 := broadcastInDim S64 ![] bcast_S_S64 h_cst_0
def h_v5 : FVec Ideal S64 .f32 := Host.powf h_v4 h_v3
def h_v6 : FVec Ideal S128 .f32 := (fun a b => concatenate S128 0 [⟨S64, a⟩, ⟨S64, b⟩] concatenates_S64_S64_S128_d0) h_v5 h_v5
def h_v7 : FVec Ideal S1x128 .f32 := broadcastInDim S1x128 ![1] bcast_S128_S1x128_1 h_v6
def h_v8 : IVec S256 32 := iotaInDim S256 32 0
def h_c : IVec S_ 32 := constantI S_ 32 8#32
def h_call0_v0 : IVec S_ 32 := h_c
def h_call0_c : IVec S_ 32 := constantI S_ 32 0#32
def h_call0_v1 : IVec S_ 1 := cmpi .eq h_call0_v0 h_call0_c
def h_call0_c_0 : IVec S_ 32 := constantI S_ 32 1#32
def h_call0_v2 : IVec S_ 32 := select h_call0_v1 h_call0_c_0 h_call0_v0
def h_call0_v3 : IVec S256 32 := broadcastInDim S256 ![] bcast_S_S256 h_call0_v2
def h_call0_v4 : IVec S256 32 := Host.remsi h_v8 h_call0_v3
def h_call0_c_1 : IVec S_ 32 := constantI S_ 32 0#32
def h_call0_v5 : IVec S256 32 := broadcastInDim S256 ![] bcast_S_S256 h_call0_c_1
def h_call0_v6 : IVec S256 1 := cmpi .ne h_call0_v4 h_call0_v5
def h_call0_c_2 : IVec S_ 32 := constantI S_ 32 0#32
def h_call0_v7 : IVec S256 32 := broadcastInDim S256 ![] bcast_S_S256 h_call0_c_2
def h_call0_v8 : IVec S256 1 := cmpi .slt h_call0_v4 h_call0_v7
def h_call0_c_3 : IVec S_ 32 := constantI S_ 32 0#32
def h_call0_v9 : IVec S_ 1 := cmpi .slt h_call0_v2 h_call0_c_3
def h_call0_v10 : IVec S256 1 := broadcastInDim S256 ![] bcast_S_S256 h_call0_v9
def h_call0_v11 : IVec S256 1 := cmpi .ne h_call0_v8 h_call0_v10
def h_call0_v12 : IVec S256 1 := andi h_call0_v11 h_call0_v6
def h_call0_v13 : IVec S256 32 := broadcastInDim S256 ![] bcast_S_S256 h_call0_v2
def h_call0_v14 : IVec S256 32 := addi h_call0_v4 h_call0_v13
def h_v9 : IVec S256 32 := select h_call0_v12 h_call0_v14 h_call0_v4
def h_c_1 : IVec S_ 32 := constantI S_ 32 32#32
def h_v10 : IVec S256 32 := broadcastInDim S256 ![] bcast_S_S256 h_c_1
def h_v11 : IVec S256 32 := muli h_v9 h_v10
def h_c_2 : IVec S_ 32 := constantI S_ 32 8#32
def h_call1_v0 : IVec S_ 32 := h_c_2
def h_call1_v1 : IVec S256 32 := broadcastInDim S256 ![] bcast_S_S256 h_call1_v0
def h_call1_v2 : IVec S256 32 := Host.divsi h_v8 h_call1_v1
def h_call1_v3 : IVec S256 32 := signi h_v8
def h_call1_v4 : IVec S_ 32 := signi h_call1_v0
def h_call1_v5 : IVec S256 32 := broadcastInDim S256 ![] bcast_S_S256 h_call1_v4
def h_call1_v6 : IVec S256 1 := cmpi .ne h_call1_v3 h_call1_v5
def h_call1_v7 : IVec S256 32 := broadcastInDim S256 ![] bcast_S_S256 h_call1_v0
def h_call1_v8 : IVec S256 32 := Host.remsi h_v8 h_call1_v7
def h_call1_c : IVec S_ 32 := constantI S_ 32 0#32
def h_call1_v9 : IVec S256 32 := broadcastInDim S256 ![] bcast_S_S256 h_call1_c
def h_call1_v10 : IVec S256 1 := cmpi .ne h_call1_v8 h_call1_v9
def h_call1_v11 : IVec S256 1 := andi h_call1_v6 h_call1_v10
def h_call1_c_0 : IVec S_ 32 := constantI S_ 32 1#32
def h_call1_v12 : IVec S256 32 := broadcastInDim S256 ![] bcast_S_S256 h_call1_c_0
def h_call1_v13 : IVec S256 32 := subi h_call1_v2 h_call1_v12
def h_v12 : IVec S256 32 := select h_call1_v11 h_call1_v13 h_call1_v2
def h_v13 : IVec S256 32 := addi h_v11 h_v12
def h_v14 : IVec S256x1 32 := broadcastInDim S256x1 ![0] bcast_S256_S256x1_0 h_v13
def h_v15 : IVec S256 32 := iotaInDim S256 32 0
def h_v16 : IVec S1x256 32 := broadcastInDim S1x256 ![1] bcast_S256_S1x256_1 h_v15
def h_v17 : IVec S256x256 32 := broadcastInDim S256x256 ![0, 1] bcast_S256x1_S256x256_0_1 h_v14
def h_v18 : IVec S256x256 32 := broadcastInDim S256x256 ![0, 1] bcast_S1x256_S256x256_0_1 h_v16
def h_v19 : IVec S256x256 1 := cmpi .eq h_v17 h_v18
def h_v20 : FVec Ideal S256x256 .f32 := uitofp .f32 h_v19
def h_v21 (arg1 : IVec S32x2048 32) : IVec S32x8x8x32 32 := shapeCast S32x8x8x32 arg1 shapeCasts_S32x2048_S32x8x8x32
def h_v22 (arg1 : IVec S32x2048 32) : IVec S32x8x32x8 32 := transpose S32x8x32x8 [0, 1, 3, 2] (h_v21 arg1) transposes_S32x8x8x32_S32x8x32x8_0_1_3_2
def h_v23 (arg1 : IVec S32x2048 32) : IVec S32x4x4x128 32 := shapeCast S32x4x4x128 (h_v22 arg1) shapeCasts_S32x8x32x8_S32x4x4x128
def h_v24 : FVec Ideal S4 .f32 := sitofp .f32 (iotaInDim S4 32 0)
def h_cst_3 : FVec Ideal S_ .f32 := constant S_ .f32 0xC0A00000#32
def h_v25 : FVec Ideal S4 .f32 := broadcastInDim S4 ![] bcast_S_S4 h_cst_3
def h_v26 : FVec Ideal S4 .f32 := subf h_v25 h_v24
def h_cst_4 : FVec Ideal S_ .f32 := constant S_ .f32 0x40000000#32
def h_v27 : FVec Ideal S4 .f32 := broadcastInDim S4 ![] bcast_S_S4 h_cst_4
def h_v28 : FVec Ideal S4 .f32 := Host.powf h_v27 h_v26
def h_v29 : FVec Ideal S4 .f32 := Host.negf h_v28
def h_v30 : FVec Ideal S4 .f32 := Host.log1p h_v29
def h_v31 : FVec Ideal S256 .f32 := sitofp .f32 h_v13
def h_v32 : FVec Ideal S256x1 .f32 := broadcastInDim S256x1 ![0] bcast_S256_S256x1_0 h_v31
def h_v33 : FVec Ideal S1x256 .f32 := broadcastInDim S1x256 ![1] bcast_S256_S1x256_1 h_v31
def h_v34 : FVec Ideal S256x256 .f32 := broadcastInDim S256x256 ![0, 1] bcast_S256x1_S256x256_0_1 h_v32
def h_v35 : FVec Ideal S256x256 .f32 := broadcastInDim S256x256 ![0, 1] bcast_S1x256_S256x256_0_1 h_v33
def h_v36 : FVec Ideal S256x256 .f32 := subf h_v34 h_v35
def h_c_5 : IVec S_ 32 := constantI S_ 32 64#32
def h_call2_v0 : IVec S_ 32 := h_c_5
def h_call2_v1 : IVec S256 32 := broadcastInDim S256 ![] bcast_S_S256 h_call2_v0
def h_call2_v2 : IVec S256 32 := Host.divsi h_v13 h_call2_v1
def h_call2_v3 : IVec S256 32 := signi h_v13
def h_call2_v4 : IVec S_ 32 := signi h_call2_v0
def h_call2_v5 : IVec S256 32 := broadcastInDim S256 ![] bcast_S_S256 h_call2_v4
def h_call2_v6 : IVec S256 1 := cmpi .ne h_call2_v3 h_call2_v5
def h_call2_v7 : IVec S256 32 := broadcastInDim S256 ![] bcast_S_S256 h_call2_v0
def h_call2_v8 : IVec S256 32 := Host.remsi h_v13 h_call2_v7
def h_call2_c : IVec S_ 32 := constantI S_ 32 0#32
def h_call2_v9 : IVec S256 32 := broadcastInDim S256 ![] bcast_S_S256 h_call2_c
def h_call2_v10 : IVec S256 1 := cmpi .ne h_call2_v8 h_call2_v9
def h_call2_v11 : IVec S256 1 := andi h_call2_v6 h_call2_v10
def h_call2_c_0 : IVec S_ 32 := constantI S_ 32 1#32
def h_call2_v12 : IVec S256 32 := broadcastInDim S256 ![] bcast_S_S256 h_call2_c_0
def h_call2_v13 : IVec S256 32 := subi h_call2_v2 h_call2_v12
def h_v37 : IVec S256 32 := select h_call2_v11 h_call2_v13 h_call2_v2
def h_v38 : IVec S256x1 32 := broadcastInDim S256x1 ![0] bcast_S256_S256x1_0 h_v37
def h_v39 : IVec S1x256 32 := broadcastInDim S1x256 ![1] bcast_S256_S1x256_1 h_v37
def h_v40 : IVec S256x256 32 := broadcastInDim S256x256 ![0, 1] bcast_S256x1_S256x256_0_1 h_v38
def h_v41 : IVec S256x256 32 := broadcastInDim S256x256 ![0, 1] bcast_S1x256_S256x256_0_1 h_v39
def h_v42 : IVec S256x256 1 := cmpi .eq h_v40 h_v41
def h_v43 : IVec S1x256 32 := broadcastInDim S1x256 ![1] bcast_S256_S1x256_1 h_v37
def h_v44 : IVec S256x1 32 := broadcastInDim S256x1 ![0] bcast_S256_S256x1_0 h_v37
def h_v45 : IVec S256x256 32 := broadcastInDim S256x256 ![0, 1] bcast_S1x256_S256x256_0_1 h_v43
def h_v46 : IVec S256x256 32 := broadcastInDim S256x256 ![0, 1] bcast_S256x1_S256x256_0_1 h_v44
def h_v47 : IVec S256x256 1 := cmpi .slt h_v45 h_v46
def h_v48 : FVec Ideal S256x256 .f32 := Host.absf h_v36
def h_v49 : FVec Ideal S256x256 .f32 := select h_v42 h_v48 h_v36
def h_v50 : IVec S256x256 1 := ori h_v42 h_v47
def h_v51 : FVec Ideal S4x1x1 .f32 := broadcastInDim S4x1x1 ![0] bcast_S4_S4x1x1_0 h_v30
def h_v52 : FVec Ideal S1x256x256 .f32 := broadcastInDim S1x256x256 ![1, 2] bcast_S256x256_S1x256x256_1_2 h_v49
def h_v53 : FVec Ideal S4x256x256 .f32 := broadcastInDim S4x256x256 ![0, 1, 2] bcast_S4x1x1_S4x256x256_0_1_2 h_v51
def h_v54 : FVec Ideal S4x256x256 .f32 := broadcastInDim S4x256x256 ![0, 1, 2] bcast_S1x256x256_S4x256x256_0_1_2 h_v52
def h_v55 : FVec Ideal S4x256x256 .f32 := mulf h_v53 h_v54
def h_v56 : FVec Ideal S4x256x256 .f32 := Host.exp h_v55
def h_cst_6 : FVec Ideal S_ .f32 := constant S_ .f32 0x00000000#32
def h_call4_v0 : FVec Ideal S_ .f32 := h_cst_6
def h_call4_v1 : IVec S4x256x256 1 := broadcastInDim S4x256x256 ![1, 2] bcast_S256x256_S4x256x256_1_2 h_v50
def h_call4_v2 : FVec Ideal S4x256x256 .f32 := broadcastInDim S4x256x256 ![] bcast_S_S4x256x256 h_call4_v0
def h_v57 : FVec Ideal S4x256x256 .f32 := select h_call4_v1 h_v56 h_call4_v2
def h_v58 : FVec Ideal S1x4 .f32 := broadcastInDim S1x4 ![1] bcast_S4_S1x4_1 h_v30
def h_v59 : FVec Ideal S256x1 .f32 := broadcastInDim S256x1 ![0] bcast_S256_S256x1_0 h_v31
def h_cst_7 : FVec Ideal S_ .f32 := constant S_ .f32 0x3F800000#32
def h_v60 : FVec Ideal S256x1 .f32 := broadcastInDim S256x1 ![] bcast_S_S256x1 h_cst_7
def h_v61 : FVec Ideal S256x1 .f32 := addf h_v59 h_v60
def h_v62 : FVec Ideal S256x4 .f32 := broadcastInDim S256x4 ![0, 1] bcast_S1x4_S256x4_0_1 h_v58
def h_v63 : FVec Ideal S256x4 .f32 := broadcastInDim S256x4 ![0, 1] bcast_S256x1_S256x4_0_1 h_v61
def h_v64 : FVec Ideal S256x4 .f32 := mulf h_v62 h_v63
def h_v65 : FVec Ideal S256x4 .f32 := Host.exp h_v64
def h_v66 : FVec Ideal S1x4 .f32 := broadcastInDim S1x4 ![1] bcast_S4_S1x4_1 h_v30
def h_v67 : FVec Ideal S256x1 .f32 := broadcastInDim S256x1 ![0] bcast_S256_S256x1_0 h_v31
def h_cst_8 : FVec Ideal S_ .f32 := constant S_ .f32 0x437F0000#32
def h_v68 : FVec Ideal S256x1 .f32 := broadcastInDim S256x1 ![] bcast_S_S256x1 h_cst_8
def h_v69 : FVec Ideal S256x1 .f32 := subf h_v68 h_v67
def h_v70 : FVec Ideal S256x4 .f32 := broadcastInDim S256x4 ![0, 1] bcast_S1x4_S256x4_0_1 h_v66
def h_v71 : FVec Ideal S256x4 .f32 := broadcastInDim S256x4 ![0, 1] bcast_S256x1_S256x4_0_1 h_v69
def h_v72 : FVec Ideal S256x4 .f32 := mulf h_v70 h_v71
def h_v73 : FVec Ideal S256x4 .f32 := Host.exp h_v72
def h_v74 : FVec Ideal S256x4x128 .f32 := broadcastInDim S256x4x128 ![0, 1] bcast_S256x4_S256x4x128_0_1 h_v65
def h_v75 : FVec Ideal S256x512 .f32 := shapeCast S256x512 h_v74 shapeCasts_S256x4x128_S256x512
def h_v76 : FVec Ideal S256x4x128 .f32 := broadcastInDim S256x4x128 ![0, 1] bcast_S256x4_S256x4x128_0_1 h_v73
def h_v77 : FVec Ideal S256x512 .f32 := shapeCast S256x512 h_v76 shapeCasts_S256x4x128_S256x512
def h_v78 (arg9 : FVec Ideal S1x4x256x256 .f32) : FVec Ideal S4x256x256 .f32 := shapeCast S4x256x256 arg9 shapeCasts_S1x4x256x256_S4x256x256
def h_v79 (arg11 : FVec Ideal S1x4x256x256 .f32) : FVec Ideal S4x256x256 .f32 := shapeCast S4x256x256 arg11 shapeCasts_S1x4x256x256_S4x256x256
def h_v80 (arg11 : FVec Ideal S1x4x256x256 .f32) (arg9 : FVec Ideal S1x4x256x256 .f32) : FVec Ideal S4x256x512 .f32 := (fun a b => concatenate S4x256x512 2 [⟨S4x256x256, a⟩, ⟨S4x256x256, b⟩] concatenates_S4x256x256_S4x256x256_S4x256x512_d2) (h_v78 arg9) (h_v79 arg11)
def h_v81 (arg11 : FVec Ideal S1x4x256x256 .f32) (arg9 : FVec Ideal S1x4x256x256 .f32) : FVec Ideal S4x256x512 .bf16 := truncf .bf16 (h_v80 arg11 arg9) bitsLt_bf16_f32
def h_v82 : FVec Ideal S256x256 .bf16 := truncf .bf16 h_v20 bitsLt_bf16_f32
def h_v83 : FVec Ideal S256x256 .f32 := transpose S256x256 [1, 0] h_v20 transposes_S256x256_S256x256_1_0
def h_v84 : FVec Ideal S256x256 .bf16 := truncf .bf16 h_v83 bitsLt_bf16_f32
def h_v85 (arg2 : FVec Ideal S1x1024 .f32) : FVec Ideal S1024 .f32 := shapeCast S1024 arg2 shapeCasts_S1x1024_S1024
def h_v86 (arg2 : FVec Ideal S1x1024 .f32) : FVec Ideal S1x1024 .f32 := shapeCast S1x1024 (h_v85 arg2) shapeCasts_S1024_S1x1024
def h_v87 (arg3 : FVec Ideal S1x1024x7168 .f32) : FVec Ideal S1024x7168 .f32 := shapeCast S1024x7168 arg3 shapeCasts_S1x1024x7168_S1024x7168
def h_v88 (arg3 : FVec Ideal S1x1024x7168 .f32) : FVec Ideal S1024x7168 .bf16 := truncf .bf16 (h_v87 arg3) bitsLt_bf16_f32
def h_v89 (arg4 : FVec Ideal S1x2x1024 .f32) : FVec Ideal S2x1024 .f32 := shapeCast S2x1024 arg4 shapeCasts_S1x2x1024_S2x1024
def h_v90 (arg5 : FVec Ideal S1x1024 .f32) : FVec Ideal S1024 .f32 := shapeCast S1024 arg5 shapeCasts_S1x1024_S1024
def h_v91 (arg5 : FVec Ideal S1x1024 .f32) : FVec Ideal S1x1024 .f32 := shapeCast S1x1024 (h_v90 arg5) shapeCasts_S1024_S1x1024
def h_v92 (arg6 : FVec Ideal S1x1024x1024 .f32) : FVec Ideal S1024x1024 .f32 := shapeCast S1024x1024 arg6 shapeCasts_S1x1024x1024_S1024x1024
def h_v93 (arg6 : FVec Ideal S1x1024x1024 .f32) : FVec Ideal S1024x1024 .bf16 := truncf .bf16 (h_v92 arg6) bitsLt_bf16_f32
def h_v94 (arg7 : FVec Ideal S1x4x1024 .f32) : FVec Ideal S4x1024 .f32 := shapeCast S4x1024 arg7 shapeCasts_S1x4x1024_S4x1024
def h_v95 (arg8 : FVec Ideal S1x1024 .f32) : FVec Ideal S1024 .f32 := shapeCast S1024 arg8 shapeCasts_S1x1024_S1024
def h_v96 (arg8 : FVec Ideal S1x1024 .f32) : FVec Ideal S1x1024 .f32 := shapeCast S1x1024 (h_v95 arg8) shapeCasts_S1024_S1x1024
def h_v97 (arg10 : FVec Ideal S1x4x256 .f32) : FVec Ideal S4x256 .f32 := shapeCast S4x256 arg10 shapeCasts_S1x4x256_S4x256
def h_v98 (arg10 : FVec Ideal S1x4x256 .f32) : FVec Ideal S1x1024 .f32 := shapeCast S1x1024 (h_v97 arg10) shapeCasts_S4x256_S1x1024
def h_v99 (arg12 : FVec Ideal S1x4x256 .f32) : FVec Ideal S4x256 .f32 := shapeCast S4x256 arg12 shapeCasts_S1x4x256_S4x256
def h_v100 (arg12 : FVec Ideal S1x4x256 .f32) : FVec Ideal S1x1024 .f32 := shapeCast S1x1024 (h_v99 arg12) shapeCasts_S4x256_S1x1024
def h_v101 (arg13 : FVec Ideal S1x1024 .f32) : FVec Ideal S1024 .f32 := shapeCast S1024 arg13 shapeCasts_S1x1024_S1024
def h_v102 (arg13 : FVec Ideal S1x1024 .f32) : FVec Ideal S1x1024 .f32 := shapeCast S1x1024 (h_v101 arg13) shapeCasts_S1024_S1x1024
def h_v103 (arg14 : FVec Ideal S1x1024x1024 .f32) : FVec Ideal S1024x1024 .f32 := shapeCast S1024x1024 arg14 shapeCasts_S1x1024x1024_S1024x1024
def h_v104 (arg14 : FVec Ideal S1x1024x1024 .f32) : FVec Ideal S1024x1024 .bf16 := truncf .bf16 (h_v103 arg14) bitsLt_bf16_f32
def h_v105 (arg15 : FVec Ideal S1x1024x1024 .f32) : FVec Ideal S1024x1024 .f32 := shapeCast S1024x1024 arg15 shapeCasts_S1x1024x1024_S1024x1024
def h_v106 (arg15 : FVec Ideal S1x1024x1024 .f32) : FVec Ideal S1024x1024 .bf16 := truncf .bf16 (h_v105 arg15) bitsLt_bf16_f32

variable (m : (ℓ : Loc nD τ Cert.KernelIdeal.sig) → Buf (Elt Ideal) ℓ)

theorem V_v23 (c : Dev nD) : V m c main_v23 = h_v23 (m ((c.tc : Thread nD τ).loc main_arg1)) := by
  sl_kernel_rfl

theorem V_v82 (c : Dev nD) : V m c main_v82 = h_v82 := by
  sl_kernel_rfl

theorem V_v84 (c : Dev nD) : V m c main_v84 = h_v84 := by
  sl_kernel_rfl

theorem V_v7 (c : Dev nD) : V m c main_v7 = h_v7 := by
  sl_kernel_rfl

theorem V_v86 (c : Dev nD) : V m c main_v86 = h_v86 (m ((c.tc : Thread nD τ).loc main_arg2)) := by
  sl_kernel_rfl

theorem V_v88 (c : Dev nD) : V m c main_v88 = h_v88 (m ((c.tc : Thread nD τ).loc main_arg3)) := by
  sl_kernel_rfl

theorem V_v89 (c : Dev nD) : V m c main_v89 = h_v89 (m ((c.tc : Thread nD τ).loc main_arg4)) := by
  sl_kernel_rfl

theorem V_v91 (c : Dev nD) : V m c main_v91 = h_v91 (m ((c.tc : Thread nD τ).loc main_arg5)) := by
  sl_kernel_rfl

theorem V_v93 (c : Dev nD) : V m c main_v93 = h_v93 (m ((c.tc : Thread nD τ).loc main_arg6)) := by
  sl_kernel_rfl

theorem V_v94 (c : Dev nD) : V m c main_v94 = h_v94 (m ((c.tc : Thread nD τ).loc main_arg7)) := by
  sl_kernel_rfl

theorem V_v96 (c : Dev nD) : V m c main_v96 = h_v96 (m ((c.tc : Thread nD τ).loc main_arg8)) := by
  sl_kernel_rfl

theorem V_v81 (c : Dev nD) : V m c main_v81 = h_v81 (m ((c.tc : Thread nD τ).loc main_arg11)) (m ((c.tc : Thread nD τ).loc main_arg9)) := by
  sl_kernel_rfl

theorem V_v98 (c : Dev nD) : V m c main_v98 = h_v98 (m ((c.tc : Thread nD τ).loc main_arg10)) := by
  sl_kernel_rfl

theorem V_v100 (c : Dev nD) : V m c main_v100 = h_v100 (m ((c.tc : Thread nD τ).loc main_arg12)) := by
  sl_kernel_rfl

theorem V_v102 (c : Dev nD) : V m c main_v102 = h_v102 (m ((c.tc : Thread nD τ).loc main_arg13)) := by
  sl_kernel_rfl

theorem V_v104 (c : Dev nD) : V m c main_v104 = h_v104 (m ((c.tc : Thread nD τ).loc main_arg14)) := by
  sl_kernel_rfl

theorem V_v106 (c : Dev nD) : V m c main_v106 = h_v106 (m ((c.tc : Thread nD τ).loc main_arg15)) := by
  sl_kernel_rfl

theorem V_v57 (c : Dev nD) : V m c main_v57 = h_v57 := by
  sl_kernel_rfl

theorem V_v75 (c : Dev nD) : V m c main_v75 = h_v75 := by
  sl_kernel_rfl

theorem V_v77 (c : Dev nD) : V m c main_v77 = h_v77 := by
  sl_kernel_rfl

end Cert.Mix
-- ==== Proof.MixHostRead.lean ====
module

public import proofs.«01_k».proof.Proof.MixHost
public import proofs.«01_k».proof.Proof.MixTile
public import Idealize.ShloMosaic.Lib.WordCmp
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

theorem bits_255 : Ideal.ofBits FTy.f32 1132396544#32 = ((255 : ℝ) : EReal) := by
  simp [Ideal.ofBits, Ideal.ieee]
  rw [← EReal.coe_mul]; norm_num

theorem tau_w : ∀ i : Fin 256, h_v13 (ix1 i) = BitVec.ofNat 32 (tau i) := by decide +kernel

theorem tau64_w : ∀ i : Fin 256, h_v37 (ix1 i) = BitVec.ofNat 32 (tau i / 64) := by decide +kernel

theorem hv7_at (j : Fin 128) : h_v7 (ix2 0 j) = invf (j % 64) := by
  pointwise [h_v0, h_v1, h_cst, h_v2, h_v3, h_cst_0, h_v4, h_v5, h_v6, h_v7]
  unfold invf
  split_ifs with h
  · rw [Nat.mod_eq_of_lt h]
  · rw [show j.1 % 64 = j.1 - 64 by omega]

theorem hv20_at (i j : Fin 256) : h_v20 (ix2 i j) = if j.1 = tau i then 1 else 0 := by
  pointwise [h_v14, h_v15, h_v16, h_v17, h_v18, h_v19, h_v20]
  rw [tau_w, WordCmp.cmpi_eq_ofNat (by have := tau_lt i.2; omega) (by omega)]
  show (((BitVec.ofBool (decide (tau i.1 = j.1))).toNat : ℝ) : EReal) = _
  by_cases h : tau i.1 = j.1
  · rw [if_pos h.symm]; simp [h]
  · rw [if_neg (fun e => h e.symm)]; simp [h]

theorem hv23_at (x1 : IVec S32x2048 32) (b : Fin 32) (s : Fin 4) (r : Fin 4) (l : Fin 128) (h) :
    h_v23 x1 (ix4 b s r l) = x1 (ix2 b ⟨tm s (128 * r + l), h⟩) := by
  pointwise [h_v21, h_v22, h_v23]
  congr 2; apply Fin.ext
  show (s.1 * 2 + r.1 / 2) * 256 + l.1 % 8 * 32 + (r.1 % 2 * 16 + l.1 / 8) = tm s (128 * r + l)
  unfold tm tau; omega

theorem hv30_at (h : Fin 4) : h_v30 (ix1 h) = ((lgm h : ℝ) : EReal) := by
  pointwise [h_v24, h_cst_3, h_v25, h_v26, h_cst_4, h_v27, h_v28, h_v29, h_v30]
  exact log_gamma h h.2

theorem hv31_at (i : Fin 256) : h_v31 (ix1 i) = ((tau i : ℝ) : EReal) := by
  pointwise [h_v31]
  rw [tau_w]
  exact nat_word _ (by have := tau_lt i.2; omega)

theorem hv36_at (i j : Fin 256) : h_v36 (ix2 i j) = ((tau i : ℝ) : EReal) - ((tau j : ℝ) : EReal) := by
  pointwise [h_v32, h_v33, h_v34, h_v35, h_v36]
  rw [hv31_at, hv31_at]

theorem hv57_at (h : Fin 4) (i j : Fin 256) : h_v57 (ix3 h i j) = ((wgt (lgm h) (tau i) (tau j) : ℝ) : EReal) := by
  pointwise [h_v38, h_v39, h_v40, h_v41, h_v42, h_v43, h_v44, h_v45, h_v46, h_v47, h_v48, h_v49, h_v50, h_v51, h_v52, h_v53, h_v54, h_v55, h_v56, h_cst_6, h_call4_v0, h_call4_v1, h_call4_v2, h_v57]
  have hi := tau_lt i.2
  have hj := tau_lt j.2
  rw [tau64_w, tau64_w, WordCmp.cmpi_eq_ofNat (by omega) (by omega), WordCmp.cmpi_slt_ofNat (by omega) (by omega), WordCmp.ori_ofBool, ← Bool.decide_or,
    sel_dec, sel_dec, hv30_at, hv36_at, ← wgt_coe (lgm h) (tau i) (tau j) 0 rfl]
  by_cases h1 : tau j.1 / 64 ≤ tau i.1 / 64
  · rw [if_pos (by omega), if_pos h1]
    by_cases h2 : tau i.1 / 64 = tau j.1 / 64
    · rw [if_pos h2]
    · rw [if_neg h2, ← EReal.coe_sub, abs_coe, abs_of_nonneg]
      have : tau j.1 ≤ tau i.1 := by omega
      have : (tau j.1 : ℝ) ≤ (tau i.1 : ℝ) := by exact_mod_cast this
      linarith
  · rw [if_neg (by omega), if_neg h1]

theorem hv75_at (i : Fin 256) (h : Fin 4) (d : Fin 128) (hk) :
    h_v75 (ix2 i ⟨128 * h.1 + d.1, hk⟩) = ((Real.exp (lgm h * ((tau i : ℝ) + 1)) : ℝ) : EReal) := by
  pointwise [h_v58, h_v59, h_cst_7, h_v60, h_v61, h_v62, h_v63, h_v64, h_v65, h_v74, h_v75]
  rw [hv30_at, hv31_at, ← EReal.coe_one, ← EReal.coe_add, ← EReal.coe_mul, Ideal.exp_coe]

theorem hv77_at (i : Fin 256) (h : Fin 4) (d : Fin 128) (hk) :
    h_v77 (ix2 i ⟨128 * h.1 + d.1, hk⟩) = ((Real.exp (lgm h * (255 - (tau i : ℝ))) : ℝ) : EReal) := by
  pointwise [h_v66, h_v67, h_cst_8, h_v68, h_v69, h_v70, h_v71, h_v72, h_v73, h_v76, h_v77]
  rw [hv30_at, hv31_at, bits_255, ← EReal.coe_sub, ← EReal.coe_mul, Ideal.exp_coe]

theorem hv81_at (x9 x11 : FVec Ideal S1x4x256x256 .f32) (b : Fin 4) (k : Fin 256) (j : Fin 512) :
    h_v81 x11 x9 (ix3 b k j) = if h : j.1 < 256 then x9 (ix4 0 b k ⟨j, h⟩) else x11 (ix4 0 b k ⟨j - 256, by omega⟩) := by
  pointwise [h_v78, h_v79, h_v80, h_v81]
  skip

theorem hv82_at (i j : Fin 256) : h_v82 (ix2 i j) = if j.1 = tau i then 1 else 0 := by
  pointwise [h_v82]
  exact hv20_at i j

theorem hv84_at (i j : Fin 256) : h_v84 (ix2 i j) = if i.1 = tau j then 1 else 0 := by
  pointwise [h_v83, h_v84]
  exact hv20_at j i

theorem hv86_at (x : FVec Ideal S1x1024 .f32) (j : Fin 1024) : h_v86 x (ix2 0 j) = x (ix2 0 j) := by
  pointwise [h_v85, h_v86]

theorem hv88_at (x : FVec Ideal S1x1024x7168 .f32) (k : Fin 1024) (j : Fin 7168) : h_v88 x (ix2 k j) = x (ix3 0 k j) := by
  pointwise [h_v87, h_v88]

theorem hv89_at (x : FVec Ideal S1x2x1024 .f32) (k : Fin 2) (j : Fin 1024) : h_v89 x (ix2 k j) = x (ix3 0 k j) := by
  pointwise [h_v89]

theorem hv98_at (x : FVec Ideal S1x4x256 .f32) (j : Fin 1024) : h_v98 x (ix2 0 j) = x (ix3 0 ⟨j / 256, by omega⟩ ⟨j % 256, by omega⟩) := by
  pointwise [h_v97, h_v98]

theorem hv91_at (x : FVec Ideal S1x1024 .f32) (j : Fin 1024) : h_v91 x (ix2 0 j) = x (ix2 0 j) := by
  pointwise [h_v90, h_v91]

theorem hv96_at (x : FVec Ideal S1x1024 .f32) (j : Fin 1024) : h_v96 x (ix2 0 j) = x (ix2 0 j) := by
  pointwise [h_v95, h_v96]

theorem hv102_at (x : FVec Ideal S1x1024 .f32) (j : Fin 1024) : h_v102 x (ix2 0 j) = x (ix2 0 j) := by
  pointwise [h_v101, h_v102]

theorem hv93_at (x : FVec Ideal S1x1024x1024 .f32) (k j : Fin 1024) : h_v93 x (ix2 k j) = x (ix3 0 k j) := by
  pointwise [h_v92, h_v93]

theorem hv104_at (x : FVec Ideal S1x1024x1024 .f32) (k j : Fin 1024) : h_v104 x (ix2 k j) = x (ix3 0 k j) := by
  pointwise [h_v103, h_v104]

theorem hv106_at (x : FVec Ideal S1x1024x1024 .f32) (k j : Fin 1024) : h_v106 x (ix2 k j) = x (ix3 0 k j) := by
  pointwise [h_v105, h_v106]

theorem hv94_at (x : FVec Ideal S1x4x1024 .f32) (k : Fin 4) (j : Fin 1024) : h_v94 x (ix2 k j) = x (ix3 0 k j) := by
  pointwise [h_v94]

theorem hv100_at (x : FVec Ideal S1x4x256 .f32) (j : Fin 1024) : h_v100 x (ix2 0 j) = x (ix3 0 ⟨j / 256, by omega⟩ ⟨j % 256, by omega⟩) := by
  pointwise [h_v99, h_v100]

end Cert.Mix
-- ==== Proof.MixBlk.lean ====
module

public import proofs.«01_k».proof.Proof.MixHostRead
public import proofs.«01_k».proof.Proof.MixBody
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ Cert.KernelIdeal.sig) → Buf (Elt Ideal) ℓ)

theorem idx0 (t : Fin cfg0.N) : win0_0.index t = ![t.val / 4, t.val % 4, 0] := by
  revert t; decide +kernel

theorem idx1 (t : Fin cfg0.N) : win0_1.index t = ![t.val / 4, t.val % 4, 0, 0] := by
  revert t; decide +kernel

theorem b0_at (c : Dev nD) (t : Fin cfg0.N) (r : Fin 512) (d : Fin 1024) (h1 h2) :
    iblk m c 0 t (ix3 0 r d) = m ((c.tc : Thread nD τ).loc main_arg0) (ix3 ⟨t.val / 4, h1⟩ ⟨t.val % 4 * 512 + r.1, h2⟩ d) := by
  blk_ext [iblk, V, idx0]

theorem b1_at (c : Dev nD) (t : Fin cfg0.N) (r : Fin 4) (l : Fin 128) (h1 h2) :
    iblk m c 1 t (ix4 0 0 r l) = V m c main_v23 (ix4 ⟨t.val / 4, h1⟩ ⟨t.val % 4, h2⟩ r l) := by
  blk_ext [iblk, idx1]

theorem b2_at (c : Dev nD) (t : Fin cfg0.N) (i : Fin 256) (j : Fin 256) : iblk m c 2 t (ix2 i j) = V m c main_v82 (ix2 i j) := by
  have idx : win0_2.index t = ![0, 0] := by revert t; decide +kernel
  blk_ext [iblk, idx]

theorem b3_at (c : Dev nD) (t : Fin cfg0.N) (i : Fin 256) (j : Fin 256) : iblk m c 3 t (ix2 i j) = V m c main_v84 (ix2 i j) := by
  have idx : win0_3.index t = ![0, 0] := by revert t; decide +kernel
  blk_ext [iblk, idx]

theorem b4_at (c : Dev nD) (t : Fin cfg0.N) (i : Fin 1) (j : Fin 128) : iblk m c 4 t (ix2 i j) = V m c main_v7 (ix2 i j) := by
  have idx : win0_4.index t = ![0, 0] := by revert t; decide +kernel
  blk_ext [iblk, idx]

theorem b5_at (c : Dev nD) (t : Fin cfg0.N) (i : Fin 1) (j : Fin 1024) : iblk m c 5 t (ix2 i j) = V m c main_v86 (ix2 i j) := by
  have idx : win0_5.index t = ![0, 0] := by revert t; decide +kernel
  blk_ext [iblk, idx]

theorem b6_at (c : Dev nD) (t : Fin cfg0.N) (i : Fin 1024) (j : Fin 7168) : iblk m c 6 t (ix2 i j) = V m c main_v88 (ix2 i j) := by
  have idx : win0_6.index t = ![0, 0] := by revert t; decide +kernel
  blk_ext [iblk, idx]

theorem b7_at (c : Dev nD) (t : Fin cfg0.N) (i : Fin 2) (j : Fin 1024) : iblk m c 7 t (ix2 i j) = V m c main_v89 (ix2 i j) := by
  have idx : win0_7.index t = ![0, 0] := by revert t; decide +kernel
  blk_ext [iblk, idx]

theorem b8_at (c : Dev nD) (t : Fin cfg0.N) (i : Fin 1) (j : Fin 1024) : iblk m c 8 t (ix2 i j) = V m c main_v91 (ix2 i j) := by
  have idx : win0_8.index t = ![0, 0] := by revert t; decide +kernel
  blk_ext [iblk, idx]

theorem b9_at (c : Dev nD) (t : Fin cfg0.N) (i : Fin 1024) (j : Fin 1024) : iblk m c 9 t (ix2 i j) = V m c main_v93 (ix2 i j) := by
  have idx : win0_9.index t = ![0, 0] := by revert t; decide +kernel
  blk_ext [iblk, idx]

theorem b10_at (c : Dev nD) (t : Fin cfg0.N) (i : Fin 4) (j : Fin 1024) : iblk m c 10 t (ix2 i j) = V m c main_v94 (ix2 i j) := by
  have idx : win0_10.index t = ![0, 0] := by revert t; decide +kernel
  blk_ext [iblk, idx]

theorem b11_at (c : Dev nD) (t : Fin cfg0.N) (i : Fin 1) (j : Fin 1024) : iblk m c 11 t (ix2 i j) = V m c main_v96 (ix2 i j) := by
  have idx : win0_11.index t = ![0, 0] := by revert t; decide +kernel
  blk_ext [iblk, idx]

theorem b12_at (c : Dev nD) (t : Fin cfg0.N) (i : Fin 4) (j : Fin 256) (k : Fin 512) : iblk m c 12 t (ix3 i j k) = V m c main_v81 (ix3 i j k) := by
  have idx : win0_12.index t = ![0, 0, 0] := by revert t; decide +kernel
  blk_ext [iblk, idx]

theorem b13_at (c : Dev nD) (t : Fin cfg0.N) (i : Fin 1) (j : Fin 1024) : iblk m c 13 t (ix2 i j) = V m c main_v98 (ix2 i j) := by
  have idx : win0_13.index t = ![0, 0] := by revert t; decide +kernel
  blk_ext [iblk, idx]

theorem b14_at (c : Dev nD) (t : Fin cfg0.N) (i : Fin 1) (j : Fin 1024) : iblk m c 14 t (ix2 i j) = V m c main_v100 (ix2 i j) := by
  have idx : win0_14.index t = ![0, 0] := by revert t; decide +kernel
  blk_ext [iblk, idx]

theorem b15_at (c : Dev nD) (t : Fin cfg0.N) (i : Fin 1) (j : Fin 1024) : iblk m c 15 t (ix2 i j) = V m c main_v102 (ix2 i j) := by
  have idx : win0_15.index t = ![0, 0] := by revert t; decide +kernel
  blk_ext [iblk, idx]

theorem b16_at (c : Dev nD) (t : Fin cfg0.N) (i : Fin 1024) (j : Fin 1024) : iblk m c 16 t (ix2 i j) = V m c main_v104 (ix2 i j) := by
  have idx : win0_16.index t = ![0, 0] := by revert t; decide +kernel
  blk_ext [iblk, idx]

theorem b17_at (c : Dev nD) (t : Fin cfg0.N) (i : Fin 1024) (j : Fin 1024) : iblk m c 17 t (ix2 i j) = V m c main_v106 (ix2 i j) := by
  have idx : win0_17.index t = ![0, 0] := by revert t; decide +kernel
  blk_ext [iblk, idx]

theorem b18_at (c : Dev nD) (t : Fin cfg0.N) (i : Fin 4) (j : Fin 256) (k : Fin 256) : iblk m c 18 t (ix3 i j k) = V m c main_v57 (ix3 i j k) := by
  have idx : win0_18.index t = ![0, 0, 0] := by revert t; decide +kernel
  blk_ext [iblk, idx]

theorem b19_at (c : Dev nD) (t : Fin cfg0.N) (i : Fin 256) (j : Fin 512) : iblk m c 19 t (ix2 i j) = V m c main_v75 (ix2 i j) := by
  have idx : win0_19.index t = ![0, 0] := by revert t; decide +kernel
  blk_ext [iblk, idx]

theorem b20_at (c : Dev nD) (t : Fin cfg0.N) (i : Fin 256) (j : Fin 512) : iblk m c 20 t (ix2 i j) = V m c main_v77 (ix2 i j) := by
  have idx : win0_20.index t = ![0, 0] := by revert t; decide +kernel
  blk_ext [iblk, idx]

/-- The arrays of sequence `b` in the launched buffers. -/
abbrev AR (c : Dev nD) (b : Fin 32) : Arr :=
  arrOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) b

/-- A point's blocks and carried values are those of its tile. -/
theorem tile_of (c : Dev nD) (b : Fin 32) (s : ℕ) (p : Fin cfg0.N) (hb : p.val / 4 = b) (hsp : p.val % 4 = s) (hgood : Good (AR m c b)) (I : In)
    (e0 : I.x0 = iblk m c 0 p)
    (e1 : I.x1 = iblk m c 1 p)
    (e2 : I.x2 = iblk m c 2 p)
    (e3 : I.x3 = iblk m c 3 p)
    (e4 : I.x4 = iblk m c 4 p)
    (e5 : I.x5 = iblk m c 5 p)
    (e6 : I.x6 = iblk m c 6 p)
    (e7 : I.x7 = iblk m c 7 p)
    (e8 : I.x8 = iblk m c 8 p)
    (e9 : I.x9 = iblk m c 9 p)
    (e10 : I.x10 = iblk m c 10 p)
    (e11 : I.x11 = iblk m c 11 p)
    (e12 : I.x12 = iblk m c 12 p)
    (e13 : I.x13 = iblk m c 13 p)
    (e14 : I.x14 = iblk m c 14 p)
    (e15 : I.x15 = iblk m c 15 p)
    (e16 : I.x16 = iblk m c 16 p)
    (e17 : I.x17 = iblk m c 17 p)
    (e18 : I.x18 = iblk m c 18 p)
    (e19 : I.x19 = iblk m c 19 p)
    (e20 : I.x20 = iblk m c 20 p)
    (hz0 : ∀ (d : Fin 128) (e : Fin 256), I.z0 (ix3 0 d e) = stE (AR m c b) 0 (512 * s) d e)
    (hz1 : ∀ (d : Fin 128) (e : Fin 256), I.z1 (ix3 0 d e) = stE (AR m c b) 1 (512 * s) d e)
    (hz2 : ∀ (d : Fin 128) (e : Fin 256), I.z2 (ix3 0 d e) = stE (AR m c b) 2 (512 * s) d e)
    (hz3 : ∀ (d : Fin 128) (e : Fin 256), I.z3 (ix3 0 d e) = stE (AR m c b) 3 (512 * s) d e)
    (hzh : ∀ j : Fin 1024, I.zh (ix2 0 j) = hst (AR m c b) (512 * s) j)
    (hzx : ∀ (g : Fin 3) (j : Fin 1024), I.zx (ix2 ⟨8 * g.1 + 7, by omega⟩ j) = xlp (AR m c b) (512 * s + g) j) :
    Tile (AR m c b) s I := by
  have hs : s < 4 := by omega
  subst hsp
  constructor
  case hs => exact hs
  case good => exact hgood
  case hz0 => exact hz0
  case hz1 => exact hz1
  case hz2 => exact hz2
  case hz3 => exact hz3
  case hzh => exact hzh
  case hzx => exact hzx
  case hx =>
    intro i j
    rw [e0]
    refine (b0_at m c p i j (by omega) (by omega)).trans ?_
    unfold AR arrOf; dsimp only
    rw [ex2_eq _ (show 512 * (p.val % 4) + i.1 < 2048 by omega) j.2]
    congr 1; funext a; apply Fin.ext; fin_cases a
    · exact hb
    · show p.val % 4 * 512 + i.1 = 512 * (p.val % 4) + i.1; omega
    · rfl
  case hpos =>
    intro r l
    have ht : tm (p.val % 4) (128 * r + l) < 2048 := by
      have h := tau_lt (show (128 * r.1 + l.1) % 256 < 256 by omega)
      unfold tm; omega
    rw [e1]
    unfold AR arrOf; dsimp only
    rw [ex1_eq _ ht]
    refine congrArg _ ((b1_at m c p r l (by omega) hs).trans ?_)
    rw [V_v23]
    refine (hv23_at _ ⟨p.val / 4, by omega⟩ ⟨p.val % 4, hs⟩ r l ht).trans ?_
    congr 1; funext a; apply Fin.ext; fin_cases a
    · exact hb
    · rfl
  case hperm =>
    intro i x
    rw [e2]
    refine (b2_at m c p i x).trans ?_
    rw [V_v82]
    exact hv82_at i x
  case hunperm =>
    intro i x
    rw [e3]
    refine (b3_at m c p i x).trans ?_
    rw [V_v84]
    exact hv84_at i x
  case hinvf =>
    intro j
    rw [e4]
    refine (b4_at m c p 0 j).trans ?_
    rw [V_v7]
    exact hv7_at j
  case hn1w =>
    intro j
    rw [e5]
    refine (b5_at m c p 0 j).trans ?_
    rw [V_v86]
    refine (hv86_at _ j).trans ?_
    unfold AR arrOf; dsimp only; rw [ex1_eq _ (j.2)]
  case hwin =>
    intro k j
    rw [e6]
    refine (b6_at m c p k j).trans ?_
    rw [V_v88]
    refine (hv88_at _ k j).trans ?_
    unfold AR arrOf; dsimp only; rw [ex2_eq _ (k.2) (j.2)]
  case hmga =>
    intro j
    rw [e7]
    refine (b7_at m c p 0 j).trans ?_
    rw [V_v89]
    refine (hv89_at _ 0 j).trans ?_
    unfold AR arrOf; dsimp only; rw [ex1_eq _ (j.2)]
  case hmgb =>
    intro j
    rw [e7]
    refine (b7_at m c p 1 j).trans ?_
    rw [V_v89]
    refine (hv89_at _ 1 j).trans ?_
    unfold AR arrOf; dsimp only; rw [ex1_eq _ (j.2)]
  case hgnw =>
    intro j
    rw [e8]
    refine (b8_at m c p 0 j).trans ?_
    rw [V_v91]
    refine (hv91_at _ j).trans ?_
    unfold AR arrOf; dsimp only; rw [ex1_eq _ (j.2)]
  case hwro =>
    intro k j
    rw [e9]
    refine (b9_at m c p k j).trans ?_
    rw [V_v93]
    refine (hv93_at _ k j).trans ?_
    unfold AR arrOf; dsimp only; rw [ex2_eq _ (k.2) (j.2)]
  case hcw =>
    intro k j
    rw [e10]
    refine (b10_at m c p k j).trans ?_
    rw [V_v94]
    refine (hv94_at _ k j).trans ?_
    unfold AR arrOf; dsimp only; rw [ex2_eq _ (k.2) (j.2)]
  case hcb =>
    intro j
    rw [e11]
    refine (b11_at m c p 0 j).trans ?_
    rw [V_v96]
    refine (hv96_at _ j).trans ?_
    unfold AR arrOf; dsimp only; rw [ex1_eq _ (j.2)]
  case hwr =>
    intro b k j
    rw [e12]
    refine (b12_at m c p b k ⟨j.1, by omega⟩).trans ?_
    rw [V_v81]
    refine (hv81_at _ _ b k ⟨j.1, by omega⟩).trans ?_
    unfold AR arrOf; dsimp only; rw [ex3_eq _ b.2 k.2 j.2, dif_pos j.2]
  case hwi =>
    intro b k j
    rw [e12]
    refine (b12_at m c p b k ⟨256 + j.1, by omega⟩).trans ?_
    rw [V_v81]
    refine (hv81_at _ _ b k ⟨256 + j.1, by omega⟩).trans ?_
    unfold AR arrOf; dsimp only; rw [ex3_eq _ b.2 k.2 j.2, dif_neg (by omega)]
    congr 2; apply Fin.ext; show 256 + j.1 - 256 = j.1; omega
  case hbr =>
    intro j
    rw [e13]
    refine (b13_at m c p 0 j).trans ?_
    rw [V_v98]
    refine (hv98_at _ j).trans ?_
    unfold AR arrOf; dsimp only; rw [ex2_eq _ (show j.1 / 256 < 4 by omega) (show j.1 % 256 < 256 by omega)]
  case hbi =>
    intro j
    rw [e14]
    refine (b14_at m c p 0 j).trans ?_
    rw [V_v100]
    refine (hv100_at _ j).trans ?_
    unfold AR arrOf; dsimp only; rw [ex2_eq _ (show j.1 / 256 < 4 by omega) (show j.1 % 256 < 256 by omega)]
  case hlam =>
    intro j
    rw [e15]
    refine (b15_at m c p 0 j).trans ?_
    rw [V_v102]
    refine (hv102_at _ j).trans ?_
    unfold AR arrOf; dsimp only; rw [ex1_eq _ (j.2)]
  case hwlo =>
    intro k j
    rw [e16]
    refine (b16_at m c p k j).trans ?_
    rw [V_v104]
    refine (hv104_at _ k j).trans ?_
    unfold AR arrOf; dsimp only; rw [ex2_eq _ (k.2) (j.2)]
  case hwout =>
    intro k j
    rw [e17]
    refine (b17_at m c p k j).trans ?_
    rw [V_v106]
    refine (hv106_at _ k j).trans ?_
    unfold AR arrOf; dsimp only; rw [ex2_eq _ (k.2) (j.2)]
  case hdmask =>
    intro h i j
    rw [e18]
    refine (b18_at m c p h i j).trans ?_
    rw [V_v57]
    exact hv57_at h i j
  case hqdec =>
    intro i h d
    rw [e19]
    refine (b19_at m c p i ⟨128 * h.1 + d.1, by omega⟩).trans ?_
    rw [V_v75]
    exact hv75_at i h d _
  case hkdec =>
    intro i h d
    rw [e20]
    refine (b20_at m c p i ⟨128 * h.1 + d.1, by omega⟩).trans ?_
    rw [V_v77]
    exact hv77_at i h d _

end Cert.Mix
-- ==== Proof.MixGrid.lean ====
module

public import proofs.«01_k».proof.Proof.MixBlk
public import proofs.«01_k».proof.Proof.MixOut
public import proofs.«01_k».proof.Proof.Gen.KernelIdeal.Value
public import Idealize.ShloMosaic.Lib.Tactic

@[expose] public section

set_option maxRecDepth 16384

noncomputable section

namespace Cert.Mix

open Cert.KernelIdeal Cert.KernelIdeal.Gen Idealize.ShloMosaic Idealize.ShloMosaic.TcCoe Idealize.SL.Sem

variable (m : (ℓ : Loc nD τ Cert.KernelIdeal.sig) → Buf (Elt Ideal) ℓ)

/-- What a point of the grid leaves: a tile of the result, and the values carried to the next tile. -/
structure Post (c : Dev nD) (b : Fin 32) (s : ℕ) (o : Vec Ideal S1x512x1024 .f32 × Vec Ideal S4x128x256 .f32 × Vec Ideal S8x1024 .f32 × Vec Ideal S24x1024 .f32) : Prop where
  out : ∀ (i : Fin 512) (j : Fin 1024), o.1 (ix3 0 i j) = res (AR m c b) (512 * s + i) j
  st : ∀ (h : Fin 4) (d : Fin 128) (e : Fin 256), o.2.1 (ix3 h d e) = stE (AR m c b) h (512 * (s + 1)) d e
  hc : ∀ j : Fin 1024, o.2.2.1 (ix2 0 j) = hst (AR m c b) (512 * (s + 1)) j
  xc : ∀ (g : Fin 3) (j : Fin 1024), o.2.2.2 (ix2 ⟨8 * g.1 + 7, by omega⟩ j) = xlp (AR m c b) (512 * (s + 1) + g) j

theorem tileA (c : Dev nD) (b : Fin 32) (p : Fin cfg0.N) (hb : p.val / 4 = b) (h0 : p.val % 4 = 0) (hgood : Good (AR m c b))
    (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32)
    (e0 : x0 = iblk m c 0 p) (e1 : x1 = iblk m c 1 p) (e2 : x2 = iblk m c 2 p) (e3 : x3 = iblk m c 3 p) (e4 : x4 = iblk m c 4 p) (e5 : x5 = iblk m c 5 p) (e6 : x6 = iblk m c 6 p) (e7 : x7 = iblk m c 7 p) (e8 : x8 = iblk m c 8 p) (e9 : x9 = iblk m c 9 p) (e10 : x10 = iblk m c 10 p) (e11 : x11 = iblk m c 11 p) (e12 : x12 = iblk m c 12 p) (e13 : x13 = iblk m c 13 p) (e14 : x14 = iblk m c 14 p) (e15 : x15 = iblk m c 15 p) (e16 : x16 = iblk m c 16 p) (e17 : x17 = iblk m c 17 p) (e18 : x18 = iblk m c 18 p) (e19 : x19 = iblk m c 19 p) (e20 : x20 = iblk m c 20 p) :
    Tile (AR m c b) 0 (inA x0 x1 x2 x3 x4 x5 x6 x7 x8 x9 x10 x11 x12 x13 x14 x15 x16 x17 x18 x19 x20) :=
  tile_of m c b 0 p hb h0 hgood (inA x0 x1 x2 x3 x4 x5 x6 x7 x8 x9 x10 x11 x12 x13 x14 x15 x16 x17 x18 x19 x20) e0 e1 e2 e3 e4 e5 e6 e7 e8 e9 e10 e11 e12 e13 e14 e15 e16 e17 e18 e19 e20
      (fun d e => (stE_zero _ 0 d e).symm) (fun d e => (stE_zero _ 1 d e).symm) (fun d e => (stE_zero _ 2 d e).symm) (fun d e => (stE_zero _ 3 d e).symm)
      (fun j => rfl) (fun g j => by unfold xlp; rw [if_neg (by omega)]; rfl)

theorem tileB (c : Dev nD) (b : Fin 32) (s : ℕ) (p : Fin cfg0.N) (hb : p.val / 4 = b) (hs : p.val % 4 = s + 1) (hgood : Good (AR m c b))
    (x0 : Vec Ideal S1x512x1024 .f32) (x1 : Vec Ideal S1x1x4x128 .i32) (x2 : Vec Ideal S256x256 .bf16) (x3 : Vec Ideal S256x256 .bf16) (x4 : Vec Ideal S1x128 .f32) (x5 : Vec Ideal S1x1024 .f32) (x6 : Vec Ideal S1024x7168 .bf16) (x7 : Vec Ideal S2x1024 .f32) (x8 : Vec Ideal S1x1024 .f32) (x9 : Vec Ideal S1024x1024 .bf16) (x10 : Vec Ideal S4x1024 .f32) (x11 : Vec Ideal S1x1024 .f32) (x12 : Vec Ideal S4x256x512 .bf16) (x13 : Vec Ideal S1x1024 .f32) (x14 : Vec Ideal S1x1024 .f32) (x15 : Vec Ideal S1x1024 .f32) (x16 : Vec Ideal S1024x1024 .bf16) (x17 : Vec Ideal S1024x1024 .bf16) (x18 : Vec Ideal S4x256x256 .f32) (x19 : Vec Ideal S256x512 .f32) (x20 : Vec Ideal S256x512 .f32) (o : Vec Ideal S1x512x1024 .f32 × Vec Ideal S4x128x256 .f32 × Vec Ideal S8x1024 .f32 × Vec Ideal S24x1024 .f32) (P : Post m c b s o)
    (e0 : x0 = iblk m c 0 p) (e1 : x1 = iblk m c 1 p) (e2 : x2 = iblk m c 2 p) (e3 : x3 = iblk m c 3 p) (e4 : x4 = iblk m c 4 p) (e5 : x5 = iblk m c 5 p) (e6 : x6 = iblk m c 6 p) (e7 : x7 = iblk m c 7 p) (e8 : x8 = iblk m c 8 p) (e9 : x9 = iblk m c 9 p) (e10 : x10 = iblk m c 10 p) (e11 : x11 = iblk m c 11 p) (e12 : x12 = iblk m c 12 p) (e13 : x13 = iblk m c 13 p) (e14 : x14 = iblk m c 14 p) (e15 : x15 = iblk m c 15 p) (e16 : x16 = iblk m c 16 p) (e17 : x17 = iblk m c 17 p) (e18 : x18 = iblk m c 18 p) (e19 : x19 = iblk m c 19 p) (e20 : x20 = iblk m c 20 p) :
    Tile (AR m c b) (s + 1) (inB x0 x1 x2 x3 x4 x5 x6 x7 x8 x9 x10 x11 x12 x13 x14 x15 x16 x17 x18 x19 x20 o.2.1 o.2.2.1 o.2.2.2) := by
  refine tile_of m c b (s + 1) p hb hs hgood (inB x0 x1 x2 x3 x4 x5 x6 x7 x8 x9 x10 x11 x12 x13 x14 x15 x16 x17 x18 x19 x20 o.2.1 o.2.2.1 o.2.2.2) e0 e1 e2 e3 e4 e5 e6 e7 e8 e9 e10 e11 e12 e13 e14 e15 e16 e17 e18 e19 e20 ?_ ?_ ?_ ?_ ?_ ?_
  · intro d e
    refine Eq.trans ?_ (P.st 0 d e)
    refine (ld3 _ 0 0 0 _ 0 d e (by decide) (by omega) (by omega)).trans ?_
    congr 1; funext a; apply Fin.ext; fin_cases a
    · rfl
    · show 0 + d.1 = d.1; omega
    · show 0 + e.1 = e.1; omega
  · intro d e
    refine Eq.trans ?_ (P.st 1 d e)
    refine (ld3 _ 1 0 0 _ 0 d e (by decide) (by omega) (by omega)).trans ?_
    congr 1; funext a; apply Fin.ext; fin_cases a
    · rfl
    · show 0 + d.1 = d.1; omega
    · show 0 + e.1 = e.1; omega
  · intro d e
    refine Eq.trans ?_ (P.st 2 d e)
    refine (ld3 _ 2 0 0 _ 0 d e (by decide) (by omega) (by omega)).trans ?_
    congr 1; funext a; apply Fin.ext; fin_cases a
    · rfl
    · show 0 + d.1 = d.1; omega
    · show 0 + e.1 = e.1; omega
  · intro d e
    refine Eq.trans ?_ (P.st 3 d e)
    refine (ld3 _ 3 0 0 _ 0 d e (by decide) (by omega) (by omega)).trans ?_
    congr 1; funext a; apply Fin.ext; fin_cases a
    · rfl
    · show 0 + d.1 = d.1; omega
    · show 0 + e.1 = e.1; omega
  · intro j
    refine Eq.trans ?_ (P.hc j)
    refine (ld2 _ 0 0 _ 0 j (by decide) (by omega)).trans ?_
    congr 1; funext a; apply Fin.ext; fin_cases a
    · rfl
    · show 0 + j.1 = j.1; omega
  · intro g j
    exact P.xc g j

set_option maxHeartbeats 1000000 in
theorem post_A (c : Dev nD) (b : Fin 32) (p : Fin cfg0.N) (hb : p.val / 4 = b) (h0 : p.val % 4 = 0) (hgood : Good (AR m c b)) :
    Post m c b 0 (outsAt0 m c p.val p.isLt) := by
  have T : Tile (AR m c b) 0 (inA (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 13 p) (iblk m c 14 p) (iblk m c 15 p) (iblk m c 16 p) (iblk m c 17 p) (iblk m c 18 p) (iblk m c 19 p) (iblk m c 20 p)) :=
    tileA m c b p hb h0 hgood _ _ _ _ _ _ _ _ _ _ _ _ _ _ _ _ _ _ _ _ _ rfl rfl rfl rfl rfl rfl rfl rfl rfl rfl rfl rfl rfl rfl rfl rfl rfl rfl rfl rfl rfl
  rw [outsAt0_A m c p h0]
  constructor
  case out =>
    intro i j; dsimp only; rw [outA]; exact v1516_at T i j
  case st =>
    intro h d e; dsimp only
    fin_cases h
    · exact (soutA_0_0 ..).trans (v1446_at T d e)
    · exact (soutA_0_1 ..).trans (v1449_at T d e)
    · exact (soutA_0_2 ..).trans (v1452_at T d e)
    · exact (soutA_0_3 ..).trans (v1455_at T d e)
  case hc =>
    intro j; dsimp only; exact (soutA_1 ..).trans (v1458_at T j)
  case xc =>
    intro g j; dsimp only; rw [soutA_2]; exact v1461_at T g j

set_option maxHeartbeats 1000000 in
theorem post_B (c : Dev nD) (b : Fin 32) (s : ℕ) (p : Fin cfg0.N) (hb : p.val / 4 = b) (h0 : ¬p.val % 4 = 0) (hs : p.val % 4 = s + 1) (hgood : Good (AR m c b))
    (hq : p.val - 1 < cfg0.N) (P : Post m c b s (outsAt0 m c (p.val - 1) hq)) :
    Post m c b (s + 1) (outsAt0 m c p.val p.isLt) := by
  have T : Tile (AR m c b) (s + 1) (inB (iblk m c 0 p) (iblk m c 1 p) (iblk m c 2 p) (iblk m c 3 p) (iblk m c 4 p) (iblk m c 5 p) (iblk m c 6 p) (iblk m c 7 p) (iblk m c 8 p) (iblk m c 9 p) (iblk m c 10 p) (iblk m c 11 p) (iblk m c 12 p) (iblk m c 13 p) (iblk m c 14 p) (iblk m c 15 p) (iblk m c 16 p) (iblk m c 17 p) (iblk m c 18 p) (iblk m c 19 p) (iblk m c 20 p)
      (outsAt0 m c (p.val - 1) hq).2.1 (outsAt0 m c (p.val - 1) hq).2.2.1 (outsAt0 m c (p.val - 1) hq).2.2.2) :=
    tileB m c b s p hb hs hgood _ _ _ _ _ _ _ _ _ _ _ _ _ _ _ _ _ _ _ _ _ _ P rfl rfl rfl rfl rfl rfl rfl rfl rfl rfl rfl rfl rfl rfl rfl rfl rfl rfl rfl rfl rfl
  rw [outsAt0_B m c p h0]
  constructor
  case out =>
    intro i j; dsimp only; rw [outB]; exact v1516_at T i j
  case st =>
    intro h d e; dsimp only
    fin_cases h
    · exact (soutB_0_0 ..).trans (v1446_at T d e)
    · exact (soutB_0_1 ..).trans (v1449_at T d e)
    · exact (soutB_0_2 ..).trans (v1452_at T d e)
    · exact (soutB_0_3 ..).trans (v1455_at T d e)
  case hc =>
    intro j; dsimp only; exact (soutB_1 ..).trans (v1458_at T j)
  case xc =>
    intro g j; dsimp only; rw [soutB_2]; exact v1461_at T g j

theorem post_at (c : Dev nD) (hgood : ∀ b, Good (AR m c b)) (b : Fin 32) :
    ∀ (s : ℕ) (hs : s < 4) (hn : 4 * b.1 + s < cfg0.N), Post m c b s (outsAt0 m c (4 * b.1 + s) hn)
  | 0, _, hn => post_A m c b ⟨4 * b.1 + 0, hn⟩ (by show (4 * b.1 + 0) / 4 = b.1; omega) (by show (4 * b.1 + 0) % 4 = 0; omega) (hgood b)
  | s + 1, hs, hn =>
    post_B m c b s ⟨4 * b.1 + (s + 1), hn⟩ (by show (4 * b.1 + (s + 1)) / 4 = b.1; omega) (by show ¬(4 * b.1 + (s + 1)) % 4 = 0; omega)
      (by show (4 * b.1 + (s + 1)) % 4 = s + 1; omega) (hgood b) (by show 4 * b.1 + s < cfg0.N; omega) (post_at c hgood b s (by omega) (by omega))

/-- The kernel's result. -/
theorem G21_at (c : Dev nD) (hgood : ∀ b, Good (AR m c b)) (b : Fin 32) (t : Fin 2048) (k : Fin 1024) :
    Value.G21 m c (ix3 b t k) = res (AR m c b) t k := by
  have hp : Value.pt21Of (ix3 b t k) = 4 * b.1 + t.1 / 512 := by
    show 4 * (b.1 / 1 - 0) + 1 * (t.1 / 512 - 0) + 1 * (k.1 / 1024 - 0) = _; omega
  have hN : (cfg0.N : ℕ) = 128 := N_0
  have hlt : Value.pt21Of (ix3 b t k) < cfg0.N := by rw [hp, hN]; omega
  have hl : Value.loc21Of (ix3 b t k) = ix3 0 ⟨t.1 % 512, by omega⟩ k := by
    funext a; apply Fin.ext; fin_cases a
    · show b.1 % 1 = 0; omega
    · rfl
    · show k.1 % 1024 = k.1; omega
  unfold Value.G21
  rw [dif_pos hlt, hl, ← Value.outsAt0_sweep m c _ hlt]
  have e := (post_at m c hgood b (t.1 / 512) (by omega) (by rw [hN]; omega)).out ⟨t.1 % 512, by omega⟩ k
  rw [show 512 * (t.1 / 512) + t.1 % 512 = t.1 by omega] at e
  have key : ∀ (n : ℕ) (h : n < cfg0.N) (h' : 4 * b.1 + t.1 / 512 < cfg0.N), n = 4 * b.1 + t.1 / 512 →
      (outsAt0 m c n h).1 = (outsAt0 m c (4 * b.1 + t.1 / 512) h').1 := by
    rintro _ _ _ rfl; rfl
  exact (congrFun (key _ hlt _ hp) _).trans e

end Cert.Mix
-- ==== Proof.MixEnd.lean ====
module

public import proofs.«01_k».proof.Defs
public import proofs.«01_k».proof.Proof.MixGrid
public import Idealize.ShloMosaic.Lib.Tactic

@[expose] public section

noncomputable section

namespace Cert.Mix

open Cert.KernelIdeal Idealize.ShloMosaic Idealize.ShloMosaic.TcCoe Idealize.SL.Sem

/-- A value whose magnitude lies below plus infinity is finite. -/
theorem fnt_of_lt (x : EReal) (h : BitVec.ofBool (decide (FloatOps.absf (F := Ideal) (φ := FTy.f32) x < Ideal.ofBits FTy.f32 0x7F800000#32)) = 1#1) :
    Fnt x := by
  have e : Ideal.ofBits FTy.f32 0x7F800000#32 = ⊤ := by simp [Ideal.ofBits, Ideal.ieee]
  have l : max x (-x) < ⊤ := by
    have hd : (FloatOps.absf (F := Ideal) (φ := FTy.f32) x) < Ideal.ofBits FTy.f32 0x7F800000#32 := by
      by_contra hn
      rw [decide_eq_false hn] at h
      exact absurd h (by decide)
    rw [e] at hd
    exact hd
  refine ⟨?_, ?_⟩
  · rintro rfl
    simp at l
  · rintro rfl
    simp at l

variable [Cert.Pre_finite_projection.Facts]

/-- Under the precondition the values the retention works on are finite. -/
theorem good_of (m : (ℓ : Loc nD τ Cert.KernelIdeal.sig) → Buf (Elt Ideal) ℓ) (h : Cert.Pre_KernelIdeal_finite_projection m) (c : Dev nD) (b : Fin 32) :
    Good (AR m c b) := by
  obtain ⟨h1, h2⟩ := h c
  constructor
  · intro k hk
    have e := congrFun h1 (ix2 0 ⟨k, hk⟩)
    revert e
    unfold Cert.Pre_finite_projection.fn
    dsimp only
    pointwise
    intro e
    rw [show (AR m c b).n1w k = m (c.tc.loc main_arg2) (ix2 0 ⟨k, hk⟩) from
      ex1_eq (fun k : Fin 1024 => m (c.tc.loc main_arg2) (ix2 0 k)) hk]
    exact fnt_of_lt _ e
  · intro k hk j hj
    have e := congrFun h2 (ix3 0 ⟨k, hk⟩ ⟨j, hj⟩)
    revert e
    unfold Cert.Pre_finite_projection.fn
    dsimp only
    pointwise
    intro e
    rw [show (AR m c b).win k j = m (c.tc.loc main_arg3) (ix3 0 ⟨k, hk⟩ ⟨j, by omega⟩) from
      ex2_eq (fun (k : Fin 1024) (j : Fin 7168) => m (c.tc.loc main_arg3) (ix3 0 k j)) hk (by omega)]
    exact fnt_of_lt _ e
  · intro t
    rw [show (AR m c b).pos t = ex1 (fun t => FloatOps.sitofp (F := Ideal) FTy.f32 (m (c.tc.loc main_arg1) (ix2 b t))) t from rfl]
    unfold ex1
    split_ifs
    · exact fnt_coe _
    · exact fnt_coe 0

end Cert.Mix
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_projection
public import proofs.«01_k».proof.Proof.FfnRef
public import proofs.«01_k».proof.Proof.MixRef
public import proofs.«01_k».proof.Proof.MixEnd
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  rw [Cert.Reference2Ideal.Read.val_main_v75_eq]
  simp only [hagree c]
  funext i
  rw [eq_ix3 i]
  exact (Cert.Ffn.Ref.ref_at _ _ _ _ _ _ _ _ _ _).trans (Cert.Ffn.G7_at m c _ _ _).symm

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_Kernel_KernelIdeal : preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem algebraic_KernelIdeal_ReferenceIdeal_pre_finite_projection : algebraic_KernelIdeal_ReferenceIdeal_pre_finite_projection := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  rw [Cert.ReferenceIdeal.Read.val_main_v535_eq]
  simp only [hagree c]
  funext i
  rw [eq_ix3 i]
  exact (Cert.Mix.Ref.ref_at _ _ _ _ _ _ _ _ _ _ _ _ _ _ _ _ _ _ _).trans (Cert.Mix.G21_at m c (Cert.Mix.good_of m hpre c) _ _ _).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_projection.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  preserves_Kernel_KernelIdeal, algebraic_KernelIdeal_ReferenceIdeal_pre_finite_projection,
  (trivial : preserves_Kernel2_Kernel2Ideal), algebraic_Kernel2Ideal_Reference2Ideal⟩

end Cert.Proof

end
